-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def preserves_Kernel_KernelIdeal : Prop :=
  IdealRules.named_const.Statement Cert.KernelIdeal.κ "gelu_a" .f32 0x3D372713#32 ((8943 / 200000 : ℝ) : EReal)
  ∧ IdealRules.named_const.Statement Cert.KernelIdeal.κ "gelu_3a" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_v119) = v1 c
          ∧ r.2.mem ((c.tc : Thread Cert.ReferenceIdeal.nD Cert.ReferenceIdeal.τ).loc Cert.ReferenceIdeal.main_v123) = v2 c
          ∧ r.2.mem ((c.tc : Thread Cert.ReferenceIdeal.nD Cert.ReferenceIdeal.τ).loc Cert.ReferenceIdeal.main_v124) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)) (v2 : (c : Dev Cert.Kernel2Ideal.nD) → Buf (Elt Ideal) ((c.tc : Thread Cert.Kernel2Ideal.nD Cert.Kernel2Ideal.τ).loc Cert.Kernel2Ideal.main_v2_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_v2_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_v45) = v1 c
          ∧ r.2.mem ((c.tc : Thread Cert.Reference2Ideal.nD Cert.Reference2Ideal.τ).loc Cert.Reference2Ideal.main_v46) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v43) = v0 c
          ∧ r.2.mem ((c.tc : Thread Cert.Reference3Ideal.nD Cert.Reference3Ideal.τ).loc Cert.Reference3Ideal.main_v44) = v1 c
          ∧ r.2.mem ((c.tc : Thread Cert.Reference3Ideal.nD Cert.Reference3Ideal.τ).loc Cert.Reference3Ideal.main_v45) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v18_0)) (v1 : (c : Dev Cert.Kernel11Ideal.nD) → Buf (Elt Ideal) ((c.tc : Thread Cert.Kernel11Ideal.nD Cert.Kernel11Ideal.τ).loc Cert.Kernel11Ideal.main_v18_1)) (v2 : (c : Dev Cert.Kernel11Ideal.nD) → Buf (Elt Ideal) ((c.tc : Thread Cert.Kernel11Ideal.nD Cert.Kernel11Ideal.τ).loc Cert.Kernel11Ideal.main_v18_2)) (v3 : (c : Dev Cert.Kernel11Ideal.nD) → Buf (Elt Ideal) ((c.tc : Thread Cert.Kernel11Ideal.nD Cert.Kernel11Ideal.τ).loc Cert.Kernel11Ideal.main_v18_3)) (v4 : (c : Dev Cert.Kernel11Ideal.nD) → Buf (Elt Ideal) ((c.tc : Thread Cert.Kernel11Ideal.nD Cert.Kernel11Ideal.τ).loc Cert.Kernel11Ideal.main_v18_4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v18_0) = v0 c
          ∧ r.2.mem ((c.tc : Thread Cert.Kernel11Ideal.nD Cert.Kernel11Ideal.τ).loc Cert.Kernel11Ideal.main_v18_1) = v1 c
          ∧ r.2.mem ((c.tc : Thread Cert.Kernel11Ideal.nD Cert.Kernel11Ideal.τ).loc Cert.Kernel11Ideal.main_v18_2) = v2 c
          ∧ r.2.mem ((c.tc : Thread Cert.Kernel11Ideal.nD Cert.Kernel11Ideal.τ).loc Cert.Kernel11Ideal.main_v18_3) = v3 c
          ∧ r.2.mem ((c.tc : Thread Cert.Kernel11Ideal.nD Cert.Kernel11Ideal.τ).loc Cert.Kernel11Ideal.main_v18_4) = v4 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v60) = v0 c
          ∧ r.2.mem ((c.tc : Thread Cert.Reference11Ideal.nD Cert.Reference11Ideal.τ).loc Cert.Reference11Ideal.main_v61) = v1 c
          ∧ r.2.mem ((c.tc : Thread Cert.Reference11Ideal.nD Cert.Reference11Ideal.τ).loc Cert.Reference11Ideal.main_v62) = v2 c
          ∧ r.2.mem ((c.tc : Thread Cert.Reference11Ideal.nD Cert.Reference11Ideal.τ).loc Cert.Reference11Ideal.main_v63) = v3 c
          ∧ r.2.mem ((c.tc : Thread Cert.Reference11Ideal.nD Cert.Reference11Ideal.τ).loc Cert.Reference11Ideal.main_v64) = v4 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v15) = v0 c
          ∧ r.2.mem ((c.tc : Thread Cert.Reference14Ideal.nD Cert.Reference14Ideal.τ).loc Cert.Reference14Ideal.main_v18) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)) (v2 : (c : Dev Cert.Kernel15Ideal.nD) → Buf (Elt Ideal) ((c.tc : Thread Cert.Kernel15Ideal.nD Cert.Kernel15Ideal.τ).loc Cert.Kernel15Ideal.main_v1_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_v1_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v17) = v0 c
          ∧ r.2.mem ((c.tc : Thread Cert.Reference15Ideal.nD Cert.Reference15Ideal.τ).loc Cert.Reference15Ideal.main_v16) = v1 c
          ∧ r.2.mem ((c.tc : Thread Cert.Reference15Ideal.nD Cert.Reference15Ideal.τ).loc Cert.Reference15Ideal.main_v29) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  IdealRules.named_const.Statement Cert.Kernel16Ideal.κ "gelu_a" .f32 0x3D372713#32 ((8943 / 200000 : ℝ) : EReal)

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v3_0)) (v1 : (c : Dev Cert.Kernel16Ideal.nD) → Buf (Elt Ideal) ((c.tc : Thread Cert.Kernel16Ideal.nD Cert.Kernel16Ideal.τ).loc Cert.Kernel16Ideal.main_v3_1)) (v2 : (c : Dev Cert.Kernel16Ideal.nD) → Buf (Elt Ideal) ((c.tc : Thread Cert.Kernel16Ideal.nD Cert.Kernel16Ideal.τ).loc Cert.Kernel16Ideal.main_v3_2)) (v3 : (c : Dev Cert.Kernel16Ideal.nD) → Buf (Elt Ideal) ((c.tc : Thread Cert.Kernel16Ideal.nD Cert.Kernel16Ideal.τ).loc Cert.Kernel16Ideal.main_v3_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v3_0) = v0 c
          ∧ r.2.mem ((c.tc : Thread Cert.Kernel16Ideal.nD Cert.Kernel16Ideal.τ).loc Cert.Kernel16Ideal.main_v3_1) = v1 c
          ∧ r.2.mem ((c.tc : Thread Cert.Kernel16Ideal.nD Cert.Kernel16Ideal.τ).loc Cert.Kernel16Ideal.main_v3_2) = v2 c
          ∧ r.2.mem ((c.tc : Thread Cert.Kernel16Ideal.nD Cert.Kernel16Ideal.τ).loc Cert.Kernel16Ideal.main_v3_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v54) = v0 c
          ∧ r.2.mem ((c.tc : Thread Cert.Reference16Ideal.nD Cert.Reference16Ideal.τ).loc Cert.Reference16Ideal.main_v18) = v1 c
          ∧ r.2.mem ((c.tc : Thread Cert.Reference16Ideal.nD Cert.Reference16Ideal.τ).loc Cert.Reference16Ideal.main_v19) = v2 c
          ∧ r.2.mem ((c.tc : Thread Cert.Reference16Ideal.nD Cert.Reference16Ideal.τ).loc Cert.Reference16Ideal.main_v71) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  IdealRules.named_const.Statement Cert.Kernel17Ideal.κ "gelu_a" .f32 0x3D372713#32 ((8943 / 200000 : ℝ) : EReal)

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v10)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v10) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v64) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  IdealRules.named_const.Statement Cert.Kernel18Ideal.κ "adam_c1" .f32 0x3FC48605#32 ((8388608 / 5463681 : ℝ) : EReal)
  ∧ IdealRules.named_const.Statement Cert.Kernel18Ideal.κ "adam_c2" .f32 0x42C8E6D3#32 ((268435456 / 2672307 : ℝ) : EReal)

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v1_0)) (v1 : (c : Dev Cert.Kernel19Ideal.nD) → Buf (Elt Ideal) ((c.tc : Thread Cert.Kernel19Ideal.nD Cert.Kernel19Ideal.τ).loc Cert.Kernel19Ideal.main_v1_1)) (v2 : (c : Dev Cert.Kernel19Ideal.nD) → Buf (Elt Ideal) ((c.tc : Thread Cert.Kernel19Ideal.nD Cert.Kernel19Ideal.τ).loc Cert.Kernel19Ideal.main_v1_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1_0) = v0 c
          ∧ r.2.mem ((c.tc : Thread Cert.Kernel19Ideal.nD Cert.Kernel19Ideal.τ).loc Cert.Kernel19Ideal.main_v1_1) = v1 c
          ∧ r.2.mem ((c.tc : Thread Cert.Kernel19Ideal.nD Cert.Kernel19Ideal.τ).loc Cert.Kernel19Ideal.main_v1_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v51) = v0 c
          ∧ r.2.mem ((c.tc : Thread Cert.Reference19Ideal.nD Cert.Reference19Ideal.τ).loc Cert.Reference19Ideal.main_v50) = v1 c
          ∧ r.2.mem ((c.tc : Thread Cert.Reference19Ideal.nD Cert.Reference19Ideal.τ).loc Cert.Reference19Ideal.main_v52) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Pre_finite.lean ====
abbrev S4096x2816 : Shape := ⟨2, ![4096, 2816]⟩
abbrev S4096x1024 : Shape := ⟨2, ![4096, 1024]⟩
abbrev S2816x1024 : Shape := ⟨2, ![2816, 1024]⟩
abbrev S4x3x5632 : Shape := ⟨3, ![4, 3, 5632]⟩
abbrev S4x5632 : Shape := ⟨2, ![4, 5632]⟩
abbrev S_ : Shape := ⟨0, ![]⟩

class Facts : Prop where
  bcast_S_S4096x2816 : S_.BroadcastsInDim S4096x2816 (![] : Fin 0 → Fin S4096x2816.rank)
  reducesTo_S4096x2816_S_d0_1 : S4096x2816.ReducesTo [0, 1] S_
  h_S_ : 0 < S_.numel
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S4x3x5632 : S_.BroadcastsInDim S4x3x5632 (![] : Fin 0 → Fin S4x3x5632.rank)
  reducesTo_S4x3x5632_S_d0_1_2 : S4x3x5632.ReducesTo [0, 1, 2] S_
  bcast_S_S4x5632 : S_.BroadcastsInDim S4x5632 (![] : Fin 0 → Fin S4x5632.rank)
  reducesTo_S4x5632_S_d0_1 : S4x5632.ReducesTo [0, 1] S_

variable [Facts]

def fn_part1 {F : FTy → Type} [FloatOps F] (main_arg4 : FVec F S4x3x5632 .f32) (main_arg5 : FVec F S4x5632 .f32) (main_v14 : IVec S_ 1) (main_v16 : FVec F S2816x1024 .f32) (main_cst_4 : FVec F S_ .f32) : IVec S_ 1 :=
  let main_v17 : FVec F S2816x1024 .f32 := broadcastInDim S2816x1024 ![] bcast_S_S2816x1024 main_cst_4
  let main_v18 : IVec S2816x1024 1 := cmpf .olt main_v16 main_v17
  let main_c_5 : IVec S_ 1 := constantI S_ 1 1#1
  let main_v19 : IVec S_ 1 := (fun x v => Host.reduce IntOp.andi x v reducesTo_S2816x1024_S_d0_1 h_S_) main_v18 main_c_5
  let main_v20 : IVec S_ 1 := andi main_v14 main_v19
  let main_v21 : FVec F S4x3x5632 .f32 := Host.absf main_arg4
  let main_cst_6 : FVec F S_ .f32 := constant S_ .f32 0x7F800000#32
  let main_v22 : FVec F S4x3x5632 .f32 := broadcastInDim S4x3x5632 ![] bcast_S_S4x3x5632 main_cst_6
  let main_v23 : IVec S4x3x5632 1 := cmpf .olt main_v21 main_v22
  let main_c_7 : IVec S_ 1 := constantI S_ 1 1#1
  let main_v24 : IVec S_ 1 := (fun x v => Host.reduce IntOp.andi x v reducesTo_S4x3x5632_S_d0_1_2 h_S_) main_v23 main_c_7
  let main_v25 : IVec S_ 1 := andi main_v20 main_v24
  let main_v26 : FVec F S4x5632 .f32 := Host.absf main_arg5
  let main_cst_8 : FVec F S_ .f32 := constant S_ .f32 0x7F800000#32
  let main_v27 : FVec F S4x5632 .f32 := broadcastInDim S4x5632 ![] bcast_S_S4x5632 main_cst_8
  let main_v28 : IVec S4x5632 1 := cmpf .olt main_v26 main_v27
  let main_c_9 : IVec S_ 1 := constantI S_ 1 1#1
  let main_v29 : IVec S_ 1 := (fun x v => Host.reduce IntOp.andi x v reducesTo_S4x5632_S_d0_1 h_S_) main_v28 main_c_9
  let main_v30 : IVec S_ 1 := andi main_v25 main_v29
  main_v30

def fn {F : FTy → Type} [FloatOps F] (main_arg0 : FVec F S4096x2816 .f32) (main_arg1 : FVec F S4096x2816 .f32) (main_arg2 : FVec F S4096x1024 .bf16) (main_arg3 : FVec F S2816x1024 .bf16) (main_arg4 : FVec F S4x3x5632 .f32) (main_arg5 : FVec F S4x5632 .f32) : IVec S_ 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_c : IVec S_ 1 := constantI S_ 1 1#1
  let main_v3 : IVec S_ 1 := (fun x v => Host.reduce IntOp.andi x v reducesTo_S4096x2816_S_d0_1 h_S_) main_v2 main_c
  let main_v4 : FVec F S4096x2816 .f32 := Host.absf main_arg1
  let main_cst_0 : FVec F S_ .f32 := constant S_ .f32 0x7F800000#32
  let main_v5 : FVec F S4096x2816 .f32 := broadcastInDim S4096x2816 ![] bcast_S_S4096x2816 main_cst_0
  let main_v6 : IVec S4096x2816 1 := cmpf .olt main_v4 main_v5
  let main_c_1 : IVec S_ 1 := constantI S_ 1 1#1
  let main_v7 : IVec S_ 1 := (fun x v => Host.reduce IntOp.andi x v reducesTo_S4096x2816_S_d0_1 h_S_) main_v6 main_c_1
  let main_v8 : IVec S_ 1 := andi main_v3 main_v7
  let main_v9 : FVec F S4096x1024 .f32 := (extf .f32 · bitsLt_bf16_f32) main_arg2
  let main_v10 : FVec F S4096x1024 .f32 := Host.absf main_v9
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : IVec S_ 1 := andi main_v8 main_v13
  let main_v15 : FVec F S2816x1024 .f32 := (extf .f32 · bitsLt_bf16_f32) main_arg3
  let main_v16 : FVec F S2816x1024 .f32 := Host.absf main_v15
  let main_cst_4 : FVec F S_ .f32 := constant S_ .f32 0x7F800000#32
  fn_part1 (F := F) main_arg4 main_arg5 main_v14 main_v16 main_cst_4
-- ==== Kernel.lean ====
abbrev S4096x2816 : Shape := ⟨2, ![4096, 2816]⟩
abbrev S4096x1024 : Shape := ⟨2, ![4096, 1024]⟩
abbrev S2816x1024 : Shape := ⟨2, ![2816, 1024]⟩
abbrev S4x3x5632 : Shape := ⟨3, ![4, 3, 5632]⟩
abbrev S4x5632 : Shape := ⟨2, ![4, 5632]⟩
abbrev S4x1x5632 : Shape := ⟨3, ![4, 1, 5632]⟩
abbrev S8x2816 : Shape := ⟨2, ![8, 2816]⟩
abbrev S256x1408 : Shape := ⟨2, ![256, 1408]⟩
abbrev S8x1408 : Shape := ⟨2, ![8, 1408]⟩
abbrev S256x1024 : Shape := ⟨2, ![256, 1024]⟩
abbrev S1408x1024 : Shape := ⟨2, ![1408, 1024]⟩
abbrev S1x3x1408 : Shape := ⟨3, ![1, 3, 1408]⟩
abbrev S1x1x1408 : Shape := ⟨3, ![1, 1, 1408]⟩
abbrev S264x1408 : Shape := ⟨2, ![264, 1408]⟩
abbrev S3x1408 : Shape := ⟨2, ![3, 1408]⟩
abbrev S1x1408 : Shape := ⟨2, ![1, 1408]⟩
abbrev S1408 : Shape := ⟨1, ![1408]⟩
abbrev S2x1408 : Shape := ⟨2, ![2, 1408]⟩
abbrev S248x1408 : Shape := ⟨2, ![248, 1408]⟩
abbrev S4x1408 : Shape := ⟨2, ![4, 1408]⟩

abbrev nBuf : Space → Nat
  | .hbm => 11
  | .vmem => 30
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S4096x1024, .bf16⟩
  | .hbm, ⟨3, _⟩ => ⟨S2816x1024, .bf16⟩
  | .hbm, ⟨4, _⟩ => ⟨S4x3x5632, .f32⟩
  | .hbm, ⟨5, _⟩ => ⟨S4x5632, .f32⟩
  | .hbm, ⟨6, _⟩ => ⟨S4x1x5632, .f32⟩
  | .hbm, ⟨7, _⟩ => ⟨S4096x2816, .bf16⟩
  | .hbm, ⟨8, _⟩ => ⟨S4096x2816, .bf16⟩
  | .hbm, ⟨9, _⟩ => ⟨S8x2816, .f32⟩
  | .hbm, ⟨10, _⟩ => ⟨S8x2816, .f32⟩
  | .local _ .vmem, ⟨0, _⟩ => ⟨S256x1408, .f32⟩
  | .local _ .vmem, ⟨1, _⟩ => ⟨S256x1408, .f32⟩
  | .local _ .vmem, ⟨2, _⟩ => ⟨S8x1408, .f32⟩
  | .local _ .vmem, ⟨3, _⟩ => ⟨S8x1408, .f32⟩
  | .local _ .vmem, ⟨4, _⟩ => ⟨S256x1408, .f32⟩
  | .local _ .vmem, ⟨5, _⟩ => ⟨S256x1408, .f32⟩
  | .local _ .vmem, ⟨6, _⟩ => ⟨S8x1408, .f32⟩
  | .local _ .vmem, ⟨7, _⟩ => ⟨S8x1408, .f32⟩
  | .local _ .vmem, ⟨8, _⟩ => ⟨S256x1024, .bf16⟩
  | .local _ .vmem, ⟨9, _⟩ => ⟨S256x1024, .bf16⟩
  | .local _ .vmem, ⟨10, _⟩ => ⟨S1408x1024, .bf16⟩
  | .local _ .vmem, ⟨11, _⟩ => ⟨S1408x1024, .bf16⟩
  | .local _ .vmem, ⟨12, _⟩ => ⟨S1x3x1408, .f32⟩
  | .local _ .vmem, ⟨13, _⟩ => ⟨S1x3x1408, .f32⟩
  | .local _ .vmem, ⟨14, _⟩ => ⟨S1x1x1408, .f32⟩
  | .local _ .vmem, ⟨15, _⟩ => ⟨S1x1x1408, .f32⟩
  | .local _ .vmem, ⟨16, _⟩ => ⟨S1x3x1408, .f32⟩
  | .local _ .vmem, ⟨17, _⟩ => ⟨S1x3x1408, .f32⟩
  | .local _ .vmem, ⟨18, _⟩ => ⟨S1x1x1408, .f32⟩
  | .local _ .vmem, ⟨19, _⟩ => ⟨S1x1x1408, .f32⟩
  | .local _ .vmem, ⟨20, _⟩ => ⟨S256x1408, .bf16⟩
  | .local _ .vmem, ⟨21, _⟩ => ⟨S256x1408, .bf16⟩
  | .local _ .vmem, ⟨22, _⟩ => ⟨S256x1408, .bf16⟩
  | .local _ .vmem, ⟨23, _⟩ => ⟨S256x1408, .bf16⟩
  | .local _ .vmem, ⟨24, _⟩ => ⟨S8x1408, .f32⟩
  | .local _ .vmem, ⟨25, _⟩ => ⟨S8x1408, .f32⟩
  | .local _ .vmem, ⟨26, _⟩ => ⟨S8x1408, .f32⟩
  | .local _ .vmem, ⟨27, _⟩ => ⟨S8x1408, .f32⟩
  | .local _ .vmem, ⟨28, _⟩ => ⟨S8x1408, .f32⟩
  | .local _ .vmem, ⟨29, _⟩ => ⟨S8x1408, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  ![v3.toNat, arg0.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  ![v3.toNat, arg0.toNat]

def cc0_transform_4 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![c0_i32.toNat, c0_i32_0.toNat, v0.toNat]

def cc0_transform_9 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![c0_i32.toNat, c0_i32_0.toNat, v0.toNat]

def cc0_transform_10 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_11 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x3x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x3x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x1408 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x1408 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S8x1408 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== KernelIdeal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== ReferenceIdeal.lean ====
abbrev S4096x2816 : Shape := ⟨2, ![4096, 2816]⟩
abbrev S4096x1024 : Shape := ⟨2, ![4096, 1024]⟩
abbrev S2816x1024 : Shape := ⟨2, ![2816, 1024]⟩
abbrev S4x3x5632 : Shape := ⟨3, ![4, 3, 5632]⟩
abbrev S4x5632 : Shape := ⟨2, ![4, 5632]⟩
abbrev S4096x5632 : Shape := ⟨2, ![4096, 5632]⟩
abbrev S1x4096x5632 : Shape := ⟨3, ![1, 4096, 5632]⟩
abbrev S1x4096x1024 : Shape := ⟨3, ![1, 4096, 1024]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S_ : Shape := ⟨0, ![]⟩
abbrev S1x2x5632 : Shape := ⟨3, ![1, 2, 5632]⟩
abbrev S1x4098x5632 : Shape := ⟨3, ![1, 4098, 5632]⟩
abbrev S1x1x5632 : Shape := ⟨3, ![1, 1, 5632]⟩
abbrev S1x4096x2816 : Shape := ⟨3, ![1, 4096, 2816]⟩
abbrev S8x5632 : Shape := ⟨2, ![8, 5632]⟩
abbrev S8x2816 : Shape := ⟨2, ![8, 2816]⟩

abbrev nBuf : Space → Nat
  | .hbm => 160
  | .vmem => 0
  | .smem => 0
  | _ => 0

abbrev hbmTy0_0 (i : Nat) : BufTy := match i % 128 with
  | 0 => ⟨S4096x2816, .f32⟩
  | 1 => ⟨S4096x2816, .f32⟩
  | 2 => ⟨S4096x1024, .bf16⟩
  | 3 => ⟨S2816x1024, .bf16⟩
  | 4 => ⟨S4x3x5632, .f32⟩
  | 5 => ⟨S4x5632, .f32⟩
  | 6 => ⟨S4096x5632, .f32⟩
  | 7 => ⟨S1x4096x5632, .f32⟩
  | 8 => ⟨S2816x1024, .f32⟩
  | 9 => ⟨S4096x1024, .f32⟩
  | 10 => ⟨S1x4096x1024, .f32⟩
  | 11 => ⟨S1x3x5632, .f32⟩
  | 12 => ⟨S3x5632, .f32⟩
  | 13 => ⟨S1x5632, .f32⟩
  | 14 => ⟨S5632, .f32⟩
  | 15 => ⟨S_, .f32⟩
  | 16 => ⟨S1x2x5632, .f32⟩
  | 17 => ⟨S1x4098x5632, .f32⟩
  | 18 => ⟨S_, .f32⟩
  | 19 => ⟨S1x2x5632, .f32⟩
  | 20 => ⟨S1x4096x5632, .f32⟩
  | 21 => ⟨S1x5632, .f32⟩
  | 22 => ⟨S5632, .f32⟩
  | 23 => ⟨S1x1x5632, .f32⟩
  | 24 => ⟨S1x4096x5632, .f32⟩
  | 25 => ⟨S1x4096x5632, .f32⟩
  | 26 => ⟨S1x1x5632, .f32⟩
  | 27 => ⟨S1x4096x5632, .f32⟩
  | 28 => ⟨S1x4096x5632, .f32⟩
  | 29 => ⟨S1x4096x5632, .f32⟩
  | 30 => ⟨S1x5632, .f32⟩
  | 31 => ⟨S5632, .f32⟩
  | 32 => ⟨S1x1x5632, .f32⟩
  | 33 => ⟨S1x4096x5632, .f32⟩
  | 34 => ⟨S1x4096x5632, .f32⟩
  | 35 => ⟨S1x4096x5632, .f32⟩
  | 36 => ⟨S1x4096x5632, .f32⟩
  | 37 => ⟨S1x5632, .f32⟩
  | 38 => ⟨S5632, .f32⟩
  | 39 => ⟨S1x1x5632, .f32⟩
  | 40 => ⟨S1x4096x5632, .f32⟩
  | 41 => ⟨S1x4096x5632, .f32⟩
  | 42 => ⟨S1x4096x5632, .f32⟩
  | 43 => ⟨S1x4096x2816, .f32⟩
  | 44 => ⟨S1x4096x2816, .f32⟩
  | 45 => ⟨S1x4096x2816, .f32⟩
  | 46 => ⟨S1x4096x2816, .f32⟩
  | 47 => ⟨S1x4096x2816, .f32⟩
  | 48 => ⟨S_, .f32⟩
  | 49 => ⟨S1x4096x2816, .f32⟩
  | 50 => ⟨S1x4096x2816, .f32⟩
  | 51 => ⟨S_, .f32⟩
  | 52 => ⟨S1x4096x2816, .f32⟩
  | 53 => ⟨S1x4096x2816, .f32⟩
  | 54 => ⟨S_, .f32⟩
  | 55 => ⟨S1x4096x2816, .f32⟩
  | 56 => ⟨S1x4096x2816, .f32⟩
  | 57 => ⟨S1x4096x2816, .f32⟩
  | 58 => ⟨S_, .f32⟩
  | 59 => ⟨S1x4096x2816, .f32⟩
  | 60 => ⟨S1x4096x2816, .f32⟩
  | 61 => ⟨S1x4096x2816, .f32⟩
  | 62 => ⟨S_, .f32⟩
  | 63 => ⟨S1x4096x2816, .f32⟩
  | 64 => ⟨S1x4096x2816, .f32⟩
  | 65 => ⟨S_, .f32⟩
  | 66 => ⟨S1x4096x2816, .f32⟩
  | 67 => ⟨S1x4096x2816, .f32⟩
  | 68 => ⟨S1x4096x2816, .f32⟩
  | 69 => ⟨S_, .f32⟩
  | 70 => ⟨S1x4096x2816, .f32⟩
  | 71 => ⟨S1x4096x2816, .f32⟩
  | 72 => ⟨S_, .f32⟩
  | 73 => ⟨S1x4096x2816, .f32⟩
  | 74 => ⟨S1x4096x2816, .f32⟩
  | 75 => ⟨S1x4096x2816, .f32⟩
  | 76 => ⟨S1x4096x2816, .f32⟩
  | 77 => ⟨S1x4096x1024, .f32⟩
  | 78 => ⟨S1x4096x2816, .f32⟩
  | 79 => ⟨S1x4096x2816, .f32⟩
  | 80 => ⟨S1x4096x2816, .f32⟩
  | 81 => ⟨S1x4096x2816, .f32⟩
  | 82 => ⟨S1x4096x2816, .f32⟩
  | 83 => ⟨S_, .f32⟩
  | 84 => ⟨S1x4096x2816, .f32⟩
  | 85 => ⟨S1x4096x2816, .f32⟩
  | 86 => ⟨S1x4096x2816, .f32⟩
  | 87 => ⟨S_, .f32⟩
  | 88 => ⟨S1x4096x2816, .f32⟩
  | 89 => ⟨S1x4096x2816, .f32⟩
  | 90 => ⟨S1x4096x2816, .f32⟩
  | 91 => ⟨S_, .f32⟩
  | 92 => ⟨S1x4096x2816, .f32⟩
  | 93 => ⟨S1x4096x2816, .f32⟩
  | 94 => ⟨S_, .f32⟩
  | 95 => ⟨S1x4096x2816, .f32⟩
  | 96 => ⟨S1x4096x2816, .f32⟩
  | 97 => ⟨S1x4096x2816, .f32⟩
  | 98 => ⟨S1x4096x2816, .f32⟩
  | 99 => ⟨S1x4096x5632, .f32⟩
  | 100 => ⟨S1x4096x5632, .f32⟩
  | 101 => ⟨S_, .f32⟩
  | 102 => ⟨S1x5632, .f32⟩
  | 103 => ⟨S1x1x5632, .f32⟩
  | 104 => ⟨S1x4096x5632, .f32⟩
  | 105 => ⟨S1x4096x5632, .f32⟩
  | 106 => ⟨S_, .f32⟩
  | 107 => ⟨S5632, .f32⟩
  | 108 => ⟨S1x5632, .f32⟩
  | 109 => ⟨S_, .f32⟩
  | 110 => ⟨S3x5632, .f32⟩
  | 111 => ⟨S_, .f32⟩
  | 112 => ⟨S1x4098x5632, .f32⟩
  | 113 => ⟨S1x4096x5632, .f32⟩
  | 114 => ⟨S_, .f32⟩
  | 115 => ⟨S1x5632, .f32⟩
  | 116 => ⟨S1x1x5632, .f32⟩
  | 117 => ⟨S1x4096x5632, .f32⟩
  | 118 => ⟨S1x4096x5632, .f32⟩
  | 119 => ⟨S_, .f32⟩
  | 120 => ⟨S5632, .f32⟩
  | 121 => ⟨S1x5632, .f32⟩
  | 122 => ⟨S_, .f32⟩
  | 123 => ⟨S3x5632, .f32⟩
  | 124 => ⟨S3x5632, .f32⟩
  | 125 => ⟨S_, .f32⟩
  | 126 => ⟨S1x4098x5632, .f32⟩
  | 127 => ⟨S1x4098x5632, .f32⟩
  | _ => ⟨S4096x2816, .f32⟩

abbrev hbmTy0_1 (i : Nat) : BufTy := match i % 128 with
  | 0 => ⟨S_, .f32⟩
  | 1 => ⟨S1x5632, .f32⟩
  | 2 => ⟨S1x1x5632, .f32⟩
  | 3 => ⟨S_, .f32⟩
  | 4 => ⟨S5632, .f32⟩
  | 5 => ⟨S1x4096x5632, .f32⟩
  | 6 => ⟨S_, .f32⟩
  | 7 => ⟨S1x5632, .f32⟩
  | 8 => ⟨S1x1x5632, .f32⟩
  | 9 => ⟨S1x4096x5632, .f32⟩
  | 10 => ⟨S1x4096x5632, .f32⟩
  | 11 => ⟨S_, .f32⟩
  | 12 => ⟨S5632, .f32⟩
  | 13 => ⟨S1x5632, .f32⟩
  | 14 => ⟨S_, .f32⟩
  | 15 => ⟨S3x5632, .f32⟩
  | 16 => ⟨S3x5632, .f32⟩
  | 17 => ⟨S_, .f32⟩
  | 18 => ⟨S1x4098x5632, .f32⟩
  | 19 => ⟨S1x4098x5632, .f32⟩
  | 20 => ⟨S1x2x5632, .f32⟩
  | 21 => ⟨S1x4096x5632, .f32⟩
  | 22 => ⟨S4096x5632, .f32⟩
  | 23 => ⟨S4096x5632, .bf16⟩
  | 24 => ⟨S4096x2816, .bf16⟩
  | 25 => ⟨S4096x2816, .bf16⟩
  | 26 => ⟨S1x5632, .f32⟩
  | 27 => ⟨S_, .f32⟩
  | 28 => ⟨S4x5632, .f32⟩
  | 29 => ⟨S8x5632, .f32⟩
  | 30 => ⟨S8x2816, .f32⟩
  | 31 => ⟨S8x2816, .f32⟩
  | _ => ⟨S4096x2816, .f32⟩

abbrev hbmTy (i : Nat) : BufTy := match i / 128 with
  | 0 => hbmTy0_0 i
  | 1 => hbmTy0_1 i
  | _ => ⟨S4096x2816, .f32⟩

abbrev bufTy : (tb : Table) → Fin (tcTables nBuf tb) → BufTy
  | .hbm, ⟨i, _⟩ => hbmTy i
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_1 : Ref sig .tc := ⟨.hbm, 48, rfl⟩
abbrev main_v40 : Ref sig .tc := ⟨.hbm, 49, rfl⟩
abbrev main_v41 : Ref sig .tc := ⟨.hbm, 50, rfl⟩
abbrev main_cst_2 : Ref sig .tc := ⟨.hbm, 51, rfl⟩
abbrev main_v42 : Ref sig .tc := ⟨.hbm, 52, rfl⟩
abbrev main_v43 : Ref sig .tc := ⟨.hbm, 53, rfl⟩
abbrev main_cst_3 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_4 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_5 : Ref sig .tc := ⟨.hbm, 62, rfl⟩
abbrev main_v50 : Ref sig .tc := ⟨.hbm, 63, rfl⟩
abbrev main_v51 : Ref sig .tc := ⟨.hbm, 64, rfl⟩
abbrev main_cst_6 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_7 : Ref sig .tc := ⟨.hbm, 69, rfl⟩
abbrev main_v55 : Ref sig .tc := ⟨.hbm, 70, rfl⟩
abbrev main_v56 : Ref sig .tc := ⟨.hbm, 71, rfl⟩
abbrev main_cst_8 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_9 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_10 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_11 : Ref sig .tc := ⟨.hbm, 91, rfl⟩
abbrev main_v73 : Ref sig .tc := ⟨.hbm, 92, rfl⟩
abbrev main_v74 : Ref sig .tc := ⟨.hbm, 93, rfl⟩
abbrev main_cst_12 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_13 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_cst_14 : Ref sig .tc := ⟨.hbm, 106, rfl⟩
abbrev main_v85 : Ref sig .tc := ⟨.hbm, 107, rfl⟩
abbrev main_v86 : Ref sig .tc := ⟨.hbm, 108, rfl⟩
abbrev main_cst_15 : Ref sig .tc := ⟨.hbm, 109, rfl⟩
abbrev main_v87 : Ref sig .tc := ⟨.hbm, 110, rfl⟩
abbrev main_cst_16 : Ref sig .tc := ⟨.hbm, 111, rfl⟩
abbrev main_v88 : Ref sig .tc := ⟨.hbm, 112, rfl⟩
abbrev main_v89 : Ref sig .tc := ⟨.hbm, 113, rfl⟩
abbrev main_cst_17 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_cst_18 : Ref sig .tc := ⟨.hbm, 119, rfl⟩
abbrev main_v94 : Ref sig .tc := ⟨.hbm, 120, rfl⟩
abbrev main_v95 : Ref sig .tc := ⟨.hbm, 121, rfl⟩
abbrev main_cst_19 : Ref sig .tc := ⟨.hbm, 122, rfl⟩
abbrev main_v96 : Ref sig .tc := ⟨.hbm, 123, rfl⟩
abbrev main_v97 : Ref sig .tc := ⟨.hbm, 124, rfl⟩
abbrev main_cst_20 : Ref sig .tc := ⟨.hbm, 125, rfl⟩
abbrev main_v98 : Ref sig .tc := ⟨.hbm, 126, rfl⟩
abbrev main_v99 : Ref sig .tc := ⟨.hbm, 127, rfl⟩
abbrev main_cst_21 : Ref sig .tc := ⟨.hbm, 128, rfl⟩
abbrev main_v100 : Ref sig .tc := ⟨.hbm, 129, rfl⟩
abbrev main_v101 : Ref sig .tc := ⟨.hbm, 130, rfl⟩
abbrev main_cst_22 : Ref sig .tc := ⟨.hbm, 131, rfl⟩
abbrev main_v102 : Ref sig .tc := ⟨.hbm, 132, rfl⟩
abbrev main_v103 : Ref sig .tc := ⟨.hbm, 133, rfl⟩
abbrev main_cst_23 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_24 : Ref sig .tc := ⟨.hbm, 139, rfl⟩
abbrev main_v108 : Ref sig .tc := ⟨.hbm, 140, rfl⟩
abbrev main_v109 : Ref sig .tc := ⟨.hbm, 141, rfl⟩
abbrev main_cst_25 : Ref sig .tc := ⟨.hbm, 142, rfl⟩
abbrev main_v110 : Ref sig .tc := ⟨.hbm, 143, rfl⟩
abbrev main_v111 : Ref sig .tc := ⟨.hbm, 144, rfl⟩
abbrev main_cst_26 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_cst_27 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩

abbrev nD : Nat := 1
abbrev τ : Topo := Topo.v7x

variable {F : FTy → Type} [FloatOps F]
-- ==== Kernel2.lean ====
abbrev S4096x2816 : Shape := ⟨2, ![4096, 2816]⟩
abbrev S5632x1024 : Shape := ⟨2, ![5632, 1024]⟩
abbrev S4096x1024 : Shape := ⟨2, ![4096, 1024]⟩
abbrev S4x1024 : Shape := ⟨2, ![4, 1024]⟩
abbrev S2x2816x1024 : Shape := ⟨3, ![2, 2816, 1024]⟩
abbrev S4x1x1024 : Shape := ⟨3, ![4, 1, 1024]⟩
abbrev S1x1024 : Shape := ⟨2, ![1, 1024]⟩
abbrev S256x2816 : Shape := ⟨2, ![256, 2816]⟩
abbrev S1x2816x1024 : Shape := ⟨3, ![1, 2816, 1024]⟩
abbrev S256x1024 : Shape := ⟨2, ![256, 1024]⟩
abbrev S1x1x1024 : Shape := ⟨3, ![1, 1, 1024]⟩
abbrev S2816x1024 : Shape := ⟨2, ![2816, 1024]⟩
abbrev S256 : Shape := ⟨1, ![256]⟩
abbrev S256x1 : Shape := ⟨2, ![256, 1]⟩
abbrev S1024 : Shape := ⟨1, ![1024]⟩

abbrev nBuf : Space → Nat
  | .hbm => 11
  | .vmem => 16
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S5632x1024, .bf16⟩
  | .hbm, ⟨3, _⟩ => ⟨S4096x1024, .f32⟩
  | .hbm, ⟨4, _⟩ => ⟨S4x1024, .f32⟩
  | .hbm, ⟨5, _⟩ => ⟨S4096x1024, .f32⟩
  | .hbm, ⟨6, _⟩ => ⟨S2x2816x1024, .bf16⟩
  | .hbm, ⟨7, _⟩ => ⟨S4x1x1024, .f32⟩
  | .hbm, ⟨8, _⟩ => ⟨S4096x1024, .f32⟩
  | .hbm, ⟨9, _⟩ => ⟨S4096x1024, .bf16⟩
  | .hbm, ⟨10, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S1x2816x1024, .bf16⟩
  | .local _ .vmem, ⟨3, _⟩ => ⟨S256x1024, .f32⟩
  | .local _ .vmem, ⟨4, _⟩ => ⟨S256x1024, .f32⟩
  | .local _ .vmem, ⟨5, _⟩ => ⟨S1x1x1024, .f32⟩
  | .local _ .vmem, ⟨6, _⟩ => ⟨S256x1024, .f32⟩
  | .local _ .vmem, ⟨7, _⟩ => ⟨S256x1024, .f32⟩
  | .local _ .vmem, ⟨8, _⟩ => ⟨S256x2816, .bf16⟩
  | .local _ .vmem, ⟨9, _⟩ => ⟨S256x2816, .bf16⟩
  | .local _ .vmem, ⟨10, _⟩ => ⟨S1x2816x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference2Ideal.lean ====
abbrev S4096x2816 : Shape := ⟨2, ![4096, 2816]⟩
abbrev S5632x1024 : Shape := ⟨2, ![5632, 1024]⟩
abbrev S4096x1024 : Shape := ⟨2, ![4096, 1024]⟩
abbrev S4x1024 : Shape := ⟨2, ![4, 1024]⟩
abbrev S1024x5632 : Shape := ⟨2, ![1024, 5632]⟩
abbrev S4096x5632 : Shape := ⟨2, ![4096, 5632]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 62
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S5632x1024, .bf16⟩
  | .hbm, ⟨3, _⟩ => ⟨S4096x1024, .f32⟩
  | .hbm, ⟨4, _⟩ => ⟨S4x1024, .f32⟩
  | .hbm, ⟨5, _⟩ => ⟨S4096x1024, .f32⟩
  | .hbm, ⟨6, _⟩ => ⟨S5632x1024, .f32⟩
  | .hbm, ⟨7, _⟩ => ⟨S1024x5632, .f32⟩
  | .hbm, ⟨8, _⟩ => ⟨S4096x5632, .bf16⟩
  | .hbm, ⟨9, _⟩ => ⟨S4096x5632, .f32⟩
  | .hbm, ⟨10, _⟩ => ⟨S1x1024, .f32⟩
  | .hbm, ⟨11, _⟩ => ⟨S1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x5632, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .bf16⟩
  | .hbm, ⟨61, _⟩ => ⟨S1x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== Kernel3.lean ====
abbrev S4096x2304 : Shape := ⟨2, ![4096, 2304]⟩
abbrev S2304x1024 : Shape := ⟨2, ![2304, 1024]⟩
abbrev S4096x1024 : Shape := ⟨2, ![4096, 1024]⟩
abbrev S4x1024 : Shape := ⟨2, ![4, 1024]⟩
abbrev S4x1x1024 : Shape := ⟨3, ![4, 1, 1024]⟩
abbrev S1x1024 : Shape := ⟨2, ![1, 1024]⟩
abbrev S512x2304 : Shape := ⟨2, ![512, 2304]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S4096x2304, .bf16⟩
  | .hbm, ⟨1, _⟩ => ⟨S2304x1024, .bf16⟩
  | .hbm, ⟨2, _⟩ => ⟨S4096x1024, .f32⟩
  | .hbm, ⟨3, _⟩ => ⟨S4x1024, .f32⟩
  | .hbm, ⟨4, _⟩ => ⟨S4096x1024, .f32⟩
  | .hbm, ⟨5, _⟩ => ⟨S4x1x1024, .f32⟩
  | .hbm, ⟨6, _⟩ => ⟨S4096x1024, .f32⟩
  | .hbm, ⟨7, _⟩ => ⟨S4096x1024, .bf16⟩
  | .hbm, ⟨8, _⟩ => ⟨S1x1024, .f32⟩
  | .local _ .vmem, ⟨0, _⟩ => ⟨S512x2304, .bf16⟩
  | .local _ .vmem, ⟨1, _⟩ => ⟨S512x2304, .bf16⟩
  | .local _ .vmem, ⟨2, _⟩ => ⟨S2304x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2304x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference3Ideal.lean ====
abbrev S4096x2304 : Shape := ⟨2, ![4096, 2304]⟩
abbrev S2304x1024 : Shape := ⟨2, ![2304, 1024]⟩
abbrev S4096x1024 : Shape := ⟨2, ![4096, 1024]⟩
abbrev S4x1024 : Shape := ⟨2, ![4, 1024]⟩
abbrev S1024x2304 : Shape := ⟨2, ![1024, 2304]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 60
  | .vmem => 0
  | .smem => 0
  | _ => 0

abbrev bufTy : (tb : Table) → Fin (tcTables nBuf tb) → BufTy
  | .hbm, ⟨0, _⟩ => ⟨S4096x2304, .bf16⟩
  | .hbm, ⟨1, _⟩ => ⟨S2304x1024, .bf16⟩
  | .hbm, ⟨2, _⟩ => ⟨S4096x1024, .f32⟩
  | .hbm, ⟨3, _⟩ => ⟨S4x1024, .f32⟩
  | .hbm, ⟨4, _⟩ => ⟨S4096x1024, .f32⟩
  | .hbm, ⟨5, _⟩ => ⟨S2304x1024, .f32⟩
  | .hbm, ⟨6, _⟩ => ⟨S1024x2304, .f32⟩
  | .hbm, ⟨7, _⟩ => ⟨S1x1024, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x2304, .f32⟩
  | .hbm, ⟨30, _⟩ => ⟨S4096x2304, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .bf16⟩
  | .hbm, ⟨59, _⟩ => ⟨S1x1024, .f32⟩
  | _, _ => ⟨S4096x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Kernel4.lean ====
abbrev S4096x2816 : Shape := ⟨2, ![4096, 2816]⟩
abbrev S8192x1024 : Shape := ⟨2, ![8192, 1024]⟩
abbrev S5632x1024 : Shape := ⟨2, ![5632, 1024]⟩
abbrev S4096x256 : Shape := ⟨2, ![4096, 256]⟩
abbrev S4096x1024 : Shape := ⟨2, ![4096, 1024]⟩
abbrev S256x1024 : Shape := ⟨2, ![256, 1024]⟩
abbrev S2816x1024 : Shape := ⟨2, ![2816, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S8192x1024, .bf16⟩
  | .hbm, ⟨2, _⟩ => ⟨S5632x1024, .bf16⟩
  | .hbm, ⟨3, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S4096x2816 : Shape := ⟨2, ![4096, 2816]⟩
abbrev S8192x1024 : Shape := ⟨2, ![8192, 1024]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S8192x1024, .bf16⟩
  | .hbm, ⟨2, _⟩ => ⟨S4096x1024, .bf16⟩
  | .hbm, ⟨3, _⟩ => ⟨S_, .f32⟩
  | .hbm, ⟨4, _⟩ => ⟨S2816x1024, .f32⟩
  | .hbm, ⟨5, _⟩ => ⟨S4096x2816, .f32⟩
  | .hbm, ⟨6, _⟩ => ⟨S4096x1024, .f32⟩
  | .hbm, ⟨7, _⟩ => ⟨S4096x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S4096x2816 : Shape := ⟨2, ![4096, 2816]⟩
abbrev S8192x1024 : Shape := ⟨2, ![8192, 1024]⟩
abbrev S5632x1024 : Shape := ⟨2, ![5632, 1024]⟩
abbrev S4096x256 : Shape := ⟨2, ![4096, 256]⟩
abbrev S4096x1024 : Shape := ⟨2, ![4096, 1024]⟩
abbrev S256x1024 : Shape := ⟨2, ![256, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S8192x1024, .bf16⟩
  | .hbm, ⟨2, _⟩ => ⟨S5632x1024, .bf16⟩
  | .hbm, ⟨3, _⟩ => ⟨S5632x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![v0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S4096x2816 : Shape := ⟨2, ![4096, 2816]⟩
abbrev S8192x1024 : Shape := ⟨2, ![8192, 1024]⟩
abbrev S5632x1024 : Shape := ⟨2, ![5632, 1024]⟩
abbrev S2816x1024 : Shape := ⟨2, ![2816, 1024]⟩
abbrev S4096x1024 : Shape := ⟨2, ![4096, 1024]⟩
abbrev S_ : Shape := ⟨0, ![]⟩
abbrev S1024x2816 : Shape := ⟨2, ![1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S8192x1024, .bf16⟩
  | .hbm, ⟨2, _⟩ => ⟨S5632x1024, .bf16⟩
  | .hbm, ⟨3, _⟩ => ⟨S2816x1024, .bf16⟩
  | .hbm, ⟨4, _⟩ => ⟨S4096x1024, .bf16⟩
  | .hbm, ⟨5, _⟩ => ⟨S_, .f32⟩
  | .hbm, ⟨6, _⟩ => ⟨S2816x1024, .f32⟩
  | .hbm, ⟨7, _⟩ => ⟨S4096x2816, .f32⟩
  | .hbm, ⟨8, _⟩ => ⟨S4096x1024, .f32⟩
  | .hbm, ⟨9, _⟩ => ⟨S4096x1024, .f32⟩
  | .hbm, ⟨10, _⟩ => ⟨S1024x2816, .f32⟩
  | .hbm, ⟨11, _⟩ => ⟨S2816x1024, .f32⟩
  | .hbm, ⟨12, _⟩ => ⟨S2816x1024, .bf16⟩
  | .hbm, ⟨13, _⟩ => ⟨S5632x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel6.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4096x2304 : Shape := ⟨2, ![4096, 2304]⟩
abbrev S4096x1024 : Shape := ⟨2, ![4096, 1024]⟩
abbrev S2304x1024 : Shape := ⟨2, ![2304, 1024]⟩
abbrev S4096x256 : Shape := ⟨2, ![4096, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2304, .bf16⟩
  | .hbm, ⟨1, _⟩ => ⟨S4096x1024, .bf16⟩
  | .hbm, ⟨2, _⟩ => ⟨S2304x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S4096x2304 : Shape := ⟨2, ![4096, 2304]⟩
abbrev S4096x1024 : Shape := ⟨2, ![4096, 1024]⟩
abbrev S_ : Shape := ⟨0, ![]⟩
abbrev S2304x1024 : Shape := ⟨2, ![2304, 1024]⟩
abbrev S1024x2304 : Shape := ⟨2, ![1024, 2304]⟩

abbrev nBuf : Space → Nat
  | .hbm => 10
  | .vmem => 0
  | .smem => 0
  | _ => 0

abbrev bufTy : (tb : Table) → Fin (tcTables nBuf tb) → BufTy
  | .hbm, ⟨0, _⟩ => ⟨S4096x2304, .bf16⟩
  | .hbm, ⟨1, _⟩ => ⟨S4096x1024, .bf16⟩
  | .hbm, ⟨2, _⟩ => ⟨S_, .f32⟩
  | .hbm, ⟨3, _⟩ => ⟨S2304x1024, .f32⟩
  | .hbm, ⟨4, _⟩ => ⟨S4096x2304, .f32⟩
  | .hbm, ⟨5, _⟩ => ⟨S4096x1024, .f32⟩
  | .hbm, ⟨6, _⟩ => ⟨S4096x1024, .f32⟩
  | .hbm, ⟨7, _⟩ => ⟨S1024x2304, .f32⟩
  | .hbm, ⟨8, _⟩ => ⟨S2304x1024, .f32⟩
  | .hbm, ⟨9, _⟩ => ⟨S2304x1024, .bf16⟩
  | _, _ => ⟨S4096x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S4096x1024 : Shape := ⟨2, ![4096, 1024]⟩
abbrev S4096x256 : Shape := ⟨2, ![4096, 256]⟩
abbrev S1024x256 : Shape := ⟨2, ![1024, 256]⟩
abbrev S4096x512 : Shape := ⟨2, ![4096, 512]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S1024x256, .bf16⟩
  | .local _ .vmem, ⟨0, _⟩ => ⟨S4096x512, .bf16⟩
  | .local _ .vmem, ⟨1, _⟩ => ⟨S4096x512, .bf16⟩
  | .local _ .vmem, ⟨2, _⟩ => ⟨S4096x256, .bf16⟩
  | .local _ .vmem, ⟨3, _⟩ => ⟨S512x256, .bf16⟩
  | .local _ .vmem, ⟨4, _⟩ => ⟨S512x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S4096x1024 : Shape := ⟨2, ![4096, 1024]⟩
abbrev S4096x256 : Shape := ⟨2, ![4096, 256]⟩
abbrev S_ : Shape := ⟨0, ![]⟩
abbrev S1024x256 : Shape := ⟨2, ![1024, 256]⟩
abbrev S256x1024 : Shape := ⟨2, ![256, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S_, .f32⟩
  | .hbm, ⟨3, _⟩ => ⟨S1024x256, .f32⟩
  | .hbm, ⟨4, _⟩ => ⟨S4096x1024, .f32⟩
  | .hbm, ⟨5, _⟩ => ⟨S4096x256, .f32⟩
  | .hbm, ⟨6, _⟩ => ⟨S4096x256, .f32⟩
  | .hbm, ⟨7, _⟩ => ⟨S256x1024, .f32⟩
  | .hbm, ⟨8, _⟩ => ⟨S1024x256, .f32⟩
  | .hbm, ⟨9, _⟩ => ⟨S1024x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S4096x1024 : Shape := ⟨2, ![4096, 1024]⟩
abbrev S4x1024 : Shape := ⟨2, ![4, 1024]⟩
abbrev S1024x1024 : Shape := ⟨2, ![1024, 1024]⟩
abbrev S4096x256 : Shape := ⟨2, ![4096, 256]⟩
abbrev S1024x256 : Shape := ⟨2, ![1024, 256]⟩
abbrev S4x1x1024 : Shape := ⟨3, ![4, 1, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S512x1024 : Shape := ⟨2, ![512, 1024]⟩
abbrev S512x256 : Shape := ⟨2, ![512, 256]⟩
abbrev S1x1x1024 : Shape := ⟨3, ![1, 1, 1024]⟩
abbrev S512 : Shape := ⟨1, ![512]⟩
abbrev S512x1 : Shape := ⟨2, ![512, 1]⟩

abbrev nBuf : Space → Nat
  | .hbm => 32
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4x1024, .f32⟩
  | .hbm, ⟨3, _⟩ => ⟨S1024x1024, .bf16⟩
  | .hbm, ⟨4, _⟩ => ⟨S4096x256, .bf16⟩
  | .hbm, ⟨5, _⟩ => ⟨S1024x256, .bf16⟩
  | .hbm, ⟨6, _⟩ => ⟨S4x1x1024, .f32⟩
  | .hbm, ⟨7, _⟩ => ⟨S1x1024, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S1024x1024, .f32⟩
  | .hbm, ⟨26, _⟩ => ⟨S4096x1024, .f32⟩
  | .hbm, ⟨27, _⟩ => ⟨S4096x1024, .f32⟩
  | .hbm, ⟨28, _⟩ => ⟨S4096x1024, .bf16⟩
  | .hbm, ⟨29, _⟩ => ⟨S1x1024, .f32⟩
  | .hbm, ⟨30, _⟩ => ⟨S4096x1024, .bf16⟩
  | .hbm, ⟨31, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x256, .bf16⟩
  | .local _ .vmem, ⟨5, _⟩ => ⟨S512x256, .bf16⟩
  | .local _ .vmem, ⟨6, _⟩ => ⟨S1024x256, .bf16⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S1x1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v18_3 : Ref sig .tc := ⟨.hbm, 30, rfl⟩
abbrev main_v18_4 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference11Ideal.lean ====
abbrev S4096x1024 : Shape := ⟨2, ![4096, 1024]⟩
abbrev S4x1024 : Shape := ⟨2, ![4, 1024]⟩
abbrev S1024x1024 : Shape := ⟨2, ![1024, 1024]⟩
abbrev S4096x256 : Shape := ⟨2, ![4096, 256]⟩
abbrev S1024x256 : Shape := ⟨2, ![1024, 256]⟩
abbrev S256x1024 : Shape := ⟨2, ![256, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 83
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4x1024, .f32⟩
  | .hbm, ⟨3, _⟩ => ⟨S1024x1024, .bf16⟩
  | .hbm, ⟨4, _⟩ => ⟨S4096x256, .bf16⟩
  | .hbm, ⟨5, _⟩ => ⟨S1024x256, .bf16⟩
  | .hbm, ⟨6, _⟩ => ⟨S1024x1024, .f32⟩
  | .hbm, ⟨7, _⟩ => ⟨S4096x256, .f32⟩
  | .hbm, ⟨8, _⟩ => ⟨S1024x256, .f32⟩
  | .hbm, ⟨9, _⟩ => ⟨S256x1024, .f32⟩
  | .hbm, ⟨10, _⟩ => ⟨S4096x1024, .f32⟩
  | .hbm, ⟨11, _⟩ => ⟨S1x1024, .f32⟩
  | .hbm, ⟨12, _⟩ => ⟨S1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S4096x1024, .f32⟩
  | .hbm, ⟨66, _⟩ => ⟨S4096x1024, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S4096, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .bf16⟩
  | .hbm, ⟨80, _⟩ => ⟨S1x1024, .f32⟩
  | .hbm, ⟨81, _⟩ => ⟨S4096x1024, .bf16⟩
  | .hbm, ⟨82, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_v46 : Ref sig .tc := ⟨.hbm, 61, rfl⟩
abbrev main_cst_8 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_9 : Ref sig .tc := ⟨.hbm, 68, rfl⟩
abbrev main_v52 : Ref sig .tc := ⟨.hbm, 69, rfl⟩
abbrev main_v53 : Ref sig .tc := ⟨.hbm, 70, rfl⟩
abbrev main_cst_10 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩

abbrev nD : Nat := 1
abbrev τ : Topo := Topo.v7x

variable {F : FTy → Type} [FloatOps F]
-- ==== Kernel12.lean ====
abbrev S4096x2816 : Shape := ⟨2, ![4096, 2816]⟩
abbrev S2816x1024 : Shape := ⟨2, ![2816, 1024]⟩
abbrev S4096x1024 : Shape := ⟨2, ![4096, 1024]⟩
abbrev S512x2816 : Shape := ⟨2, ![512, 2816]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference13Ideal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S4096x1024 : Shape := ⟨2, ![4096, 1024]⟩
abbrev S4x1024 : Shape := ⟨2, ![4, 1024]⟩
abbrev S2304x1024 : Shape := ⟨2, ![2304, 1024]⟩
abbrev S4x1x1024 : Shape := ⟨3, ![4, 1, 1024]⟩
abbrev S4096x2304 : Shape := ⟨2, ![4096, 2304]⟩
abbrev S1024x1024 : Shape := ⟨2, ![1024, 1024]⟩
abbrev S1x1x1024 : Shape := ⟨3, ![1, 1, 1024]⟩
abbrev S768x1024 : Shape := ⟨2, ![768, 1024]⟩
abbrev S1024x768 : Shape := ⟨2, ![1024, 768]⟩
abbrev S1x1024 : Shape := ⟨2, ![1, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4x1024, .f32⟩
  | .hbm, ⟨2, _⟩ => ⟨S2304x1024, .bf16⟩
  | .hbm, ⟨3, _⟩ => ⟨S4x1x1024, .f32⟩
  | .hbm, ⟨4, _⟩ => ⟨S4096x1024, .bf16⟩
  | .hbm, ⟨5, _⟩ => ⟨S4096x2304, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S768x1024, .bf16⟩
  | .local _ .vmem, ⟨4, _⟩ => ⟨S768x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x768, .f32⟩
  | .local _ .vmem, ⟨8, _⟩ => ⟨S1024x768, .f32⟩
  | .local _ .vmem, ⟨9, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference14Ideal.lean ====
abbrev S4096x1024 : Shape := ⟨2, ![4096, 1024]⟩
abbrev S4x1024 : Shape := ⟨2, ![4, 1024]⟩
abbrev S2304x1024 : Shape := ⟨2, ![2304, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2304 : Shape := ⟨2, ![1024, 2304]⟩
abbrev S4096x2304 : Shape := ⟨2, ![4096, 2304]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x1024, .f32⟩
  | .hbm, ⟨2, _⟩ => ⟨S2304x1024, .bf16⟩
  | .hbm, ⟨3, _⟩ => ⟨S1x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | .hbm, ⟨22, _⟩ => ⟨S2304x1024, .f32⟩
  | .hbm, ⟨23, _⟩ => ⟨S1024x2304, .f32⟩
  | .hbm, ⟨24, _⟩ => ⟨S4096x2304, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel15.lean ====
abbrev S4096x1024 : Shape := ⟨2, ![4096, 1024]⟩
abbrev S4x1024 : Shape := ⟨2, ![4, 1024]⟩
abbrev S1024x1024 : Shape := ⟨2, ![1024, 1024]⟩
abbrev S4096x256 : Shape := ⟨2, ![4096, 256]⟩
abbrev S1024x256 : Shape := ⟨2, ![1024, 256]⟩
abbrev S4x1x1024 : Shape := ⟨3, ![4, 1, 1024]⟩
abbrev S1x1x1024 : Shape := ⟨3, ![1, 1, 1024]⟩
abbrev S1024x512 : Shape := ⟨2, ![1024, 512]⟩
abbrev S512x256 : Shape := ⟨2, ![512, 256]⟩
abbrev S1x1024 : Shape := ⟨2, ![1, 1024]⟩
abbrev S1024 : Shape := ⟨1, ![1024]⟩
abbrev S1024x1 : Shape := ⟨2, ![1024, 1]⟩

abbrev nBuf : Space → Nat
  | .hbm => 9
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4x1024, .f32⟩
  | .hbm, ⟨2, _⟩ => ⟨S1024x1024, .bf16⟩
  | .hbm, ⟨3, _⟩ => ⟨S4096x256, .bf16⟩
  | .hbm, ⟨4, _⟩ => ⟨S1024x256, .bf16⟩
  | .hbm, ⟨5, _⟩ => ⟨S4x1x1024, .f32⟩
  | .hbm, ⟨6, _⟩ => ⟨S4096x1024, .bf16⟩
  | .hbm, ⟨7, _⟩ => ⟨S4096x1024, .f32⟩
  | .hbm, ⟨8, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x256, .bf16⟩
  | .local _ .vmem, ⟨6, _⟩ => ⟨S1024x256, .bf16⟩
  | .local _ .vmem, ⟨7, _⟩ => ⟨S512x256, .bf16⟩
  | .local _ .vmem, ⟨8, _⟩ => ⟨S512x256, .bf16⟩
  | .local _ .vmem, ⟨9, _⟩ => ⟨S1024x1024, .bf16⟩
  | .local _ .vmem, ⟨10, _⟩ => ⟨S1024x1024, .bf16⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_11 : BitVec 32 := 0#32
  let v14 : BitVec 1 := Scalar.cmpi .eq arg1 c0_i32_11
  let v15 : BitVec 32 := Scalar.extui v14
  let c0_i32_12 : BitVec 32 := 0#32
  let v16 : BitVec 1 := Scalar.cmpi .ne v15 c0_i32_12
  v16

def k0_cond3 (i : grid0.Coords) : BitVec 1 :=
  let arg1 : BitVec 32 := BitVec.ofNat 32 (i 1).val
  let c1_i32 : BitVec 32 := 1#32
  let v17 : BitVec 1 := Scalar.cmpi .eq arg1 c1_i32
  let v18 : BitVec 32 := Scalar.extui v17
  let c0_i32_13 : BitVec 32 := 0#32
  let v19 : BitVec 1 := Scalar.cmpi .ne v18 c0_i32_13
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference15Ideal.lean ====
abbrev S4096x1024 : Shape := ⟨2, ![4096, 1024]⟩
abbrev S4x1024 : Shape := ⟨2, ![4, 1024]⟩
abbrev S1024x1024 : Shape := ⟨2, ![1024, 1024]⟩
abbrev S4096x256 : Shape := ⟨2, ![4096, 256]⟩
abbrev S1024x256 : Shape := ⟨2, ![1024, 256]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S256x1024 : Shape := ⟨2, ![256, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x1024, .f32⟩
  | .hbm, ⟨2, _⟩ => ⟨S1024x1024, .bf16⟩
  | .hbm, ⟨3, _⟩ => ⟨S4096x256, .bf16⟩
  | .hbm, ⟨4, _⟩ => ⟨S1024x256, .bf16⟩
  | .hbm, ⟨5, _⟩ => ⟨S1x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S1024x1024, .f32⟩
  | .hbm, ⟨24, _⟩ => ⟨S4096x1024, .f32⟩
  | .hbm, ⟨25, _⟩ => ⟨S4096x1024, .bf16⟩
  | .hbm, ⟨26, _⟩ => ⟨S4096x256, .f32⟩
  | .hbm, ⟨27, _⟩ => ⟨S1024x256, .f32⟩
  | .hbm, ⟨28, _⟩ => ⟨S256x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Kernel16.lean ====
abbrev S4096x1024 : Shape := ⟨2, ![4096, 1024]⟩
abbrev S4x1024 : Shape := ⟨2, ![4, 1024]⟩
abbrev S5632x1024 : Shape := ⟨2, ![5632, 1024]⟩
abbrev S4x3x5632 : Shape := ⟨3, ![4, 3, 5632]⟩
abbrev S4x5632 : Shape := ⟨2, ![4, 5632]⟩
abbrev S2x2816x1024 : Shape := ⟨3, ![2, 2816, 1024]⟩
abbrev S4x1x5632 : Shape := ⟨3, ![4, 1, 5632]⟩
abbrev S4x1x1024 : Shape := ⟨3, ![4, 1, 1024]⟩
abbrev S8192x1024 : Shape := ⟨2, ![8192, 1024]⟩
abbrev S4096x2816 : Shape := ⟨2, ![4096, 2816]⟩
abbrev S256x1024 : Shape := ⟨2, ![256, 1024]⟩
abbrev S1x1x1024 : Shape := ⟨3, ![1, 1, 1024]⟩
abbrev S1x1408x1024 : Shape := ⟨3, ![1, 1408, 1024]⟩
abbrev S1x3x1408 : Shape := ⟨3, ![1, 3, 1408]⟩
abbrev S1x1x1408 : Shape := ⟨3, ![1, 1, 1408]⟩
abbrev S256x1408 : Shape := ⟨2, ![256, 1408]⟩
abbrev S8x1408 : Shape := ⟨2, ![8, 1408]⟩
abbrev S1x1024 : Shape := ⟨2, ![1, 1024]⟩
abbrev S256 : Shape := ⟨1, ![256]⟩
abbrev S256x1 : Shape := ⟨2, ![256, 1]⟩
abbrev S1408x1024 : Shape := ⟨2, ![1408, 1024]⟩
abbrev S264x1408 : Shape := ⟨2, ![264, 1408]⟩
abbrev S3x1408 : Shape := ⟨2, ![3, 1408]⟩
abbrev S1x1408 : Shape := ⟨2, ![1, 1408]⟩

abbrev nBuf : Space → Nat
  | .hbm => 12
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S4x1024, .f32⟩
  | .hbm, ⟨2, _⟩ => ⟨S5632x1024, .bf16⟩
  | .hbm, ⟨3, _⟩ => ⟨S4x3x5632, .f32⟩
  | .hbm, ⟨4, _⟩ => ⟨S4x5632, .f32⟩
  | .hbm, ⟨5, _⟩ => ⟨S2x2816x1024, .bf16⟩
  | .hbm, ⟨6, _⟩ => ⟨S4x1x5632, .f32⟩
  | .hbm, ⟨7, _⟩ => ⟨S4x1x1024, .f32⟩
  | .hbm, ⟨8, _⟩ => ⟨S8192x1024, .bf16⟩
  | .hbm, ⟨9, _⟩ => ⟨S4096x2816, .f32⟩
  | .hbm, ⟨10, _⟩ => ⟨S4096x2816, .f32⟩
  | .hbm, ⟨11, _⟩ => ⟨S4096x2816, .bf16⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1408x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1x1408x1024, .bf16⟩
  | .local _ .vmem, ⟨7, _⟩ => ⟨S1x3x1408, .f32⟩
  | .local _ .vmem, ⟨8, _⟩ => ⟨S1x3x1408, .f32⟩
  | .local _ .vmem, ⟨9, _⟩ => ⟨S1x1x1408, .f32⟩
  | .local _ .vmem, ⟨10, _⟩ => ⟨S1x1x1408, .f32⟩
  | .local _ .vmem, ⟨11, _⟩ => ⟨S1x3x1408, .f32⟩
  | .local _ .vmem, ⟨12, _⟩ => ⟨S1x3x1408, .f32⟩
  | .local _ .vmem, ⟨13, _⟩ => ⟨S1x1x1408, .f32⟩
  | .local _ .vmem, ⟨14, _⟩ => ⟨S1x1x1408, .f32⟩
  | .local _ .vmem, ⟨15, _⟩ => ⟨S256x1024, .bf16⟩
  | .local _ .vmem, ⟨16, _⟩ => ⟨S256x1024, .bf16⟩
  | .local _ .vmem, ⟨17, _⟩ => ⟨S256x1408, .f32⟩
  | .local _ .vmem, ⟨18, _⟩ => ⟨S256x1408, .f32⟩
  | .local _ .vmem, ⟨19, _⟩ => ⟨S256x1408, .f32⟩
  | .local _ .vmem, ⟨20, _⟩ => ⟨S256x1408, .f32⟩
  | .local _ .vmem, ⟨21, _⟩ => ⟨S256x1408, .bf16⟩
  | .local _ .vmem, ⟨22, _⟩ => ⟨S256x1408, .bf16⟩
  | .local _ .vmem, ⟨23, _⟩ => ⟨S8x1408, .f32⟩
  | .local _ .vmem, ⟨24, _⟩ => ⟨S8x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c3_i32 : BitVec 32 := 3#32
  let c0_i32_0 : BitVec 32 := 0#32
  let c0_i32_1 : BitVec 32 := 0#32
  ![c3_i32.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c3_i32 : BitVec 32 := 3#32
  let c0_i32_0 : BitVec 32 := 0#32
  let c0_i32_1 : BitVec 32 := 0#32
  ![c3_i32.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c3_i32 : BitVec 32 := 3#32
  let c0_i32 : BitVec 32 := 0#32
  let c0_i32_0 : BitVec 32 := 0#32
  ![c3_i32.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c3_i32 : BitVec 32 := 3#32
  let c0_i32 : BitVec 32 := 0#32
  let c0_i32_0 : BitVec 32 := 0#32
  ![c3_i32.toNat, c0_i32.toNat, v0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x3x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x1408 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Kernel16Ideal.lean ====
variable {F : FTy → Type} [FloatOps F] [Named F]
def κ : String → Option EReal := fun
  | "gelu_a" => some ((8943 / 200000 : ℝ) : EReal)
  | _ => none
-- ==== Reference16Ideal.lean ====
abbrev S4096x1024 : Shape := ⟨2, ![4096, 1024]⟩
abbrev S4x1024 : Shape := ⟨2, ![4, 1024]⟩
abbrev S5632x1024 : Shape := ⟨2, ![5632, 1024]⟩
abbrev S4x3x5632 : Shape := ⟨3, ![4, 3, 5632]⟩
abbrev S4x5632 : Shape := ⟨2, ![4, 5632]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x5632 : Shape := ⟨2, ![1024, 5632]⟩
abbrev S4096x5632 : Shape := ⟨2, ![4096, 5632]⟩
abbrev S4096x2816 : Shape := ⟨2, ![4096, 2816]⟩
abbrev S1x4096x5632 : Shape := ⟨3, ![1, 4096, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S1x2x5632 : Shape := ⟨3, ![1, 2, 5632]⟩
abbrev S1x4098x5632 : Shape := ⟨3, ![1, 4098, 5632]⟩
abbrev S1x1x5632 : Shape := ⟨3, ![1, 1, 5632]⟩
abbrev S8192x1024 : Shape := ⟨2, ![8192, 1024]⟩

abbrev nBuf : Space → Nat
  | .hbm => 86
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x1024, .f32⟩
  | .hbm, ⟨2, _⟩ => ⟨S5632x1024, .bf16⟩
  | .hbm, ⟨3, _⟩ => ⟨S4x3x5632, .f32⟩
  | .hbm, ⟨4, _⟩ => ⟨S4x5632, .f32⟩
  | .hbm, ⟨5, _⟩ => ⟨S1x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S5632x1024, .f32⟩
  | .hbm, ⟨24, _⟩ => ⟨S1024x5632, .f32⟩
  | .hbm, ⟨25, _⟩ => ⟨S4096x5632, .f32⟩
  | .hbm, ⟨26, _⟩ => ⟨S4096x2816, .f32⟩
  | .hbm, ⟨27, _⟩ => ⟨S4096x2816, .f32⟩
  | .hbm, ⟨28, _⟩ => ⟨S1x4096x5632, .f32⟩
  | .hbm, ⟨29, _⟩ => ⟨S1x3x5632, .f32⟩
  | .hbm, ⟨30, _⟩ => ⟨S3x5632, .f32⟩
  | .hbm, ⟨31, _⟩ => ⟨S1x5632, .f32⟩
  | .hbm, ⟨32, _⟩ => ⟨S5632, .f32⟩
  | .hbm, ⟨33, _⟩ => ⟨S_, .f32⟩
  | .hbm, ⟨34, _⟩ => ⟨S1x2x5632, .f32⟩
  | .hbm, ⟨35, _⟩ => ⟨S1x4098x5632, .f32⟩
  | .hbm, ⟨36, _⟩ => ⟨S1x4096x5632, .f32⟩
  | .hbm, ⟨37, _⟩ => ⟨S1x5632, .f32⟩
  | .hbm, ⟨38, _⟩ => ⟨S5632, .f32⟩
  | .hbm, ⟨39, _⟩ => ⟨S1x1x5632, .f32⟩
  | .hbm, ⟨40, _⟩ => ⟨S1x4096x5632, .f32⟩
  | .hbm, ⟨41, _⟩ => ⟨S1x4096x5632, .f32⟩
  | .hbm, ⟨42, _⟩ => ⟨S1x1x5632, .f32⟩
  | .hbm, ⟨43, _⟩ => ⟨S1x4096x5632, .f32⟩
  | .hbm, ⟨44, _⟩ => ⟨S1x4096x5632, .f32⟩
  | .hbm, ⟨45, _⟩ => ⟨S1x4096x5632, .f32⟩
  | .hbm, ⟨46, _⟩ => ⟨S1x5632, .f32⟩
  | .hbm, ⟨47, _⟩ => ⟨S5632, .f32⟩
  | .hbm, ⟨48, _⟩ => ⟨S1x1x5632, .f32⟩
  | .hbm, ⟨49, _⟩ => ⟨S1x4096x5632, .f32⟩
  | .hbm, ⟨50, _⟩ => ⟨S1x4096x5632, .f32⟩
  | .hbm, ⟨51, _⟩ => ⟨S1x4096x5632, .f32⟩
  | .hbm, ⟨52, _⟩ => ⟨S1x4096x5632, .f32⟩
  | .hbm, ⟨53, _⟩ => ⟨S1x5632, .f32⟩
  | .hbm, ⟨54, _⟩ => ⟨S5632, .f32⟩
  | .hbm, ⟨55, _⟩ => ⟨S1x1x5632, .f32⟩
  | .hbm, ⟨56, _⟩ => ⟨S1x4096x5632, .f32⟩
  | .hbm, ⟨57, _⟩ => ⟨S1x4096x5632, .f32⟩
  | .hbm, ⟨58, _⟩ => ⟨S1x4096x5632, .f32⟩
  | .hbm, ⟨59, _⟩ => ⟨S4096x5632, .f32⟩
  | .hbm, ⟨60, _⟩ => ⟨S4096x2816, .f32⟩
  | .hbm, ⟨61, _⟩ => ⟨S4096x2816, .f32⟩
  | .hbm, ⟨62, _⟩ => ⟨S4096x1024, .bf16⟩
  | .hbm, ⟨63, _⟩ => ⟨S8192x1024, .bf16⟩
  | .hbm, ⟨64, _⟩ => ⟨S4096x2816, .f32⟩
  | .hbm, ⟨65, _⟩ => ⟨S4096x2816, .f32⟩
  | .hbm, ⟨66, _⟩ => ⟨S_, .f32⟩
  | .hbm, ⟨67, _⟩ => ⟨S4096x2816, .f32⟩
  | .hbm, ⟨68, _⟩ => ⟨S4096x2816, .f32⟩
  | .hbm, ⟨69, _⟩ => ⟨S_, .f32⟩
  | .hbm, ⟨70, _⟩ => ⟨S4096x2816, .f32⟩
  | .hbm, ⟨71, _⟩ => ⟨S4096x2816, .f32⟩
  | .hbm, ⟨72, _⟩ => ⟨S4096x2816, .f32⟩
  | .hbm, ⟨73, _⟩ => ⟨S_, .f32⟩
  | .hbm, ⟨74, _⟩ => ⟨S4096x2816, .f32⟩
  | .hbm, ⟨75, _⟩ => ⟨S4096x2816, .f32⟩
  | .hbm, ⟨76, _⟩ => ⟨S4096x2816, .f32⟩
  | .hbm, ⟨77, _⟩ => ⟨S_, .f32⟩
  | .hbm, ⟨78, _⟩ => ⟨S4096x2816, .f32⟩
  | .hbm, ⟨79, _⟩ => ⟨S4096x2816, .f32⟩
  | .hbm, ⟨80, _⟩ => ⟨S_, .f32⟩
  | .hbm, ⟨81, _⟩ => ⟨S4096x2816, .f32⟩
  | .hbm, ⟨82, _⟩ => ⟨S4096x2816, .f32⟩
  | .hbm, ⟨83, _⟩ => ⟨S4096x2816, .f32⟩
  | .hbm, ⟨84, _⟩ => ⟨S4096x2816, .f32⟩
  | .hbm, ⟨85, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_cst_3 : Ref sig .tc := ⟨.hbm, 66, rfl⟩
abbrev main_v57 : Ref sig .tc := ⟨.hbm, 67, rfl⟩
abbrev main_v58 : Ref sig .tc := ⟨.hbm, 68, rfl⟩
abbrev main_cst_4 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_cst_5 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_cst_6 : Ref sig .tc := ⟨.hbm, 77, rfl⟩
abbrev main_v65 : Ref sig .tc := ⟨.hbm, 78, rfl⟩
abbrev main_v66 : Ref sig .tc := ⟨.hbm, 79, rfl⟩
abbrev main_cst_7 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩

abbrev nD : Nat := 1
abbrev τ : Topo := Topo.v7x

variable {F : FTy → Type} [FloatOps F]
-- ==== Kernel17.lean ====
abbrev S4096x2304 : Shape := ⟨2, ![4096, 2304]⟩
abbrev S4x256 : Shape := ⟨2, ![4, 256]⟩
abbrev S4x4x128x128 : Shape := ⟨4, ![4, 4, 128, 128]⟩
abbrev S4x4x128 : Shape := ⟨3, ![4, 4, 128]⟩
abbrev S_ : Shape := ⟨0, ![]⟩
abbrev S128x128 : Shape := ⟨2, ![128, 128]⟩
abbrev S4x512x128 : Shape := ⟨3, ![4, 512, 128]⟩
abbrev S4x128x4 : Shape := ⟨3, ![4, 128, 4]⟩
abbrev S4x128x4x64 : Shape := ⟨4, ![4, 128, 4, 64]⟩
abbrev S4x128x256 : Shape := ⟨3, ![4, 128, 256]⟩
abbrev S4x1x256 : Shape := ⟨3, ![4, 1, 256]⟩
abbrev S4096x1024 : Shape := ⟨2, ![4096, 1024]⟩
abbrev S512x256 : Shape := ⟨2, ![512, 256]⟩
abbrev S1x1x256 : Shape := ⟨3, ![1, 1, 256]⟩
abbrev S1x512x128 : Shape := ⟨3, ![1, 512, 128]⟩
abbrev S1x128x256 : Shape := ⟨3, ![1, 128, 256]⟩
abbrev S128x256 : Shape := ⟨2, ![128, 256]⟩
abbrev S1x256 : Shape := ⟨2, ![1, 256]⟩
abbrev S512x128 : Shape := ⟨2, ![512, 128]⟩
abbrev S128 : Shape := ⟨1, ![128]⟩
abbrev S128x1 : Shape := ⟨2, ![128, 1]⟩
abbrev S4096x256 : Shape := ⟨2, ![4096, 256]⟩

abbrev nBuf : Space → Nat
  | .hbm => 29
  | .vmem => 10
  | .smem => 0
  | _ => 0

abbrev bufTy : (tb : Table) → Fin (tcTables nBuf tb) → BufTy
  | .hbm, ⟨0, _⟩ => ⟨S4096x2304, .f32⟩
  | .hbm, ⟨1, _⟩ => ⟨S4x256, .f32⟩
  | .hbm, ⟨2, _⟩ => ⟨S4x256, .f32⟩
  | .hbm, ⟨3, _⟩ => ⟨S4x4x128x128, .f32⟩
  | .hbm, ⟨4, _⟩ => ⟨S4x4x128, .f32⟩
  | .hbm, ⟨5, _⟩ => ⟨S_, .i1⟩
  | .hbm, ⟨6, _⟩ => ⟨S128x128, .i1⟩
  | .hbm, ⟨7, _⟩ => ⟨S128x128, .i32⟩
  | .hbm, ⟨8, _⟩ => ⟨S_, .i32⟩
  | .hbm, ⟨9, _⟩ => ⟨S128x128, .i32⟩
  | .hbm, ⟨10, _⟩ => ⟨S128x128, .i32⟩
  | .hbm, ⟨11, _⟩ => ⟨S128x128, .i32⟩
  | .hbm, ⟨12, _⟩ => ⟨S128x128, .i1⟩
  | .hbm, ⟨13, _⟩ => ⟨S_, .i1⟩
  | .hbm, ⟨14, _⟩ => ⟨S128x128, .i1⟩
  | .hbm, ⟨15, _⟩ => ⟨S128x128, .i1⟩
  | .hbm, ⟨16, _⟩ => ⟨S_, .f32⟩
  | .hbm, ⟨17, _⟩ => ⟨S_, .f32⟩
  | .hbm, ⟨18, _⟩ => ⟨S4x4x128x128, .i1⟩
  | .hbm, ⟨19, _⟩ => ⟨S4x4x128x128, .f32⟩
  | .hbm, ⟨20, _⟩ => ⟨S4x4x128x128, .f32⟩
  | .hbm, ⟨21, _⟩ => ⟨S4x512x128, .f32⟩
  | .hbm, ⟨22, _⟩ => ⟨S4x128x4, .f32⟩
  | .hbm, ⟨23, _⟩ => ⟨S4x128x4x64, .f32⟩
  | .hbm, ⟨24, _⟩ => ⟨S4x128x256, .f32⟩
  | .hbm, ⟨25, _⟩ => ⟨S4x1x256, .f32⟩
  | .hbm, ⟨26, _⟩ => ⟨S4x1x256, .f32⟩
  | .hbm, ⟨27, _⟩ => ⟨S4096x1024, .bf16⟩
  | .hbm, ⟨28, _⟩ => ⟨S4096x256, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S1x1x256, .f32⟩
  | .local _ .vmem, ⟨5, _⟩ => ⟨S1x1x256, .f32⟩
  | .local _ .vmem, ⟨6, _⟩ => ⟨S1x512x128, .f32⟩
  | .local _ .vmem, ⟨7, _⟩ => ⟨S1x128x256, .f32⟩
  | .local _ .vmem, ⟨8, _⟩ => ⟨S512x256, .bf16⟩
  | .local _ .vmem, ⟨9, _⟩ => ⟨S512x256, .bf16⟩
  | _, _ => ⟨S4096x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_0 : Ref sig .tc := ⟨.hbm, 13, rfl⟩
abbrev main_call0_v5 : Ref sig .tc := ⟨.hbm, 14, rfl⟩
abbrev main_v1 : Ref sig .tc := ⟨.hbm, 15, rfl⟩
abbrev main_cst : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel17Ideal.lean ====
variable {F : FTy → Type} [FloatOps F] [Named F]
def κ : String → Option EReal := fun
  | "gelu_a" => some ((8943 / 200000 : ℝ) : EReal)
  | _ => none
-- ==== Reference17Ideal.lean ====
abbrev S4096x2304 : Shape := ⟨2, ![4096, 2304]⟩
abbrev S4x256 : Shape := ⟨2, ![4, 256]⟩
abbrev S4x4x128x128 : Shape := ⟨4, ![4, 4, 128, 128]⟩
abbrev S4x4x128 : Shape := ⟨3, ![4, 4, 128]⟩
abbrev S4096x512 : Shape := ⟨2, ![4096, 512]⟩
abbrev S1x256 : Shape := ⟨2, ![1, 256]⟩
abbrev S256 : Shape := ⟨1, ![256]⟩
abbrev S1x4x128x128 : Shape := ⟨4, ![1, 4, 128, 128]⟩
abbrev S4x128x128 : Shape := ⟨3, ![4, 128, 128]⟩
abbrev S1x4x128 : Shape := ⟨3, ![1, 4, 128]⟩
abbrev S4x128 : Shape := ⟨2, ![4, 128]⟩
abbrev S_ : Shape := ⟨0, ![]⟩
abbrev S4096x256 : Shape := ⟨2, ![4096, 256]⟩
abbrev S4096 : Shape := ⟨1, ![4096]⟩
abbrev S4096x1 : Shape := ⟨2, ![4096, 1]⟩
abbrev S32x128x4x64 : Shape := ⟨4, ![32, 128, 4, 64]⟩
abbrev S128x128 : Shape := ⟨2, ![128, 128]⟩
abbrev S4x32x64x128 : Shape := ⟨4, ![4, 32, 64, 128]⟩
abbrev S128x4 : Shape := ⟨2, ![128, 4]⟩
abbrev S128x4x1 : Shape := ⟨3, ![128, 4, 1]⟩
abbrev S1x128x4x1 : Shape := ⟨4, ![1, 128, 4, 1]⟩

abbrev nBuf : Space → Nat
  | .hbm => 91
  | .vmem => 0
  | .smem => 0
  | _ => 0

abbrev bufTy : (tb : Table) → Fin (tcTables nBuf tb) → BufTy
  | .hbm, ⟨0, _⟩ => ⟨S4096x2304, .f32⟩
  | .hbm, ⟨1, _⟩ => ⟨S4x256, .f32⟩
  | .hbm, ⟨2, _⟩ => ⟨S4x256, .f32⟩
  | .hbm, ⟨3, _⟩ => ⟨S4x4x128x128, .f32⟩
  | .hbm, ⟨4, _⟩ => ⟨S4x4x128, .f32⟩
  | .hbm, ⟨5, _⟩ => ⟨S4096x512, .f32⟩
  | .hbm, ⟨6, _⟩ => ⟨S1x256, .f32⟩
  | .hbm, ⟨7, _⟩ => ⟨S256, .f32⟩
  | .hbm, ⟨8, _⟩ => ⟨S1x256, .f32⟩
  | .hbm, ⟨9, _⟩ => ⟨S256, .f32⟩
  | .hbm, ⟨10, _⟩ => ⟨S1x4x128x128, .f32⟩
  | .hbm, ⟨11, _⟩ => ⟨S4x128x128, .f32⟩
  | .hbm, ⟨12, _⟩ => ⟨S1x4x128, .f32⟩
  | .hbm, ⟨13, _⟩ => ⟨S4x128, .f32⟩
  | .hbm, ⟨14, _⟩ => ⟨S4096x512, .f32⟩
  | .hbm, ⟨15, _⟩ => ⟨S4096x512, .f32⟩
  | .hbm, ⟨16, _⟩ => ⟨S_, .f32⟩
  | .hbm, ⟨17, _⟩ => ⟨S4096x512, .f32⟩
  | .hbm, ⟨18, _⟩ => ⟨S4096x512, .f32⟩
  | .hbm, ⟨19, _⟩ => ⟨S_, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S_, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S_, .f32⟩
  | .hbm, ⟨28, _⟩ => ⟨S4096x512, .f32⟩
  | .hbm, ⟨29, _⟩ => ⟨S4096x512, .f32⟩
  | .hbm, ⟨30, _⟩ => ⟨S_, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S4096x256, .f32⟩
  | .hbm, ⟨35, _⟩ => ⟨S4096x256, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x256, .f32⟩
  | .hbm, ⟨43, _⟩ => ⟨S4096x256, .f32⟩
  | .hbm, ⟨44, _⟩ => ⟨S4096x256, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S4096x256, .f32⟩
  | .hbm, ⟨52, _⟩ => ⟨S4096x256, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S4096x1, .f32⟩
  | .hbm, ⟨57, _⟩ => ⟨S4096x256, .f32⟩
  | .hbm, ⟨58, _⟩ => ⟨S4096x256, .f32⟩
  | .hbm, ⟨59, _⟩ => ⟨S1x256, .f32⟩
  | .hbm, ⟨60, _⟩ => ⟨S4096x256, .f32⟩
  | .hbm, ⟨61, _⟩ => ⟨S4096x256, .f32⟩
  | .hbm, ⟨62, _⟩ => ⟨S1x256, .f32⟩
  | .hbm, ⟨63, _⟩ => ⟨S4096x256, .f32⟩
  | .hbm, ⟨64, _⟩ => ⟨S4096x256, .f32⟩
  | .hbm, ⟨65, _⟩ => ⟨S32x128x4x64, .f32⟩
  | .hbm, ⟨66, _⟩ => ⟨S_, .i1⟩
  | .hbm, ⟨67, _⟩ => ⟨S128x128, .i1⟩
  | .hbm, ⟨68, _⟩ => ⟨S128x128, .i32⟩
  | .hbm, ⟨69, _⟩ => ⟨S_, .i32⟩
  | .hbm, ⟨70, _⟩ => ⟨S128x128, .i32⟩
  | .hbm, ⟨71, _⟩ => ⟨S128x128, .i32⟩
  | .hbm, ⟨72, _⟩ => ⟨S128x128, .i32⟩
  | .hbm, ⟨73, _⟩ => ⟨S128x128, .i1⟩
  | .hbm, ⟨74, _⟩ => ⟨S_, .i1⟩
  | .hbm, ⟨75, _⟩ => ⟨S128x128, .i1⟩
  | .hbm, ⟨76, _⟩ => ⟨S128x128, .i1⟩
  | .hbm, ⟨77, _⟩ => ⟨S_, .f32⟩
  | .hbm, ⟨78, _⟩ => ⟨S4x128x128, .f32⟩
  | .hbm, ⟨79, _⟩ => ⟨S4x128x128, .i1⟩
  | .hbm, ⟨80, _⟩ => ⟨S4x128x128, .f32⟩
  | .hbm, ⟨81, _⟩ => ⟨S4x32x64x128, .f32⟩
  | .hbm, ⟨82, _⟩ => ⟨S32x128x4x64, .f32⟩
  | .hbm, ⟨83, _⟩ => ⟨S128x4, .f32⟩
  | .hbm, ⟨84, _⟩ => ⟨S128x4x1, .f32⟩
  | .hbm, ⟨85, _⟩ => ⟨S1x128x4x1, .f32⟩
  | .hbm, ⟨86, _⟩ => ⟨S32x128x4x64, .f32⟩
  | .hbm, ⟨87, _⟩ => ⟨S32x128x4x64, .f32⟩
  | .hbm, ⟨88, _⟩ => ⟨S4096x256, .f32⟩
  | .hbm, ⟨89, _⟩ => ⟨S4096x256, .f32⟩
  | .hbm, ⟨90, _⟩ => ⟨S4096x256, .bf16⟩
  | _, _ => ⟨S4096x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_c : Ref sig .tc := ⟨.hbm, 66, rfl⟩
abbrev main_v51 : Ref sig .tc := ⟨.hbm, 67, rfl⟩
abbrev main_call0_v0 : Ref sig .tc := ⟨.hbm, 68, rfl⟩
abbrev main_call0_c : Ref sig .tc := ⟨.hbm, 69, rfl⟩
abbrev main_call0_v1 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_call0_c_0 : Ref sig .tc := ⟨.hbm, 74, rfl⟩
abbrev main_call0_v5 : Ref sig .tc := ⟨.hbm, 75, rfl⟩
abbrev main_v52 : Ref sig .tc := ⟨.hbm, 76, rfl⟩
abbrev main_cst_9 : Ref sig .tc := ⟨.hbm, 77, rfl⟩
abbrev main_v53 : Ref sig .tc := ⟨.hbm, 78, rfl⟩
abbrev main_call1_v0 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]
-- ==== Kernel18.lean ====
abbrev S4x352x1024 : Shape := ⟨3, ![4, 352, 1024]⟩
abbrev S1x352x1024 : Shape := ⟨3, ![1, 352, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel18Ideal.lean ====
variable {F : FTy → Type} [FloatOps F] [Named F]
def κ : String → Option EReal := fun
  | "adam_c1" => some ((8388608 / 5463681 : ℝ) : EReal)
  | "adam_c2" => some ((268435456 / 2672307 : ℝ) : EReal)
  | _ => none
-- ==== Reference18Ideal.lean ====
abbrev S4x352x1024 : Shape := ⟨3, ![4, 352, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S_, .f32⟩
  | .hbm, ⟨5, _⟩ => ⟨S4x352x1024, .f32⟩
  | .hbm, ⟨6, _⟩ => ⟨S4x352x1024, .f32⟩
  | .hbm, ⟨7, _⟩ => ⟨S_, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S_, .f32⟩
  | .hbm, ⟨12, _⟩ => ⟨S4x352x1024, .f32⟩
  | .hbm, ⟨13, _⟩ => ⟨S4x352x1024, .f32⟩
  | .hbm, ⟨14, _⟩ => ⟨S4x352x1024, .f32⟩
  | .hbm, ⟨15, _⟩ => ⟨S_, .f32⟩
  | .hbm, ⟨16, _⟩ => ⟨S4x352x1024, .f32⟩
  | .hbm, ⟨17, _⟩ => ⟨S4x352x1024, .f32⟩
  | .hbm, ⟨18, _⟩ => ⟨S4x352x1024, .f32⟩
  | .hbm, ⟨19, _⟩ => ⟨S_, .f32⟩
  | .hbm, ⟨20, _⟩ => ⟨S4x352x1024, .f32⟩
  | .hbm, ⟨21, _⟩ => ⟨S4x352x1024, .f32⟩
  | .hbm, ⟨22, _⟩ => ⟨S_, .f32⟩
  | .hbm, ⟨23, _⟩ => ⟨S4x352x1024, .f32⟩
  | .hbm, ⟨24, _⟩ => ⟨S4x352x1024, .f32⟩
  | .hbm, ⟨25, _⟩ => ⟨S4x352x1024, .f32⟩
  | .hbm, ⟨26, _⟩ => ⟨S_, .f32⟩
  | .hbm, ⟨27, _⟩ => ⟨S4x352x1024, .f32⟩
  | .hbm, ⟨28, _⟩ => ⟨S4x352x1024, .f32⟩
  | .hbm, ⟨29, _⟩ => ⟨S4x352x1024, .f32⟩
  | .hbm, ⟨30, _⟩ => ⟨S_, .f32⟩
  | .hbm, ⟨31, _⟩ => ⟨S4x352x1024, .f32⟩
  | .hbm, ⟨32, _⟩ => ⟨S4x352x1024, .f32⟩
  | .hbm, ⟨33, _⟩ => ⟨S4x352x1024, .f32⟩
  | .hbm, ⟨34, _⟩ => ⟨S_, .f32⟩
  | .hbm, ⟨35, _⟩ => ⟨S4x352x1024, .f32⟩
  | .hbm, ⟨36, _⟩ => ⟨S4x352x1024, .f32⟩
  | _, _ => ⟨S4x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S4096x1024 : Shape := ⟨2, ![4096, 1024]⟩
abbrev S1024 : Shape := ⟨1, ![1024]⟩
abbrev S1x1024 : Shape := ⟨2, ![1, 1024]⟩
abbrev S8x128 : Shape := ⟨2, ![8, 128]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x1x1 : Shape := ⟨3, ![1, 1, 1]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S8x128, .f32⟩
  | .hbm, ⟨5, _⟩ => ⟨S4096x1024, .f32⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S8x128, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference19Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8x128 : Shape := ⟨2, ![8, 128]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S8x128, .f32⟩
  | .hbm, ⟨72, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Proof.Frame.lean ====
/- The frame of the idealized kernel, point by point: what each case of the body leaves in its outputs and in its two
   carried scratches (`out0_A_10` …), what they hold after each grid point (`outsAt0`), the proof data, the body's
   obligation, the run and the frame. The printed case runs are cited from `Gen/KernelIdeal/Frame/`; the two
   rewriting lemmas `outsAt0_A` and `outsAt0_B` are proved here by unfolding one step of the recursion. -/
module

public import proofs.«01_k».proof.Proof.Gen.KernelIdeal.Frame.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section RunA

variable (c : Dev nD) (i : grid0.Coords) (arg2 : Memref sig .tc .vmem S256x1408 .f32) (harg2 : arg2.IsWhole) (arg3 : Memref sig .tc .vmem S8x1408 .f32) (harg3 : arg3.IsWhole) (arg4 : Memref sig .tc .vmem S256x1408 .f32) (harg4 : arg4.IsWhole) (arg5 : Memref sig .tc .vmem S8x1408 .f32) (harg5 : arg5.IsWhole) (arg6 : Memref sig .tc .vmem S256x1024 .bf16) (harg6 : arg6.IsWhole) (arg7 : Memref sig .tc .vmem S1408x1024 .bf16) (harg7 : arg7.IsWhole) (arg8 : Memref sig .tc .vmem S1x3x1408 .f32) (harg8 : arg8.IsWhole) (arg9 : Memref sig .tc .vmem S1x1x1408 .f32) (harg9 : arg9.IsWhole) (arg10 : Memref sig .tc .vmem S1x3x1408 .f32) (harg10 : arg10.IsWhole) (arg11 : Memref sig .tc .vmem S1x1x1408 .f32) (harg11 : arg11.IsWhole) (arg12 : Memref sig .tc .vmem S256x1408 .bf16) (harg12 : arg12.IsWhole) (arg13 : Memref sig .tc .vmem S256x1408 .bf16) (harg13 : arg13.IsWhole) (arg14 : Memref sig .tc .vmem S8x1408 .f32) (harg14 : arg14.IsWhole) (arg15 : Memref sig .tc .vmem S8x1408 .f32) (harg15 : arg15.IsWhole) (arg16 : Memref sig .tc .vmem S8x1408 .f32) (harg16 : arg16.IsWhole) (arg17 : Memref sig .tc .vmem S8x1408 .f32) (harg17 : arg17.IsWhole) (hc0 : cond0_0 i) (hc1 : cond0_1 i) (hc2 : cond0_2 i)
  (x0 : Vec F S256x1408 .f32) (x1 : Vec F S8x1408 .f32) (x2 : Vec F S256x1408 .f32) (x3 : Vec F S8x1408 .f32) (x4 : Vec F S256x1024 .bf16) (x5 : Vec F S1408x1024 .bf16) (x6 : Vec F S1x3x1408 .f32) (x7 : Vec F S1x1x1408 .f32) (x8 : Vec F S1x3x1408 .f32) (x9 : Vec F S1x1x1408 .f32)

/-- Case A's pieces for output 10 cover its block. -/
theorem cover0_A_10 (y : S256x1408.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9).1, y ∈ pc.1.set :=
  View.cover_of_tiledL _ S256x1408.size (by sl_kernel_rfl) y

/-- What case A leaves in output 10's staging buffer: its pieces read back over junk. -/
def out0_A_10 : Vec F S256x1408 .bf16 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9).1)

/-- Case A's pieces for output 11 cover its block. -/
theorem cover0_A_11 (y : S256x1408.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9).2.1, y ∈ pc.1.set :=
  View.cover_of_tiledL _ S256x1408.size (by sl_kernel_rfl) y

/-- What case A leaves in output 11's staging buffer: its pieces read back over junk. -/
def out0_A_11 : Vec F S256x1408 .bf16 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9).2.1)

/-- Case A's pieces for output 12 cover its block. -/
theorem cover0_A_12 (y : S8x1408.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9).2.2.1, y ∈ pc.1.set :=
  View.cover_of_tiledL _ S8x1408.size (by sl_kernel_rfl) y

/-- What case A leaves in output 12's staging buffer: its pieces read back over junk. -/
def out0_A_12 : Vec F S8x1408 .f32 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9).2.2.1)

/-- Case A's pieces for output 13 cover its block. -/
theorem cover0_A_13 (y : S8x1408.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9).2.2.2.1, y ∈ pc.1.set :=
  View.cover_of_tiledL _ S8x1408.size (by sl_kernel_rfl) y

/-- What case A leaves in output 13's staging buffer: its pieces read back over junk. -/
def out0_A_13 : Vec F S8x1408 .f32 :=
  VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9).2.2.2.1)

/-- Case A's pieces for scratch `arg16` cover it. -/
theorem scover0_A_0 (y : S8x1408.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9).2.2.2.2.1, y ∈ pc.1.set :=
  View.cover_of_tiledL _ S8x1408.size (by sl_kernel_rfl) y

/-- What case A leaves in scratch `arg16`: its pieces read back over junk. -/
def sout0_A_0 : Vec F S8x1408 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9).2.2.2.2.1)

/-- Case A's pieces for scratch `arg17` cover it. -/
theorem scover0_A_1 (y : S8x1408.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9).2.2.2.2.2.1, y ∈ pc.1.set :=
  View.cover_of_tiledL _ S8x1408.size (by sl_kernel_rfl) y

/-- What case A leaves in scratch `arg17`: its pieces read back over junk. -/
def sout0_A_1 : Vec F S8x1408 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9).2.2.2.2.2.1)

end RunA

section RunB

variable (c : Dev nD) (i : grid0.Coords) (arg2 : Memref sig .tc .vmem S256x1408 .f32) (harg2 : arg2.IsWhole) (arg3 : Memref sig .tc .vmem S8x1408 .f32) (harg3 : arg3.IsWhole) (arg4 : Memref sig .tc .vmem S256x1408 .f32) (harg4 : arg4.IsWhole) (arg5 : Memref sig .tc .vmem S8x1408 .f32) (harg5 : arg5.IsWhole) (arg6 : Memref sig .tc .vmem S256x1024 .bf16) (harg6 : arg6.IsWhole) (arg7 : Memref sig .tc .vmem S1408x1024 .bf16) (harg7 : arg7.IsWhole) (arg8 : Memref sig .tc .vmem S1x3x1408 .f32) (harg8 : arg8.IsWhole) (arg9 : Memref sig .tc .vmem S1x1x1408 .f32) (harg9 : arg9.IsWhole) (arg10 : Memref sig .tc .vmem S1x3x1408 .f32) (harg10 : arg10.IsWhole) (arg11 : Memref sig .tc .vmem S1x1x1408 .f32) (harg11 : arg11.IsWhole) (arg12 : Memref sig .tc .vmem S256x1408 .bf16) (harg12 : arg12.IsWhole) (arg13 : Memref sig .tc .vmem S256x1408 .bf16) (harg13 : arg13.IsWhole) (arg14 : Memref sig .tc .vmem S8x1408 .f32) (harg14 : arg14.IsWhole) (arg15 : Memref sig .tc .vmem S8x1408 .f32) (harg15 : arg15.IsWhole) (arg16 : Memref sig .tc .vmem S8x1408 .f32) (harg16 : arg16.IsWhole) (arg17 : Memref sig .tc .vmem S8x1408 .f32) (harg17 : arg17.IsWhole) (hc0 : ¬cond0_0 i) (hc1 : ¬cond0_1 i) (hc2 : ¬cond0_2 i)
  (x0 : Vec F S256x1408 .f32) (x1 : Vec F S8x1408 .f32) (x2 : Vec F S256x1408 .f32) (x3 : Vec F S8x1408 .f32) (x4 : Vec F S256x1024 .bf16) (x5 : Vec F S1408x1024 .bf16) (x6 : Vec F S1x3x1408 .f32) (x7 : Vec F S1x1x1408 .f32) (x8 : Vec F S1x3x1408 .f32) (x9 : Vec F S1x1x1408 .f32) (xo12 : Vec F S8x1408 .f32) (xo13 : Vec F S8x1408 .f32) (xs0 : Vec F S8x1408 .f32) (xs1 : Vec F S8x1408 .f32)

/-- Case B's pieces for output 10 cover its block. -/
theorem cover0_B_10 (y : S256x1408.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xo12 xo13 xs0 xs1).1, y ∈ pc.1.set :=
  View.cover_of_tiledL _ S256x1408.size (by sl_kernel_rfl) y

/-- What case B leaves in output 10's staging buffer: its pieces read back over junk. -/
def out0_B_10 : Vec F S256x1408 .bf16 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xo12 xo13 xs0 xs1).1)

/-- Case B's pieces for output 11 cover its block. -/
theorem cover0_B_11 (y : S256x1408.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xo12 xo13 xs0 xs1).2.1, y ∈ pc.1.set :=
  View.cover_of_tiledL _ S256x1408.size (by sl_kernel_rfl) y

/-- What case B leaves in output 11's staging buffer: its pieces read back over junk. -/
def out0_B_11 : Vec F S256x1408 .bf16 :=
  VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xo12 xo13 xs0 xs1).2.1)

/-- Case B's pieces for output 12 cover its block. -/
theorem cover0_B_12 (y : S8x1408.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xo12 xo13 xs0 xs1).2.2.1, y ∈ pc.1.set :=
  View.cover_of_tiledL _ S8x1408.size (by sl_kernel_rfl) y

/-- What case B leaves in output 12's staging buffer: its pieces read back over junk. -/
def out0_B_12 : Vec F S8x1408 .f32 :=
  VO0_12.read (Elt F) (VO0_12.writes (Elt F) VO0_12.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xo12 xo13 xs0 xs1).2.2.1)

/-- Case B's pieces for output 13 cover its block. -/
theorem cover0_B_13 (y : S8x1408.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xo12 xo13 xs0 xs1).2.2.2.1, y ∈ pc.1.set :=
  View.cover_of_tiledL _ S8x1408.size (by sl_kernel_rfl) y

/-- What case B leaves in output 13's staging buffer: its pieces read back over junk. -/
def out0_B_13 : Vec F S8x1408 .f32 :=
  VO0_13.read (Elt F) (VO0_13.writes (Elt F) VO0_13.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xo12 xo13 xs0 xs1).2.2.2.1)

/-- Case B's pieces for scratch `arg16` cover it. -/
theorem scover0_B_0 (y : S8x1408.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xo12 xo13 xs0 xs1).2.2.2.2.1, y ∈ pc.1.set :=
  View.cover_of_tiledL _ S8x1408.size (by sl_kernel_rfl) y

/-- What case B leaves in scratch `arg16`: its pieces read back over junk. -/
def sout0_B_0 : Vec F S8x1408 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xo12 xo13 xs0 xs1).2.2.2.2.1)

/-- Case B's pieces for scratch `arg17` cover it. -/
theorem scover0_B_1 (y : S8x1408.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xo12 xo13 xs0 xs1).2.2.2.2.2.1, y ∈ pc.1.set :=
  View.cover_of_tiledL _ S8x1408.size (by sl_kernel_rfl) y

/-- What case B leaves in scratch `arg17`: its pieces read back over junk. -/
def sout0_B_1 : Vec F S8x1408 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xo12 xo13 xs0 xs1).2.2.2.2.2.1)

end RunB

/-! ## What the outputs hold after each point -/

/-- What a point of case A leaves: the outputs in window order, then the two scratches. -/
def leftA (c : Dev nD) (t : Fin cfg0.N) (h : t.val % 16 = 0) : Vec F S256x1408 .bf16 × Vec F S256x1408 .bf16 × Vec F S8x1408 .f32 × Vec F S8x1408 .f32 × Vec F S8x1408 .f32 × Vec F S8x1408 .f32 :=
  (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) ((hcond0_0 t).mpr h) ((hcond0_1 t).mpr h) ((hcond0_2 t).mpr h) (iblk m c 0 t) (iblk m c 1 t) (iblk m c 2 t) (iblk m c 3 t) (iblk m c 4 t) (iblk m c 5 t) (iblk m c 6 t) (iblk m c 7 t) (iblk m c 8 t) (iblk m c 9 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) ((hcond0_0 t).mpr h) ((hcond0_1 t).mpr h) ((hcond0_2 t).mpr h) (iblk m c 0 t) (iblk m c 1 t) (iblk m c 2 t) (iblk m c 3 t) (iblk m c 4 t) (iblk m c 5 t) (iblk m c 6 t) (iblk m c 7 t) (iblk m c 8 t) (iblk m c 9 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) ((hcond0_0 t).mpr h) ((hcond0_1 t).mpr h) ((hcond0_2 t).mpr h) (iblk m c 0 t) (iblk m c 1 t) (iblk m c 2 t) (iblk m c 3 t) (iblk m c 4 t) (iblk m c 5 t) (iblk m c 6 t) (iblk m c 7 t) (iblk m c 8 t) (iblk m c 9 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) ((hcond0_0 t).mpr h) ((hcond0_1 t).mpr h) ((hcond0_2 t).mpr h) (iblk m c 0 t) (iblk m c 1 t) (iblk m c 2 t) (iblk m c 3 t) (iblk m c 4 t) (iblk m c 5 t) (iblk m c 6 t) (iblk m c 7 t) (iblk m c 8 t) (iblk m c 9 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) ((hcond0_0 t).mpr h) ((hcond0_1 t).mpr h) ((hcond0_2 t).mpr h) (iblk m c 0 t) (iblk m c 1 t) (iblk m c 2 t) (iblk m c 3 t) (iblk m c 4 t) (iblk m c 5 t) (iblk m c 6 t) (iblk m c 7 t) (iblk m c 8 t) (iblk m c 9 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) ((hcond0_0 t).mpr h) ((hcond0_1 t).mpr h) ((hcond0_2 t).mpr h) (iblk m c 0 t) (iblk m c 1 t) (iblk m c 2 t) (iblk m c 3 t) (iblk m c 4 t) (iblk m c 5 t) (iblk m c 6 t) (iblk m c 7 t) (iblk m c 8 t) (iblk m c 9 t))

/-- What a point of case B leaves, over what the point before left (`p`). -/
def leftB (c : Dev nD) (t : Fin cfg0.N) (h : ¬t.val % 16 = 0) (p : Vec F S256x1408 .bf16 × Vec F S256x1408 .bf16 × Vec F S8x1408 .f32 × Vec F S8x1408 .f32 × Vec F S8x1408 .f32 × Vec F S8x1408 .f32) : Vec F S256x1408 .bf16 × Vec F S256x1408 .bf16 × Vec F S8x1408 .f32 × Vec F S8x1408 .f32 × Vec F S8x1408 .f32 × Vec F S8x1408 .f32 :=
  (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun i => h ((hcond0_0 t).mp i)) (fun i => h ((hcond0_1 t).mp i)) (fun i => h ((hcond0_2 t).mp i)) (iblk m c 0 t) (iblk m c 1 t) (iblk m c 2 t) (iblk m c 3 t) (iblk m c 4 t) (iblk m c 5 t) (iblk m c 6 t) (iblk m c 7 t) (iblk m c 8 t) (iblk m c 9 t) p.2.2.1 p.2.2.2.1 p.2.2.2.2.1 p.2.2.2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun i => h ((hcond0_0 t).mp i)) (fun i => h ((hcond0_1 t).mp i)) (fun i => h ((hcond0_2 t).mp i)) (iblk m c 0 t) (iblk m c 1 t) (iblk m c 2 t) (iblk m c 3 t) (iblk m c 4 t) (iblk m c 5 t) (iblk m c 6 t) (iblk m c 7 t) (iblk m c 8 t) (iblk m c 9 t) p.2.2.1 p.2.2.2.1 p.2.2.2.2.1 p.2.2.2.2.2, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun i => h ((hcond0_0 t).mp i)) (fun i => h ((hcond0_1 t).mp i)) (fun i => h ((hcond0_2 t).mp i)) (iblk m c 0 t) (iblk m c 1 t) (iblk m c 2 t) (iblk m c 3 t) (iblk m c 4 t) (iblk m c 5 t) (iblk m c 6 t) (iblk m c 7 t) (iblk m c 8 t) (iblk m c 9 t) p.2.2.1 p.2.2.2.1 p.2.2.2.2.1 p.2.2.2.2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun i => h ((hcond0_0 t).mp i)) (fun i => h ((hcond0_1 t).mp i)) (fun i => h ((hcond0_2 t).mp i)) (iblk m c 0 t) (iblk m c 1 t) (iblk m c 2 t) (iblk m c 3 t) (iblk m c 4 t) (iblk m c 5 t) (iblk m c 6 t) (iblk m c 7 t) (iblk m c 8 t) (iblk m c 9 t) p.2.2.1 p.2.2.2.1 p.2.2.2.2.1 p.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun i => h ((hcond0_0 t).mp i)) (fun i => h ((hcond0_1 t).mp i)) (fun i => h ((hcond0_2 t).mp i)) (iblk m c 0 t) (iblk m c 1 t) (iblk m c 2 t) (iblk m c 3 t) (iblk m c 4 t) (iblk m c 5 t) (iblk m c 6 t) (iblk m c 7 t) (iblk m c 8 t) (iblk m c 9 t) p.2.2.1 p.2.2.2.1 p.2.2.2.2.1 p.2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun i => h ((hcond0_0 t).mp i)) (fun i => h ((hcond0_1 t).mp i)) (fun i => h ((hcond0_2 t).mp i)) (iblk m c 0 t) (iblk m c 1 t) (iblk m c 2 t) (iblk m c 3 t) (iblk m c 4 t) (iblk m c 5 t) (iblk m c 6 t) (iblk m c 7 t) (iblk m c 8 t) (iblk m c 9 t) p.2.2.1 p.2.2.2.1 p.2.2.2.2.1 p.2.2.2.2.2)

/-- What the outputs' staging buffers and the two carried scratches hold after the body at position `n`. -/
def outsAt0 (c : Dev nD) : (n : ℕ) → n < cfg0.N → Vec F S256x1408 .bf16 × Vec F S256x1408 .bf16 × Vec F S8x1408 .f32 × Vec F S8x1408 .f32 × Vec F S8x1408 .f32 × Vec F S8x1408 .f32
  | 0, hn => leftA m c ⟨0, hn⟩ (Nat.zero_mod _)
  | n + 1, hn =>
    if h : (n + 1) % 16 = 0 then leftA m c ⟨n + 1, hn⟩ h
    else leftB m c ⟨n + 1, hn⟩ h (outsAt0 c n (Nat.lt_of_succ_lt hn))

/-- `outsAt0` at a point of case A: that case's contents. -/
theorem outsAt0_A (c : Dev nD) (t : Fin cfg0.N) (h : t.val % 16 = 0) : outsAt0 m c t.val t.isLt = leftA m c t h := by
  obtain ⟨n, hn⟩ := t
  cases n with
  | zero => exact rfl
  | succ n =>
    unfold outsAt0
    rw [dif_pos h]

/-- `outsAt0` at a point of case B: that case's contents, over what the point before left. -/
theorem outsAt0_B (c : Dev nD) (t : Fin cfg0.N) (h : ¬t.val % 16 = 0) :
    outsAt0 m c t.val t.isLt = leftB m c t h (outsAt0 m c (t.val - 1) (Nat.lt_of_le_of_lt (Nat.sub_le _ _) t.isLt)) := by
  obtain ⟨n, hn⟩ := t
  cases n with
  | zero => exact absurd (Nat.zero_mod _) h
  | succ n =>
    conv_lhs => unfold outsAt0
    rw [dif_neg h]
    simp only [Nat.add_sub_cancel]

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.1) ∗ owns (c : Thread nD τ) scM0_1 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.1) ∗ owns (c : Thread nD τ) scM0_1 fullShare ((outsAt0 m c n hn).2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.1) ∗ owns (c : Thread nD τ) scM0_1 fullShare ((outsAt0 m c (n - 1) (by omega)).2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t.val t.isLt).1
    | ⟨11, _⟩ => (outsAt0 m c t.val t.isLt).2.1
    | ⟨12, _⟩ => (outsAt0 m c t.val t.isLt).2.2.1
    | ⟨13, _⟩ => (outsAt0 m c t.val t.isLt).2.2.2.1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt0 m c t.val t.isLt).1 := by dsimp only [dats]
theorem after0_11 (c : Dev nD) (t : Fin cfg0.N) : (dats m 0 c).after 11 t = (outsAt0 m c t.val t.isLt).2.1 := by dsimp only [dats]
theorem after0_12 (c : Dev nD) (t : Fin cfg0.N) : (dats m 0 c).after 12 t = (outsAt0 m c t.val t.isLt).2.2.1 := by dsimp only [dats]
theorem after0_13 (c : Dev nD) (t : Fin cfg0.N) : (dats m 0 c).after 13 t = (outsAt0 m c t.val t.isLt).2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
/-- At a point of case B output 12's current staging buffer holds what the body left at the point before: the point is
    not the first, the buffer was not written back between (`flush0_12`), the window is live and uncut (Lib/Pipeline/Frame.lean
    `Dat.before_out_kept`). -/
theorem before0_12_B (c : Dev nD) (t : Fin cfg0.N) (h : ¬t.val % 16 = 0) (d) :
    (dats m 0 c).before 12 t d = (outsAt0 m c (t.val - 1) (Nat.lt_of_le_of_lt (Nat.sub_le _ _) t.isLt)).2.2.1 := by
  have hN : t.val < 32 := lt_of_lt_of_eq t.isLt (show cfg0.N = 32 from N_0)
  rw [Dat.before_out_kept _ 12 rfl t (by omega) (Bool.eq_false_iff.mpr fun hf => by have := (flush0_12 _).mp hf; dsimp only at this; omega)
    (fun _ => rfl) (fun _ _ => rfl)]
  dsimp only [dats]
/-- At a point of case B output 13's current staging buffer holds what the body left at the point before: the point is
    not the first, the buffer was not written back between (`flush0_13`), the window is live and uncut (Lib/Pipeline/Frame.lean
    `Dat.before_out_kept`). -/
theorem before0_13_B (c : Dev nD) (t : Fin cfg0.N) (h : ¬t.val % 16 = 0) (d) :
    (dats m 0 c).before 13 t d = (outsAt0 m c (t.val - 1) (Nat.lt_of_le_of_lt (Nat.sub_le _ _) t.isLt)).2.2.2.1 := by
  have hN : t.val < 32 := lt_of_lt_of_eq t.isLt (show cfg0.N = 32 from N_0)
  rw [Dat.before_out_kept _ 13 rfl t (by omega) (Bool.eq_false_iff.mpr fun hf => by have := (flush0_13 _).mp hf; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- Before any point the invariant gives `ΦA`: the carried scratches' contents are forgotten. -/
theorem Phi_any (c : Dev nD) (t : Fin cfg0.N) : (dats m 0 c).Φ t.castSucc ⊢ Pipeline.ΦA spec0 c := by
  by_cases hz : t.val = 0
  · rw [PhiS_castSucc m c t, PhiS_zero m c _ _ hz]
  · exact Phi_out m c t.castSucc hz

set_option maxHeartbeats 12800000 in
/-- The body at any point: the inputs' memrefs hold their blocks; the grid coordinate says which case the point is in; in case B an
    output read before it is covered, and the scratches, hold what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl,
    after0_0, after0_1, after0_2, after0_3, after0_4, after0_5, after0_6, after0_7, after0_8, after0_9, after0_10, after0_11, after0_12, after0_13]
  rw [show (dats m 0 c).Φ t.succ = PhiS m c (t.val + 1) t.isLt from rfl, PhiS_succ]
  have hN : t.val < 32 := lt_of_lt_of_eq t.isLt (show cfg0.N = 32 from N_0)
  by_cases h : t.val % 16 = 0
  · rw [outsAt0_A m c t h, leftA]
    refine (sep_mono_left (Phi_any m c t)).trans ?_
    rw [PhiA0_eq]
    unfold out0_A_10 out0_A_11 out0_A_12 out0_A_13 sout0_A_0 sout0_A_1; (try dsimp only)
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((kernelRun0_A c (grid0.coords t) _ _ _ _ _ _ _ _ _ _ _ _ _ _ _ _ _ _ _ _ _ _ _ _ _ _ _ _ _ _ _ _ ((hcond0_0 t).mpr h) ((hcond0_1 t).mpr h) ((hcond0_2 t).mpr h) (iblk m c 0 t) (iblk m c 1 t) (iblk m c 2 t) (iblk m c 3 t) (iblk m c 4 t) (iblk m c 5 t) (iblk m c 6 t) (iblk m c 7 t) (iblk m c 8 t) (iblk m c 9 t)).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [HS0]; · iexact HS0
    isplitl [HS1]; · iexact HS1
    iintro ⟨H0, H1, H2, H3, H4, H5, H6, H7, H8, H9, ⟨%e10, H10⟩, ⟨%e11, H11⟩, ⟨%e12, H12⟩, ⟨%e13, H13⟩, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _)
        unfold owns; iexists _; isplitr
        swap; · iexact HS1
        ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _)
    isplitl [H12]
    · unfold owns; iexists _; isplitr
      swap; · iexact H12
      ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _)
    unfold owns; iexists _; isplitr
    swap; · iexact H13
    ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _)
  · rw [PhiS_castSucc m c t, PhiS_pos m c _ _ (fun hz => h (by rw [hz]))]
    rw [outsAt0_B m c t h, leftB]
    simp only [before0_12_B m c t h, before0_13_B m c t h]
    unfold out0_B_10 out0_B_11 out0_B_12 out0_B_13 sout0_B_0 sout0_B_1; (try dsimp only)
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((kernelRun0_B c (grid0.coords t) _ _ _ _ _ _ _ _ _ _ _ _ _ _ _ _ _ _ _ _ _ _ _ _ _ _ _ _ _ _ _ _ (fun i => h ((hcond0_0 t).mp i)) (fun i => h ((hcond0_1 t).mp i)) (fun i => h ((hcond0_2 t).mp i)) (iblk m c 0 t) (iblk m c 1 t) (iblk m c 2 t) (iblk m c 3 t) (iblk m c 4 t) (iblk m c 5 t) (iblk m c 6 t) (iblk m c 7 t) (iblk m c 8 t) (iblk m c 9 t) _ _ _ _).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexact H12
    isplitl [H13]; · iexact H13
    isplitl [HS0]; · iexact HS0
    isplitl [HS1]; · iexact HS1
    iintro ⟨H0, H1, H2, H3, H4, H5, H6, H7, H8, H9, ⟨%e10, H10⟩, ⟨%e11, H11⟩, ⟨%e12, H12⟩, ⟨%e13, H13⟩, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact HS1
        ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (cover0_B_10 c _ _ _ _ _ _ _ _ _ _ _ _ _ _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _ _ _ _)
    isplitl [H12]
    · unfold owns; iexists _; isplitr
      swap; · iexact H12
      ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H13
    ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Gen

end
-- ==== Proof.Spec.lean ====
module

public import Idealize.ShloMosaic.Lib.Pointwise

/-! What the gradient of the gated feed-forward block is, row by row and column by column, over arrays read at natural
numbers (zero outside an array). Nothing here knows of tiles, blocks or grid points. -/

@[expose] public section

noncomputable section

open Idealize.ShloMosaic

namespace Cert.Ffn

/-- A matrix read at two numbers: zero outside. -/
def rd2 {a b : ℕ} (x : (⟨2, ![a, b]⟩ : Shape).Idx → EReal) (r n : ℕ) : EReal :=
  if h : r < a ∧ n < b then x (ix2 ⟨r, h.1⟩ ⟨n, h.2⟩) else 0

/-- Plane `l` of a stack of matrices read at two numbers: zero outside. -/
def rd3 {a b d : ℕ} (x : (⟨3, ![a, b, d]⟩ : Shape).Idx → EReal) (l r n : ℕ) : EReal :=
  if h : l < a ∧ r < b ∧ n < d then x (ix3 ⟨l, h.1⟩ ⟨r, h.2.1⟩ ⟨n, h.2.2⟩) else 0

theorem rd2_ix {a b : ℕ} (x : (⟨2, ![a, b]⟩ : Shape).Idx → EReal) (r : Fin a) (n : Fin b) :
    x (ix2 r n) = rd2 x r n := by
  rw [rd2, dif_pos ⟨r.2, n.2⟩]

theorem rd3_ix {a b d : ℕ} (x : (⟨3, ![a, b, d]⟩ : Shape).Idx → EReal) (l : Fin a) (r : Fin b) (n : Fin d) :
    x (ix3 l r n) = rd3 x l r n := by
  rw [rd3, dif_pos ⟨l.2, r.2, n.2⟩]

theorem rd2_row {a b : ℕ} (x : (⟨2, ![a, b]⟩ : Shape).Idx → EReal) (r n : ℕ) (h : a ≤ r) : rd2 x r n = 0 := by
  rw [rd2, dif_neg (by omega)]

/-- The rows of `h` below eight rows of zeros: row `p + 8` is row `p` of `h`. -/
def ext (h : ℕ → ℕ → EReal) (p n : ℕ) : EReal := if p < 8 then 0 else h (p - 8) n

/-- The causal convolution with three taps: row `r` meets rows `r - 2`, `r - 1` and `r`. -/
def conv (h w : ℕ → ℕ → EReal) (b : ℕ → EReal) (r n : ℕ) : EReal :=
  ((b n + w 0 n * ext h (r + 6) n) + w 1 n * ext h (r + 7) n) + w 2 n * ext h (r + 8) n

/-- The gradient that reaches the gated product: `dx` times the transpose of `w_down`. -/
def da (dx wd : ℕ → ℕ → EReal) (r n : ℕ) : EReal := ∑ k : Fin 1024, dx r k * wd n k

/-- The constant 0.5. -/
abbrev cHalf : EReal := Ideal.ofBits FTy.f32 0x3F000000#32
/-- The square root of 2/π, as the word both programs hold. -/
abbrev cRoot : EReal := Ideal.ofBits FTy.f32 0x3F4C422A#32
/-- Half that word. -/
abbrev cRootHalf : EReal := Ideal.ofBits FTy.f32 0x3ECC422A#32
/-- The cubic coefficient 0.044715. -/
abbrev cA : EReal := ((8943 / 200000 : ℝ) : EReal)
/-- Three times the cubic coefficient. -/
abbrev cA3 : EReal := ((26829 / 200000 : ℝ) : EReal)

/-- The hyperbolic tangent inside the gelu at `x`. -/
def th (x : EReal) : EReal := Ideal.tanh (cRoot * x * (1 + cA * (x * x)))

/-- The gradient of the value half: gelu of the gate times the incoming gradient. -/
def zval (x d : EReal) : EReal := cHalf * x * (1 + th x) * d

/-- The gradient of the gate half: the derivative of gelu at `x` times the incoming gradient `e`. -/
def zgate (x e : EReal) : EReal :=
  e * (cHalf * (1 + th x) + cRootHalf * x * (1 - th x * th x) * (1 + cA3 * (x * x)))

/-- An array of 4096 rows, zero below them. -/
def cut (z : ℕ → ℕ → EReal) (r n : ℕ) : EReal := if r < 4096 then z r n else 0

/-- The gradient of the convolution's input: row `r` meets rows `r`, `r + 1` and `r + 2` of `z`. -/
def dinp (z w : ℕ → ℕ → EReal) (r n : ℕ) : EReal :=
  (w 2 n * z r n + w 1 n * z (r + 1) n) + w 0 n * z (r + 2) n

/-- The gradient of tap `k`. -/
def dtap (z h : ℕ → ℕ → EReal) (k n : ℕ) : EReal := ∑ r : Fin 4096, z r n * ext h (r + 6 + k) n

/-- The gradient of the bias. -/
def dbias (z : ℕ → ℕ → EReal) (n : ℕ) : EReal := ∑ r : Fin 4096, z r n

/-- The eight rows in which the gradients of the taps and of the bias lie: three taps, the bias, four of zeros. -/
def drows (z h : ℕ → ℕ → EReal) (k n : ℕ) : EReal :=
  if k < 3 then dtap z h k n else if k < 4 then dbias z n else 0

/-- The six arrays the gradient takes, read at numbers: the two halves of the block's hidden rows, the incoming gradient,
the weights of the product, the first layer's taps and its bias (both halves side by side). -/
structure Args where
  hg : ℕ → ℕ → EReal
  hv : ℕ → ℕ → EReal
  dx : ℕ → ℕ → EReal
  wd : ℕ → ℕ → EReal
  w : ℕ → ℕ → EReal
  b : ℕ → EReal

/-- The six arrays as the programs hold them. -/
def args (x0 x1 : (⟨2, ![4096, 2816]⟩ : Shape).Idx → EReal) (x2 : (⟨2, ![4096, 1024]⟩ : Shape).Idx → EReal)
    (x3 : (⟨2, ![2816, 1024]⟩ : Shape).Idx → EReal) (x4 : (⟨3, ![4, 3, 5632]⟩ : Shape).Idx → EReal)
    (x5 : (⟨2, ![4, 5632]⟩ : Shape).Idx → EReal) : Args :=
  ⟨rd2 x0, rd2 x1, rd2 x2, rd2 x3, rd3 x4 0, rd2 x5 0⟩

namespace Args

variable (A : Args)

/-- The taps and the bias of the value half. -/
def wv (k n : ℕ) : EReal := A.w k (2816 + n)
def bv (n : ℕ) : EReal := A.b (2816 + n)
/-- The gate and the value after the convolution. -/
def gt : ℕ → ℕ → EReal := conv A.hg A.w A.b
def vl : ℕ → ℕ → EReal := conv A.hv A.wv A.bv
/-- The gradients of the gate and of the value before the convolution's own gradient. -/
def zg (r n : ℕ) : EReal := zgate (A.gt r n) (da A.dx A.wd r n * A.vl r n)
def zv (r n : ℕ) : EReal := zval (A.gt r n) (da A.dx A.wd r n)
/-- The four results. -/
def dhg : ℕ → ℕ → EReal := dinp (cut A.zg) A.w
def dhv : ℕ → ℕ → EReal := dinp (cut A.zv) A.wv
def dwg : ℕ → ℕ → EReal := drows A.zg A.hg
def dwv : ℕ → ℕ → EReal := drows A.zv A.hv

end Args

/-- A row of a tile beside the tile below it: the tile's own part and what the tile below carried over make the row of
the whole array. `z` is the tile at row `B`, `z'` the one below it (zero where there is none). -/
theorem seam (z z' Z w : ℕ → ℕ → EReal) (B n : ℕ) (hz : ∀ q, q < 256 → z q n = Z (B + q) n)
    (h0 : ∀ q, 256 ≤ q → z q n = 0) (hz' : ∀ q, q < 256 → z' q n = Z (B + 256 + q) n) (q : ℕ) (hq : q < 256) :
    dinp z w q n + (if q < 248 then 0 else dinp (ext z') w (q - 248) n) = dinp Z w (B + q) n := by
  unfold dinp ext
  by_cases h : q < 248
  · rw [if_pos h, hz q hq, hz (q + 1) (by omega), hz (q + 2) (by omega), add_zero, Nat.add_assoc, Nat.add_assoc]
  · rw [if_neg h, if_pos (show q - 248 < 8 by omega), mul_zero, zero_add, hz q hq]
    rcases (by omega : q < 254 ∨ q = 254 ∨ q = 255) with h | rfl | rfl
    · rw [hz (q + 1) (by omega), hz (q + 2) (by omega), if_pos (show q - 248 + 1 < 8 by omega),
        if_pos (show q - 248 + 2 < 8 by omega), mul_zero, mul_zero, add_zero, add_zero, Nat.add_assoc, Nat.add_assoc]
    · simp only [Nat.reduceAdd, Nat.reduceSub, Nat.reduceLT, if_true, if_false, mul_zero, add_zero, zero_add]
      rw [h0 256 (by omega), hz 255 (by omega), hz' 0 (by omega), mul_zero, add_zero]
    · simp only [Nat.reduceAdd, Nat.reduceSub, Nat.reduceLT, if_true, if_false, mul_zero, add_zero, zero_add]
      rw [h0 256 (by omega), h0 257 (by omega), hz' 0 (by omega), hz' 1 (by omega), mul_zero, mul_zero, add_zero, add_zero,
        ← add_assoc (w 2 n * _)]

end Cert.Ffn
-- ==== Proof.Tile.lean ====
module

public import proofs.«01_k».proof.Proof.Gen.KernelIdeal.Skeleton
public import proofs.«01_k».proof.Proof.Spec

/-! What one tile of the body computes, entry by entry, over whatever blocks it holds. -/

@[expose] public section

set_option maxRecDepth 16384

noncomputable section

open Idealize.ShloMosaic Idealize.ShloMosaic.TcCoe Idealize.SL.Sem

namespace Cert.KernelIdeal.Tile

open Cert.KernelIdeal Cert.KernelIdeal.Gen Cert.Ffn

/-- The named 0.044715 is the number. -/
theorem gelu_a : Named.named (F := Ideal) κ "gelu_a" (φ := .f32) 0x3D372713#32 = cA :=
  IdealRules.named_const.ideal_named_scalar _ _ _ _ rfl

/-- The named 0.134145 is the number. -/
theorem gelu_3a : Named.named (F := Ideal) κ "gelu_3a" (φ := .f32) 0x3E095D4F#32 = cA3 :=
  IdealRules.named_const.ideal_named_scalar _ _ _ _ rfl

/-- The halo and the tile under it (gate half): the halo counts for zero at the last grid step, the first rows. -/
theorem ext_gate (i : grid0.Coords) (h : FVec Ideal S8x1408 .f32) (x : FVec Ideal S256x1408 .f32) (p : Fin 264) (c : Fin 1408) :
    k0_pay5 (F := Ideal) i h x (ix2 p c)
      = if p.val < 8 then (if (i 1).val = 15 then 0 else rd2 h p c) else rd2 x (p - 8) c := by
  have hp := p.isLt
  have hi : (i 1).val < 16 := (i 1).isLt
  have key : ∀ k : Fin 16, Scalar.cmpi .eq (Scalar.subi 15#32 (BitVec.ofNat 32 k.val)) 0#32
      = if k.val = 15 then 1#1 else 0#1 := by decide
  have hk := key ⟨_, hi⟩
  simp only [] at hk
  pointwise [k0_pay5]
  rw [hk]
  simp only [rd2_ix, Fin.val_mk]
  by_cases h8 : p.val < 8
  · rw [dif_pos h8, if_pos h8]
    by_cases h15 : (i 1).val = 15
    · rw [if_pos h15, if_pos h15]; rfl
    · rw [if_neg h15, if_neg h15]; rfl
  · rw [dif_neg h8, if_neg h8]

/-- The same for the value half. -/
theorem ext_value (i : grid0.Coords) (h : FVec Ideal S8x1408 .f32) (x : FVec Ideal S256x1408 .f32) (p : Fin 264) (c : Fin 1408) :
    k0_pay6 (F := Ideal) i h x (ix2 p c)
      = if p.val < 8 then (if (i 1).val = 15 then 0 else rd2 h p c) else rd2 x (p - 8) c := ext_gate i h x p c

/-- The product with the transpose of the weights. -/
theorem prod (x : FVec Ideal S256x1024 .bf16) (w : FVec Ideal S1408x1024 .bf16) (p : Fin 256) (c : Fin 1408) :
    k0_pay4 (F := Ideal) x w (ix2 p c) = da (rd2 x) (rd2 w) p c := by
  pointwise [k0_pay4]
  simp only [da, rd2_ix, Fin.val_mk, zero_add]

/-- The gate half convolved. -/
theorem conv_gate (e : FVec Ideal S264x1408 .f32) (w : FVec Ideal S1x3x1408 .f32) (b : FVec Ideal S1x1x1408 .f32) (p : Fin 256) (c : Fin 1408) :
    k0_pay15 (F := Ideal) e (k0_pay7 w) (k0_pay8 b) (ix2 p c)
      = ((rd3 b 0 0 c + rd3 w 0 0 c * rd2 e (p + 6) c) + rd3 w 0 1 c * rd2 e (p + 7) c) + rd3 w 0 2 c * rd2 e (p + 8) c := by
  have hp := p.isLt
  have h2 : (8 + p.val + 264 - 2) % 264 = p + 6 := by omega
  have h1 : (8 + p.val + 264 - 1) % 264 = p + 7 := by omega
  have h0 : 8 + p.val = p + 8 := by omega
  pointwise [k0_pay15, k0_pay10, k0_pay11, k0_pay12, k0_pay13, k0_pay14, k0_pay7, k0_pay8]
  simp only [rd2_ix, rd3_ix, Fin.val_mk, h2, h1]
  simp only [h0]
  rfl

/-- The incoming gradient times the value half convolved. -/
theorem conv_value (d : FVec Ideal S256x1408 .f32) (e : FVec Ideal S264x1408 .f32) (w : FVec Ideal S1x3x1408 .f32) (b : FVec Ideal S1x1x1408 .f32) (p : Fin 256) (c : Fin 1408) :
    k0_pay24 (F := Ideal) d e (k0_pay9 w) b (ix2 p c)
      = d (ix2 p c) * (((rd3 b 0 0 c + rd3 w 0 0 c * rd2 e (p + 6) c) + rd3 w 0 1 c * rd2 e (p + 7) c) + rd3 w 0 2 c * rd2 e (p + 8) c) := by
  have hp := p.isLt
  have h2 : (8 + p.val + 264 - 2) % 264 = p + 6 := by omega
  have h1 : (8 + p.val + 264 - 1) % 264 = p + 7 := by omega
  have h0 : 8 + p.val = p + 8 := by omega
  pointwise [k0_pay24, k0_pay16, k0_pay17, k0_pay18, k0_pay19, k0_pay20, k0_pay9]
  simp only [rd2_ix, rd3_ix, Fin.val_mk, h2, h1]
  simp only [h0]
  rfl

/-- The gradient of the value half, over the gate half convolved. -/
theorem z_value (d : FVec Ideal S256x1408 .f32) (e : FVec Ideal S264x1408 .f32) (w : FVec Ideal S3x1408 .f32) (b : FVec Ideal S1x1408 .f32) (p : Fin 256) (c : Fin 1408) :
    k0_pay23 (F := Ideal) d e w b (ix2 p c) = zval (k0_pay15 (F := Ideal) e w b (ix2 p c)) (d (ix2 p c)) := by
  pointwise [k0_pay23, k0_pay22, k0_pay21, gelu_a, zval, th]

/-- The gradient of the gate half, over the gate half convolved. -/
theorem z_gate (e : FVec Ideal S264x1408 .f32) (w : FVec Ideal S3x1408 .f32) (b : FVec Ideal S1x1408 .f32) (v : FVec Ideal S256x1408 .f32) (p : Fin 256) (c : Fin 1408) :
    k0_pay25 (F := Ideal) (k0_pay15 e w b) (k0_pay21 e w b) (k0_pay22 e w b) v (FloatOps.ofBits FTy.f32 1065353216#32) (ix2 p c)
      = zgate (k0_pay15 (F := Ideal) e w b (ix2 p c)) (v (ix2 p c)) := by
  pointwise [k0_pay25, k0_pay22, k0_pay21, gelu_a, gelu_3a, zgate, th]

/-- A rotation by one row up that runs over the tile's end meets the zero rows. -/
theorem wrap1 (z : FVec Ideal S256x1408 .f32) (p c : ℕ) (hp : p < 256) :
    (if (8 + p + 264 - 263) % 264 < 8 then (0 : EReal) else rd2 z ((8 + p + 264 - 263) % 264 - 8) c) = rd2 z (p + 1) c := by
  by_cases h : p = 255
  · subst h
    rw [if_pos (by omega), rd2_row z _ _ (by omega)]
  · rw [if_neg (by omega), show (8 + p + 264 - 263) % 264 - 8 = p + 1 by omega]

/-- The same for a rotation by two rows. -/
theorem wrap2 (z : FVec Ideal S256x1408 .f32) (p c : ℕ) (hp : p < 256) :
    (if (8 + p + 264 - 262) % 264 < 8 then (0 : EReal) else rd2 z ((8 + p + 264 - 262) % 264 - 8) c) = rd2 z (p + 2) c := by
  by_cases h : 254 ≤ p
  · rw [if_pos (by omega), rd2_row z _ _ (by omega)]
  · rw [if_neg (by omega), show (8 + p + 264 - 262) % 264 - 8 = p + 2 by omega]

/-- The rows above the tile, rotated: they meet the tile's own first rows. -/
theorem carry0 (z : FVec Ideal S256x1408 .f32) (p c : ℕ) (hp : p < 8) : ext (rd2 z) p c = 0 := by
  rw [ext, if_pos hp]

theorem carry1 (z : FVec Ideal S256x1408 .f32) (p c : ℕ) (hp : p < 8) :
    (if (p + 264 - 263) % 264 < 8 then (0 : EReal) else rd2 z ((p + 264 - 263) % 264 - 8) c) = ext (rd2 z) (p + 1) c := by
  rw [show (p + 264 - 263) % 264 = p + 1 by omega, ext]

theorem carry2 (z : FVec Ideal S256x1408 .f32) (p c : ℕ) (hp : p < 8) :
    (if (p + 264 - 262) % 264 < 8 then (0 : EReal) else rd2 z ((p + 264 - 262) % 264 - 8) c) = ext (rd2 z) (p + 2) c := by
  rw [show (p + 264 - 262) % 264 = p + 2 by omega, ext]

/-- The gradient of the tile's rows of the gate half: the rows that meet the next tile take what it carried over. -/
theorem out_gate (w : FVec Ideal S1x3x1408 .f32) (z : FVec Ideal S256x1408 .f32) (s : FVec Ideal S8x1408 .f32) (p : Fin 256) (c : Fin 1408) :
    k0_pay39 (k0_pay38 (F := Ideal) (k0_pay10 (k0_pay7 w)) (k0_pay12 (k0_pay7 w)) (k0_pay14 (k0_pay7 w)) z s) (ix2 p c)
      = dinp (rd2 z) (rd3 w 0) p c + (if p.val < 248 then 0 else rd2 s (p - 248) c) := by
  have hp := p.isLt
  pointwise [k0_pay39, k0_pay38, k0_pay36, k0_pay34, k0_pay10, k0_pay12, k0_pay14, k0_pay7]
  simp only [rd2_ix, rd3_ix, Fin.val_mk, dite_eq_ite]
  by_cases h : p.val < 248
  · rw [if_pos h, if_pos h, wrap1 z _ _ hp, wrap2 z _ _ hp, add_zero]
    rfl
  · rw [if_neg h, if_neg h, show 248 + (p.val - 248) = p by omega, wrap1 z _ _ hp, wrap2 z _ _ hp]
    rfl

/-- What the tile carries over to the tile above it: the gradient of the eight rows above its own. -/
theorem carry_gate (w : FVec Ideal S1x3x1408 .f32) (z : FVec Ideal S256x1408 .f32) (p : Fin 8) (c : Fin 1408) :
    k0_pay40 (k0_pay36 (F := Ideal) (k0_pay10 (k0_pay7 w)) (k0_pay12 (k0_pay7 w)) (k0_pay14 (k0_pay7 w)) z) (ix2 p c)
      = dinp (ext (rd2 z)) (rd3 w 0) p c := by
  have hp := p.isLt
  pointwise [k0_pay40, k0_pay36, k0_pay34, k0_pay10, k0_pay12, k0_pay14, k0_pay7]
  simp only [rd2_ix, rd3_ix, Fin.val_mk, dite_eq_ite]
  rw [carry1 z _ _ hp, carry2 z _ _ hp, dinp, carry0 z _ _ hp]
  rfl

/-- The gradient of the tile's rows of the value half. -/
theorem out_value (w : FVec Ideal S1x3x1408 .f32) (z : FVec Ideal S256x1408 .f32) (s : FVec Ideal S8x1408 .f32) (p : Fin 256) (c : Fin 1408) :
    k0_pay41 (F := Ideal) (k0_pay32 (k0_pay27 (k0_pay18 (k0_pay9 w)) (k0_pay20 (k0_pay9 w)) z) (k0_pay31 (k0_pay16 (k0_pay9 w)) z)) s (ix2 p c)
      = dinp (rd2 z) (rd3 w 0) p c + (if p.val < 248 then 0 else rd2 s (p - 248) c) := out_gate w z s p c

/-- What the tile of the value half carries over. -/
theorem carry_value (w : FVec Ideal S1x3x1408 .f32) (z : FVec Ideal S256x1408 .f32) (p : Fin 8) (c : Fin 1408) :
    k0_pay42 (F := Ideal) (k0_pay32 (k0_pay27 (k0_pay18 (k0_pay9 w)) (k0_pay20 (k0_pay9 w)) z) (k0_pay31 (k0_pay16 (k0_pay9 w)) z)) (ix2 p c)
      = dinp (ext (rd2 z)) (rd3 w 0) p c := carry_gate w z p c

/-- A tile's part of the eight rows of the gradients of taps and bias. -/
def part (z e : ℕ → ℕ → EReal) (k n : ℕ) : EReal :=
  if k < 3 then ∑ q : Fin 256, z q n * e (q + 6 + k) n else if k < 4 then ∑ q : Fin 256, z q n else 0

/-- The gate half's eight rows: what was there plus the tile's part. -/
theorem rows_gate (e : FVec Ideal S264x1408 .f32) (z : FVec Ideal S256x1408 .f32) (a : FVec Ideal S8x1408 .f32) (k : Fin 8) (c : Fin 1408) :
    k0_pay45 (F := Ideal) (k0_pay35 z) (k0_pay37 e (k0_pay11 e) (k0_pay13 e) z) a (ix2 k c) = a (ix2 k c) + part (rd2 z) (rd2 e) k c := by
  pointwise [k0_pay45, k0_pay35, k0_pay37, k0_pay11, k0_pay13, k0_pay34, k0_pay43]
  simp only [rd2_ix, Fin.val_mk, dite_eq_ite, zero_mul, Finset.sum_const_zero, zero_add]
  refine congrArg _ ?_
  unfold part
  have r2 : ∀ x : Fin 256, (8 + x.val + 264 - 2) % 264 = x + 6 := fun x => by omega
  have r1 : ∀ x : Fin 256, (8 + x.val + 264 - 1) % 264 = x + 7 := fun x => by omega
  have r0 : ∀ x : Fin 256, 8 + x.val = x + 8 := fun x => by omega
  simp only [r2, r1]
  simp only [r0]
  obtain ⟨k, hk⟩ := k
  rcases (by omega : k = 0 ∨ k = 1 ∨ k = 2 ∨ k = 3 ∨ 4 ≤ k) with rfl | rfl | rfl | rfl | h
  · simp
  · simp
  · simp
  · simp
  · simp only [if_neg (show ¬ k < 3 by omega), if_neg (show ¬ k - 3 < 1 by omega), if_neg (show ¬ k < 4 by omega)]

/-- The value half's eight rows. -/
theorem rows_value (e : FVec Ideal S264x1408 .f32) (z : FVec Ideal S256x1408 .f32) (a : FVec Ideal S8x1408 .f32) (k : Fin 8) (c : Fin 1408) :
    k0_pay1 (F := Ideal) (k0_pay46 (k0_pay29 z) (k0_pay33 (k0_pay28 e (k0_pay19 e) z) (k0_pay30 (k0_pay17 e) z))) a (ix2 k c)
      = a (ix2 k c) + part (rd2 z) (rd2 e) k c := by
  pointwise [k0_pay1, k0_pay46, k0_pay29, k0_pay33, k0_pay28, k0_pay30, k0_pay19, k0_pay17, k0_pay26, k0_pay43]
  simp only [rd2_ix, Fin.val_mk, dite_eq_ite, zero_mul, Finset.sum_const_zero, zero_add]
  refine congrArg _ ?_
  unfold part
  have r2 : ∀ x : Fin 256, (8 + x.val + 264 - 2) % 264 = x + 6 := fun x => by omega
  have r1 : ∀ x : Fin 256, (8 + x.val + 264 - 1) % 264 = x + 7 := fun x => by omega
  have r0 : ∀ x : Fin 256, 8 + x.val = x + 8 := fun x => by omega
  simp only [r2, r1]
  simp only [r0]
  obtain ⟨k, hk⟩ := k
  rcases (by omega : k = 0 ∨ k = 1 ∨ k = 2 ∨ k = 3 ∨ 4 ≤ k) with rfl | rfl | rfl | rfl | h
  · simp
  · simp
  · simp
  · simp
  · simp only [if_neg (show ¬ k < 3 by omega), if_neg (show ¬ k - 3 < 1 by omega), if_neg (show ¬ k < 4 by omega)]

end Cert.KernelIdeal.Tile
-- ==== Proof.Points.lean ====
module

public import proofs.«01_k».proof.Proof.Frame
public import proofs.«01_k».proof.Proof.Tile
public import Idealize.ShloMosaic.Lib.Pipeline.ValueKit

/-! What the blocks of a grid point hold, in the arrays' own rows and columns. -/

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Ffn

variable (m : (ℓ : Loc nD τ sig) → Buf (Elt Ideal) ℓ)

/-- The arguments in memory. -/
def A (c : Dev nD) : Args := args (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5))

/-- The blocks of each point: the rows go from the last tile to the first, the columns in two halves. -/
theorem idx : ∀ t : Fin cfg0.N, win0_0.index t = ![15 - t.val % 16, t.val / 16]
    ∧ win0_1.index t = ![(15 - t.val % 16) * 32 - 1, t.val / 16]
    ∧ win0_2.index t = ![15 - t.val % 16, t.val / 16]
    ∧ win0_3.index t = ![(15 - t.val % 16) * 32 - 1, t.val / 16]
    ∧ win0_4.index t = ![15 - t.val % 16, 0]
    ∧ win0_5.index t = ![t.val / 16, 0]
    ∧ win0_6.index t = ![0, 0, t.val / 16]
    ∧ win0_7.index t = ![0, 0, t.val / 16]
    ∧ win0_8.index t = ![0, 0, t.val / 16 + 2]
    ∧ win0_9.index t = ![0, 0, t.val / 16 + 2]
    ∧ win0_10.index t = ![15 - t.val % 16, t.val / 16]
    ∧ win0_11.index t = ![15 - t.val % 16, t.val / 16]
    ∧ win0_12.index t = ![0, t.val / 16]
    ∧ win0_13.index t = ![0, t.val / 16]
    ∧ (grid0.coords t 1).val = t.val % 16 ∧ t.val / 16 < 2 :=
  (by decide +kernel : ∀ t : Fin grid0.N, _)

theorem blk0 (c : Dev nD) (t : Fin cfg0.N) (q : Fin 256) (k : Fin 1408) :
    iblk m c 0 t (ix2 q k) = (A m c).hg (256 * (15 - t.val % 16) + q) (1408 * (t.val / 16) + k) := by
  have hj := (idx t).2.2.2.2.2.2.2.2.2.2.2.2.2.2.2
  show _ = rd2 _ _ _
  rw [rd2, dif_pos ⟨by omega, by omega⟩]
  blk_ext [iblk, V, idx t]

theorem blk1 (c : Dev nD) (t : Fin cfg0.N) (q : Fin 8) (k : Fin 1408) (h : 15 - t.val % 16 ≠ 0) :
    iblk m c 1 t (ix2 q k) = (A m c).hg (256 * (15 - t.val % 16) + q - 8) (1408 * (t.val / 16) + k) := by
  have hj := (idx t).2.2.2.2.2.2.2.2.2.2.2.2.2.2.2
  show _ = rd2 _ _ _
  rw [rd2, dif_pos ⟨by omega, by omega⟩]
  blk_ext [iblk, V, idx t]

theorem blk2 (c : Dev nD) (t : Fin cfg0.N) (q : Fin 256) (k : Fin 1408) :
    iblk m c 2 t (ix2 q k) = (A m c).hv (256 * (15 - t.val % 16) + q) (1408 * (t.val / 16) + k) := by
  have hj := (idx t).2.2.2.2.2.2.2.2.2.2.2.2.2.2.2
  show _ = rd2 _ _ _
  rw [rd2, dif_pos ⟨by omega, by omega⟩]
  blk_ext [iblk, V, idx t]

theorem blk3 (c : Dev nD) (t : Fin cfg0.N) (q : Fin 8) (k : Fin 1408) (h : 15 - t.val % 16 ≠ 0) :
    iblk m c 3 t (ix2 q k) = (A m c).hv (256 * (15 - t.val % 16) + q - 8) (1408 * (t.val / 16) + k) := by
  have hj := (idx t).2.2.2.2.2.2.2.2.2.2.2.2.2.2.2
  show _ = rd2 _ _ _
  rw [rd2, dif_pos ⟨by omega, by omega⟩]
  blk_ext [iblk, V, idx t]

theorem blk4 (c : Dev nD) (t : Fin cfg0.N) (q : Fin 256) (k : Fin 1024) :
    iblk m c 4 t (ix2 q k) = (A m c).dx (256 * (15 - t.val % 16) + q) k := by
  show _ = rd2 _ _ _
  rw [rd2, dif_pos ⟨by omega, by omega⟩]
  blk_ext [iblk, V, idx t]

theorem blk5 (c : Dev nD) (t : Fin cfg0.N) (q : Fin 1408) (k : Fin 1024) :
    iblk m c 5 t (ix2 q k) = (A m c).wd (1408 * (t.val / 16) + q) k := by
  have hj := (idx t).2.2.2.2.2.2.2.2.2.2.2.2.2.2.2
  show _ = rd2 _ _ _
  rw [rd2, dif_pos ⟨by omega, by omega⟩]
  blk_ext [iblk, V, idx t]

theorem blk6 (c : Dev nD) (t : Fin cfg0.N) (q : Fin 3) (k : Fin 1408) :
    iblk m c 6 t (ix3 0 q k) = (A m c).w q (1408 * (t.val / 16) + k) := by
  have hj := (idx t).2.2.2.2.2.2.2.2.2.2.2.2.2.2.2
  show _ = rd3 _ 0 _ _
  rw [rd3, dif_pos ⟨by omega, by omega, by omega⟩]
  blk_ext [iblk, V, idx t]

theorem blk8 (c : Dev nD) (t : Fin cfg0.N) (q : Fin 3) (k : Fin 1408) :
    iblk m c 8 t (ix3 0 q k) = (A m c).wv q (1408 * (t.val / 16) + k) := by
  have hj := (idx t).2.2.2.2.2.2.2.2.2.2.2.2.2.2.2
  show _ = rd3 _ 0 _ _
  rw [rd3, dif_pos ⟨by omega, by omega, by omega⟩]
  blk_ext [iblk, V, idx t]

theorem blk7 (c : Dev nD) (t : Fin cfg0.N) (k : Fin 1408) :
    iblk m c 7 t (ix3 0 0 k) = (A m c).b (1408 * (t.val / 16) + k) := by
  have hj := (idx t).2.2.2.2.2.2.2.2.2.2.2.2.2.2.2
  show _ = rd2 _ 0 _
  rw [rd2, dif_pos ⟨by omega, by omega⟩]
  blk_simp [iblk]
  entry_read
  pointwise
  blk_ext [V, idx t]

theorem blk9 (c : Dev nD) (t : Fin cfg0.N) (k : Fin 1408) :
    iblk m c 9 t (ix3 0 0 k) = (A m c).bv (1408 * (t.val / 16) + k) := by
  have hj := (idx t).2.2.2.2.2.2.2.2.2.2.2.2.2.2.2
  show _ = rd2 _ 0 _
  rw [rd2, dif_pos ⟨by omega, by omega⟩]
  blk_simp [iblk]
  entry_read
  pointwise
  blk_ext [V, idx t]

end Cert.KernelIdeal.Value
-- ==== Proof.Parts.lean ====
module

public import proofs.«01_k».proof.Proof.Points

/-! What the body computes at a grid point, in the arrays' own rows and columns: the convolved gate, the incoming
gradient, and the two gradients before the convolution's own. -/

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Ffn Cert.KernelIdeal.Tile

variable (m : (ℓ : Loc nD τ sig) → Buf (Elt Ideal) ℓ)

/-- A matrix read inside its bounds. -/
theorem rd2_of {a b : ℕ} (x : (⟨2, ![a, b]⟩ : Shape).Idx → EReal) (r n : ℕ) (hr : r < a) (hn : n < b) :
    rd2 x r n = x (ix2 ⟨r, hr⟩ ⟨n, hn⟩) := by rw [rd2, dif_pos ⟨hr, hn⟩]

/-- A stack read inside its bounds, in its first matrix. -/
theorem rd3_of {b d : ℕ} (x : (⟨3, ![1, b, d]⟩ : Shape).Idx → EReal) (r n : ℕ) (hr : r < b) (hn : n < d) :
    rd3 x 0 r n = x (ix3 0 ⟨r, hr⟩ ⟨n, hn⟩) := by rw [rd3, dif_pos ⟨by omega, hr, hn⟩]; rfl

/-- The gate's rows with the eight above them. -/
def eg (c : Dev nD) (t : Fin cfg0.N) : FVec Ideal S264x1408 .f32 :=
  k0_pay5 (F := Ideal) (grid0.coords t) (iblk m c 1 t) (iblk m c 0 t)
/-- The value's rows with the eight above them. -/
def ev (c : Dev nD) (t : Fin cfg0.N) : FVec Ideal S264x1408 .f32 :=
  k0_pay6 (F := Ideal) (grid0.coords t) (iblk m c 3 t) (iblk m c 2 t)
/-- The incoming gradient of the gated product. -/
def dt (c : Dev nD) (t : Fin cfg0.N) : FVec Ideal S256x1408 .f32 := k0_pay4 (F := Ideal) (iblk m c 4 t) (iblk m c 5 t)
/-- The gradient of the convolved gate. -/
def zgt (c : Dev nD) (t : Fin cfg0.N) : FVec Ideal S256x1408 .f32 :=
  k0_pay25 (F := Ideal) (k0_pay15 (eg m c t) (k0_pay7 (iblk m c 6 t)) (k0_pay8 (iblk m c 7 t)))
    (k0_pay21 (eg m c t) (k0_pay7 (iblk m c 6 t)) (k0_pay8 (iblk m c 7 t)))
    (k0_pay22 (eg m c t) (k0_pay7 (iblk m c 6 t)) (k0_pay8 (iblk m c 7 t)))
    (k0_pay24 (dt m c t) (ev m c t) (k0_pay9 (iblk m c 8 t)) (iblk m c 9 t)) (FloatOps.ofBits FTy.f32 1065353216#32)
/-- The gradient of the convolved value. -/
def zvt (c : Dev nD) (t : Fin cfg0.N) : FVec Ideal S256x1408 .f32 :=
  k0_pay23 (F := Ideal) (dt m c t) (eg m c t) (k0_pay7 (iblk m c 6 t)) (k0_pay8 (iblk m c 7 t))

theorem eg_at (c : Dev nD) (t : Fin cfg0.N) (p n : ℕ) (hp : p < 264) (hn : n < 1408) :
    rd2 (eg m c t) p n = ext (A m c).hg (256 * (15 - t.val % 16) + p) (1408 * (t.val / 16) + n) := by
  rw [rd2_of _ _ _ hp hn, eg, ext_gate, (idx t).2.2.2.2.2.2.2.2.2.2.2.2.2.2.1, ext]
  simp only [Fin.val_mk]
  by_cases h8 : p < 8
  · rw [if_pos h8]
    by_cases h15 : t.val % 16 = 15
    · rw [if_pos h15, if_pos (by omega)]
    · rw [if_neg h15, if_neg (by omega), rd2_of _ _ _ h8 hn]
      exact blk1 m c t ⟨p, h8⟩ ⟨n, hn⟩ (by omega)
  · rw [if_neg h8, if_neg (by omega), rd2_of _ _ _ (by omega) hn, Nat.add_sub_assoc (by omega)]
    exact blk0 m c t ⟨p - 8, by omega⟩ ⟨n, hn⟩

theorem ev_at (c : Dev nD) (t : Fin cfg0.N) (p n : ℕ) (hp : p < 264) (hn : n < 1408) :
    rd2 (ev m c t) p n = ext (A m c).hv (256 * (15 - t.val % 16) + p) (1408 * (t.val / 16) + n) := by
  rw [rd2_of _ _ _ hp hn, ev, ext_value, (idx t).2.2.2.2.2.2.2.2.2.2.2.2.2.2.1, ext]
  simp only [Fin.val_mk]
  by_cases h8 : p < 8
  · rw [if_pos h8]
    by_cases h15 : t.val % 16 = 15
    · rw [if_pos h15, if_pos (by omega)]
    · rw [if_neg h15, if_neg (by omega), rd2_of _ _ _ h8 hn]
      exact blk3 m c t ⟨p, h8⟩ ⟨n, hn⟩ (by omega)
  · rw [if_neg h8, if_neg (by omega), rd2_of _ _ _ (by omega) hn, Nat.add_sub_assoc (by omega)]
    exact blk2 m c t ⟨p - 8, by omega⟩ ⟨n, hn⟩

theorem wg_at (c : Dev nD) (t : Fin cfg0.N) (k n : ℕ) (hk : k < 3) (hn : n < 1408) :
    rd3 (iblk m c 6 t) 0 k n = (A m c).w k (1408 * (t.val / 16) + n) := by
  rw [rd3_of _ _ _ hk hn]; exact blk6 m c t ⟨k, hk⟩ ⟨n, hn⟩

theorem wv_at (c : Dev nD) (t : Fin cfg0.N) (k n : ℕ) (hk : k < 3) (hn : n < 1408) :
    rd3 (iblk m c 8 t) 0 k n = (A m c).wv k (1408 * (t.val / 16) + n) := by
  rw [rd3_of _ _ _ hk hn]; exact blk8 m c t ⟨k, hk⟩ ⟨n, hn⟩

theorem bg_at (c : Dev nD) (t : Fin cfg0.N) (n : ℕ) (hn : n < 1408) :
    rd3 (iblk m c 7 t) 0 0 n = (A m c).b (1408 * (t.val / 16) + n) := by
  rw [rd3_of _ _ _ (by omega) hn]; exact blk7 m c t ⟨n, hn⟩

theorem bv_at (c : Dev nD) (t : Fin cfg0.N) (n : ℕ) (hn : n < 1408) :
    rd3 (iblk m c 9 t) 0 0 n = (A m c).bv (1408 * (t.val / 16) + n) := by
  rw [rd3_of _ _ _ (by omega) hn]; exact blk9 m c t ⟨n, hn⟩

theorem gate_at (c : Dev nD) (t : Fin cfg0.N) (q : Fin 256) (n : Fin 1408) :
    k0_pay15 (F := Ideal) (eg m c t) (k0_pay7 (iblk m c 6 t)) (k0_pay8 (iblk m c 7 t)) (ix2 q n)
      = (A m c).gt (256 * (15 - t.val % 16) + q) (1408 * (t.val / 16) + n) := by
  have hq := q.isLt
  rw [conv_gate, eg_at m c t _ _ (by omega) n.isLt, eg_at m c t _ _ (by omega) n.isLt, eg_at m c t _ _ (by omega) n.isLt,
    wg_at m c t _ _ (by omega) n.isLt, wg_at m c t _ _ (by omega) n.isLt, wg_at m c t _ _ (by omega) n.isLt,
    bg_at m c t _ n.isLt, Args.gt, conv, Nat.add_assoc, Nat.add_assoc, Nat.add_assoc]

theorem d_at (c : Dev nD) (t : Fin cfg0.N) (q : Fin 256) (n : Fin 1408) :
    dt m c t (ix2 q n) = da (A m c).dx (A m c).wd (256 * (15 - t.val % 16) + q) (1408 * (t.val / 16) + n) := by
  rw [dt, prod, da, da]
  refine Finset.sum_congr rfl fun k _ => ?_
  rw [rd2_of _ _ _ q.isLt k.isLt, rd2_of _ _ _ n.isLt k.isLt]
  exact congrArg₂ (· * ·) (blk4 m c t q k) (blk5 m c t n k)

theorem zvt_at (c : Dev nD) (t : Fin cfg0.N) (q : Fin 256) (n : Fin 1408) :
    zvt m c t (ix2 q n) = (A m c).zv (256 * (15 - t.val % 16) + q) (1408 * (t.val / 16) + n) := by
  rw [zvt, z_value, gate_at, d_at, Args.zv]

theorem zgt_at (c : Dev nD) (t : Fin cfg0.N) (q : Fin 256) (n : Fin 1408) :
    zgt m c t (ix2 q n) = (A m c).zg (256 * (15 - t.val % 16) + q) (1408 * (t.val / 16) + n) := by
  have hq := q.isLt
  rw [zgt, z_gate, gate_at, conv_value, d_at, ev_at m c t _ _ (by omega) n.isLt, ev_at m c t _ _ (by omega) n.isLt,
    ev_at m c t _ _ (by omega) n.isLt, wv_at m c t _ _ (by omega) n.isLt, wv_at m c t _ _ (by omega) n.isLt,
    wv_at m c t _ _ (by omega) n.isLt, bv_at m c t _ n.isLt, Args.zg, Args.vl, conv,
    Nat.add_assoc, Nat.add_assoc, Nat.add_assoc]

end Cert.KernelIdeal.Value
-- ==== Proof.Outs.lean ====
module

public import proofs.«01_k».proof.Proof.Parts
public import Idealize.ShloMosaic.Lib.Pipeline.ReadBack

/-! What a grid point leaves in the result windows and hands to the next point. -/

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Ffn Cert.KernelIdeal.Tile

variable (m : (ℓ : Loc nD τ sig) → Buf (Elt Ideal) ℓ)

theorem scr_gate (c : Dev nD) (t : Fin cfg0.N) (p : Fin 8) (n : Fin 1408) :
    (outsAt0 m c t.val t.isLt).2.2.2.2.1 (ix2 p n) = dinp (ext (rd2 (zgt m c t))) (rd3 (iblk m c 6 t) 0) p n := by
  by_cases h : t.val % 16 = 0
  · rw [outsAt0_A m c t h, leftA]; frame_out; exact carry_gate _ _ p n
  · rw [outsAt0_B m c t h, leftB]; frame_out; exact carry_gate _ _ p n

theorem scr_value (c : Dev nD) (t : Fin cfg0.N) (p : Fin 8) (n : Fin 1408) :
    (outsAt0 m c t.val t.isLt).2.2.2.2.2 (ix2 p n) = dinp (ext (rd2 (zvt m c t))) (rd3 (iblk m c 8 t) 0) p n := by
  by_cases h : t.val % 16 = 0
  · rw [outsAt0_A m c t h, leftA]; frame_out; exact carry_value _ _ p n
  · rw [outsAt0_B m c t h, leftB]; frame_out; exact carry_value _ _ p n

theorem gate_A (c : Dev nD) (t : Fin cfg0.N) (h : t.val % 16 = 0) (q : Fin 256) (n : Fin 1408) :
    (outsAt0 m c t.val t.isLt).1 (ix2 q n) = dinp (rd2 (zgt m c t)) (rd3 (iblk m c 6 t) 0) q n
      + (if q.val < 248 then 0 else rd2 (k0_pay2 (F := Ideal)) (q - 248) n) := by
  rw [outsAt0_A m c t h, leftA]; frame_out; exact out_gate _ _ _ q n

theorem gate_B (c : Dev nD) (t : Fin cfg0.N) (h : ¬t.val % 16 = 0) (q : Fin 256) (n : Fin 1408) :
    (outsAt0 m c t.val t.isLt).1 (ix2 q n) = dinp (rd2 (zgt m c t)) (rd3 (iblk m c 6 t) 0) q n
      + (if q.val < 248 then 0
         else rd2 (outsAt0 m c (t.val - 1) (Nat.lt_of_le_of_lt (Nat.sub_le _ _) t.isLt)).2.2.2.2.1 (q - 248) n) := by
  rw [outsAt0_B m c t h, leftB]; frame_out; simp only [read_unread_whole]; exact out_gate _ _ _ q n

theorem value_A (c : Dev nD) (t : Fin cfg0.N) (h : t.val % 16 = 0) (q : Fin 256) (n : Fin 1408) :
    (outsAt0 m c t.val t.isLt).2.1 (ix2 q n) = dinp (rd2 (zvt m c t)) (rd3 (iblk m c 8 t) 0) q n
      + (if q.val < 248 then 0 else rd2 (k0_pay3 (F := Ideal)) (q - 248) n) := by
  rw [outsAt0_A m c t h, leftA]; frame_out; exact out_value _ _ _ q n

theorem value_B (c : Dev nD) (t : Fin cfg0.N) (h : ¬t.val % 16 = 0) (q : Fin 256) (n : Fin 1408) :
    (outsAt0 m c t.val t.isLt).2.1 (ix2 q n) = dinp (rd2 (zvt m c t)) (rd3 (iblk m c 8 t) 0) q n
      + (if q.val < 248 then 0
         else rd2 (outsAt0 m c (t.val - 1) (Nat.lt_of_le_of_lt (Nat.sub_le _ _) t.isLt)).2.2.2.2.2 (q - 248) n) := by
  rw [outsAt0_B m c t h, leftB]; frame_out; simp only [read_unread_whole]; exact out_value _ _ _ q n

/-- The sums of taps and bias: a run's first point starts from zero, the others add to what is there. -/
theorem rowsg_A (c : Dev nD) (t : Fin cfg0.N) (h : t.val % 16 = 0) (k : Fin 8) (n : Fin 1408) :
    (outsAt0 m c t.val t.isLt).2.2.1 (ix2 k n) = 0 + part (rd2 (zgt m c t)) (rd2 (eg m c t)) k n := by
  rw [outsAt0_A m c t h, leftA]; frame_out
  exact (rows_gate _ _ _ k n).trans (congrArg (· + _) (by pointwise [k0_pay44]))

theorem rowsg_B (c : Dev nD) (t : Fin cfg0.N) (h : ¬t.val % 16 = 0) (k : Fin 8) (n : Fin 1408) :
    (outsAt0 m c t.val t.isLt).2.2.1 (ix2 k n)
      = (outsAt0 m c (t.val - 1) (Nat.lt_of_le_of_lt (Nat.sub_le _ _) t.isLt)).2.2.1 (ix2 k n)
        + part (rd2 (zgt m c t)) (rd2 (eg m c t)) k n := by
  rw [outsAt0_B m c t h, leftB]; frame_out; exact rows_gate _ _ _ k n

theorem rowsv_A (c : Dev nD) (t : Fin cfg0.N) (h : t.val % 16 = 0) (k : Fin 8) (n : Fin 1408) :
    (outsAt0 m c t.val t.isLt).2.2.2.1 (ix2 k n) = 0 + part (rd2 (zvt m c t)) (rd2 (ev m c t)) k n := by
  rw [outsAt0_A m c t h, leftA]; frame_out
  exact (rows_value _ _ _ k n).trans (congrArg (· + _) (by pointwise [k0_pay47]))

theorem rowsv_B (c : Dev nD) (t : Fin cfg0.N) (h : ¬t.val % 16 = 0) (k : Fin 8) (n : Fin 1408) :
    (outsAt0 m c t.val t.isLt).2.2.2.1 (ix2 k n)
      = (outsAt0 m c (t.val - 1) (Nat.lt_of_le_of_lt (Nat.sub_le _ _) t.isLt)).2.2.2.1 (ix2 k n)
        + part (rd2 (zvt m c t)) (rd2 (ev m c t)) k n := by
  rw [outsAt0_B m c t h, leftB]; frame_out; exact rows_value _ _ _ k n

end Cert.KernelIdeal.Value
-- ==== Proof.Arrays.lean ====
module

public import proofs.«01_k».proof.Proof.Outs

/-! What the four result arrays hold after the run. -/

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Ffn Cert.KernelIdeal.Tile

variable (m : (ℓ : Loc nD τ sig) → Buf (Elt Ideal) ℓ)

theorem dinp_taps (z w w' : ℕ → ℕ → EReal) (r n n' : ℕ) (h : ∀ k, k < 3 → w k n = w' k n') :
    dinp z w r n = dinp z (fun k _ => w' k n') r n := by
  simp only [dinp, h 0 (by omega), h 1 (by omega), h 2 (by omega)]

/-- A tile's rows: `z` and `z'` are the tile and the one below it, both of `Z` from column `C` on. -/
theorem tile_row (z z' Z w w' W : ℕ → ℕ → EReal) (B C n : ℕ) (hw : ∀ k, k < 3 → w k n = W k (C + n))
    (hw' : ∀ k, k < 3 → w' k n = W k (C + n)) (hz : ∀ q, q < 256 → z q n = Z (B + q) (C + n))
    (h0 : ∀ q, 256 ≤ q → z q n = 0) (hz' : ∀ q, q < 256 → z' q n = Z (B + 256 + q) (C + n)) (q : ℕ) (hq : q < 256) :
    dinp z w q n + (if q < 248 then 0 else dinp (ext z') w' (q - 248) n) = dinp Z W (B + q) (C + n) := by
  rw [dinp_taps z w W q n _ hw, dinp_taps (ext z') w' W (q - 248) n _ hw']
  exact seam z z' (fun r _ => Z r (C + n)) (fun k _ => W k (C + n)) B n hz h0 hz' q hq

theorem zgt_rd (c : Dev nD) (t : Fin cfg0.N) (q n : ℕ) (hq : q < 256) (hn : n < 1408) :
    rd2 (zgt m c t) q n = cut (A m c).zg (256 * (15 - t.val % 16) + q) (1408 * (t.val / 16) + n) := by
  rw [rd2_of _ _ _ hq hn, zgt_at, cut, if_pos (by omega)]

theorem zvt_rd (c : Dev nD) (t : Fin cfg0.N) (q n : ℕ) (hq : q < 256) (hn : n < 1408) :
    rd2 (zvt m c t) q n = cut (A m c).zv (256 * (15 - t.val % 16) + q) (1408 * (t.val / 16) + n) := by
  rw [rd2_of _ _ _ hq hn, zvt_at, cut, if_pos (by omega)]

theorem zero_gate (q n : ℕ) : rd2 (k0_pay2 (F := Ideal)) q n = 0 := by
  unfold rd2; split
  · pointwise [k0_pay2]
  · rfl

theorem zero_value (q n : ℕ) : rd2 (k0_pay3 (F := Ideal)) q n = 0 := by
  unfold rd2; split
  · pointwise [k0_pay3]
  · rfl

theorem dinp_zero (w : ℕ → ℕ → EReal) (r n : ℕ) : dinp (ext fun _ _ => 0) w r n = 0 := by
  simp only [dinp, ext, ite_self, mul_zero, add_zero]

theorem gate_row (c : Dev nD) (t : Fin cfg0.N) (q : Fin 256) (n : Fin 1408) :
    (outsAt0 m c t.val t.isLt).1 (ix2 q n) = (A m c).dhg (256 * (15 - t.val % 16) + q) (1408 * (t.val / 16) + n) := by
  have hq := q.isLt
  have hn := n.isLt
  by_cases h : t.val % 16 = 0
  · rw [gate_A m c t h, zero_gate]
    refine Eq.trans (by rw [dinp_zero]) (tile_row (rd2 (zgt m c t)) (fun _ _ => 0) _ _ _ _ _ _ _ (fun k hk => wg_at m c t k n hk hn) (fun k hk => wg_at m c t k n hk hn)
      (fun p hp => zgt_rd m c t p n hp hn) (fun p hp => rd2_row _ _ _ hp)
      (fun p hp => by rw [cut, if_neg (by omega)]) q hq)
  · have ht := t.isLt
    have e1 : 15 - (t.val - 1) % 16 = 15 - t.val % 16 + 1 := by omega
    have e2 : (t.val - 1) / 16 = t.val / 16 := by omega
    have hc : (if q.val < 248 then (0 : EReal)
        else rd2 (outsAt0 m c (t.val - 1) (Nat.lt_of_le_of_lt (Nat.sub_le _ _) t.isLt)).2.2.2.2.1 (q - 248) n)
        = if q.val < 248 then (0 : EReal) else dinp (ext (rd2 (zgt m c ⟨t.val - 1, by omega⟩)))
          (rd3 (iblk m c 6 ⟨t.val - 1, by omega⟩) 0) (q - 248) n := by
      by_cases h8 : q.val < 248
      · rw [if_pos h8, if_pos h8]
      · rw [if_neg h8, if_neg h8, rd2_of _ _ _ (by omega) hn]
        exact scr_gate m c ⟨t.val - 1, by omega⟩ ⟨q - 248, by omega⟩ n
    rw [gate_B m c t h, hc]
    refine tile_row _ _ _ _ _ _ _ _ _ (fun k hk => wg_at m c t k n hk hn) (fun k hk => ?_)
      (fun p hp => zgt_rd m c t p n hp hn) (fun p hp => rd2_row _ _ _ hp) (fun p hp => ?_) q hq
    · rw [wg_at m c _ k n hk hn]; simp only [e2]
    · rw [zgt_rd m c _ p n hp hn]; simp only [e1, e2, Nat.mul_add, Nat.mul_one]

theorem value_row (c : Dev nD) (t : Fin cfg0.N) (q : Fin 256) (n : Fin 1408) :
    (outsAt0 m c t.val t.isLt).2.1 (ix2 q n) = (A m c).dhv (256 * (15 - t.val % 16) + q) (1408 * (t.val / 16) + n) := by
  have hq := q.isLt
  have hn := n.isLt
  by_cases h : t.val % 16 = 0
  · rw [value_A m c t h, zero_value]
    refine Eq.trans (by rw [dinp_zero]) (tile_row (rd2 (zvt m c t)) (fun _ _ => 0) _ _ _ _ _ _ _ (fun k hk => wv_at m c t k n hk hn) (fun k hk => wv_at m c t k n hk hn)
      (fun p hp => zvt_rd m c t p n hp hn) (fun p hp => rd2_row _ _ _ hp)
      (fun p hp => by rw [cut, if_neg (by omega)]) q hq)
  · have ht := t.isLt
    have e1 : 15 - (t.val - 1) % 16 = 15 - t.val % 16 + 1 := by omega
    have e2 : (t.val - 1) / 16 = t.val / 16 := by omega
    have hc : (if q.val < 248 then (0 : EReal)
        else rd2 (outsAt0 m c (t.val - 1) (Nat.lt_of_le_of_lt (Nat.sub_le _ _) t.isLt)).2.2.2.2.2 (q - 248) n)
        = if q.val < 248 then (0 : EReal) else dinp (ext (rd2 (zvt m c ⟨t.val - 1, by omega⟩)))
          (rd3 (iblk m c 8 ⟨t.val - 1, by omega⟩) 0) (q - 248) n := by
      by_cases h8 : q.val < 248
      · rw [if_pos h8, if_pos h8]
      · rw [if_neg h8, if_neg h8, rd2_of _ _ _ (by omega) hn]
        exact scr_value m c ⟨t.val - 1, by omega⟩ ⟨q - 248, by omega⟩ n
    rw [value_B m c t h, hc]
    refine tile_row _ _ _ _ _ _ _ _ _ (fun k hk => wv_at m c t k n hk hn) (fun k hk => ?_)
      (fun p hp => zvt_rd m c t p n hp hn) (fun p hp => rd2_row _ _ _ hp) (fun p hp => ?_) q hq
    · rw [wv_at m c _ k n hk hn]; simp only [e2]
    · rw [zvt_rd m c _ p n hp hn]; simp only [e1, e2, Nat.mul_add, Nat.mul_one]

/-- Sixteen tiles, taken from the last to the first, make the sum over all rows. -/
theorem sum_tiles (f : ℕ → EReal) : ∑ s : Fin 16, ∑ q : Fin 256, f (256 * (15 - s.val) + q.val) = ∑ r : Fin 4096, f r.val := by
  rw [← Equiv.sum_comp Fin.revPerm (fun s : Fin 16 => ∑ q : Fin 256, f (256 * (15 - s.val) + q.val))]
  refine Fin.sum_mul_add_congr fun s q _ => congrArg f ?_
  have hs := s.isLt
  simp only [Fin.revPerm_apply, Fin.val_rev]
  omega

theorem part_sum (z e Z H : ℕ → ℕ → EReal) (zt et : Fin 16 → ℕ → ℕ → EReal) (n N : ℕ)
    (hz : ∀ s q, q < 256 → zt s q n = Z (256 * (15 - s.val) + q) N)
    (he : ∀ s p, p < 264 → et s p n = ext H (256 * (15 - s.val) + p) N) (k : ℕ) :
    ∑ s : Fin 16, part (zt s) (et s) k n = drows Z H k N := by
  unfold part drows
  by_cases h3 : k < 3
  · simp only [if_pos h3, dtap]
    rw [← sum_tiles fun r => Z r N * ext H (r + 6 + k) N]
    refine Finset.sum_congr rfl fun s _ => Finset.sum_congr rfl fun q _ => ?_
    have hq := q.isLt
    rw [hz s q hq, he s _ (by omega), ← Nat.add_assoc, ← Nat.add_assoc]
  · simp only [if_neg h3]
    by_cases h4 : k < 4
    · simp only [if_pos h4, dbias]
      rw [← sum_tiles fun r => Z r N]
      exact Finset.sum_congr rfl fun s _ => Finset.sum_congr rfl fun q _ => hz s q q.isLt
    · simp only [if_neg h4, Finset.sum_const_zero]

theorem rows_gate_at (c : Dev nD) (t : Fin cfg0.N) (h : t.val % 16 = 15) (k : Fin 8) (n : Fin 1408) :
    (outsAt0 m c t.val t.isLt).2.2.1 (ix2 k n) = (A m c).dwg k (1408 * (t.val / 16) + n) := by
  have hn := n.isLt
  rw [Pipeline.eq_sum_fin_of_reset_step_apply_of_flush (fun n h => (outsAt0 m c n h).2.2.1) 16 (fun _ => 0)
    (fun t i => part (rd2 (zgt m c t)) (rd2 (eg m c t)) (i 0).val (i 1).val)
    (fun t h i => by rw [← ix2_eta i]; exact rowsg_A m c t h _ _)
    (fun t h i => by rw [← ix2_eta i]; exact rowsg_B m c t h _ _) t h _, zero_add]
  refine part_sum 0 0 _ _ _ _ _ _ (fun s q hq => ?_) (fun s p hp => ?_) _
  · refine (rd2_of _ _ _ hq hn).trans ((zgt_at m c _ ⟨q, hq⟩ n).trans ?_)
    have hs := s.isLt
    simp only [show (16 * (t.val / 16) + s.val) % 16 = s.val by omega, show (16 * (t.val / 16) + s.val) / 16 = t.val / 16 by omega]
  · refine (eg_at m c _ p n hp hn).trans ?_
    have hs := s.isLt
    simp only [show (16 * (t.val / 16) + s.val) % 16 = s.val by omega, show (16 * (t.val / 16) + s.val) / 16 = t.val / 16 by omega]

theorem rows_value_at (c : Dev nD) (t : Fin cfg0.N) (h : t.val % 16 = 15) (k : Fin 8) (n : Fin 1408) :
    (outsAt0 m c t.val t.isLt).2.2.2.1 (ix2 k n) = (A m c).dwv k (1408 * (t.val / 16) + n) := by
  have hn := n.isLt
  rw [Pipeline.eq_sum_fin_of_reset_step_apply_of_flush (fun n h => (outsAt0 m c n h).2.2.2.1) 16 (fun _ => 0)
    (fun t i => part (rd2 (zvt m c t)) (rd2 (ev m c t)) (i 0).val (i 1).val)
    (fun t h i => by rw [← ix2_eta i]; exact rowsv_A m c t h _ _)
    (fun t h i => by rw [← ix2_eta i]; exact rowsv_B m c t h _ _) t h _, zero_add]
  refine part_sum 0 0 _ _ _ _ _ _ (fun s q hq => ?_) (fun s p hp => ?_) _
  · refine (rd2_of _ _ _ hq hn).trans ((zvt_at m c _ ⟨q, hq⟩ n).trans ?_)
    have hs := s.isLt
    simp only [show (16 * (t.val / 16) + s.val) % 16 = s.val by omega, show (16 * (t.val / 16) + s.val) / 16 = t.val / 16 by omega]
  · refine (ev_at m c _ p n hp hn).trans ?_
    have hs := s.isLt
    simp only [show (16 * (t.val / 16) + s.val) % 16 = s.val by omega, show (16 * (t.val / 16) + s.val) / 16 = t.val / 16 by omega]

/-- The gradient of the hidden rows' gate half. -/
theorem final10 (c : Dev nD) : (dats m 0 c).arrAt 10 cfg0.N = fun i : S4096x2816.Idx => (A m c).dhg (i 0).val (i 1).val := by
  refine (dats m 0 c).arrAt_eq_of_covers 10 _ (by decide +kernel) fun t hf y => ?_
  blk_simp
  rw [after0_10, (idx t).2.2.2.2.2.2.2.2.2.2.1]
  obtain ⟨q, n, rfl⟩ : ∃ (q : Fin 256) (n : Fin 1408), y = ix2 q n := ⟨y 0, y 1, eq_ix2 y⟩
  exact (gate_row m c t q n).trans (congrArg₂ (A m c).dhg (congrArg (· + q.val) (Nat.mul_comm _ _))
    (congrArg (· + n.val) (Nat.mul_comm _ _)))

/-- The gradient of the value half. -/
theorem final11 (c : Dev nD) : (dats m 0 c).arrAt 11 cfg0.N = fun i : S4096x2816.Idx => (A m c).dhv (i 0).val (i 1).val := by
  refine (dats m 0 c).arrAt_eq_of_covers 11 _ (by decide +kernel) fun t hf y => ?_
  blk_simp
  rw [after0_11, (idx t).2.2.2.2.2.2.2.2.2.2.2.1]
  obtain ⟨q, n, rfl⟩ : ∃ (q : Fin 256) (n : Fin 1408), y = ix2 q n := ⟨y 0, y 1, eq_ix2 y⟩
  exact (value_row m c t q n).trans (congrArg₂ (A m c).dhv (congrArg (· + q.val) (Nat.mul_comm _ _))
    (congrArg (· + n.val) (Nat.mul_comm _ _)))

/-- The gradients of the gate half's taps and bias. -/
theorem final12 (c : Dev nD) : (dats m 0 c).arrAt 12 cfg0.N = fun i : S8x2816.Idx => (A m c).dwg (i 0).val (i 1).val := by
  refine (dats m 0 c).arrAt_eq_of_covers 12 _ (by decide +kernel) fun t hf y => ?_
  blk_simp
  rw [after0_12, (idx t).2.2.2.2.2.2.2.2.2.2.2.2.1]
  obtain ⟨k, n, rfl⟩ : ∃ (k : Fin 8) (n : Fin 1408), y = ix2 k n := ⟨y 0, y 1, eq_ix2 y⟩
  exact (rows_gate_at m c t ((flush0_12 t).mp hf) k n).trans (congrArg₂ (A m c).dwg (Nat.zero_add _).symm
    (congrArg (· + n.val) (Nat.mul_comm _ _)))

/-- The gradients of the value half's taps and bias. -/
theorem final13 (c : Dev nD) : (dats m 0 c).arrAt 13 cfg0.N = fun i : S8x2816.Idx => (A m c).dwv (i 0).val (i 1).val := by
  refine (dats m 0 c).arrAt_eq_of_covers 13 _ (by decide +kernel) fun t hf y => ?_
  blk_simp
  rw [after0_13, (idx t).2.2.2.2.2.2.2.2.2.2.2.2.2.1]
  obtain ⟨k, n, rfl⟩ : ∃ (k : Fin 8) (n : Fin 1408), y = ix2 k n := ⟨y 0, y 1, eq_ix2 y⟩
  exact (rows_value_at m c t ((flush0_13 t).mp hf) k n).trans (congrArg₂ (A m c).dwv (Nat.zero_add _).symm
    (congrArg (· + n.val) (Nat.mul_comm _ _)))

end Cert.KernelIdeal.Value
-- ==== Proof.Gelu.lean ====
module

public import proofs.«01_k».proof.Proof.Spec

/-! The gradient of the gelu gate: the kernel's form and the one differentiation of the formula gives agree at numbers. -/

@[expose] public section

noncomputable section

open Idealize.ShloMosaic

namespace Cert.Ffn

/-- The reference's hyperbolic tangent at `x`. -/
def thR (x : EReal) : EReal :=
  Ideal.tanh (cRoot * (x + Ideal.div (Ideal.ofBits FTy.f32 1194240768#32 * (x * x * x)) (Ideal.ofBits FTy.f32 1232348160#32)))

/-- The reference's gradient of the value half. -/
def zvalR (x d : EReal) : EReal := x * (cHalf * (1 + thR x)) * d

/-- What flows back through the tangent. -/
def inner (x e : EReal) : EReal := cRoot * (cHalf * (x * e) * ((1 + thR x) * (1 - thR x)))

/-- The reference's gradient of the gate half. -/
def zgateR (x e : EReal) : EReal :=
  e * (cHalf * (1 + thR x)) + inner x e
    + Ideal.ofBits FTy.f32 1194240768#32 * Ideal.div (inner x e) (Ideal.ofBits FTy.f32 1232348160#32)
      * (Ideal.ofBits FTy.f32 1077936128#32 * (x * x))

theorem half_eq : cHalf = ((1 / 2 : ℝ) : EReal) := by
  simp [cHalf, Ideal.ofBits, Ideal.ieee, -EReal.coe_mul]; norm_num

theorem root_eq : cRoot = ((6693141 / 8388608 : ℝ) : EReal) := by
  simp [cRoot, Ideal.ofBits, Ideal.ieee, -EReal.coe_mul]; norm_num

theorem rootHalf_eq : cRootHalf = ((6693141 / 16777216 : ℝ) : EReal) := by
  simp [cRootHalf, Ideal.ofBits, Ideal.ieee, -EReal.coe_mul]; norm_num

theorem num_eq : Ideal.ofBits FTy.f32 1194240768#32 = ((44715 : ℝ) : EReal) := by
  simp [Ideal.ofBits, Ideal.ieee, -EReal.coe_mul]; norm_num

theorem den_eq : Ideal.ofBits FTy.f32 1232348160#32 = ((1000000 : ℝ) : EReal) := by
  simp [Ideal.ofBits, Ideal.ieee, -EReal.coe_mul]; norm_num

theorem three_eq : Ideal.ofBits FTy.f32 1077936128#32 = ((3 : ℝ) : EReal) := by
  simp [Ideal.ofBits, Ideal.ieee, -EReal.coe_mul]; norm_num

/-- A quotient by a million. -/
theorem div_den (y : ℝ) : Ideal.div (y : EReal) ((1000000 : ℝ) : EReal) = ((y / 1000000 : ℝ) : EReal) := by
  rw [Ideal.div_coe (by norm_num), ← EReal.coe_mul]
  congr 1; ring

/-- Both tangents are the same number. -/
theorem th_eq (x : ℝ) : ∃ t : ℝ, th (x : EReal) = (t : EReal) ∧ thR (x : EReal) = (t : EReal) := by
  refine ⟨Real.tanh (6693141 / 8388608 * x * (1 + 8943 / 200000 * (x * x))), ?_, ?_⟩
  · rw [th, root_eq, cA, show (1 : EReal) = ((1 : ℝ) : EReal) from rfl]
    norm_cast
  · rw [thR, root_eq, num_eq, den_eq]
    simp only [← EReal.coe_mul, ← EReal.coe_add, div_den]
    show ((Real.tanh _ : ℝ) : EReal) = _
    congr 2; ring

theorem zval_eq (x d : ℝ) : zvalR (x : EReal) (d : EReal) = zval (x : EReal) (d : EReal) := by
  obtain ⟨t, h1, h2⟩ := th_eq x
  rw [zvalR, zval, h1, h2, half_eq, show (1 : EReal) = ((1 : ℝ) : EReal) from rfl]
  simp only [← EReal.coe_mul, ← EReal.coe_add]
  congr 1; ring

theorem zgate_eq (x e : ℝ) : zgateR (x : EReal) (e : EReal) = zgate (x : EReal) (e : EReal) := by
  obtain ⟨t, h1, h2⟩ := th_eq x
  rw [zgateR, zgate, inner, h1, h2, half_eq, root_eq, rootHalf_eq, num_eq, den_eq, three_eq, cA3,
    show (1 : EReal) = ((1 : ℝ) : EReal) from rfl]
  simp only [← EReal.coe_mul, ← EReal.coe_add, ← EReal.coe_sub, div_den]
  congr 1; ring

/-- A number, not an infinity. -/
def IsNum (x : EReal) : Prop := ∃ r : ℝ, x = (r : EReal)

theorem IsNum.zero : IsNum 0 := ⟨0, rfl⟩
theorem IsNum.add {x y : EReal} : IsNum x → IsNum y → IsNum (x + y) := by
  rintro ⟨a, rfl⟩ ⟨b, rfl⟩; exact ⟨a + b, (EReal.coe_add a b).symm⟩
theorem IsNum.mul {x y : EReal} : IsNum x → IsNum y → IsNum (x * y) := by
  rintro ⟨a, rfl⟩ ⟨b, rfl⟩; exact ⟨a * b, (EReal.coe_mul a b).symm⟩
theorem IsNum.sum {n : ℕ} (f : Fin n → EReal) (h : ∀ k, IsNum (f k)) : IsNum (∑ k, f k) :=
  Finset.sum_induction f IsNum (fun _ _ => IsNum.add) IsNum.zero fun k _ => h k

theorem IsNum.rd2 {a b : ℕ} {x : (⟨2, ![a, b]⟩ : Shape).Idx → EReal} (h : ∀ i, IsNum (x i)) (r n : ℕ) :
    IsNum (rd2 x r n) := by
  unfold Ffn.rd2; split
  · exact h _
  · exact IsNum.zero
theorem IsNum.rd3 {a b d : ℕ} {x : (⟨3, ![a, b, d]⟩ : Shape).Idx → EReal} (h : ∀ i, IsNum (x i)) (l r n : ℕ) :
    IsNum (rd3 x l r n) := by
  unfold Ffn.rd3; split
  · exact h _
  · exact IsNum.zero
theorem IsNum.ext {h : ℕ → ℕ → EReal} (H : ∀ r n, IsNum (h r n)) (p n : ℕ) : IsNum (ext h p n) := by
  unfold Ffn.ext; split
  · exact IsNum.zero
  · exact H _ _
theorem IsNum.conv {h w : ℕ → ℕ → EReal} {b : ℕ → EReal} (H : ∀ r n, IsNum (h r n)) (W : ∀ k n, IsNum (w k n))
    (B : ∀ n, IsNum (b n)) (r n : ℕ) : IsNum (conv h w b r n) :=
  (((B _).add ((W _ _).mul (IsNum.ext H _ _))).add ((W _ _).mul (IsNum.ext H _ _))).add ((W _ _).mul (IsNum.ext H _ _))
theorem IsNum.da {dx wd : ℕ → ℕ → EReal} (X : ∀ r n, IsNum (dx r n)) (W : ∀ r n, IsNum (wd r n)) (r n : ℕ) :
    IsNum (da dx wd r n) := IsNum.sum _ fun k => (X _ _).mul (W _ _)

/-- Every entry of every argument is a number. -/
structure Args.Num (A : Args) : Prop where
  hg : ∀ r n, IsNum (A.hg r n)
  hv : ∀ r n, IsNum (A.hv r n)
  dx : ∀ r n, IsNum (A.dx r n)
  wd : ∀ r n, IsNum (A.wd r n)
  w : ∀ k n, IsNum (A.w k n)
  b : ∀ n, IsNum (A.b n)

/-- The reference's gradient of the convolved gate is the kernel's. -/
theorem Args.Num.zg {A : Args} (h : A.Num) (r n : ℕ) :
    zgateR (A.gt r n) (Ffn.da A.dx A.wd r n * A.vl r n) = A.zg r n := by
  obtain ⟨x, hx⟩ := IsNum.conv h.hg h.w h.b r n
  obtain ⟨e, he⟩ := (IsNum.da h.dx h.wd r n).mul (IsNum.conv h.hv (fun k n => h.w k (2816 + n)) (fun n => h.b (2816 + n)) r n)
  have hx' : A.gt r n = x := hx
  have he' : Ffn.da A.dx A.wd r n * A.vl r n = e := he
  rw [Args.zg, hx', he', zgate_eq]

/-- The reference's gradient of the convolved value is the kernel's. -/
theorem Args.Num.zv {A : Args} (h : A.Num) (r n : ℕ) :
    zvalR (A.gt r n) (Ffn.da A.dx A.wd r n) = A.zv r n := by
  obtain ⟨x, hx⟩ := IsNum.conv h.hg h.w h.b r n
  obtain ⟨e, he⟩ := IsNum.da h.dx h.wd r n
  have hx' : A.gt r n = x := hx
  rw [Args.zv, hx', he, zval_eq]

end Cert.Ffn
-- ==== Proof.RefRows.lean ====
module

public import proofs.«01_k».proof.Proof.Gen.ReferenceIdeal.Read
public import proofs.«01_k».proof.Proof.Gelu
public import Idealize.ShloMosaic.Lib.Pointwise

/-! What the reference computes, row by row and column by column. -/

@[expose] public section

set_option maxRecDepth 16384

noncomputable section

open Idealize.ShloMosaic

namespace Cert.ReferenceIdeal.Rows

open Cert.ReferenceIdeal Cert.ReferenceIdeal.Read Cert.Ffn

variable (x0 x1 : FVec Ideal S4096x2816 .f32) (x2 : FVec Ideal S4096x1024 .bf16) (x3 : FVec Ideal S2816x1024 .bf16)
  (x4 : FVec Ideal S4x3x5632 .f32) (x5 : FVec Ideal S4x5632 .f32)

/-- The host's sum over two axes of one element each. -/
theorem sum01 (h : (⟨3, ![1, 1, 5632]⟩ : Shape).ReducesTo [0, 1] ⟨1, ![5632]⟩) (x : (⟨3, ![1, 1, 5632]⟩ : Shape).Idx → EReal)
    (c : EReal) (n : Fin 5632) : Ideal.hostReduceAdd h x c (ix1 n) = c + x (ix3 0 0 n) := by
  have hv : ∀ i, (h.drop i 0 : Nat) = i 2 := fun i => Shape.ReducesTo.drop_apply_val h i 0
  unfold Ideal.hostReduceAdd
  refine congrArg (c + ·) (Finset.sum_eq_single (ix3 0 0 n) (fun i hi hne => (hne ?_).elim) (fun hi => (hi ?_).elim))
  · have e := (Finset.mem_filter.mp hi).2
    have h2 : (i 2).val = n.val := by rw [← hv i, e]; rfl
    rw [eq_ix3 i]
    exact congrArg₂ (fun (a b : Fin 1) => ix3 a b (i 2)) (Subsingleton.elim _ _) (Subsingleton.elim _ _) |>.trans
      (congrArg (ix3 0 0) (Fin.ext h2))
  · refine Finset.mem_filter.mpr ⟨Finset.mem_univ _, funext fun b => ?_⟩
    have hb : b = 0 := Subsingleton.elim _ _
    subst hb
    exact Fin.ext (hv _)

/-- The padded rows: two rows of zeros, then the gate half beside the value half. -/
theorem padded (p : Fin 4098) (n : Fin 5632) :
    val_main_v10 (F := Ideal) x0 x1 (ix3 0 p n)
      = if n.val < 2816 then ext (rd2 x0) (p + 6) n else ext (rd2 x1) (p + 6) (n - 2816) := by
  have hp := p.isLt
  pointwise [val_main_v10, val_main_v9, val_main_cst, val_main_v1, val_main_v0]
  simp only [rd2_ix, Fin.val_mk, dite_eq_ite]
  by_cases h2 : p.val < 2
  · simp only [if_pos h2, ext, if_pos (show p.val + 6 < 8 by omega), ite_self]
  · simp only [if_neg h2, ext, if_neg (show ¬p.val + 6 < 8 by omega), show p.val + 6 - 8 = p.val - 2 by omega]

theorem taps (k : Fin 3) (n : Fin 5632) : val_main_v6 (F := Ideal) x4 (ix2 k n) = rd3 x4 0 k n := by
  pointwise [val_main_v6, val_main_v5]
  exact rd3_ix x4 0 k n

theorem bias (n : Fin 5632) : val_main_v8 (F := Ideal) x5 (ix1 n) = rd2 x5 0 n := by
  pointwise [val_main_v8, val_main_v7]
  exact rd2_ix x5 0 n

theorem conved (r : Fin 4096) (n : Fin 5632) :
    val_main_v34 (F := Ideal) x0 x1 x4 x5 (ix3 0 r n)
      = if n.val < 2816 then (args x0 x1 x2 x3 x4 x5).gt r n else (args x0 x1 x2 x3 x4 x5).vl r (n - 2816) := by
  pointwise [val_main_v34, val_main_v33, val_main_v27, val_main_v20, val_main_v26, val_main_v17, val_main_v19, val_main_v18, val_main_v16,
   val_main_v15, val_main_v14, val_main_v13, val_main_v12, val_main_v25, val_main_v24, val_main_v23, val_main_v22, val_main_v21,
   val_main_v32, val_main_v31, val_main_v30, val_main_v29, val_main_v28]
  simp only [padded, taps, bias, Fin.val_mk]
  have e1 : 1 + r.val + 6 = r.val + 7 := by omega
  have e2 : 2 + r.val + 6 = r.val + 8 := by omega
  by_cases h : n.val < 2816
  · simp only [if_pos h, Args.gt, conv, args]
    simp only [mul_comm, e1, e2]
    rfl
  · have hn : 2816 + (n.val - 2816) = n.val := by omega
    simp only [if_neg h, Args.vl, Args.wv, Args.bv, conv, args, hn]
    simp only [mul_comm, e1, e2]
    rfl

theorem dprod (r : Fin 4096) (n : Fin 2816) :
    val_main_v62 (F := Ideal) x2 x3 (ix3 0 r n) = da (rd2 x2) (rd2 x3) r n := by
  pointwise [val_main_v62, val_main_v4, val_main_v3, val_main_v2]
  simp only [rd2_ix]
  rfl

theorem gate_raw (r : Fin 4096) (n : Fin 2816) :
    val_main_v35 (F := Ideal) x0 x1 x4 x5 (ix3 0 r n) = (args x0 x1 x2 x3 x4 x5).gt r n := by
  have hn := n.isLt
  pointwise [val_main_v35]
  rw [conved x0 x1 x2 x3 x4 x5, if_pos hn]

theorem value_raw (r : Fin 4096) (n : Fin 2816) :
    val_main_v36 (F := Ideal) x0 x1 x4 x5 (ix3 0 r n) = (args x0 x1 x2 x3 x4 x5).vl r n := by
  pointwise [val_main_v36]
  rw [conved x0 x1 x2 x3 x4 x5, if_neg (by simp), show 2816 + n.val - 2816 = n.val by omega]

theorem zgate_raw (r : Fin 4096) (n : Fin 2816) :
    val_main_v78 (F := Ideal) x0 x1 x2 x3 x4 x5 (ix3 0 r n)
      = zgateR (val_main_v35 (F := Ideal) x0 x1 x4 x5 (ix3 0 r n))
          (val_main_v62 (F := Ideal) x2 x3 (ix3 0 r n) * val_main_v36 (F := Ideal) x0 x1 x4 x5 (ix3 0 r n)) := by
  pointwise [val_main_v78, val_main_v77, val_main_v76, val_main_v75, val_main_v74, val_main_v73, val_main_v72, val_main_v71, val_main_v70,
    val_main_v69, val_main_v68, val_main_v67, val_main_v66, val_main_v65, val_main_v64, val_main_v58, val_main_v57, val_main_v56,
    val_main_v55, val_main_v54, val_main_v53, val_main_v52, val_main_v51, val_main_v50, val_main_v49, val_main_v48, val_main_v47,
    val_main_v46, val_main_v45, val_main_v44,
    val_main_v43, val_main_v42, val_main_v41, val_main_v40, val_main_v39, val_main_v38, val_main_v37,
    val_main_cst_1, val_main_cst_2, val_main_cst_3, val_main_cst_4, val_main_cst_5, val_main_cst_6, val_main_cst_7, val_main_cst_8,
    val_main_cst_9, val_main_cst_10, val_main_cst_11, val_main_cst_12, zgateR, Ffn.inner, thR]

theorem zvalue_raw (r : Fin 4096) (n : Fin 2816) :
    val_main_v63 (F := Ideal) x0 x1 x2 x3 x4 x5 (ix3 0 r n)
      = zvalR (val_main_v35 (F := Ideal) x0 x1 x4 x5 (ix3 0 r n)) (val_main_v62 (F := Ideal) x2 x3 (ix3 0 r n)) := by
  pointwise [val_main_v63, val_main_v59, val_main_v58, val_main_v57, val_main_v56,
    val_main_v55, val_main_v54, val_main_v53, val_main_v52, val_main_v51, val_main_v50, val_main_v49, val_main_v48, val_main_v47,
    val_main_v46, val_main_v45, val_main_v44,
    val_main_v43, val_main_v42, val_main_v41, val_main_v40, val_main_v39, val_main_v38, val_main_v37,
    val_main_cst_1, val_main_cst_2, val_main_cst_3, val_main_cst_4, val_main_cst_5, val_main_cst_6, val_main_cst_7, val_main_cst_8,
    zvalR, thR]

/-- The two gradients side by side, where the arguments are numbers. -/
theorem joined (h : (args x0 x1 x2 x3 x4 x5).Num) (r : Fin 4096) (n : Fin 5632) :
    val_main_v79 (F := Ideal) x0 x1 x2 x3 x4 x5 (ix3 0 r n)
      = if n.val < 2816 then (args x0 x1 x2 x3 x4 x5).zg r n else (args x0 x1 x2 x3 x4 x5).zv r (n - 2816) := by
  pointwise [val_main_v79]
  by_cases hn : n.val < 2816
  · rw [dif_pos hn, if_pos hn, zgate_raw, gate_raw x0 x1 x2 x3 x4 x5, value_raw x0 x1 x2 x3 x4 x5, dprod, ← h.zg]; rfl
  · rw [dif_neg hn, if_neg hn, zvalue_raw, gate_raw x0 x1 x2 x3 x4 x5, dprod, ← h.zv]; rfl

/-- The gradient of the hidden rows. -/
theorem input (h : (args x0 x1 x2 x3 x4 x5).Num) (r : Fin 4096) (n : Fin 5632) :
    val_main_v117 (F := Ideal) x0 x1 x2 x3 x4 x5 (ix2 r n)
      = if n.val < 2816 then (args x0 x1 x2 x3 x4 x5).dhg r n else (args x0 x1 x2 x3 x4 x5).dhv r (n - 2816) := by
  have hr := r.isLt
  pointwise [val_main_v117, val_main_v116, val_main_v115, val_main_v113, val_main_v112, val_main_v107, val_main_v106, val_main_v15,
    val_main_v14, val_main_v13, val_main_v99, val_main_v98, val_main_v88, val_main_v93, val_main_v92, val_main_v24, val_main_v23,
    val_main_v22, val_main_v84, val_main_v83, val_main_v31, val_main_v30, val_main_v29, val_main_cst_16, val_main_cst_20, val_main_cst_26]
  simp only [joined x0 x1 x2 x3 x4 x5 h, taps, Fin.val_mk, dite_eq_ite]
  have e1 : 2 + r.val - 1 = r.val + 1 := by omega
  have e2 : 2 + r.val = r.val + 2 := by omega
  have c1 : (1 ≤ 2 + r.val ∧ 2 + r.val - 1 < 4096) = (r.val + 1 < 4096) := propext (by omega)
  by_cases hn : n.val < 2816
  · simp only [if_pos hn, Args.dhg, dinp, cut, args, if_pos hr]
    simp only [c1]
    simp only [e1, e2, mul_ite, mul_zero]
    simp only [mul_comm]
    rfl
  · have hn' : 2816 + (n.val - 2816) = n.val := by omega
    simp only [if_neg hn, Args.dhv, dinp, cut, Args.wv, hn', args, if_pos hr]
    simp only [c1]
    simp only [e1, e2, mul_ite, mul_zero]
    simp only [mul_comm]
    rfl

/-- The gradients of taps and bias. -/
theorem rows (h : (args x0 x1 x2 x3 x4 x5).Num) (k : Fin 8) (n : Fin 5632) :
    val_main_v122 (F := Ideal) x0 x1 x2 x3 x4 x5 (ix2 k n)
      = if n.val < 2816 then (args x0 x1 x2 x3 x4 x5).dwg k n else (args x0 x1 x2 x3 x4 x5).dwv k (n - 2816) := by
  have hk := k.isLt
  pointwise [sum01, val_main_v122, val_main_v121, val_main_v120, val_main_v111, val_main_v97, val_main_v87, val_main_v86, val_main_v85, val_main_v82,
    val_main_v81, val_main_v80, val_main_v28, val_main_v96, val_main_v95, val_main_v94, val_main_v91, val_main_v90, val_main_v89, val_main_v21,
    val_main_v110, val_main_v109, val_main_v108, val_main_v105, val_main_v104, val_main_v103, val_main_v12, val_main_v102, val_main_v101, val_main_v100,
    val_main_cst_27, val_main_cst_13, val_main_cst_14, val_main_cst_15, val_main_cst_17, val_main_cst_18, val_main_cst_19, val_main_cst_21,
    val_main_cst_22, val_main_cst_23, val_main_cst_24, val_main_cst_25]
  simp only [joined x0 x1 x2 x3 x4 x5 h, padded, Fin.val_mk, dite_eq_ite]
  by_cases hn : n.val < 2816
  · simp only [if_pos hn, Args.dwg, drows, dtap, dbias]
    obtain ⟨k, hk⟩ := k
    dsimp only
    interval_cases k <;> simp <;> refine Finset.sum_congr rfl fun x _ => ?_ <;> rw [mul_comm] <;> congr 2 <;> omega
  · simp only [if_neg hn, Args.dwv, drows, dtap, dbias]
    obtain ⟨k, hk⟩ := k
    dsimp only
    interval_cases k <;> simp <;> refine Finset.sum_congr rfl fun x _ => ?_ <;> rw [mul_comm] <;> congr 2 <;> omega

end Cert.ReferenceIdeal.Rows
-- ==== Proof.RefArrays.lean ====
module

public import proofs.«01_k».proof.Proof.RefRows

/-!
# The reference's four results

Each of the reference's results, as a whole array, is the function of the arguments that Spec.lean names.
-/

@[expose] public section

set_option maxRecDepth 16384

noncomputable section

namespace Cert.ReferenceIdeal.Rows

open Idealize.ShloMosaic Idealize.ShloMosaic.Pointwise Cert.ReferenceIdeal Cert.ReferenceIdeal.Read Cert.Ffn

variable (x0 x1 : FVec Ideal S4096x2816 .f32) (x2 : FVec Ideal S4096x1024 .bf16) (x3 : FVec Ideal S2816x1024 .bf16)
  (x4 : FVec Ideal S4x3x5632 .f32) (x5 : FVec Ideal S4x5632 .f32) (h : (args x0 x1 x2 x3 x4 x5).Num)

include h

/-- The gradient of the gate's hidden rows. -/
theorem ref0 : val_main_v118 (F := Ideal) x0 x1 x2 x3 x4 x5
    = fun i : S4096x2816.Idx => (args x0 x1 x2 x3 x4 x5).dhg (i 0).val (i 1).val := by
  funext i
  idx_vars i
  pointwise [val_main_v118]
  rw [input x0 x1 x2 x3 x4 x5 h]
  simp

/-- The gradient of the value's hidden rows. -/
theorem ref1 : val_main_v119 (F := Ideal) x0 x1 x2 x3 x4 x5
    = fun i : S4096x2816.Idx => (args x0 x1 x2 x3 x4 x5).dhv (i 0).val (i 1).val := by
  funext i
  idx_vars i
  pointwise [val_main_v119]
  rw [input x0 x1 x2 x3 x4 x5 h]
  simp

/-- The gradients of the gate's taps and bias. -/
theorem ref2 : val_main_v123 (F := Ideal) x0 x1 x2 x3 x4 x5
    = fun i : S8x2816.Idx => (args x0 x1 x2 x3 x4 x5).dwg (i 0).val (i 1).val := by
  funext i
  idx_vars i
  pointwise [val_main_v123]
  rw [rows x0 x1 x2 x3 x4 x5 h]
  simp

/-- The gradients of the value's taps and bias. -/
theorem ref3 : val_main_v124 (F := Ideal) x0 x1 x2 x3 x4 x5
    = fun i : S8x2816.Idx => (args x0 x1 x2 x3 x4 x5).dwv (i 0).val (i 1).val := by
  funext i
  idx_vars i
  pointwise [val_main_v124]
  rw [rows x0 x1 x2 x3 x4 x5 h]
  simp

end Cert.ReferenceIdeal.Rows

end
-- ==== Proof.Pre.lean ====
module

public import proofs.«01_k».proof.Pre_finite
public import proofs.«01_k».proof.Proof.Gelu
public import Idealize.ShloMosaic.Lib.ReduceAll

/-!
# The precondition, read back

`finite` says of each of the six arguments that every entry's absolute value is less than infinity. Over the extended
reals that makes every entry a number (`Num`).
-/

@[expose] public section

set_option maxRecDepth 16384

noncomputable section

namespace Cert.Finite

open Idealize.ShloMosaic Cert.Pre_finite Cert.Ffn

/-- The side conditions of the precondition's operations. -/
theorem facts : Cert.Pre_finite.Facts where
  bcast_S_S4096x2816 := by decide
  reducesTo_S4096x2816_S_d0_1 := by decide
  h_S_ := by decide
  bitsLt_bf16_f32 := by decide
  bcast_S_S4096x1024 := by decide
  reducesTo_S4096x1024_S_d0_1 := by decide
  bcast_S_S2816x1024 := by decide
  reducesTo_S2816x1024_S_d0_1 := by decide
  bcast_S_S4x3x5632 := by decide
  reducesTo_S4x3x5632_S_d0_1_2 := by decide
  bcast_S_S4x5632 := by decide
  reducesTo_S4x5632_S_d0_1 := by decide

/-- An extended real whose absolute value compares less than infinity is a number. -/
theorem isNum_of_lt {x : EReal} (h : Ideal.cmp .olt (max x (-x)) (Ideal.ofBits .f32 0x7F800000#32) = 1#1) : IsNum x := by
  have htop : Ideal.ofBits .f32 0x7F800000#32 = ⊤ := by simp [Ideal.ofBits, Ideal.ieee]
  rw [htop] at h
  have hlt : max x (-x) < ⊤ := by
    by_contra hc
    simp [Ideal.cmp, hc] at h
  induction x with
  | bot => simp at hlt
  | top => simp at hlt
  | coe r => exact ⟨r, rfl⟩

instance : Subsingleton S_.Idx := ⟨fun a b => funext fun k => k.elim0⟩

variable [Cert.Pre_finite.Facts]

/-- Where the precondition holds, every entry of every argument is a number. -/
theorem num (x0 x1 : FVec Ideal S4096x2816 .f32) (x2 : FVec Ideal S4096x1024 .bf16) (x3 : FVec Ideal S2816x1024 .bf16)
    (x4 : FVec Ideal S4x3x5632 .f32) (x5 : FVec Ideal S4x5632 .f32)
    (h : Cert.Pre_finite.fn (F := Ideal) x0 x1 x2 x3 x4 x5 = fun _ => 1#1) : (args x0 x1 x2 x3 x4 x5).Num := by
  have e := congrFun h (fun k => k.elim0)
  dsimp only [fn, fn_part1] at e
  simp only [Idealize.ShloMosaic.andi, IntOp.andi_eq_one] at e
  obtain ⟨⟨⟨⟨⟨h0, h1⟩, h2⟩, h3⟩, h4⟩, h5⟩ := e
  have n0 : ∀ i, IsNum (x0 i) := fun i => isNum_of_lt (Host.reduce_andi_all _ _ _ _ _ h0 i)
  have n1 : ∀ i, IsNum (x1 i) := fun i => isNum_of_lt (Host.reduce_andi_all _ _ _ _ _ h1 i)
  have n2 : ∀ i, IsNum (x2 i) := fun i => isNum_of_lt (Host.reduce_andi_all _ _ _ _ _ h2 i)
  have n3 : ∀ i, IsNum (x3 i) := fun i => isNum_of_lt (Host.reduce_andi_all _ _ _ _ _ h3 i)
  have n4 : ∀ i, IsNum (x4 i) := fun i => isNum_of_lt (Host.reduce_andi_all _ _ _ _ _ h4 i)
  have n5 : ∀ i, IsNum (x5 i) := fun i => isNum_of_lt (Host.reduce_andi_all _ _ _ _ _ h5 i)
  exact ⟨IsNum.rd2 n0, IsNum.rd2 n1, IsNum.rd2 n2, IsNum.rd2 n3, IsNum.rd3 n4 0, IsNum.rd2 n5 0⟩

end Cert.Finite

end
-- ==== Proof.Rms.lean ====
module

public import proofs.«01_k».proof.Proof.Spec

/-! The gradient of the RMS norm of rows of 1024 numbers, over arrays read at natural numbers: `x` are the rows, `g` the
gains, `dh` the gradient that reaches the norm's output. -/

@[expose] public section

noncomputable section

open Idealize.ShloMosaic

namespace Cert.Rms

/-- The word that both programs hold for 1e-6. -/
abbrev eps : EReal := Ideal.ofBits FTy.f32 0x358637BD#32
/-- The number of entries of a row, 1024. -/
abbrev count : EReal := Ideal.ofBits FTy.f32 0x44800000#32
/-- Minus a half. -/
abbrev negHalf : EReal := Ideal.ofBits FTy.f32 0xBF000000#32

/-- The mean square of row `r`, with epsilon added. -/
def sq (x : ℕ → ℕ → EReal) (r : ℕ) : EReal := Ideal.div (∑ j : Fin 1024, x r j * x r j) count + eps

/-- What the norm multiplies row `r` by. -/
def inv (x : ℕ → ℕ → EReal) (r : ℕ) : EReal := Ideal.rsqrt (sq x r)

/-- The normed rows, times the gains. -/
def normed (x : ℕ → ℕ → EReal) (g : ℕ → EReal) (r n : ℕ) : EReal := x r n * inv x r * g n

/-- The gradient through the mean square, of one of the two factors of each square. -/
def pull (x dh : ℕ → ℕ → EReal) (g : ℕ → EReal) (r : ℕ) : EReal :=
  Ideal.div ((∑ j : Fin 1024, x r j * (dh r j * g j)) * (negHalf * Ideal.div (inv x r) (sq x r))) count

/-- The gradient of the norm's input: through the product with `inv`, and through the two factors of the squares. -/
def dinp (x dh : ℕ → ℕ → EReal) (g : ℕ → EReal) (r n : ℕ) : EReal :=
  dh r n * g n * inv x r + x r n * pull x dh g r + pull x dh g r * x r n

/-- The gradient of gain `n`: the sum over the rows. -/
def dgain (x dh : ℕ → ℕ → EReal) (n : ℕ) : EReal := ∑ r : Fin 4096, x r n * inv x r * dh r n

variable {x x' dh dh' : ℕ → ℕ → EReal} {g g' : ℕ → EReal} {q r : ℕ}

/-- A row of one array that is a row of another has the same multiplier. -/
theorem sq_congr (hx : ∀ j : Fin 1024, x q j = x' r j) : sq x q = sq x' r := by
  simp only [sq, hx]

theorem inv_congr (hx : ∀ j : Fin 1024, x q j = x' r j) : inv x q = inv x' r := by
  rw [inv, inv, sq_congr hx]

/-- A normed row depends on that row alone. -/
theorem normed_congr (hx : ∀ j : Fin 1024, x q j = x' r j) (hg : ∀ j : Fin 1024, g j = g' j) (n : Fin 1024) :
    normed x g q n = normed x' g' r n := by
  rw [normed, normed, hx, hg, inv_congr hx]

/-- The gradient of a row depends on that row alone. -/
theorem dinp_congr (hx : ∀ j : Fin 1024, x q j = x' r j) (hd : ∀ j : Fin 1024, dh q j = dh' r j)
    (hg : ∀ j : Fin 1024, g j = g' j) (n : Fin 1024) : dinp x dh g q n = dinp x' dh' g' r n := by
  have hp : pull x dh g q = pull x' dh' g' r := by
    simp only [pull, hx, hd, hg, inv_congr hx, sq_congr hx]
  simp only [dinp, hp, hx, hd, hg, inv_congr hx]

/-- So does its part of the gradient of the gains. -/
theorem part_congr (hx : ∀ j : Fin 1024, x q j = x' r j) (hd : ∀ j : Fin 1024, dh q j = dh' r j) (n : Fin 1024) :
    x q n * inv x q * dh q n = x' r n * inv x' r * dh' r n := by
  rw [hx, hd, inv_congr hx]

end Cert.Rms
-- ==== Proof.UpX.lean ====
module

public import proofs.«01_k».proof.Proof.Gen.Kernel2Ideal.Value
public import proofs.«01_k».proof.Proof.Rms
public import Idealize.ShloMosaic.Lib.Pipeline.ValueKit
public import Idealize.ShloMosaic.Lib.Pipeline.ReadBack

/-! The gradient through the product with `w_up` and the RMS norm before it: what the kernel's three result arrays hold. -/

@[expose] public section

set_option maxRecDepth 16384

noncomputable section

open Idealize.ShloMosaic Idealize.ShloMosaic.TcCoe Idealize.SL.Sem
open Idealize.ShloMosaic.Pipeline (Dat)

namespace Cert.UpX

open Cert.Ffn

/-- The gradient that reaches the norm's output: both halves of the hidden columns times their halves of the weights. -/
def dh (a b w v : ℕ → ℕ → EReal) (r n : ℕ) : EReal := ∑ k : Fin 2816, a r k * w k n + ∑ k : Fin 2816, b r k * v k n

/-- The arguments read at numbers: the two gradients of the hidden rows, the two halves of the weights, the rows, the
gains of the layer, and the gradient that skips the block. -/
structure Args where
  a : ℕ → ℕ → EReal
  b : ℕ → ℕ → EReal
  w : ℕ → ℕ → EReal
  v : ℕ → ℕ → EReal
  x : ℕ → ℕ → EReal
  g : ℕ → EReal
  d : ℕ → ℕ → EReal

def Args.dh (A : Args) : ℕ → ℕ → EReal := UpX.dh A.a A.b A.w A.v
/-- The gradient of the rows. -/
def Args.dx (A : Args) (r n : ℕ) : EReal := A.d r n + Rms.dinp A.x A.dh A.g r n
/-- The gradient of the gains. -/
def Args.dg (A : Args) (n : ℕ) : EReal := Rms.dgain A.x A.dh n

/-- The arguments from the arrays; the gains are the last layer's. -/
def args (x0 x1 : (⟨2, ![4096, 2816]⟩ : Shape).Idx → EReal) (x2 : (⟨2, ![5632, 1024]⟩ : Shape).Idx → EReal)
    (x3 : (⟨2, ![4096, 1024]⟩ : Shape).Idx → EReal) (x4 : (⟨2, ![4, 1024]⟩ : Shape).Idx → EReal)
    (x5 : (⟨2, ![4096, 1024]⟩ : Shape).Idx → EReal) : Args :=
  ⟨rd2 x0, rd2 x1, rd2 x2, fun k => rd2 x2 (2816 + k), rd2 x3, rd2 x4 3, rd2 x5⟩

end Cert.UpX

namespace Cert.Kernel2Ideal.Value

open Cert.Kernel2Ideal Cert.Kernel2Ideal.Gen Cert.Ffn

section Tile

variable (a : FVec Ideal S256x2816 .bf16) (w : FVec Ideal S1x2816x1024 .bf16) (b : FVec Ideal S256x2816 .bf16)
  (v : FVec Ideal S1x2816x1024 .bf16) (x d : FVec Ideal S256x1024 .f32) (g : FVec Ideal S1x1x1024 .f32)
  (p : Fin 256) (n : Fin 1024)

theorem sq_tile (k : Fin 1) : k0_pay7 (F := Ideal) x (ix2 p k) = Rms.sq (rd2 x) p := by
  pointwise [k0_pay7]
  simp only [rd2_ix, Rms.sq]

theorem inv_tile (k : Fin 1) : k0_pay8 (F := Ideal) x (ix2 p k) = Rms.inv (rd2 x) p := by
  pointwise [k0_pay8]
  rw [sq_tile, Rms.inv]

theorem dh_tile : k0_pay6 (F := Ideal) a w b v (ix2 p n) = UpX.dh (rd2 a) (rd2 b) (rd3 w 0) (rd3 v 0) p n := by
  pointwise [k0_pay6]
  simp only [rd2_ix, rd3_ix, UpX.dh]
  rfl

/-- A tile's rows of the gradient. -/
theorem dx_tile : k0_pay2 (F := Ideal) x (k0_pay11 a w b v x g) (k0_pay12 a w b v x g) d (ix2 p n)
    = rd2 d p n + Rms.dinp (rd2 x) (UpX.dh (rd2 a) (rd2 b) (rd3 w 0) (rd3 v 0)) (rd3 g 0 0) p n := by
  pointwise [k0_pay2, k0_pay1, k0_pay11, k0_pay12, k0_pay10]
  simp only [sq_tile, inv_tile, dh_tile]
  simp only [rd2_ix, rd3_ix, Fin.sum_univ_one, Rms.dinp, Rms.pull]
  rfl

theorem dxb_tile : k0_pay3 (F := Ideal) x (k0_pay11 a w b v x g) (k0_pay12 a w b v x g) d (ix2 p n)
    = rd2 d p n + Rms.dinp (rd2 x) (UpX.dh (rd2 a) (rd2 b) (rd3 w 0) (rd3 v 0)) (rd3 g 0 0) p n := by
  rw [← dx_tile]
  pointwise [k0_pay3, k0_pay2]

/-- A tile's part of the gradient of the gains, added to what was there. -/
theorem dg_tile (y : FVec Ideal S1x1024 .f32) (k : Fin 1) : k0_pay5 (F := Ideal) (k0_pay9 a w b v x) y (ix2 k n)
    = y (ix2 k n) + ∑ q : Fin 256, rd2 x q n * Rms.inv (rd2 x) q * UpX.dh (rd2 a) (rd2 b) (rd3 w 0) (rd3 v 0) q n := by
  pointwise [k0_pay5, k0_pay9]
  simp only [inv_tile, dh_tile]
  simp only [rd2_ix]

end Tile

variable (m : (ℓ : Loc nD τ sig) → Buf (Elt Ideal) ℓ)

/-- The arguments in memory. -/
def A (c : Dev nD) : UpX.Args := UpX.args (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5))

/-- Point `t` takes row tile `t`; the weights and the gains are whole. -/
theorem idx : ∀ t : Fin cfg0.N, win0_0.index t = ![t.val, 0] ∧ win0_1.index t = ![0, 0, 0] ∧ win0_2.index t = ![t.val, 0]
    ∧ win0_3.index t = ![3, 0, 0] ∧ win0_4.index t = ![t.val, 0] ∧ win0_5.index t = ![t.val, 0] ∧ win0_6.index t = ![1, 0, 0]
    ∧ win0_7.index t = ![t.val, 0] ∧ win0_8.index t = ![t.val, 0] ∧ win0_9.index t = ![0, 0] ∧ t.val < 16 :=
  (by decide +kernel : ∀ t : Fin grid0.N, _)

variable (c : Dev nD) (t : Fin cfg0.N)

theorem blk0 (q : Fin 256) (k : Fin 2816) : iblk m c 0 t (ix2 q k) = (A m c).a (256 * t.val + q) k := by
  have hj := (idx t).2.2.2.2.2.2.2.2.2.2
  show _ = rd2 _ _ _
  rw [rd2, dif_pos ⟨by omega, by omega⟩]
  blk_ext [iblk, V, idx t]

theorem blk1 (q : Fin 2816) (k : Fin 1024) : iblk m c 1 t (ix3 0 q k) = (A m c).w q k := by
  show _ = rd2 _ (q.val) _
  rw [rd2, dif_pos ⟨by omega, by omega⟩]
  blk_simp [iblk]
  entry_read
  pointwise
  blk_ext [V, idx t]

theorem blk2 (q : Fin 256) (k : Fin 1024) : iblk m c 2 t (ix2 q k) = (A m c).x (256 * t.val + q) k := by
  have hj := (idx t).2.2.2.2.2.2.2.2.2.2
  show _ = rd2 _ _ _
  rw [rd2, dif_pos ⟨by omega, by omega⟩]
  blk_ext [iblk, V, idx t]

theorem blk3 (k : Fin 1024) : iblk m c 3 t (ix3 0 0 k) = (A m c).g k := by
  show _ = rd2 _ 3 _
  rw [rd2, dif_pos ⟨by omega, by omega⟩]
  blk_simp [iblk]
  entry_read
  pointwise
  blk_ext [V, idx t]

theorem blk4 (q : Fin 256) (k : Fin 1024) : iblk m c 4 t (ix2 q k) = (A m c).d (256 * t.val + q) k := by
  have hj := (idx t).2.2.2.2.2.2.2.2.2.2
  show _ = rd2 _ _ _
  rw [rd2, dif_pos ⟨by omega, by omega⟩]
  blk_ext [iblk, V, idx t]

theorem blk5 (q : Fin 256) (k : Fin 2816) : iblk m c 5 t (ix2 q k) = (A m c).b (256 * t.val + q) k := by
  have hj := (idx t).2.2.2.2.2.2.2.2.2.2
  show _ = rd2 _ _ _
  rw [rd2, dif_pos ⟨by omega, by omega⟩]
  blk_ext [iblk, V, idx t]

theorem blk6 (q : Fin 2816) (k : Fin 1024) : iblk m c 6 t (ix3 0 q k) = (A m c).v q k := by
  show _ = rd2 _ (2816 + q.val) _
  rw [rd2, dif_pos ⟨by omega, by omega⟩]
  blk_simp [iblk]
  entry_read
  pointwise
  blk_ext [V, idx t]

/-- The gradient that reaches the norm's output at a point's rows. -/
def dht : ℕ → ℕ → EReal := UpX.dh (rd2 (iblk m c 0 t)) (rd2 (iblk m c 5 t)) (rd3 (iblk m c 1 t) 0) (rd3 (iblk m c 6 t) 0)

theorem dht_at (q : Fin 256) (n : Fin 1024) : dht m c t q n = (A m c).dh (256 * t.val + q) n := by
  unfold dht UpX.Args.dh UpX.dh
  refine congrArg₂ (· + ·) (Finset.sum_congr rfl fun k _ => congrArg₂ (· * ·) ?_ ?_)
    (Finset.sum_congr rfl fun k _ => congrArg₂ (· * ·) ?_ ?_)
  · rw [← rd2_ix]; exact blk0 m c t q k
  · exact (rd3_ix (iblk m c 1 t) 0 k n).symm.trans (blk1 m c t k n)
  · rw [← rd2_ix]; exact blk5 m c t q k
  · exact (rd3_ix (iblk m c 6 t) 0 k n).symm.trans (blk6 m c t k n)

theorem x_at (q : Fin 256) (n : Fin 1024) : rd2 (iblk m c 2 t) q n = (A m c).x (256 * t.val + q) n := by
  rw [← rd2_ix]; exact blk2 m c t q n

theorem g_at (n : Fin 1024) : rd3 (iblk m c 3 t) 0 0 n = (A m c).g n := by
  refine Eq.trans ?_ (blk3 m c t n)
  exact (rd3_ix (iblk m c 3 t) 0 0 n).symm

/-- A tile's rows, in the array's own rows. -/
theorem tile_at (q : Fin 256) (n : Fin 1024) :
    rd2 (iblk m c 4 t) q n + Rms.dinp (rd2 (iblk m c 2 t)) (dht m c t) (rd3 (iblk m c 3 t) 0 0) q n
      = (A m c).dx (256 * t.val + q) n := by
  refine congrArg₂ (· + ·) ?_ (Rms.dinp_congr (x_at m c t q) (dht_at m c t q) (g_at m c t) n)
  rw [← rd2_ix]; exact blk4 m c t q n

theorem dx_row (q : Fin 256) (n : Fin 1024) :
    (outsAt0 m c t.val t.isLt).1 (ix2 q n) = (A m c).dx (256 * t.val + q) n := by
  rw [← tile_at]
  by_cases h : t.val % 16 = 0
  · rw [outsAt0_A m c t h]; frame_out; exact dx_tile _ _ _ _ _ _ _ q n
  · rw [outsAt0_B m c t h]; frame_out; exact dx_tile _ _ _ _ _ _ _ q n

theorem dxb_row (q : Fin 256) (n : Fin 1024) :
    (outsAt0 m c t.val t.isLt).2.1 (ix2 q n) = (A m c).dx (256 * t.val + q) n := by
  rw [← tile_at]
  by_cases h : t.val % 16 = 0
  · rw [outsAt0_A m c t h]; frame_out; exact dxb_tile _ _ _ _ _ _ _ q n
  · rw [outsAt0_B m c t h]; frame_out; exact dxb_tile _ _ _ _ _ _ _ q n

/-- A point's part of the gradient of the gains. -/
def part (n : ℕ) : EReal := ∑ q : Fin 256, rd2 (iblk m c 2 t) q n * Rms.inv (rd2 (iblk m c 2 t)) q * dht m c t q n

theorem dg_A (h : t.val % 16 = 0) (k : Fin 1) (n : Fin 1024) :
    (outsAt0 m c t.val t.isLt).2.2 (ix2 k n) = 0 + part m c t n := by
  rw [outsAt0_A m c t h]; frame_out
  exact (dg_tile _ _ _ _ _ n _ k).trans (congrArg (· + _) (by pointwise [k0_pay4]))

theorem dg_B (h : ¬t.val % 16 = 0) (k : Fin 1) (n : Fin 1024) :
    (outsAt0 m c t.val t.isLt).2.2 (ix2 k n)
      = (outsAt0 m c (t.val - 1) (Nat.lt_of_le_of_lt (Nat.sub_le _ _) t.isLt)).2.2 (ix2 k n) + part m c t n := by
  rw [outsAt0_B m c t h]; frame_out
  exact dg_tile _ _ _ _ _ n _ k

theorem dg_at (h : t.val % 16 = 15) (k : Fin 1) (n : Fin 1024) :
    (outsAt0 m c t.val t.isLt).2.2 (ix2 k n) = (A m c).dg n := by
  rw [Pipeline.eq_sum_fin_of_reset_step_apply_of_flush (fun n h => (outsAt0 m c n h).2.2) 16 (fun _ => 0)
    (fun t i => part m c t (i 1).val)
    (fun t h i => by rw [← ix2_eta i]; exact dg_A m c t h _ _)
    (fun t h i => by rw [← ix2_eta i]; exact dg_B m c t h _ _) t h _, zero_add]
  have ht := (idx t).2.2.2.2.2.2.2.2.2.2
  unfold UpX.Args.dg Rms.dgain
  refine Fin.sum_mul_add_congr fun s q _ => ?_
  refine (Rms.part_congr (x_at m c _ q) (dht_at m c _ q) n).trans ?_
  have hs := s.isLt
  simp only [show 256 * (16 * (t.val / 16) + s.val) + q.val = s.val * 256 + q.val by omega]

/-- The gradient of the rows. -/
theorem final7 : (dats m 0 c).arrAt 7 cfg0.N = fun i : S4096x1024.Idx => (A m c).dx (i 0).val (i 1).val := by
  refine (dats m 0 c).arrAt_eq_of_covers 7 _ (by decide +kernel) fun t hf y => ?_
  blk_simp
  rw [after0_7, (idx t).2.2.2.2.2.2.2.1]
  obtain ⟨q, n, rfl⟩ : ∃ (q : Fin 256) (n : Fin 1024), y = ix2 q n := ⟨y 0, y 1, eq_ix2 y⟩
  exact (dx_row m c t q n).trans (congrArg₂ (A m c).dx (congrArg (· + q.val) (Nat.mul_comm _ _)) (Nat.zero_add _).symm)

/-- The same, narrowed to bf16. -/
theorem final8 : (dats m 0 c).arrAt 8 cfg0.N = fun i : S4096x1024.Idx => (A m c).dx (i 0).val (i 1).val := by
  refine (dats m 0 c).arrAt_eq_of_covers 8 _ (by decide +kernel) fun t hf y => ?_
  blk_simp
  rw [after0_8, (idx t).2.2.2.2.2.2.2.2.1]
  obtain ⟨q, n, rfl⟩ : ∃ (q : Fin 256) (n : Fin 1024), y = ix2 q n := ⟨y 0, y 1, eq_ix2 y⟩
  exact (dxb_row m c t q n).trans (congrArg₂ (A m c).dx (congrArg (· + q.val) (Nat.mul_comm _ _)) (Nat.zero_add _).symm)

/-- The gradient of the gains. -/
theorem final9 : (dats m 0 c).arrAt 9 cfg0.N = fun i : S1x1024.Idx => (A m c).dg (i 1).val := by
  refine (dats m 0 c).arrAt_eq_of_covers 9 _ (by decide +kernel) fun t hf y => ?_
  blk_simp
  rw [after0_9, (idx t).2.2.2.2.2.2.2.2.2.1]
  obtain ⟨k, n, rfl⟩ : ∃ (k : Fin 1) (n : Fin 1024), y = ix2 k n := ⟨y 0, y 1, eq_ix2 y⟩
  exact (dg_at m c t ((flush0_9 t).mp hf) k n).trans (congrArg (A m c).dg (Nat.zero_add _).symm)

end Cert.Kernel2Ideal.Value

end
-- ==== Proof.UpXRef.lean ====
module

public import proofs.«01_k».proof.Proof.Gen.Reference2Ideal.Run
public import proofs.«01_k».proof.Proof.Gen.Reference2Ideal.Read
public import proofs.«01_k».proof.Proof.UpX

/-! The gradient through the product with `w_up` and the RMS norm before it: what the reference's three results are. -/

@[expose] public section

set_option maxRecDepth 16384

noncomputable section

open Idealize.ShloMosaic Idealize.ShloMosaic.Pointwise

namespace Cert.Reference2Ideal.Rows

open Cert.Reference2Ideal Cert.Reference2Ideal.Read Cert.Ffn

variable (x0 x1 : FVec Ideal S4096x2816 .bf16) (x2 : FVec Ideal S5632x1024 .bf16) (x3 : FVec Ideal S4096x1024 .f32)
  (x4 : FVec Ideal S4x1024 .f32) (x5 : FVec Ideal S4096x1024 .f32) (p : Fin 4096) (n : Fin 1024)

theorem sq_row (k : Fin 1) : val_main_v12 (F := Ideal) x3 (ix2 p k) = Rms.sq (rd2 x3) p := by
  pointwise [val_main_v12, val_main_v11, val_main_v10, val_main_v9, val_main_v8, val_main_v7, val_main_v6, val_main_cst, val_main_cst_0, val_main_cst_1]
  simp only [rd2_ix, Rms.sq]

theorem inv_row (k : Fin 1) : val_main_v13 (F := Ideal) x3 (ix2 p k) = Rms.inv (rd2 x3) p := by
  pointwise [val_main_v13]
  rw [sq_row, Rms.inv]

theorem dh_row : val_main_v23 (F := Ideal) x0 x1 x2 (ix2 p n) = UpX.dh (rd2 x0) (rd2 x1) (rd2 x2) (fun k => rd2 x2 (2816 + k)) p n := by
  pointwise [val_main_v23, val_main_v3, val_main_v2, val_main_v1, val_main_v0]
  simp only [rd2_ix, UpX.dh]

theorem dx_row : val_main_v44 (F := Ideal) x0 x1 x2 x3 x4 x5 (ix2 p n) = (UpX.args x0 x1 x2 x3 x4 x5).dx p n := by
  pointwise [val_main_v44, val_main_v43, val_main_v42, val_main_v41, val_main_v40, val_main_v39, val_main_v38, val_main_v37,
    val_main_v36, val_main_v35, val_main_v34, val_main_v33, val_main_v32, val_main_v31, val_main_v30, val_main_v28,
    val_main_v27, val_main_v19, val_main_v5, val_main_v4, val_main_v16, val_main_v15, val_main_v14, val_main_cst_2,
    val_main_cst_5, val_main_cst_6, val_main_cst_7]
  simp only [sq_row, inv_row, dh_row]
  simp only [rd2_ix, Fin.sum_univ_one, UpX.Args.dx, UpX.args, UpX.Args.dh, Rms.dinp, Rms.pull]
  simp only [add_assoc]
  rfl

/-- The gradient of the rows. -/
theorem ref0 : val_main_v44 (F := Ideal) x0 x1 x2 x3 x4 x5
    = fun i : S4096x1024.Idx => (UpX.args x0 x1 x2 x3 x4 x5).dx (i 0).val (i 1).val := by
  funext i
  idx_vars i
  exact dx_row x0 x1 x2 x3 x4 x5 _ _

/-- The same, narrowed to bf16. -/
theorem ref1 : val_main_v45 (F := Ideal) x0 x1 x2 x3 x4 x5
    = fun i : S4096x1024.Idx => (UpX.args x0 x1 x2 x3 x4 x5).dx (i 0).val (i 1).val := by
  funext i
  idx_vars i
  refine Eq.trans ?_ (dx_row x0 x1 x2 x3 x4 x5 _ _)
  pointwise [val_main_v45]

/-- The gradient of the gains. -/
theorem ref2 : val_main_v46 (F := Ideal) x0 x1 x2 x3
    = fun i : S1x1024.Idx => (UpX.args x0 x1 x2 x3 x4 x5).dg (i 1).val := by
  funext i
  idx_vars i
  pointwise [val_main_v46, val_main_v29, val_main_v26, val_main_v25, val_main_v24, val_main_v18, val_main_v17, val_main_cst_3,
    val_main_cst_4]
  simp only [inv_row, dh_row]
  simp only [rd2_ix, Fin.sum_univ_one]
  rfl

end Cert.Reference2Ideal.Rows

end
-- ==== Proof.UpXClaim.lean ====
module

public import proofs.«01_k».proof.Defs
public import proofs.«01_k».proof.Proof.Gen.Kernel2
public import proofs.«01_k».proof.Proof.Gen.Kernel2.Frame
public import proofs.«01_k».proof.Proof.UpX
public import proofs.«01_k».proof.Proof.UpXRef

/-! The gradient through the product with `w_up` and the RMS norm before it: the ideal kernel and the ideal reference end with the same arrays, and the reference's frame. -/

@[expose] public section

set_option maxRecDepth 16384

noncomputable section

namespace Cert.Reference2Ideal

open Idealize.ShloMosaic Idealize.SL.Sem

variable (m' : (ℓ : Loc Cert.Reference2Ideal.nD Cert.Reference2Ideal.τ Cert.Reference2Ideal.sig) → Buf (Elt Ideal) ℓ)
  (m : (ℓ : Loc Cert.Kernel2Ideal.nD Cert.Kernel2Ideal.τ Cert.Kernel2Ideal.sig) → Buf (Elt Ideal) ℓ)

/-- The reference's arguments. -/
def refArgs (c : Dev Cert.Reference2Ideal.nD) : Cert.UpX.Args :=
  Cert.UpX.args (m' ((c.tc : Thread Cert.Reference2Ideal.nD Cert.Reference2Ideal.τ).loc Cert.Reference2Ideal.main_arg0))
    (m' ((c.tc : Thread Cert.Reference2Ideal.nD Cert.Reference2Ideal.τ).loc Cert.Reference2Ideal.main_arg1))
    (m' ((c.tc : Thread Cert.Reference2Ideal.nD Cert.Reference2Ideal.τ).loc Cert.Reference2Ideal.main_arg2))
    (m' ((c.tc : Thread Cert.Reference2Ideal.nD Cert.Reference2Ideal.τ).loc Cert.Reference2Ideal.main_arg3))
    (m' ((c.tc : Thread Cert.Reference2Ideal.nD Cert.Reference2Ideal.τ).loc Cert.Reference2Ideal.main_arg4))
    (m' ((c.tc : Thread Cert.Reference2Ideal.nD Cert.Reference2Ideal.τ).loc Cert.Reference2Ideal.main_arg5))

/-- Where the memories agree on the arguments, any function of the arguments is the same on both sides. -/
theorem args_eq (hagree : ∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5))
    (c : Dev Cert.Kernel2Ideal.nD) {α : Type} (f : Cert.UpX.Args → α) : f (refArgs m' c) = f (Cert.Kernel2Ideal.Value.A m c) := by
  obtain ⟨h0, h1, h2, h3, h4, h5⟩ := hagree c
  unfold refArgs
  rw [h0, h1, h2, h3, h4, h5]
  rfl

/-- The two programs end with the same arrays. -/
theorem algebraic : Cert.algebraic_Kernel2Ideal_Reference2Ideal (hKernel2Ideal := Cert.Kernel2Ideal.Gen.facts)
    (hReference2Ideal := Cert.Reference2Ideal.Gen.facts) := by
  pair_intro
  · run_from Cert.Kernel2Ideal.Gen.run_main m g
  · run_from Cert.Reference2Ideal.Value.run m' g'
    · exact (Read.val_main_v44_eq _ _).trans ((Rows.ref0 (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5))).trans ((args_eq m' m hagree c (fun A => fun i : Cert.Kernel2Ideal.S4096x1024.Idx => A.dx (i 0).val (i 1).val)).trans (Cert.Kernel2Ideal.Value.final7 m c).symm))
    · exact (Read.val_main_v45_eq _ _).trans ((Rows.ref1 (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5))).trans ((args_eq m' m hagree c (fun A => fun i : Cert.Kernel2Ideal.S4096x1024.Idx => A.dx (i 0).val (i 1).val)).trans (Cert.Kernel2Ideal.Value.final8 m c).symm))
    · exact (Read.val_main_v46_eq _ _ _ _).trans ((Rows.ref2 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).trans (Cert.Kernel2Ideal.Value.final9 m c).symm)

/-- The reference runs, leaves its arguments as they were, and has no semaphore. -/
theorem frame : Cert.quiescent_Reference2Ideal (hReference2Ideal := Cert.Reference2Ideal.Gen.facts) := fun m ρ _ =>
  (θ_run Cert.Reference2Ideal.defs _ _).mono (fun r h => And.intro
      (fun c => (h c).2.2.2) (Idealize.ShloMosaic.sem_eq_zero_of_no_sems (by decide) r.2))
    (Cert.Reference2Ideal.Value.run (F := Ideal) m ρ)

end Cert.Reference2Ideal

end
-- ==== Proof.InX.lean ====
module

public import proofs.«01_k».proof.Proof.Gen.Kernel3Ideal.Value
public import proofs.«01_k».proof.Proof.Rms
public import Idealize.ShloMosaic.Lib.Pipeline.ValueKit
public import Idealize.ShloMosaic.Lib.Pipeline.ReadBack

/-! The gradient through the product with `w_in` and the RMS norm before it: what the kernel's three result arrays hold. -/

@[expose] public section

set_option maxRecDepth 16384

noncomputable section

open Idealize.ShloMosaic Idealize.ShloMosaic.TcCoe Idealize.SL.Sem
open Idealize.ShloMosaic.Pipeline (Dat)

namespace Cert.InX

open Cert.Ffn

/-- The gradient that reaches the norm's output: the gradient of the projected rows times the weights. -/
def dh (a w : ℕ → ℕ → EReal) (r n : ℕ) : EReal := ∑ k : Fin 2304, a r k * w k n

/-- The arguments read at numbers: the gradient of the projected rows, the weights, the rows, the gains of the layer, and the gradient that skips the block. -/
structure Args where
  a : ℕ → ℕ → EReal
  w : ℕ → ℕ → EReal
  x : ℕ → ℕ → EReal
  g : ℕ → EReal
  d : ℕ → ℕ → EReal

def Args.dh (A : Args) : ℕ → ℕ → EReal := InX.dh A.a A.w
/-- The gradient of the rows. -/
def Args.dx (A : Args) (r n : ℕ) : EReal := A.d r n + Rms.dinp A.x A.dh A.g r n
/-- The gradient of the gains. -/
def Args.dg (A : Args) (n : ℕ) : EReal := Rms.dgain A.x A.dh n

/-- The arguments from the arrays; the gains are the last layer's. -/
def args (x0 : (⟨2, ![4096, 2304]⟩ : Shape).Idx → EReal) (x1 : (⟨2, ![2304, 1024]⟩ : Shape).Idx → EReal)
    (x2 : (⟨2, ![4096, 1024]⟩ : Shape).Idx → EReal) (x3 : (⟨2, ![4, 1024]⟩ : Shape).Idx → EReal)
    (x4 : (⟨2, ![4096, 1024]⟩ : Shape).Idx → EReal) : Args :=
  ⟨rd2 x0, rd2 x1, rd2 x2, rd2 x3 3, rd2 x4⟩

end Cert.InX

namespace Cert.Kernel3Ideal.Value

open Cert.Kernel3Ideal Cert.Kernel3Ideal.Gen Cert.Ffn

section Tile

variable (a : FVec Ideal S512x2304 .bf16) (w : FVec Ideal S2304x1024 .bf16) (x d : FVec Ideal S512x1024 .f32)
  (g : FVec Ideal S1x1x1024 .f32) (p : Fin 512) (n : Fin 1024)

theorem sq_tile (k : Fin 1) : k0_pay7 (F := Ideal) x (ix2 p k) = Rms.sq (rd2 x) p := by
  pointwise [k0_pay7]
  simp only [rd2_ix, Rms.sq]

theorem inv_tile (k : Fin 1) : k0_pay8 (F := Ideal) x (ix2 p k) = Rms.inv (rd2 x) p := by
  pointwise [k0_pay8]
  rw [sq_tile, Rms.inv]

theorem dh_tile : k0_pay6 (F := Ideal) a w (ix2 p n) = InX.dh (rd2 a) (rd2 w) p n := by
  pointwise [k0_pay6]
  simp only [rd2_ix, InX.dh]

/-- A tile's rows of the gradient. -/
theorem dx_tile : k0_pay2 (F := Ideal) (k0_pay10 a w x g) d (ix2 p n)
    = rd2 d p n + Rms.dinp (rd2 x) (InX.dh (rd2 a) (rd2 w)) (rd3 g 0 0) p n := by
  pointwise [k0_pay2, k0_pay1, k0_pay10]
  simp only [sq_tile, inv_tile, dh_tile]
  simp only [rd2_ix, rd3_ix, Fin.sum_univ_one, Rms.dinp, Rms.pull]
  rfl

theorem dxb_tile : k0_pay3 (F := Ideal) (k0_pay10 a w x g) d (ix2 p n)
    = rd2 d p n + Rms.dinp (rd2 x) (InX.dh (rd2 a) (rd2 w)) (rd3 g 0 0) p n := by
  rw [← dx_tile]
  pointwise [k0_pay3, k0_pay2]

/-- A tile's part of the gradient of the gains, added to what was there. -/
theorem dg_tile (y : FVec Ideal S1x1024 .f32) (k : Fin 1) : k0_pay5 (F := Ideal) (k0_pay9 a w x) y (ix2 k n)
    = y (ix2 k n) + ∑ q : Fin 512, rd2 x q n * Rms.inv (rd2 x) q * InX.dh (rd2 a) (rd2 w) q n := by
  pointwise [k0_pay5, k0_pay9]
  simp only [inv_tile, dh_tile]
  simp only [rd2_ix]

end Tile

variable (m : (ℓ : Loc nD τ sig) → Buf (Elt Ideal) ℓ)

/-- The arguments in memory. -/
def A (c : Dev nD) : InX.Args := InX.args (m ((c : Thread nD τ).loc main_arg0)) (m ((c : Thread nD τ).loc main_arg1))
  (m ((c : Thread nD τ).loc main_arg2)) (m ((c : Thread nD τ).loc main_arg3)) (m ((c : Thread nD τ).loc main_arg4))

/-- Point `t` takes row tile `t`; the weights and the gains are whole. -/
theorem idx : ∀ t : Fin cfg0.N, win0_0.index t = ![t.val, 0] ∧ win0_1.index t = ![0, 0] ∧ win0_2.index t = ![t.val, 0]
    ∧ win0_3.index t = ![3, 0, 0] ∧ win0_4.index t = ![t.val, 0] ∧ win0_5.index t = ![t.val, 0]
    ∧ win0_6.index t = ![t.val, 0] ∧ win0_7.index t = ![0, 0] ∧ t.val < 8 :=
  (by decide +kernel : ∀ t : Fin grid0.N, _)

variable (c : Dev nD) (t : Fin cfg0.N)

theorem blk0 (q : Fin 512) (k : Fin 2304) : iblk m c 0 t (ix2 q k) = (A m c).a (512 * t.val + q) k := by
  have hj := (idx t).2.2.2.2.2.2.2.2
  show _ = rd2 _ _ _
  rw [rd2, dif_pos ⟨by omega, by omega⟩]
  blk_ext [iblk, V, idx t]

theorem blk1 (q : Fin 2304) (k : Fin 1024) : iblk m c 1 t (ix2 q k) = (A m c).w q k := by
  show _ = rd2 _ _ _
  rw [rd2, dif_pos ⟨by omega, by omega⟩]
  blk_ext [iblk, V, idx t]

theorem blk2 (q : Fin 512) (k : Fin 1024) : iblk m c 2 t (ix2 q k) = (A m c).x (512 * t.val + q) k := by
  have hj := (idx t).2.2.2.2.2.2.2.2
  show _ = rd2 _ _ _
  rw [rd2, dif_pos ⟨by omega, by omega⟩]
  blk_ext [iblk, V, idx t]

theorem blk3 (k : Fin 1024) : iblk m c 3 t (ix3 0 0 k) = (A m c).g k := by
  show _ = rd2 _ 3 _
  rw [rd2, dif_pos ⟨by omega, by omega⟩]
  blk_simp [iblk]
  entry_read
  pointwise
  blk_ext [V, idx t]

theorem blk4 (q : Fin 512) (k : Fin 1024) : iblk m c 4 t (ix2 q k) = (A m c).d (512 * t.val + q) k := by
  have hj := (idx t).2.2.2.2.2.2.2.2
  show _ = rd2 _ _ _
  rw [rd2, dif_pos ⟨by omega, by omega⟩]
  blk_ext [iblk, V, idx t]

/-- The gradient that reaches the norm's output at a point's rows. -/
def dht : ℕ → ℕ → EReal := InX.dh (rd2 (iblk m c 0 t)) (rd2 (iblk m c 1 t))

theorem dht_at (q : Fin 512) (n : Fin 1024) : dht m c t q n = (A m c).dh (512 * t.val + q) n := by
  unfold dht InX.Args.dh InX.dh
  refine Finset.sum_congr rfl fun k _ => congrArg₂ (· * ·) ?_ ?_
  · rw [← rd2_ix]; exact blk0 m c t q k
  · rw [← rd2_ix]; exact blk1 m c t k n

theorem x_at (q : Fin 512) (n : Fin 1024) : rd2 (iblk m c 2 t) q n = (A m c).x (512 * t.val + q) n := by
  rw [← rd2_ix]; exact blk2 m c t q n

theorem g_at (n : Fin 1024) : rd3 (iblk m c 3 t) 0 0 n = (A m c).g n := by
  refine Eq.trans ?_ (blk3 m c t n)
  exact (rd3_ix (iblk m c 3 t) 0 0 n).symm

/-- A tile's rows, in the array's own rows. -/
theorem tile_at (q : Fin 512) (n : Fin 1024) :
    rd2 (iblk m c 4 t) q n + Rms.dinp (rd2 (iblk m c 2 t)) (dht m c t) (rd3 (iblk m c 3 t) 0 0) q n
      = (A m c).dx (512 * t.val + q) n := by
  refine congrArg₂ (· + ·) ?_ (Rms.dinp_congr (x_at m c t q) (dht_at m c t q) (g_at m c t) n)
  rw [← rd2_ix]; exact blk4 m c t q n

theorem dx_row (q : Fin 512) (n : Fin 1024) :
    (outsAt0 m c t.val t.isLt).1 (ix2 q n) = (A m c).dx (512 * t.val + q) n := by
  rw [← tile_at]
  by_cases h : t.val % 8 = 0
  · rw [outsAt0_A m c t h]; frame_out; exact dx_tile _ _ _ _ _ q n
  · rw [outsAt0_B m c t h]; frame_out; exact dx_tile _ _ _ _ _ q n

theorem dxb_row (q : Fin 512) (n : Fin 1024) :
    (outsAt0 m c t.val t.isLt).2.1 (ix2 q n) = (A m c).dx (512 * t.val + q) n := by
  rw [← tile_at]
  by_cases h : t.val % 8 = 0
  · rw [outsAt0_A m c t h]; frame_out; exact dxb_tile _ _ _ _ _ q n
  · rw [outsAt0_B m c t h]; frame_out; exact dxb_tile _ _ _ _ _ q n

/-- A point's part of the gradient of the gains. -/
def part (n : ℕ) : EReal := ∑ q : Fin 512, rd2 (iblk m c 2 t) q n * Rms.inv (rd2 (iblk m c 2 t)) q * dht m c t q n

theorem dg_A (h : t.val % 8 = 0) (k : Fin 1) (n : Fin 1024) :
    (outsAt0 m c t.val t.isLt).2.2 (ix2 k n) = 0 + part m c t n := by
  rw [outsAt0_A m c t h]; frame_out
  exact (dg_tile _ _ _ n _ k).trans (congrArg (· + _) (by pointwise [k0_pay4]))

theorem dg_B (h : ¬t.val % 8 = 0) (k : Fin 1) (n : Fin 1024) :
    (outsAt0 m c t.val t.isLt).2.2 (ix2 k n)
      = (outsAt0 m c (t.val - 1) (Nat.lt_of_le_of_lt (Nat.sub_le _ _) t.isLt)).2.2 (ix2 k n) + part m c t n := by
  rw [outsAt0_B m c t h]; frame_out
  exact dg_tile _ _ _ n _ k

theorem dg_at (h : t.val % 8 = 7) (k : Fin 1) (n : Fin 1024) :
    (outsAt0 m c t.val t.isLt).2.2 (ix2 k n) = (A m c).dg n := by
  rw [Pipeline.eq_sum_fin_of_reset_step_apply_of_flush (fun n h => (outsAt0 m c n h).2.2) 8 (fun _ => 0)
    (fun t i => part m c t (i 1).val)
    (fun t h i => by rw [← ix2_eta i]; exact dg_A m c t h _ _)
    (fun t h i => by rw [← ix2_eta i]; exact dg_B m c t h _ _) t h _, zero_add]
  have ht := (idx t).2.2.2.2.2.2.2.2
  unfold InX.Args.dg Rms.dgain
  refine Fin.sum_mul_add_congr fun s q _ => ?_
  refine (Rms.part_congr (x_at m c _ q) (dht_at m c _ q) n).trans ?_
  have hs := s.isLt
  simp only [show 512 * (8 * (t.val / 8) + s.val) + q.val = s.val * 512 + q.val by omega]

/-- The gradient of the rows. -/
theorem final5 : (dats m 0 c).arrAt 5 cfg0.N = fun i : S4096x1024.Idx => (A m c).dx (i 0).val (i 1).val := by
  refine (dats m 0 c).arrAt_eq_of_covers 5 _ (by decide +kernel) fun t hf y => ?_
  blk_simp
  rw [after0_5, (idx t).2.2.2.2.2.1]
  obtain ⟨q, n, rfl⟩ : ∃ (q : Fin 512) (n : Fin 1024), y = ix2 q n := ⟨y 0, y 1, eq_ix2 y⟩
  exact (dx_row m c t q n).trans (congrArg₂ (A m c).dx (congrArg (· + q.val) (Nat.mul_comm _ _)) (Nat.zero_add _).symm)

/-- The same, narrowed to bf16. -/
theorem final6 : (dats m 0 c).arrAt 6 cfg0.N = fun i : S4096x1024.Idx => (A m c).dx (i 0).val (i 1).val := by
  refine (dats m 0 c).arrAt_eq_of_covers 6 _ (by decide +kernel) fun t hf y => ?_
  blk_simp
  rw [after0_6, (idx t).2.2.2.2.2.2.1]
  obtain ⟨q, n, rfl⟩ : ∃ (q : Fin 512) (n : Fin 1024), y = ix2 q n := ⟨y 0, y 1, eq_ix2 y⟩
  exact (dxb_row m c t q n).trans (congrArg₂ (A m c).dx (congrArg (· + q.val) (Nat.mul_comm _ _)) (Nat.zero_add _).symm)

/-- The gradient of the gains. -/
theorem final7 : (dats m 0 c).arrAt 7 cfg0.N = fun i : S1x1024.Idx => (A m c).dg (i 1).val := by
  refine (dats m 0 c).arrAt_eq_of_covers 7 _ (by decide +kernel) fun t hf y => ?_
  blk_simp
  rw [after0_7, (idx t).2.2.2.2.2.2.2.1]
  obtain ⟨k, n, rfl⟩ : ∃ (k : Fin 1) (n : Fin 1024), y = ix2 k n := ⟨y 0, y 1, eq_ix2 y⟩
  exact (dg_at m c t ((flush0_7 t).mp hf) k n).trans (congrArg (A m c).dg (Nat.zero_add _).symm)

end Cert.Kernel3Ideal.Value

end
-- ==== Proof.InXRef.lean ====
module

public import proofs.«01_k».proof.Proof.Gen.Reference3Ideal.Run
public import proofs.«01_k».proof.Proof.Gen.Reference3Ideal.Read
public import proofs.«01_k».proof.Proof.InX

/-! The gradient through the product with `w_in` and the RMS norm before it: what the reference's three results are. -/

@[expose] public section

set_option maxRecDepth 16384

noncomputable section

open Idealize.ShloMosaic Idealize.ShloMosaic.Pointwise

namespace Cert.Reference3Ideal.Rows

open Cert.Reference3Ideal Cert.Reference3Ideal.Read Cert.Ffn

variable (x0 : FVec Ideal S4096x2304 .bf16) (x1 : FVec Ideal S2304x1024 .bf16) (x2 : FVec Ideal S4096x1024 .f32)
  (x3 : FVec Ideal S4x1024 .f32) (x4 : FVec Ideal S4096x1024 .f32) (p : Fin 4096) (n : Fin 1024)

theorem sq_row (k : Fin 1) : val_main_v10 (F := Ideal) x2 (ix2 p k) = Rms.sq (rd2 x2) p := by
  pointwise [val_main_v10, val_main_v9, val_main_v8, val_main_v7, val_main_v6, val_main_v5, val_main_v4, val_main_cst, val_main_cst_0, val_main_cst_1]
  simp only [rd2_ix, Rms.sq]

theorem inv_row (k : Fin 1) : val_main_v11 (F := Ideal) x2 (ix2 p k) = Rms.inv (rd2 x2) p := by
  pointwise [val_main_v11]
  rw [sq_row, Rms.inv]

theorem dh_row : val_main_v22 (F := Ideal) x0 x1 (ix2 p n) = InX.dh (rd2 x0) (rd2 x1) p n := by
  pointwise [val_main_v22, val_main_v21, val_main_v1, val_main_v0]
  simp only [rd2_ix, InX.dh]

theorem dx_row : val_main_v43 (F := Ideal) x0 x1 x2 x3 x4 (ix2 p n) = (InX.args x0 x1 x2 x3 x4).dx p n := by
  pointwise [val_main_v43, val_main_v42, val_main_v41, val_main_v40, val_main_v39, val_main_v38, val_main_v37, val_main_v36,
    val_main_v35, val_main_v34, val_main_v33, val_main_v32, val_main_v31, val_main_v30, val_main_v29, val_main_v27,
    val_main_v26, val_main_v17, val_main_v3, val_main_v2, val_main_v14, val_main_v13, val_main_v12, val_main_cst_2,
    val_main_cst_5, val_main_cst_6, val_main_cst_7]
  simp only [sq_row, inv_row, dh_row]
  simp only [rd2_ix, Fin.sum_univ_one, InX.Args.dx, InX.args, InX.Args.dh, Rms.dinp, Rms.pull]
  simp only [add_assoc]
  rfl

/-- The gradient of the rows. -/
theorem ref0 : val_main_v43 (F := Ideal) x0 x1 x2 x3 x4
    = fun i : S4096x1024.Idx => (InX.args x0 x1 x2 x3 x4).dx (i 0).val (i 1).val := by
  funext i
  idx_vars i
  exact dx_row x0 x1 x2 x3 x4 _ _

/-- The same, narrowed to bf16. -/
theorem ref1 : val_main_v44 (F := Ideal) x0 x1 x2 x3 x4
    = fun i : S4096x1024.Idx => (InX.args x0 x1 x2 x3 x4).dx (i 0).val (i 1).val := by
  funext i
  idx_vars i
  refine Eq.trans ?_ (dx_row x0 x1 x2 x3 x4 _ _)
  pointwise [val_main_v44]

/-- The gradient of the gains. -/
theorem ref2 : val_main_v45 (F := Ideal) x0 x1 x2
    = fun i : S1x1024.Idx => (InX.args x0 x1 x2 x3 x4).dg (i 1).val := by
  funext i
  idx_vars i
  pointwise [val_main_v45, val_main_v28, val_main_v25, val_main_v24, val_main_v23, val_main_v16, val_main_v15, val_main_cst_3,
    val_main_cst_4]
  simp only [inv_row, dh_row]
  simp only [rd2_ix, Fin.sum_univ_one]
  rfl

end Cert.Reference3Ideal.Rows

end
-- ==== Proof.InXClaim.lean ====
module

public import proofs.«01_k».proof.Defs
public import proofs.«01_k».proof.Proof.Gen.Kernel3
public import proofs.«01_k».proof.Proof.Gen.Kernel3.Frame
public import proofs.«01_k».proof.Proof.InX
public import proofs.«01_k».proof.Proof.InXRef

/-! The gradient through the product with `w_in` and the RMS norm before it: the ideal kernel and the ideal reference end with the same arrays, and the reference's frame. -/

@[expose] public section

set_option maxRecDepth 16384

noncomputable section

namespace Cert.Reference3Ideal

open Idealize.ShloMosaic Idealize.SL.Sem

variable (m' : (ℓ : Loc Cert.Reference3Ideal.nD Cert.Reference3Ideal.τ Cert.Reference3Ideal.sig) → Buf (Elt Ideal) ℓ)
  (m : (ℓ : Loc Cert.Kernel3Ideal.nD Cert.Kernel3Ideal.τ Cert.Kernel3Ideal.sig) → Buf (Elt Ideal) ℓ)

/-- The reference's arguments. -/
def refArgs (c : Dev Cert.Reference3Ideal.nD) : Cert.InX.Args :=
  Cert.InX.args (m' ((c.tc : Thread Cert.Reference3Ideal.nD Cert.Reference3Ideal.τ).loc Cert.Reference3Ideal.main_arg0))
    (m' ((c.tc : Thread Cert.Reference3Ideal.nD Cert.Reference3Ideal.τ).loc Cert.Reference3Ideal.main_arg1))
    (m' ((c.tc : Thread Cert.Reference3Ideal.nD Cert.Reference3Ideal.τ).loc Cert.Reference3Ideal.main_arg2))
    (m' ((c.tc : Thread Cert.Reference3Ideal.nD Cert.Reference3Ideal.τ).loc Cert.Reference3Ideal.main_arg3))
    (m' ((c.tc : Thread Cert.Reference3Ideal.nD Cert.Reference3Ideal.τ).loc Cert.Reference3Ideal.main_arg4))

/-- Where the memories agree on the arguments, any function of the arguments is the same on both sides. -/
theorem args_eq (hagree : ∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4))
    (c : Dev Cert.Kernel3Ideal.nD) {α : Type} (f : Cert.InX.Args → α) : f (refArgs m' c) = f (Cert.Kernel3Ideal.Value.A m c) := by
  obtain ⟨h0, h1, h2, h3, h4⟩ := hagree c
  unfold refArgs
  rw [h0, h1, h2, h3, h4]
  rfl

/-- The two programs end with the same arrays. -/
theorem algebraic : Cert.algebraic_Kernel3Ideal_Reference3Ideal (hKernel3Ideal := Cert.Kernel3Ideal.Gen.facts)
    (hReference3Ideal := Cert.Reference3Ideal.Gen.facts) := by
  pair_intro
  · run_from Cert.Kernel3Ideal.Gen.run_main m g
  · run_from Cert.Reference3Ideal.Value.run m' g'
    · exact (Read.val_main_v43_eq _ _).trans ((Rows.ref0 (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4))).trans ((args_eq m' m hagree c (fun A => fun i : Cert.Kernel3Ideal.S4096x1024.Idx => A.dx (i 0).val (i 1).val)).trans (Cert.Kernel3Ideal.Value.final5 m c).symm))
    · exact (Read.val_main_v44_eq _ _).trans ((Rows.ref1 (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4))).trans ((args_eq m' m hagree c (fun A => fun i : Cert.Kernel3Ideal.S4096x1024.Idx => A.dx (i 0).val (i 1).val)).trans (Cert.Kernel3Ideal.Value.final6 m c).symm))
    · exact (Read.val_main_v45_eq _ _ _).trans ((Rows.ref2 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).trans (Cert.Kernel3Ideal.Value.final7 m c).symm)

/-- The reference runs, leaves its arguments as they were, and has no semaphore. -/
theorem frame : Cert.quiescent_Reference3Ideal (hReference3Ideal := Cert.Reference3Ideal.Gen.facts) := fun m ρ _ =>
  (θ_run Cert.Reference3Ideal.defs _ _).mono (fun r h => And.intro
      (fun c => (h c).2.2.2) (Idealize.ShloMosaic.sem_eq_zero_of_no_sems (by decide) r.2))
    (Cert.Reference3Ideal.Value.run (F := Ideal) m ρ)

end Cert.Reference3Ideal

end
-- ==== Proof.UpG.lean ====
module

public import proofs.«01_k».proof.Proof.Gen.Kernel4Ideal.Frame
public import proofs.«01_k».proof.Proof.Spec
public import Idealize.ShloMosaic.Lib.Pipeline.ValueKit
public import Idealize.ShloMosaic.Lib.Pipeline.ReadBack

/-! The gradient of the first half of `w_up`, the upper half of the array that the call writes: what the kernel's result array holds. -/

@[expose] public section

set_option maxRecDepth 16384

noncomputable section

open Idealize.ShloMosaic Idealize.ShloMosaic.TcCoe Idealize.SL.Sem
open Idealize.ShloMosaic.Pipeline (Dat)

namespace Cert.UpG

open Cert.Ffn

/-- The arguments read at numbers. -/
structure Args where
  a : ℕ → ℕ → EReal
  b : ℕ → ℕ → EReal

/-- Entry (r, n) of the result: the sum over the rows. -/
def Args.out (A : Args) (r n : ℕ) : EReal := ∑ k : Fin 4096, A.a k r * A.b k n

/-- The arguments from the arrays. -/
def args (x0 : (⟨2, ![4096, 2816]⟩ : Shape).Idx → EReal) (x1 : (⟨2, ![8192, 1024]⟩ : Shape).Idx → EReal) : Args :=
  ⟨rd2 x0, rd2 x1⟩

end Cert.UpG

namespace Cert.Kernel4Ideal.Value

open Cert.Kernel4Ideal Cert.Kernel4Ideal.Gen Cert.Ffn

/-- A tile of the result. -/
theorem tile (a : FVec Ideal S4096x256 .bf16) (b : FVec Ideal S4096x1024 .bf16) (p : Fin 256) (n : Fin 1024) :
    k0_pay1 (F := Ideal) a b (ix2 p n) = ∑ k : Fin 4096, a (ix2 k p) * b (ix2 k n) := by
  pointwise [k0_pay1]

variable (m : (ℓ : Loc nD τ sig) → Buf (Elt Ideal) ℓ)

/-- The arguments in memory. -/
def A (c : Dev nD) : UpG.Args := UpG.args (m ((c : Thread nD τ).loc main_arg0)) (m ((c : Thread nD τ).loc main_arg1))

/-- Point `t` takes column tile `t` of the first argument and the first 4096 rows of the second, and writes row tile `t`. -/
theorem idx : ∀ t : Fin cfg0.N, win0_0.index t = ![0, t.val] ∧ win0_1.index t = ![0, 0] ∧ win0_2.index t = ![t.val, 0]
    ∧ t.val < 11 :=
  (by decide +kernel : ∀ t : Fin grid0.N, _)

variable (c : Dev nD) (t : Fin cfg0.N)

theorem blk0 (q : Fin 4096) (k : Fin 256) : iblk m c 0 t (ix2 q k) = (A m c).a q (256 * t.val + k) := by
  have hj := (idx t).2.2.2
  show _ = rd2 _ _ _
  rw [rd2, dif_pos ⟨by omega, by omega⟩]
  blk_ext [iblk, V, idx t]

theorem blk1 (q : Fin 4096) (k : Fin 1024) : iblk m c 1 t (ix2 q k) = (A m c).b q k := by
  have hj := (idx t).2.2.2
  show _ = rd2 _ _ _
  rw [rd2, dif_pos ⟨by omega, by omega⟩]
  blk_ext [iblk, V, idx t]

/-- Row `q` of the tile that point `t` writes. -/
theorem row (q : Fin 256) (n : Fin 1024) :
    k0_pay1 (F := Ideal) (iblk m c 0 t) (iblk m c 1 t) (ix2 q n) = (A m c).out (256 * t.val + q) n := by
  rw [tile]
  exact Finset.sum_congr rfl fun k _ => congrArg₂ (· * ·) (blk0 m c t k q) (blk1 m c t k n)

/-- The upper half of the call's result, and below it what the array held before. -/
theorem upper : (dats m 0 c).arrAt 2 cfg0.N = fun i : S5632x1024.Idx =>
    if (i 0).val / 256 ≤ 10 then (A m c).out (i 0).val (i 1).val else V m c main_v0 i := by
  refine (dats m 0 c).arrAt_eq_of_coversWhere 2
      (fun i : S5632x1024.Idx => (A m c).out (i 0).val (i 1).val)
      (fun β => β (0 : Fin 2) ≤ 10) (by decide +kernel) (fun t hf y => ?_)
      (P := fun i : S5632x1024.Idx => (i 0).val / 256 ≤ 10) (fun j => Iff.rfl)
  blk_simp
  rw [after0_2, (idx t).2.2.1]
  obtain ⟨q, n, rfl⟩ : ∃ (q : Fin 256) (n : Fin 1024), y = ix2 q n := ⟨y 0, y 1, eq_ix2 y⟩
  refine Eq.trans ?_ ((row m c t q n).trans (congrArg₂ (A m c).out (congrArg (· + q.val) (Nat.mul_comm _ _)) (Nat.zero_add _).symm))
  frame_out

/-- The slice that the host takes of the call's result. -/
theorem tail : Pipeline.afterTail₀ cfgs (dats m) 0 (V0 m) [hostOps1] c main_v1 = fun i : S2816x1024.Idx => (A m c).out (i 0).val (i 1).val := by
  have e : Pipeline.afterTail₀ cfgs (dats m) 0 (V0 m) [hostOps1] c main_v1
      = extractStridedSlice S2816x1024 ![0, 0] ((dats m 0 c).arrAt 2 cfg0.N) slices_S5632x1024_S2816x1024_0_0 := by
    unfold Pipeline.afterTail₀
    rw [← Pipeline.withArrays_arr spec0 launch0.win.arr_inj c (V0 m c) (fun w => (dats m 0 c).arrAt w cfg0.N) 2]
    rfl
  rw [e, upper]
  funext i
  obtain ⟨q, n, rfl⟩ : ∃ (q : Fin 2816) (n : Fin 1024), i = ix2 q n := ⟨i 0, i 1, eq_ix2 i⟩
  pointwise []
  rw [if_pos (by omega)]

/-- The gradient of the first half of `w_up`, and the arguments as they were. -/
theorem run_blocks (g : Dev nD → PrngReg) :
    θ_run defs (onTc (τ := τ) (main (F := Ideal))) ⟨m, fun _ => 0, g⟩ (fun r => ∀ c : Dev nD,
      r.2.mem ((c.tc : Thread nD τ).loc main_v1) = (fun i : S2816x1024.Idx => (A m c).out (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h.1 c).2 main_v1 (Pipeline.mem_restRefs_of main_v1 (by decide) (by decide))).trans (tail m c), h.2 c⟩)
    (θ_run_and (run_main m g) (unchanged m g))

end Cert.Kernel4Ideal.Value

end
-- ==== Proof.UpGRef.lean ====
module

public import proofs.«01_k».proof.Proof.Gen.Reference4Ideal.Run
public import proofs.«01_k».proof.Proof.Gen.Reference4Ideal.Read
public import proofs.«01_k».proof.Proof.UpG

/-! The gradient of the first half of `w_up`: what the reference's result is. -/

@[expose] public section

set_option maxRecDepth 16384

noncomputable section

open Idealize.ShloMosaic Idealize.ShloMosaic.Pointwise

namespace Cert.Reference4Ideal.Rows

open Cert.Reference4Ideal Cert.Reference4Ideal.Read Cert.Ffn

variable (x0 : FVec Ideal S4096x2816 .bf16) (x1 : FVec Ideal S8192x1024 .bf16)

/-- The gradient of the first half of `w_up`. -/
theorem ref0 : val_main_v7 (F := Ideal) x0 x1 = fun i : S2816x1024.Idx => (UpG.args x0 x1).out (i 0).val (i 1).val := by
  funext i
  idx_vars i
  pointwise [val_main_v7, val_main_v6, val_main_v5, val_main_v4, val_main_v3, val_main_v2, val_main_v1, val_main_v0]
  simp only [rd2_ix, UpG.Args.out, UpG.args]
  exact Finset.sum_congr rfl fun k _ => mul_comm _ _

end Cert.Reference4Ideal.Rows

end
-- ==== Proof.UpGClaim.lean ====
module

public import proofs.«01_k».proof.Defs
public import proofs.«01_k».proof.Proof.Gen.Kernel4
public import proofs.«01_k».proof.Proof.Gen.Kernel4.Frame
public import proofs.«01_k».proof.Proof.UpG
public import proofs.«01_k».proof.Proof.UpGRef

/-! The gradient of the first half of `w_up`: the ideal kernel and the ideal reference end with the same arrays, and the reference's frame. -/

@[expose] public section

set_option maxRecDepth 16384

noncomputable section

namespace Cert.Reference4Ideal

open Idealize.ShloMosaic Idealize.SL.Sem

variable (m' : (ℓ : Loc Cert.Reference4Ideal.nD Cert.Reference4Ideal.τ Cert.Reference4Ideal.sig) → Buf (Elt Ideal) ℓ)
  (m : (ℓ : Loc Cert.Kernel4Ideal.nD Cert.Kernel4Ideal.τ Cert.Kernel4Ideal.sig) → Buf (Elt Ideal) ℓ)

/-- The reference's arguments. -/
def refArgs (c : Dev Cert.Reference4Ideal.nD) : Cert.UpG.Args :=
  Cert.UpG.args (m' ((c.tc : Thread Cert.Reference4Ideal.nD Cert.Reference4Ideal.τ).loc Cert.Reference4Ideal.main_arg0))
    (m' ((c.tc : Thread Cert.Reference4Ideal.nD Cert.Reference4Ideal.τ).loc Cert.Reference4Ideal.main_arg1))

/-- Where the memories agree on the arguments, any function of the arguments is the same on both sides. -/
theorem args_eq (hagree : ∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (c : Dev Cert.Kernel4Ideal.nD) {α : Type} (f : Cert.UpG.Args → α) : f (refArgs m' c) = f (Cert.Kernel4Ideal.Value.A m c) := by
  obtain ⟨h0, h1⟩ := hagree c
  unfold refArgs
  rw [h0, h1]
  rfl

/-- The two programs end with the same arrays. -/
theorem algebraic : Cert.algebraic_Kernel4Ideal_Reference4Ideal (hKernel4Ideal := Cert.Kernel4Ideal.Gen.facts)
    (hReference4Ideal := Cert.Reference4Ideal.Gen.facts) := by
  pair_intro
  · run_from Cert.Kernel4Ideal.Value.run_blocks m g
  · run_from Cert.Reference4Ideal.Value.run m' g'
    · exact (Read.val_main_v7_eq _ _).trans (Rows.ref0 (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)))

/-- The reference runs, leaves its arguments as they were, and has no semaphore. -/
theorem frame : Cert.quiescent_Reference4Ideal (hReference4Ideal := Cert.Reference4Ideal.Gen.facts) := fun m ρ _ =>
  (θ_run Cert.Reference4Ideal.defs _ _).mono (fun r h => And.intro
      (fun c => (h c).2) (Idealize.ShloMosaic.sem_eq_zero_of_no_sems (by decide) r.2))
    (Cert.Reference4Ideal.Value.run (F := Ideal) m ρ)

end Cert.Reference4Ideal

end
-- ==== Proof.UpW.lean ====
module

public import proofs.«01_k».proof.Proof.Gen.Kernel5Ideal.Value
public import proofs.«01_k».proof.Proof.Spec
public import Idealize.ShloMosaic.Lib.Pipeline.ValueKit
public import Idealize.ShloMosaic.Lib.Pipeline.ReadBack

/-! The gradient of the second half of `w_up`, written below the first half's: what the kernel's result array holds. -/

@[expose] public section

set_option maxRecDepth 16384

noncomputable section

open Idealize.ShloMosaic Idealize.ShloMosaic.TcCoe Idealize.SL.Sem
open Idealize.ShloMosaic.Pipeline (Dat)

namespace Cert.UpW

open Cert.Ffn

/-- The arguments read at numbers. -/
structure Args where
  a : ℕ → ℕ → EReal
  b : ℕ → ℕ → EReal
  g : ℕ → ℕ → EReal

/-- Entry (r, n) of the second half: the sum over the rows. -/
def Args.prod (A : Args) (r n : ℕ) : EReal := ∑ k : Fin 4096, A.a k r * A.b k n

/-- Entry (r, n) of the result: the first half as it was, then the second. -/
def Args.out (A : Args) (r n : ℕ) : EReal := if 2816 ≤ r then A.prod (r - 2816) n else A.g r n

/-- The arguments from the arrays. -/
def args (x0 : (⟨2, ![4096, 2816]⟩ : Shape).Idx → EReal) (x1 : (⟨2, ![8192, 1024]⟩ : Shape).Idx → EReal)
    (x2 : (⟨2, ![5632, 1024]⟩ : Shape).Idx → EReal) : Args :=
  ⟨rd2 x0, rd2 x1, rd2 x2⟩

end Cert.UpW

namespace Cert.Kernel5Ideal.Value

open Cert.Kernel5Ideal Cert.Kernel5Ideal.Gen Cert.Ffn

/-- A tile of the result. -/
theorem tile (a : FVec Ideal S4096x256 .bf16) (b : FVec Ideal S4096x1024 .bf16) (p : Fin 256) (n : Fin 1024) :
    k0_pay1 (F := Ideal) a b (ix2 p n) = ∑ k : Fin 4096, a (ix2 k p) * b (ix2 k n) := by
  pointwise [k0_pay1]

variable (m : (ℓ : Loc nD τ sig) → Buf (Elt Ideal) ℓ)

/-- The arguments in memory. -/
def A (c : Dev nD) : UpW.Args := UpW.args (m ((c : Thread nD τ).loc main_arg0)) (m ((c : Thread nD τ).loc main_arg1))
  (m ((c : Thread nD τ).loc main_arg2))

/-- Point `t` takes column tile `t` of the first argument and the first 4096 rows of the second, and writes row tile
    `11 + t`. -/
theorem idx : ∀ t : Fin cfg0.N, win0_0.index t = ![0, t.val] ∧ win0_1.index t = ![0, 0] ∧ win0_2.index t = ![11 + t.val, 0]
    ∧ t.val < 11 :=
  (by decide +kernel : ∀ t : Fin grid0.N, _)

variable (c : Dev nD) (t : Fin cfg0.N)

theorem blk0 (q : Fin 4096) (k : Fin 256) : iblk m c 0 t (ix2 q k) = (A m c).a q (256 * t.val + k) := by
  have hj := (idx t).2.2.2
  show _ = rd2 _ _ _
  rw [rd2, dif_pos ⟨by omega, by omega⟩]
  blk_ext [iblk, V_main_arg0, idx t]

theorem blk1 (q : Fin 4096) (k : Fin 1024) : iblk m c 1 t (ix2 q k) = (A m c).b q k := by
  show _ = rd2 _ _ _
  rw [rd2, dif_pos ⟨by omega, by omega⟩]
  blk_ext [iblk, V_main_arg1, idx t]

/-- Row `q` of the tile that point `t` writes. -/
theorem row (q : Fin 256) (n : Fin 1024) :
    k0_pay1 (F := Ideal) (iblk m c 0 t) (iblk m c 1 t) (ix2 q n) = (A m c).prod (256 * t.val + q) n := by
  rw [tile]
  exact Finset.sum_congr rfl fun k _ => congrArg₂ (· * ·) (blk0 m c t k q) (blk1 m c t k n)

/-- What the result array holds before the first point: the host's copy of the third argument. -/
theorem start : V m c main_v0 = m ((c : Thread nD τ).loc main_arg2) := by
  unfold V
  after_results
  rfl

/-- The two halves. -/
theorem final2 : (dats m 0 c).arrAt 2 cfg0.N = fun i : S5632x1024.Idx => (A m c).out (i 0).val (i 1).val := by
  refine ((dats m 0 c).arrAt_eq_of_coversWhere 2
      (fun i : S5632x1024.Idx => (A m c).prod ((i 0).val - 2816) (i 1).val)
      (fun β => 11 ≤ β (0 : Fin 2)) (by decide +kernel) (fun t hf y => ?_)
      (P := fun i : S5632x1024.Idx => 11 ≤ (i 0).val / 256) (fun j => Iff.rfl)).trans ?_
  · blk_simp
    rw [after0_2, (idx t).2.2.1]
    obtain ⟨q, n, rfl⟩ : ∃ (q : Fin 256) (n : Fin 1024), y = ix2 q n := ⟨y 0, y 1, eq_ix2 y⟩
    refine Eq.trans ?_ ((row m c t q n).trans (congrArg₂ (A m c).prod ?_ (Nat.zero_add _).symm))
    · simp only [outsAt0]
      frame_out
    · show 256 * t.val + q.val = (11 + t.val) * 256 + q.val - 2816
      omega
  · funext i
    have h : (11 ≤ (i 0).val / 256) ↔ 2816 ≤ (i 0).val := by omega
    have e : rd2 (m ((c : Thread nD τ).loc main_arg2)) (i 0).val (i 1).val = m ((c : Thread nD τ).loc main_arg2) i := by
      obtain ⟨q, n, rfl⟩ : ∃ (q : Fin 5632) (n : Fin 1024), i = ix2 q n := ⟨i 0, i 1, eq_ix2 i⟩
      exact (rd2_ix _ q n).symm
    show (if 11 ≤ (i 0).val / 256 then (A m c).prod ((i 0).val - 2816) (i 1).val else V m c main_v0 i)
      = if 2816 ≤ (i 0).val then (A m c).prod ((i 0).val - 2816) (i 1).val
        else rd2 (m ((c : Thread nD τ).loc main_arg2)) (i 0).val (i 1).val
    rw [start, e]
    by_cases g : 2816 ≤ (i 0).val
    · rw [if_pos g, if_pos (h.mpr g)]
    · rw [if_neg g, if_neg (fun k => g (h.mp k))]

end Cert.Kernel5Ideal.Value

end
-- ==== Proof.UpWRef.lean ====
module

public import proofs.«01_k».proof.Proof.Gen.Reference5Ideal.Run
public import proofs.«01_k».proof.Proof.Gen.Reference5Ideal.Read
public import proofs.«01_k».proof.Proof.UpW

/-! The gradient of the second half of `w_up`, written below the first half's: what the reference's result is. -/

@[expose] public section

set_option maxRecDepth 16384

noncomputable section

open Idealize.ShloMosaic Idealize.ShloMosaic.Pointwise

namespace Cert.Reference5Ideal.Rows

open Cert.Reference5Ideal Cert.Reference5Ideal.Read Cert.Ffn

variable (x0 : FVec Ideal S4096x2816 .bf16) (x1 : FVec Ideal S8192x1024 .bf16) (x2 : FVec Ideal S5632x1024 .bf16)

/-- An entry of the second half. -/
theorem low (p : Fin 2816) (n : Fin 1024) : val_main_v8 (F := Ideal) x0 x1 (ix2 p n) = (UpW.args x0 x1 x2).prod p n := by
  pointwise [val_main_v8, val_main_v7, val_main_v6, val_main_v5, val_main_v4, val_main_v3, val_main_v2, val_main_v1]
  simp only [rd2_ix, UpW.Args.prod, UpW.args]
  exact Finset.sum_congr rfl fun k _ => mul_comm _ _

/-- The two halves. -/
theorem ref0 : val_main_v9 (F := Ideal) x0 x1 x2 = fun i : S5632x1024.Idx => (UpW.args x0 x1 x2).out (i 0).val (i 1).val := by
  funext i
  obtain ⟨q, n, rfl⟩ : ∃ (q : Fin 5632) (n : Fin 1024), i = ix2 q n := ⟨i 0, i 1, eq_ix2 i⟩
  show _ = if 2816 ≤ q.val then (UpW.args x0 x1 x2).prod (q.val - 2816) n.val else rd2 x2 q.val n.val
  by_cases h : 2816 ≤ q.val
  · rw [if_pos h]
    refine Eq.trans ?_ (low x0 x1 x2 ⟨q.val - 2816, by omega⟩ n)
    pointwise [val_main_v9]
    rw [dif_neg (by omega)]
  · rw [if_neg h]
    pointwise [val_main_v9, val_main_v0]
    rw [dif_pos (by omega)]
    exact rd2_ix x2 q n

end Cert.Reference5Ideal.Rows

end
-- ==== Proof.UpWClaim.lean ====
module

public import proofs.«01_k».proof.Defs
public import proofs.«01_k».proof.Proof.Gen.Kernel5
public import proofs.«01_k».proof.Proof.Gen.Kernel5.Frame
public import proofs.«01_k».proof.Proof.UpW
public import proofs.«01_k».proof.Proof.UpWRef

/-! The gradient of the second half of `w_up`, written below the first half's: the ideal kernel and the ideal reference end with the same arrays, and the reference's frame. -/

@[expose] public section

set_option maxRecDepth 16384

noncomputable section

namespace Cert.Reference5Ideal

open Idealize.ShloMosaic Idealize.SL.Sem

variable (m' : (ℓ : Loc Cert.Reference5Ideal.nD Cert.Reference5Ideal.τ Cert.Reference5Ideal.sig) → Buf (Elt Ideal) ℓ)
  (m : (ℓ : Loc Cert.Kernel5Ideal.nD Cert.Kernel5Ideal.τ Cert.Kernel5Ideal.sig) → Buf (Elt Ideal) ℓ)

/-- The reference's arguments. -/
def refArgs (c : Dev Cert.Reference5Ideal.nD) : Cert.UpW.Args :=
  Cert.UpW.args (m' ((c.tc : Thread Cert.Reference5Ideal.nD Cert.Reference5Ideal.τ).loc Cert.Reference5Ideal.main_arg0))
    (m' ((c.tc : Thread Cert.Reference5Ideal.nD Cert.Reference5Ideal.τ).loc Cert.Reference5Ideal.main_arg1))
    (m' ((c.tc : Thread Cert.Reference5Ideal.nD Cert.Reference5Ideal.τ).loc Cert.Reference5Ideal.main_arg2))

/-- Where the memories agree on the arguments, any function of the arguments is the same on both sides. -/
theorem args_eq (hagree : ∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2))
    (c : Dev Cert.Kernel5Ideal.nD) {α : Type} (f : Cert.UpW.Args → α) : f (refArgs m' c) = f (Cert.Kernel5Ideal.Value.A m c) := by
  obtain ⟨h0, h1, h2⟩ := hagree c
  unfold refArgs
  rw [h0, h1, h2]
  rfl

/-- The two programs end with the same arrays. -/
theorem algebraic : Cert.algebraic_Kernel5Ideal_Reference5Ideal (hKernel5Ideal := Cert.Kernel5Ideal.Gen.facts)
    (hReference5Ideal := Cert.Reference5Ideal.Gen.facts) := by
  pair_intro
  · run_from Cert.Kernel5Ideal.Gen.run_main m g
  · run_from Cert.Reference5Ideal.Value.run m' g'
    · rw [(hagree c).2.2]
      exact (Read.val_main_v9_eq _ _ _).trans ((Rows.ref0 (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).trans (Cert.Kernel5Ideal.Value.final2 m c).symm)

/-- The reference runs, leaves its arguments as they were, and has no semaphore. -/
theorem frame : Cert.quiescent_Reference5Ideal (hReference5Ideal := Cert.Reference5Ideal.Gen.facts) := fun m ρ _ =>
  (θ_run Cert.Reference5Ideal.defs _ _).mono (fun r h => And.intro
      (fun c => (h c).2) (Idealize.ShloMosaic.sem_eq_zero_of_no_sems (by decide) r.2))
    (Cert.Reference5Ideal.Value.run (F := Ideal) m ρ)

end Cert.Reference5Ideal

end
-- ==== Proof.DownW.lean ====
module

public import proofs.«01_k».proof.Proof.Gen.Kernel6Ideal.Value
public import proofs.«01_k».proof.Proof.Spec
public import Idealize.ShloMosaic.Lib.Pipeline.ValueKit
public import Idealize.ShloMosaic.Lib.Pipeline.ReadBack

/-! The gradient of the weights `w_down`: what the kernel's result array holds. -/

@[expose] public section

set_option maxRecDepth 16384

noncomputable section

open Idealize.ShloMosaic Idealize.ShloMosaic.TcCoe Idealize.SL.Sem
open Idealize.ShloMosaic.Pipeline (Dat)

namespace Cert.DownW

open Cert.Ffn

/-- The arguments read at numbers. -/
structure Args where
  a : ℕ → ℕ → EReal
  b : ℕ → ℕ → EReal

/-- Entry (r, n) of the result: the sum over the rows. -/
def Args.out (A : Args) (r n : ℕ) : EReal := ∑ k : Fin 4096, A.a k r * A.b k n

/-- The arguments from the arrays. -/
def args (x0 : (⟨2, ![4096, 2816]⟩ : Shape).Idx → EReal) (x1 : (⟨2, ![4096, 1024]⟩ : Shape).Idx → EReal) : Args :=
  ⟨rd2 x0, rd2 x1⟩

end Cert.DownW

namespace Cert.Kernel6Ideal.Value

open Cert.Kernel6Ideal Cert.Kernel6Ideal.Gen Cert.Ffn

/-- A tile of the result. -/
theorem tile (a : FVec Ideal S4096x256 .bf16) (b : FVec Ideal S4096x1024 .bf16) (p : Fin 256) (n : Fin 1024) :
    k0_pay1 (F := Ideal) a b (ix2 p n) = ∑ k : Fin 4096, a (ix2 k p) * b (ix2 k n) := by
  pointwise [k0_pay1]

variable (m : (ℓ : Loc nD τ sig) → Buf (Elt Ideal) ℓ)

/-- The arguments in memory. -/
def A (c : Dev nD) : DownW.Args := DownW.args (m ((c : Thread nD τ).loc main_arg0)) (m ((c : Thread nD τ).loc main_arg1))

/-- Point `t` takes column tile `t` of the first argument and the second whole, and writes row tile `t`. -/
theorem idx : ∀ t : Fin cfg0.N, win0_0.index t = ![0, t.val] ∧ win0_1.index t = ![0, 0] ∧ win0_2.index t = ![t.val, 0]
    ∧ t.val < 11 :=
  (by decide +kernel : ∀ t : Fin grid0.N, _)

variable (c : Dev nD) (t : Fin cfg0.N)

theorem blk0 (q : Fin 4096) (k : Fin 256) : iblk m c 0 t (ix2 q k) = (A m c).a q (256 * t.val + k) := by
  have hj := (idx t).2.2.2
  show _ = rd2 _ _ _
  rw [rd2, dif_pos ⟨by omega, by omega⟩]
  blk_ext [iblk, V, idx t]

theorem blk1 (q : Fin 4096) (k : Fin 1024) : iblk m c 1 t (ix2 q k) = (A m c).b q k := by
  have hj := (idx t).2.2.2
  show _ = rd2 _ _ _
  rw [rd2, dif_pos ⟨by omega, by omega⟩]
  blk_ext [iblk, V, idx t]

/-- Row `q` of the tile that point `t` writes. -/
theorem row (q : Fin 256) (n : Fin 1024) :
    k0_pay1 (F := Ideal) (iblk m c 0 t) (iblk m c 1 t) (ix2 q n) = (A m c).out (256 * t.val + q) n := by
  rw [tile]
  exact Finset.sum_congr rfl fun k _ => congrArg₂ (· * ·) (blk0 m c t k q) (blk1 m c t k n)

/-- The gradient of the weights `w_down`. -/
theorem final2 : (dats m 0 c).arrAt 2 cfg0.N = fun i : S2816x1024.Idx => (A m c).out (i 0).val (i 1).val := by
  refine (dats m 0 c).arrAt_eq_of_covers 2 _ (by decide +kernel) fun t hf y => ?_
  blk_simp
  rw [after0_2, (idx t).2.2.1]
  obtain ⟨q, n, rfl⟩ : ∃ (q : Fin 256) (n : Fin 1024), y = ix2 q n := ⟨y 0, y 1, eq_ix2 y⟩
  refine Eq.trans ?_ ((row m c t q n).trans (congrArg₂ (A m c).out (congrArg (· + q.val) (Nat.mul_comm _ _)) (Nat.zero_add _).symm))
  frame_out

end Cert.Kernel6Ideal.Value

end
-- ==== Proof.DownWRef.lean ====
module

public import proofs.«01_k».proof.Proof.Gen.Reference6Ideal.Run
public import proofs.«01_k».proof.Proof.Gen.Reference6Ideal.Read
public import proofs.«01_k».proof.Proof.DownW

/-! The gradient of the weights `w_down`: what the reference's result is. -/

@[expose] public section

set_option maxRecDepth 16384

noncomputable section

open Idealize.ShloMosaic Idealize.ShloMosaic.Pointwise

namespace Cert.Reference6Ideal.Rows

open Cert.Reference6Ideal Cert.Reference6Ideal.Read Cert.Ffn

variable (x0 : FVec Ideal S4096x2816 .bf16) (x1 : FVec Ideal S4096x1024 .bf16)

/-- The gradient of the weights `w_down`. -/
theorem ref0 : val_main_v6 (F := Ideal) x0 x1 = fun i : S2816x1024.Idx => (DownW.args x0 x1).out (i 0).val (i 1).val := by
  funext i
  idx_vars i
  pointwise [val_main_v6, val_main_v5, val_main_v4, val_main_v3, val_main_v2, val_main_v1, val_main_v0]
  simp only [rd2_ix, DownW.Args.out, DownW.args]
  exact Finset.sum_congr rfl fun k _ => mul_comm _ _

end Cert.Reference6Ideal.Rows

end
-- ==== Proof.DownWClaim.lean ====
module

public import proofs.«01_k».proof.Defs
public import proofs.«01_k».proof.Proof.Gen.Kernel6
public import proofs.«01_k».proof.Proof.Gen.Kernel6.Frame
public import proofs.«01_k».proof.Proof.DownW
public import proofs.«01_k».proof.Proof.DownWRef

/-! The gradient of the weights `w_down`: the ideal kernel and the ideal reference end with the same arrays, and the reference's frame. -/

@[expose] public section

set_option maxRecDepth 16384

noncomputable section

namespace Cert.Reference6Ideal

open Idealize.ShloMosaic Idealize.SL.Sem

variable (m' : (ℓ : Loc Cert.Reference6Ideal.nD Cert.Reference6Ideal.τ Cert.Reference6Ideal.sig) → Buf (Elt Ideal) ℓ)
  (m : (ℓ : Loc Cert.Kernel6Ideal.nD Cert.Kernel6Ideal.τ Cert.Kernel6Ideal.sig) → Buf (Elt Ideal) ℓ)

/-- The reference's arguments. -/
def refArgs (c : Dev Cert.Reference6Ideal.nD) : Cert.DownW.Args :=
  Cert.DownW.args (m' ((c.tc : Thread Cert.Reference6Ideal.nD Cert.Reference6Ideal.τ).loc Cert.Reference6Ideal.main_arg0))
    (m' ((c.tc : Thread Cert.Reference6Ideal.nD Cert.Reference6Ideal.τ).loc Cert.Reference6Ideal.main_arg1))

/-- Where the memories agree on the arguments, any function of the arguments is the same on both sides. -/
theorem args_eq (hagree : ∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1))
    (c : Dev Cert.Kernel6Ideal.nD) {α : Type} (f : Cert.DownW.Args → α) : f (refArgs m' c) = f (Cert.Kernel6Ideal.Value.A m c) := by
  obtain ⟨h0, h1⟩ := hagree c
  unfold refArgs
  rw [h0, h1]
  rfl

/-- The two programs end with the same arrays. -/
theorem algebraic : Cert.algebraic_Kernel6Ideal_Reference6Ideal (hKernel6Ideal := Cert.Kernel6Ideal.Gen.facts)
    (hReference6Ideal := Cert.Reference6Ideal.Gen.facts) := by
  pair_intro
  · run_from Cert.Kernel6Ideal.Gen.run_main m g
  · run_from Cert.Reference6Ideal.Value.run m' g'
    · exact (Read.val_main_v6_eq _ _).trans ((Rows.ref0 (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))).trans (Cert.Kernel6Ideal.Value.final2 m c).symm)

/-- The reference runs, leaves its arguments as they were, and has no semaphore. -/
theorem frame : Cert.quiescent_Reference6Ideal (hReference6Ideal := Cert.Reference6Ideal.Gen.facts) := fun m ρ _ =>
  (θ_run Cert.Reference6Ideal.defs _ _).mono (fun r h => And.intro
      (fun c => (h c).2) (Idealize.ShloMosaic.sem_eq_zero_of_no_sems (by decide) r.2))
    (Cert.Reference6Ideal.Value.run (F := Ideal) m ρ)

end Cert.Reference6Ideal

end
-- ==== Proof.InW.lean ====
module

public import proofs.«01_k».proof.Proof.Gen.Kernel7Ideal.Value
public import proofs.«01_k».proof.Proof.Spec
public import Idealize.ShloMosaic.Lib.Pipeline.ValueKit
public import Idealize.ShloMosaic.Lib.Pipeline.ReadBack

/-! The gradient of the weights `w_in`: what the kernel's result array holds. -/

@[expose] public section

set_option maxRecDepth 16384

noncomputable section

open Idealize.ShloMosaic Idealize.ShloMosaic.TcCoe Idealize.SL.Sem
open Idealize.ShloMosaic.Pipeline (Dat)

namespace Cert.InW

open Cert.Ffn

/-- The arguments read at numbers. -/
structure Args where
  a : ℕ → ℕ → EReal
  b : ℕ → ℕ → EReal

/-- Entry (r, n) of the result: the sum over the rows. -/
def Args.out (A : Args) (r n : ℕ) : EReal := ∑ k : Fin 4096, A.a k r * A.b k n

/-- The arguments from the arrays. -/
def args (x0 : (⟨2, ![4096, 2304]⟩ : Shape).Idx → EReal) (x1 : (⟨2, ![4096, 1024]⟩ : Shape).Idx → EReal) : Args :=
  ⟨rd2 x0, rd2 x1⟩

end Cert.InW

namespace Cert.Kernel7Ideal.Value

open Cert.Kernel7Ideal Cert.Kernel7Ideal.Gen Cert.Ffn

/-- A tile of the result. -/
theorem tile (a : FVec Ideal S4096x256 .bf16) (b : FVec Ideal S4096x1024 .bf16) (p : Fin 256) (n : Fin 1024) :
    k0_pay1 (F := Ideal) a b (ix2 p n) = ∑ k : Fin 4096, a (ix2 k p) * b (ix2 k n) := by
  pointwise [k0_pay1]

variable (m : (ℓ : Loc nD τ sig) → Buf (Elt Ideal) ℓ)

/-- The arguments in memory. -/
def A (c : Dev nD) : InW.Args := InW.args (m ((c : Thread nD τ).loc main_arg0)) (m ((c : Thread nD τ).loc main_arg1))

/-- Point `t` takes column tile `t` of the first argument and the second whole, and writes row tile `t`. -/
theorem idx : ∀ t : Fin cfg0.N, win0_0.index t = ![0, t.val] ∧ win0_1.index t = ![0, 0] ∧ win0_2.index t = ![t.val, 0]
    ∧ t.val < 9 :=
  (by decide +kernel : ∀ t : Fin grid0.N, _)

variable (c : Dev nD) (t : Fin cfg0.N)

theorem blk0 (q : Fin 4096) (k : Fin 256) : iblk m c 0 t (ix2 q k) = (A m c).a q (256 * t.val + k) := by
  have hj := (idx t).2.2.2
  show _ = rd2 _ _ _
  rw [rd2, dif_pos ⟨by omega, by omega⟩]
  blk_ext [iblk, V, idx t]

theorem blk1 (q : Fin 4096) (k : Fin 1024) : iblk m c 1 t (ix2 q k) = (A m c).b q k := by
  have hj := (idx t).2.2.2
  show _ = rd2 _ _ _
  rw [rd2, dif_pos ⟨by omega, by omega⟩]
  blk_ext [iblk, V, idx t]

/-- Row `q` of the tile that point `t` writes. -/
theorem row (q : Fin 256) (n : Fin 1024) :
    k0_pay1 (F := Ideal) (iblk m c 0 t) (iblk m c 1 t) (ix2 q n) = (A m c).out (256 * t.val + q) n := by
  rw [tile]
  exact Finset.sum_congr rfl fun k _ => congrArg₂ (· * ·) (blk0 m c t k q) (blk1 m c t k n)

/-- The gradient of the weights `w_in`. -/
theorem final2 : (dats m 0 c).arrAt 2 cfg0.N = fun i : S2304x1024.Idx => (A m c).out (i 0).val (i 1).val := by
  refine (dats m 0 c).arrAt_eq_of_covers 2 _ (by decide +kernel) fun t hf y => ?_
  blk_simp
  rw [after0_2, (idx t).2.2.1]
  obtain ⟨q, n, rfl⟩ : ∃ (q : Fin 256) (n : Fin 1024), y = ix2 q n := ⟨y 0, y 1, eq_ix2 y⟩
  refine Eq.trans ?_ ((row m c t q n).trans (congrArg₂ (A m c).out (congrArg (· + q.val) (Nat.mul_comm _ _)) (Nat.zero_add _).symm))
  frame_out

end Cert.Kernel7Ideal.Value

end
-- ==== Proof.InWRef.lean ====
module

public import proofs.«01_k».proof.Proof.Gen.Reference7Ideal.Run
public import proofs.«01_k».proof.Proof.Gen.Reference7Ideal.Read
public import proofs.«01_k».proof.Proof.InW

/-! The gradient of the weights `w_in`: what the reference's result is. -/

@[expose] public section

set_option maxRecDepth 16384

noncomputable section

open Idealize.ShloMosaic Idealize.ShloMosaic.Pointwise

namespace Cert.Reference7Ideal.Rows

open Cert.Reference7Ideal Cert.Reference7Ideal.Read Cert.Ffn

variable (x0 : FVec Ideal S4096x2304 .bf16) (x1 : FVec Ideal S4096x1024 .bf16)

/-- The gradient of the weights `w_in`. -/
theorem ref0 : val_main_v6 (F := Ideal) x0 x1 = fun i : S2304x1024.Idx => (InW.args x0 x1).out (i 0).val (i 1).val := by
  funext i
  idx_vars i
  pointwise [val_main_v6, val_main_v5, val_main_v4, val_main_v3, val_main_v2, val_main_v1, val_main_v0]
  simp only [rd2_ix, InW.Args.out, InW.args]
  exact Finset.sum_congr rfl fun k _ => mul_comm _ _

end Cert.Reference7Ideal.Rows

end
-- ==== Proof.InWClaim.lean ====
module

public import proofs.«01_k».proof.Defs
public import proofs.«01_k».proof.Proof.Gen.Kernel7
public import proofs.«01_k».proof.Proof.Gen.Kernel7.Frame
public import proofs.«01_k».proof.Proof.InW
public import proofs.«01_k».proof.Proof.InWRef

/-! The gradient of the weights `w_in`: the ideal kernel and the ideal reference end with the same arrays, and the reference's frame. -/

@[expose] public section

set_option maxRecDepth 16384

noncomputable section

namespace Cert.Reference7Ideal

open Idealize.ShloMosaic Idealize.SL.Sem

variable (m' : (ℓ : Loc Cert.Reference7Ideal.nD Cert.Reference7Ideal.τ Cert.Reference7Ideal.sig) → Buf (Elt Ideal) ℓ)
  (m : (ℓ : Loc Cert.Kernel7Ideal.nD Cert.Kernel7Ideal.τ Cert.Kernel7Ideal.sig) → Buf (Elt Ideal) ℓ)

/-- The reference's arguments. -/
def refArgs (c : Dev Cert.Reference7Ideal.nD) : Cert.InW.Args :=
  Cert.InW.args (m' ((c.tc : Thread Cert.Reference7Ideal.nD Cert.Reference7Ideal.τ).loc Cert.Reference7Ideal.main_arg0))
    (m' ((c.tc : Thread Cert.Reference7Ideal.nD Cert.Reference7Ideal.τ).loc Cert.Reference7Ideal.main_arg1))

/-- Where the memories agree on the arguments, any function of the arguments is the same on both sides. -/
theorem args_eq (hagree : ∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1))
    (c : Dev Cert.Kernel7Ideal.nD) {α : Type} (f : Cert.InW.Args → α) : f (refArgs m' c) = f (Cert.Kernel7Ideal.Value.A m c) := by
  obtain ⟨h0, h1⟩ := hagree c
  unfold refArgs
  rw [h0, h1]
  rfl

/-- The two programs end with the same arrays. -/
theorem algebraic : Cert.algebraic_Kernel7Ideal_Reference7Ideal (hKernel7Ideal := Cert.Kernel7Ideal.Gen.facts)
    (hReference7Ideal := Cert.Reference7Ideal.Gen.facts) := by
  pair_intro
  · run_from Cert.Kernel7Ideal.Gen.run_main m g
  · run_from Cert.Reference7Ideal.Value.run m' g'
    · exact (Read.val_main_v6_eq _ _).trans ((Rows.ref0 (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1))).trans (Cert.Kernel7Ideal.Value.final2 m c).symm)

/-- The reference runs, leaves its arguments as they were, and has no semaphore. -/
theorem frame : Cert.quiescent_Reference7Ideal (hReference7Ideal := Cert.Reference7Ideal.Gen.facts) := fun m ρ _ =>
  (θ_run Cert.Reference7Ideal.defs _ _).mono (fun r h => And.intro
      (fun c => (h c).2) (Idealize.ShloMosaic.sem_eq_zero_of_no_sems (by decide) r.2))
    (Cert.Reference7Ideal.Value.run (F := Ideal) m ρ)

end Cert.Reference7Ideal

end
-- ==== Proof.OutW.lean ====
module

public import proofs.«01_k».proof.Proof.Gen.Kernel8Ideal.Value
public import proofs.«01_k».proof.Proof.Spec
public import Idealize.ShloMosaic.Lib.Pipeline.ValueKit
public import Idealize.ShloMosaic.Lib.Pipeline.ReadBack

/-! The gradient of the weights `w_out`: what the kernel's result array holds. -/

@[expose] public section

set_option maxRecDepth 16384

noncomputable section

open Idealize.ShloMosaic Idealize.ShloMosaic.TcCoe Idealize.SL.Sem
open Idealize.ShloMosaic.Pipeline (Dat)

namespace Cert.OutW

open Cert.Ffn

/-- The arguments read at numbers. -/
structure Args where
  a : ℕ → ℕ → EReal
  b : ℕ → ℕ → EReal

/-- Entry (r, n) of the result: the sum over the rows. -/
def Args.out (A : Args) (r n : ℕ) : EReal := ∑ k : Fin 4096, A.a k r * A.b k n

/-- The arguments from the arrays. -/
def args (x0 : (⟨2, ![4096, 1024]⟩ : Shape).Idx → EReal) (x1 : (⟨2, ![4096, 1024]⟩ : Shape).Idx → EReal) : Args :=
  ⟨rd2 x0, rd2 x1⟩

end Cert.OutW

namespace Cert.Kernel8Ideal.Value

open Cert.Kernel8Ideal Cert.Kernel8Ideal.Gen Cert.Ffn

/-- A tile of the result. -/
theorem tile (a : FVec Ideal S4096x512 .bf16) (b : FVec Ideal S4096x1024 .bf16) (p : Fin 512) (n : Fin 1024) :
    k0_pay1 (F := Ideal) a b (ix2 p n) = ∑ k : Fin 4096, a (ix2 k p) * b (ix2 k n) := by
  pointwise [k0_pay1]

variable (m : (ℓ : Loc nD τ sig) → Buf (Elt Ideal) ℓ)

/-- The arguments in memory. -/
def A (c : Dev nD) : OutW.Args := OutW.args (m ((c : Thread nD τ).loc main_arg0)) (m ((c : Thread nD τ).loc main_arg1))

/-- Point `t` takes column tile `t` of the first argument and the second whole, and writes row tile `t`. -/
theorem idx : ∀ t : Fin cfg0.N, win0_0.index t = ![0, t.val] ∧ win0_1.index t = ![0, 0] ∧ win0_2.index t = ![t.val, 0]
    ∧ t.val < 2 :=
  (by decide +kernel : ∀ t : Fin grid0.N, _)

variable (c : Dev nD) (t : Fin cfg0.N)

theorem blk0 (q : Fin 4096) (k : Fin 512) : iblk m c 0 t (ix2 q k) = (A m c).a q (512 * t.val + k) := by
  have hj := (idx t).2.2.2
  show _ = rd2 _ _ _
  rw [rd2, dif_pos ⟨by omega, by omega⟩]
  blk_ext [iblk, V, idx t]

theorem blk1 (q : Fin 4096) (k : Fin 1024) : iblk m c 1 t (ix2 q k) = (A m c).b q k := by
  have hj := (idx t).2.2.2
  show _ = rd2 _ _ _
  rw [rd2, dif_pos ⟨by omega, by omega⟩]
  blk_ext [iblk, V, idx t]

/-- Row `q` of the tile that point `t` writes. -/
theorem row (q : Fin 512) (n : Fin 1024) :
    k0_pay1 (F := Ideal) (iblk m c 0 t) (iblk m c 1 t) (ix2 q n) = (A m c).out (512 * t.val + q) n := by
  rw [tile]
  exact Finset.sum_congr rfl fun k _ => congrArg₂ (· * ·) (blk0 m c t k q) (blk1 m c t k n)

/-- The gradient of the weights `w_out`. -/
theorem final2 : (dats m 0 c).arrAt 2 cfg0.N = fun i : S1024x1024.Idx => (A m c).out (i 0).val (i 1).val := by
  refine (dats m 0 c).arrAt_eq_of_covers 2 _ (by decide +kernel) fun t hf y => ?_
  blk_simp
  rw [after0_2, (idx t).2.2.1]
  obtain ⟨q, n, rfl⟩ : ∃ (q : Fin 512) (n : Fin 1024), y = ix2 q n := ⟨y 0, y 1, eq_ix2 y⟩
  refine Eq.trans ?_ ((row m c t q n).trans (congrArg₂ (A m c).out (congrArg (· + q.val) (Nat.mul_comm _ _)) (Nat.zero_add _).symm))
  frame_out

end Cert.Kernel8Ideal.Value

end
-- ==== Proof.OutWRef.lean ====
module

public import proofs.«01_k».proof.Proof.Gen.Reference8Ideal.Run
public import proofs.«01_k».proof.Proof.Gen.Reference8Ideal.Read
public import proofs.«01_k».proof.Proof.OutW

/-! The gradient of the weights `w_out`: what the reference's result is. -/

@[expose] public section

set_option maxRecDepth 16384

noncomputable section

open Idealize.ShloMosaic Idealize.ShloMosaic.Pointwise

namespace Cert.Reference8Ideal.Rows

open Cert.Reference8Ideal Cert.Reference8Ideal.Read Cert.Ffn

variable (x0 : FVec Ideal S4096x1024 .bf16) (x1 : FVec Ideal S4096x1024 .bf16)

/-- The gradient of the weights `w_out`. -/
theorem ref0 : val_main_v6 (F := Ideal) x0 x1 = fun i : S1024x1024.Idx => (OutW.args x0 x1).out (i 0).val (i 1).val := by
  funext i
  idx_vars i
  pointwise [val_main_v6, val_main_v5, val_main_v4, val_main_v3, val_main_v2, val_main_v1, val_main_v0]
  simp only [rd2_ix, OutW.Args.out, OutW.args]
  exact Finset.sum_congr rfl fun k _ => mul_comm _ _

end Cert.Reference8Ideal.Rows

end
-- ==== Proof.OutWClaim.lean ====
module

public import proofs.«01_k».proof.Defs
public import proofs.«01_k».proof.Proof.Gen.Kernel8
public import proofs.«01_k».proof.Proof.Gen.Kernel8.Frame
public import proofs.«01_k».proof.Proof.OutW
public import proofs.«01_k».proof.Proof.OutWRef

/-! The gradient of the weights `w_out`: the ideal kernel and the ideal reference end with the same arrays, and the reference's frame. -/

@[expose] public section

set_option maxRecDepth 16384

noncomputable section

namespace Cert.Reference8Ideal

open Idealize.ShloMosaic Idealize.SL.Sem

variable (m' : (ℓ : Loc Cert.Reference8Ideal.nD Cert.Reference8Ideal.τ Cert.Reference8Ideal.sig) → Buf (Elt Ideal) ℓ)
  (m : (ℓ : Loc Cert.Kernel8Ideal.nD Cert.Kernel8Ideal.τ Cert.Kernel8Ideal.sig) → Buf (Elt Ideal) ℓ)

/-- The reference's arguments. -/
def refArgs (c : Dev Cert.Reference8Ideal.nD) : Cert.OutW.Args :=
  Cert.OutW.args (m' ((c.tc : Thread Cert.Reference8Ideal.nD Cert.Reference8Ideal.τ).loc Cert.Reference8Ideal.main_arg0))
    (m' ((c.tc : Thread Cert.Reference8Ideal.nD Cert.Reference8Ideal.τ).loc Cert.Reference8Ideal.main_arg1))

/-- Where the memories agree on the arguments, any function of the arguments is the same on both sides. -/
theorem args_eq (hagree : ∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1))
    (c : Dev Cert.Kernel8Ideal.nD) {α : Type} (f : Cert.OutW.Args → α) : f (refArgs m' c) = f (Cert.Kernel8Ideal.Value.A m c) := by
  obtain ⟨h0, h1⟩ := hagree c
  unfold refArgs
  rw [h0, h1]
  rfl

/-- The two programs end with the same arrays. -/
theorem algebraic : Cert.algebraic_Kernel8Ideal_Reference8Ideal (hKernel8Ideal := Cert.Kernel8Ideal.Gen.facts)
    (hReference8Ideal := Cert.Reference8Ideal.Gen.facts) := by
  pair_intro
  · run_from Cert.Kernel8Ideal.Gen.run_main m g
  · run_from Cert.Reference8Ideal.Value.run m' g'
    · exact (Read.val_main_v6_eq _ _).trans ((Rows.ref0 (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1))).trans (Cert.Kernel8Ideal.Value.final2 m c).symm)

/-- The reference runs, leaves its arguments as they were, and has no semaphore. -/
theorem frame : Cert.quiescent_Reference8Ideal (hReference8Ideal := Cert.Reference8Ideal.Gen.facts) := fun m ρ _ =>
  (θ_run Cert.Reference8Ideal.defs _ _).mono (fun r h => And.intro
      (fun c => (h c).2) (Idealize.ShloMosaic.sem_eq_zero_of_no_sems (by decide) r.2))
    (Cert.Reference8Ideal.Value.run (F := Ideal) m ρ)

end Cert.Reference8Ideal

end
-- ==== Proof.PeW.lean ====
module

public import proofs.«01_k».proof.Proof.Gen.Kernel9Ideal.Value
public import proofs.«01_k».proof.Proof.Spec
public import Idealize.ShloMosaic.Lib.Pipeline.ValueKit
public import Idealize.ShloMosaic.Lib.Pipeline.ReadBack

/-! The gradient of the weights `w_pe`: what the kernel's result array holds. -/

@[expose] public section

set_option maxRecDepth 16384

noncomputable section

open Idealize.ShloMosaic Idealize.ShloMosaic.TcCoe Idealize.SL.Sem
open Idealize.ShloMosaic.Pipeline (Dat)

namespace Cert.PeW

open Cert.Ffn

/-- The arguments read at numbers. -/
structure Args where
  a : ℕ → ℕ → EReal
  b : ℕ → ℕ → EReal

/-- Entry (r, n) of the result: the sum over the rows. -/
def Args.out (A : Args) (r n : ℕ) : EReal := ∑ k : Fin 4096, A.a k r * A.b k n

/-- The arguments from the arrays. -/
def args (x0 : (⟨2, ![4096, 1024]⟩ : Shape).Idx → EReal) (x1 : (⟨2, ![4096, 256]⟩ : Shape).Idx → EReal) : Args :=
  ⟨rd2 x0, rd2 x1⟩

end Cert.PeW

namespace Cert.Kernel9Ideal.Value

open Cert.Kernel9Ideal Cert.Kernel9Ideal.Gen Cert.Ffn

/-- A tile of the result. -/
theorem tile (a : FVec Ideal S4096x512 .bf16) (b : FVec Ideal S4096x256 .bf16) (p : Fin 512) (n : Fin 256) :
    k0_pay1 (F := Ideal) a b (ix2 p n) = ∑ k : Fin 4096, a (ix2 k p) * b (ix2 k n) := by
  pointwise [k0_pay1]

variable (m : (ℓ : Loc nD τ sig) → Buf (Elt Ideal) ℓ)

/-- The arguments in memory. -/
def A (c : Dev nD) : PeW.Args := PeW.args (m ((c : Thread nD τ).loc main_arg0)) (m ((c : Thread nD τ).loc main_arg1))

/-- Point `t` takes column tile `t` of the first argument and the second whole, and writes row tile `t`. -/
theorem idx : ∀ t : Fin cfg0.N, win0_0.index t = ![0, t.val] ∧ win0_1.index t = ![0, 0] ∧ win0_2.index t = ![t.val, 0]
    ∧ t.val < 2 :=
  (by decide +kernel : ∀ t : Fin grid0.N, _)

variable (c : Dev nD) (t : Fin cfg0.N)

theorem blk0 (q : Fin 4096) (k : Fin 512) : iblk m c 0 t (ix2 q k) = (A m c).a q (512 * t.val + k) := by
  have hj := (idx t).2.2.2
  show _ = rd2 _ _ _
  rw [rd2, dif_pos ⟨by omega, by omega⟩]
  blk_ext [iblk, V, idx t]

theorem blk1 (q : Fin 4096) (k : Fin 256) : iblk m c 1 t (ix2 q k) = (A m c).b q k := by
  have hj := (idx t).2.2.2
  show _ = rd2 _ _ _
  rw [rd2, dif_pos ⟨by omega, by omega⟩]
  blk_ext [iblk, V, idx t]

/-- Row `q` of the tile that point `t` writes. -/
theorem row (q : Fin 512) (n : Fin 256) :
    k0_pay1 (F := Ideal) (iblk m c 0 t) (iblk m c 1 t) (ix2 q n) = (A m c).out (512 * t.val + q) n := by
  rw [tile]
  exact Finset.sum_congr rfl fun k _ => congrArg₂ (· * ·) (blk0 m c t k q) (blk1 m c t k n)

/-- The gradient of the weights `w_pe`. -/
theorem final2 : (dats m 0 c).arrAt 2 cfg0.N = fun i : S1024x256.Idx => (A m c).out (i 0).val (i 1).val := by
  refine (dats m 0 c).arrAt_eq_of_covers 2 _ (by decide +kernel) fun t hf y => ?_
  blk_simp
  rw [after0_2, (idx t).2.2.1]
  obtain ⟨q, n, rfl⟩ : ∃ (q : Fin 512) (n : Fin 256), y = ix2 q n := ⟨y 0, y 1, eq_ix2 y⟩
  refine Eq.trans ?_ ((row m c t q n).trans (congrArg₂ (A m c).out (congrArg (· + q.val) (Nat.mul_comm _ _)) (Nat.zero_add _).symm))
  frame_out

end Cert.Kernel9Ideal.Value

end
-- ==== Proof.PeWRef.lean ====
module

public import proofs.«01_k».proof.Proof.Gen.Reference9Ideal.Run
public import proofs.«01_k».proof.Proof.Gen.Reference9Ideal.Read
public import proofs.«01_k».proof.Proof.PeW

/-! The gradient of the weights `w_pe`: what the reference's result is. -/

@[expose] public section

set_option maxRecDepth 16384

noncomputable section

open Idealize.ShloMosaic Idealize.ShloMosaic.Pointwise

namespace Cert.Reference9Ideal.Rows

open Cert.Reference9Ideal Cert.Reference9Ideal.Read Cert.Ffn

variable (x0 : FVec Ideal S4096x1024 .bf16) (x1 : FVec Ideal S4096x256 .bf16)

/-- The gradient of the weights `w_pe`. -/
theorem ref0 : val_main_v6 (F := Ideal) x0 x1 = fun i : S1024x256.Idx => (PeW.args x0 x1).out (i 0).val (i 1).val := by
  funext i
  idx_vars i
  pointwise [val_main_v6, val_main_v5, val_main_v4, val_main_v3, val_main_v2, val_main_v1, val_main_v0]
  simp only [rd2_ix, PeW.Args.out, PeW.args]
  exact Finset.sum_congr rfl fun k _ => mul_comm _ _

end Cert.Reference9Ideal.Rows

end
-- ==== Proof.PeWClaim.lean ====
module

public import proofs.«01_k».proof.Defs
public import proofs.«01_k».proof.Proof.Gen.Kernel9
public import proofs.«01_k».proof.Proof.Gen.Kernel9.Frame
public import proofs.«01_k».proof.Proof.PeW
public import proofs.«01_k».proof.Proof.PeWRef

/-! The gradient of the weights `w_pe`: the ideal kernel and the ideal reference end with the same arrays, and the reference's frame. -/

@[expose] public section

set_option maxRecDepth 16384

noncomputable section

namespace Cert.Reference9Ideal

open Idealize.ShloMosaic Idealize.SL.Sem

variable (m' : (ℓ : Loc Cert.Reference9Ideal.nD Cert.Reference9Ideal.τ Cert.Reference9Ideal.sig) → Buf (Elt Ideal) ℓ)
  (m : (ℓ : Loc Cert.Kernel9Ideal.nD Cert.Kernel9Ideal.τ Cert.Kernel9Ideal.sig) → Buf (Elt Ideal) ℓ)

/-- The reference's arguments. -/
def refArgs (c : Dev Cert.Reference9Ideal.nD) : Cert.PeW.Args :=
  Cert.PeW.args (m' ((c.tc : Thread Cert.Reference9Ideal.nD Cert.Reference9Ideal.τ).loc Cert.Reference9Ideal.main_arg0))
    (m' ((c.tc : Thread Cert.Reference9Ideal.nD Cert.Reference9Ideal.τ).loc Cert.Reference9Ideal.main_arg1))

/-- Where the memories agree on the arguments, any function of the arguments is the same on both sides. -/
theorem args_eq (hagree : ∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1))
    (c : Dev Cert.Kernel9Ideal.nD) {α : Type} (f : Cert.PeW.Args → α) : f (refArgs m' c) = f (Cert.Kernel9Ideal.Value.A m c) := by
  obtain ⟨h0, h1⟩ := hagree c
  unfold refArgs
  rw [h0, h1]
  rfl

/-- The two programs end with the same arrays. -/
theorem algebraic : Cert.algebraic_Kernel9Ideal_Reference9Ideal (hKernel9Ideal := Cert.Kernel9Ideal.Gen.facts)
    (hReference9Ideal := Cert.Reference9Ideal.Gen.facts) := by
  pair_intro
  · run_from Cert.Kernel9Ideal.Gen.run_main m g
  · run_from Cert.Reference9Ideal.Value.run m' g'
    · exact (Read.val_main_v6_eq _ _).trans ((Rows.ref0 (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1))).trans (Cert.Kernel9Ideal.Value.final2 m c).symm)

/-- The reference runs, leaves its arguments as they were, and has no semaphore. -/
theorem frame : Cert.quiescent_Reference9Ideal (hReference9Ideal := Cert.Reference9Ideal.Gen.facts) := fun m ρ _ =>
  (θ_run Cert.Reference9Ideal.defs _ _).mono (fun r h => And.intro
      (fun c => (h c).2) (Idealize.ShloMosaic.sem_eq_zero_of_no_sems (by decide) r.2))
    (Cert.Reference9Ideal.Value.run (F := Ideal) m ρ)

end Cert.Reference9Ideal

end
-- ==== Proof.OutX.lean ====
module

public import proofs.«01_k».proof.Proof.Gen.Kernel10Ideal.Value
public import proofs.«01_k».proof.Proof.Spec
public import Idealize.ShloMosaic.Lib.Pipeline.ValueKit
public import Idealize.ShloMosaic.Lib.Pipeline.ReadBack

/-! The gradient through the product with `w_out`: what the kernel's result array holds. -/

@[expose] public section

set_option maxRecDepth 16384

noncomputable section

open Idealize.ShloMosaic Idealize.ShloMosaic.TcCoe Idealize.SL.Sem
open Idealize.ShloMosaic.Pipeline (Dat)

namespace Cert.OutX

open Cert.Ffn

/-- The arguments read at numbers. -/
structure Args where
  a : ℕ → ℕ → EReal
  b : ℕ → ℕ → EReal

/-- Entry (r, n) of the result: row r against row n of the weights. -/
def Args.out (A : Args) (r n : ℕ) : EReal := ∑ k : Fin 1024, A.a r k * A.b n k

/-- The arguments from the arrays. -/
def args (x0 : (⟨2, ![4096, 1024]⟩ : Shape).Idx → EReal) (x1 : (⟨2, ![1024, 1024]⟩ : Shape).Idx → EReal) : Args :=
  ⟨rd2 x0, rd2 x1⟩

end Cert.OutX

namespace Cert.Kernel10Ideal.Value

open Cert.Kernel10Ideal Cert.Kernel10Ideal.Gen Cert.Ffn

/-- A tile of the result. -/
theorem tile (a : FVec Ideal S2048x1024 .bf16) (b : FVec Ideal S1024x1024 .bf16) (p : Fin 2048) (n : Fin 1024) :
    k0_pay1 (F := Ideal) a b (ix2 p n) = ∑ k : Fin 1024, a (ix2 p k) * b (ix2 n k) := by
  pointwise [k0_pay1]

variable (m : (ℓ : Loc nD τ sig) → Buf (Elt Ideal) ℓ)

/-- The arguments in memory. -/
def A (c : Dev nD) : OutX.Args := OutX.args (m ((c : Thread nD τ).loc main_arg0)) (m ((c : Thread nD τ).loc main_arg1))

/-- Point `t` takes row tile `t` of the first argument and the weights whole, and writes row tile `t`. -/
theorem idx : ∀ t : Fin cfg0.N, win0_0.index t = ![t.val, 0] ∧ win0_1.index t = ![0, 0] ∧ win0_2.index t = ![t.val, 0]
    ∧ t.val < 2 :=
  (by decide +kernel : ∀ t : Fin grid0.N, _)

variable (c : Dev nD) (t : Fin cfg0.N)

theorem blk0 (q : Fin 2048) (k : Fin 1024) : iblk m c 0 t (ix2 q k) = (A m c).a (2048 * t.val + q) k := by
  have hj := (idx t).2.2.2
  show _ = rd2 _ _ _
  rw [rd2, dif_pos ⟨by omega, by omega⟩]
  blk_ext [iblk, V, idx t]

theorem blk1 (q : Fin 1024) (k : Fin 1024) : iblk m c 1 t (ix2 q k) = (A m c).b q k := by
  have hj := (idx t).2.2.2
  show _ = rd2 _ _ _
  rw [rd2, dif_pos ⟨by omega, by omega⟩]
  blk_ext [iblk, V, idx t]

/-- Row `q` of the tile that point `t` writes. -/
theorem row (q : Fin 2048) (n : Fin 1024) :
    k0_pay1 (F := Ideal) (iblk m c 0 t) (iblk m c 1 t) (ix2 q n) = (A m c).out (2048 * t.val + q) n := by
  rw [tile]
  exact Finset.sum_congr rfl fun k _ => congrArg₂ (· * ·) (blk0 m c t q k) (blk1 m c t n k)

/-- The gradient through the product with `w_out`. -/
theorem final2 : (dats m 0 c).arrAt 2 cfg0.N = fun i : S4096x1024.Idx => (A m c).out (i 0).val (i 1).val := by
  refine (dats m 0 c).arrAt_eq_of_covers 2 _ (by decide +kernel) fun t hf y => ?_
  blk_simp
  rw [after0_2, (idx t).2.2.1]
  obtain ⟨q, n, rfl⟩ : ∃ (q : Fin 2048) (n : Fin 1024), y = ix2 q n := ⟨y 0, y 1, eq_ix2 y⟩
  refine Eq.trans ?_ ((row m c t q n).trans (congrArg₂ (A m c).out (congrArg (· + q.val) (Nat.mul_comm _ _)) (Nat.zero_add _).symm))
  frame_out

end Cert.Kernel10Ideal.Value

end
-- ==== Proof.OutXRef.lean ====
module

public import proofs.«01_k».proof.Proof.Gen.Reference10Ideal.Run
public import proofs.«01_k».proof.Proof.Gen.Reference10Ideal.Read
public import proofs.«01_k».proof.Proof.OutX

/-! The gradient through the product with `w_out`: what the reference's result is. -/

@[expose] public section

set_option maxRecDepth 16384

noncomputable section

open Idealize.ShloMosaic Idealize.ShloMosaic.Pointwise

namespace Cert.Reference10Ideal.Rows

open Cert.Reference10Ideal Cert.Reference10Ideal.Read Cert.Ffn

variable (x0 : FVec Ideal S4096x1024 .bf16) (x1 : FVec Ideal S1024x1024 .bf16)

/-- The gradient through the product with `w_out`. -/
theorem ref0 : val_main_v4 (F := Ideal) x0 x1 = fun i : S4096x1024.Idx => (OutX.args x0 x1).out (i 0).val (i 1).val := by
  funext i
  idx_vars i
  pointwise [val_main_v4, val_main_v3, val_main_v2, val_main_v1, val_main_v0]
  simp only [rd2_ix, OutX.Args.out, OutX.args]

end Cert.Reference10Ideal.Rows

end
-- ==== Proof.OutXClaim.lean ====
module

public import proofs.«01_k».proof.Defs
public import proofs.«01_k».proof.Proof.Gen.Kernel10
public import proofs.«01_k».proof.Proof.Gen.Kernel10.Frame
public import proofs.«01_k».proof.Proof.OutX
public import proofs.«01_k».proof.Proof.OutXRef

/-! The gradient through the product with `w_out`: the ideal kernel and the ideal reference end with the same arrays, and the reference's frame. -/

@[expose] public section

set_option maxRecDepth 16384

noncomputable section

namespace Cert.Reference10Ideal

open Idealize.ShloMosaic Idealize.SL.Sem

variable (m' : (ℓ : Loc Cert.Reference10Ideal.nD Cert.Reference10Ideal.τ Cert.Reference10Ideal.sig) → Buf (Elt Ideal) ℓ)
  (m : (ℓ : Loc Cert.Kernel10Ideal.nD Cert.Kernel10Ideal.τ Cert.Kernel10Ideal.sig) → Buf (Elt Ideal) ℓ)

/-- The reference's arguments. -/
def refArgs (c : Dev Cert.Reference10Ideal.nD) : Cert.OutX.Args :=
  Cert.OutX.args (m' ((c.tc : Thread Cert.Reference10Ideal.nD Cert.Reference10Ideal.τ).loc Cert.Reference10Ideal.main_arg0))
    (m' ((c.tc : Thread Cert.Reference10Ideal.nD Cert.Reference10Ideal.τ).loc Cert.Reference10Ideal.main_arg1))

/-- Where the memories agree on the arguments, any function of the arguments is the same on both sides. -/
theorem args_eq (hagree : ∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1))
    (c : Dev Cert.Kernel10Ideal.nD) {α : Type} (f : Cert.OutX.Args → α) : f (refArgs m' c) = f (Cert.Kernel10Ideal.Value.A m c) := by
  obtain ⟨h0, h1⟩ := hagree c
  unfold refArgs
  rw [h0, h1]
  rfl

/-- The two programs end with the same arrays. -/
theorem algebraic : Cert.algebraic_Kernel10Ideal_Reference10Ideal (hKernel10Ideal := Cert.Kernel10Ideal.Gen.facts)
    (hReference10Ideal := Cert.Reference10Ideal.Gen.facts) := by
  pair_intro
  · run_from Cert.Kernel10Ideal.Gen.run_main m g
  · run_from Cert.Reference10Ideal.Value.run m' g'
    · exact (Read.val_main_v4_eq _ _).trans ((Rows.ref0 (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1))).trans (Cert.Kernel10Ideal.Value.final2 m c).symm)

/-- The reference runs, leaves its arguments as they were, and has no semaphore. -/
theorem frame : Cert.quiescent_Reference10Ideal (hReference10Ideal := Cert.Reference10Ideal.Gen.facts) := fun m ρ _ =>
  (θ_run Cert.Reference10Ideal.defs _ _).mono (fun r h => And.intro
      (fun c => (h c).2) (Idealize.ShloMosaic.sem_eq_zero_of_no_sems (by decide) r.2))
    (Cert.Reference10Ideal.Value.run (F := Ideal) m ρ)

end Cert.Reference10Ideal

end
-- ==== Proof.PleTile.lean ====
module

public import proofs.«01_k».proof.Proof.Gen.Kernel11Ideal.Skeleton
public import proofs.«01_k».proof.Proof.Rms
public import Idealize.ShloMosaic.Lib.Pipeline.ValueKit
public import Idealize.ShloMosaic.Lib.Pipeline.ReadBack

/-! The gradient through the gate and the RMS norm before it: what the kernel's body computes of its tiles. -/

@[expose] public section

set_option maxRecDepth 16384

noncomputable section

open Idealize.ShloMosaic Idealize.ShloMosaic.TcCoe Idealize.SL.Sem
open Idealize.ShloMosaic.Pipeline (Dat)

namespace Cert.Ple

open Cert.Ffn

/-- Row `r` of the embedded rows: row `r` of `p` against row `n` of the weights. -/
def pe (p w : ℕ → ℕ → EReal) (r n : ℕ) : EReal := ∑ k : Fin 256, p r k * w n k
/-- The gradient of what goes into the gate. -/
def dgl (d gl pe : ℕ → ℕ → EReal) (r n : ℕ) : EReal :=
  d r n * pe r n * Ideal.logistic (gl r n) * (1 - Ideal.logistic (gl r n))
/-- The gradient that reaches the norm's output. -/
def dh (a w : ℕ → ℕ → EReal) (r n : ℕ) : EReal := ∑ k : Fin 1024, a r k * w n k

/-- The arguments read at numbers: the gradient of the result, the rows, the gains of the layer, the gate's weights, the
rows to embed and the weights that embed them. -/
structure Args where
  d : ℕ → ℕ → EReal
  x : ℕ → ℕ → EReal
  g : ℕ → EReal
  w : ℕ → ℕ → EReal
  p : ℕ → ℕ → EReal
  e : ℕ → ℕ → EReal

/-- What goes into the gate: the normed rows times its weights. -/
def Args.gl (A : Args) (r n : ℕ) : EReal := ∑ k : Fin 1024, A.x r k * Rms.inv A.x r * A.g k * A.w k n
/-- The gradient of the embedded rows. -/
def Args.dpe (A : Args) (r n : ℕ) : EReal := A.d r n * Ideal.logistic (A.gl r n)
/-- The gradient of what goes into the gate. -/
def Args.dgl (A : Args) : ℕ → ℕ → EReal := Ple.dgl A.d A.gl (Ple.pe A.p A.e)
def Args.dh (A : Args) : ℕ → ℕ → EReal := Ple.dh A.dgl A.w
/-- The gradient of the rows. -/
def Args.dx (A : Args) (r n : ℕ) : EReal := A.d r n + Rms.dinp A.x A.dh A.g r n
/-- The gradient of the gains. -/
def Args.dg (A : Args) (n : ℕ) : EReal := Rms.dgain A.x A.dh n

/-- The arguments from the arrays; the gains are the last layer's. -/
def args (x0 x1 : (⟨2, ![4096, 1024]⟩ : Shape).Idx → EReal) (x2 : (⟨2, ![4, 1024]⟩ : Shape).Idx → EReal)
    (x3 : (⟨2, ![1024, 1024]⟩ : Shape).Idx → EReal) (x4 : (⟨2, ![4096, 256]⟩ : Shape).Idx → EReal)
    (x5 : (⟨2, ![1024, 256]⟩ : Shape).Idx → EReal) : Args :=
  ⟨rd2 x0, rd2 x1, rd2 x2 3, rd2 x3, rd2 x4, rd2 x5⟩

end Cert.Ple

namespace Cert.Kernel11Ideal.Value

open Cert.Kernel11Ideal Cert.Kernel11Ideal.Gen Cert.Ffn

section Tile

variable (d gl : FVec Ideal S512x1024 .f32) (a : FVec Ideal S512x256 .bf16) (e : FVec Ideal S1024x256 .bf16)
  (w : FVec Ideal S1024x1024 .bf16) (x : FVec Ideal S512x1024 .f32) (g : FVec Ideal S1x1x1024 .f32)
  (p : Fin 512) (n : Fin 1024)

/-- What the tile's rows of the gradient of what goes into the gate are. -/
abbrev dglT : ℕ → ℕ → EReal := Ple.dgl (rd2 d) (rd2 gl) (Ple.pe (rd2 a) (rd2 e))

theorem sq_tile (k : Fin 1) : k0_pay10 (F := Ideal) (k0_pay8 x) (k0_pay9 (F := Ideal)) (ix2 p k) = Rms.sq (rd2 x) p := by
  pointwise [k0_pay10, k0_pay8, k0_pay9]
  simp only [rd2_ix, Rms.sq]

theorem inv_tile (k : Fin 1) : k0_pay11 (F := Ideal) (k0_pay8 x) (k0_pay9 (F := Ideal)) (ix2 p k) = Rms.inv (rd2 x) p := by
  pointwise [k0_pay11]
  rw [sq_tile, Rms.inv]

theorem dpe_tile : k0_pay3 (F := Ideal) gl d (ix2 p n) = rd2 d p n * Ideal.logistic (rd2 gl p n) := by
  pointwise [k0_pay3, k0_pay2]
  simp only [rd2_ix]

theorem dgl_tile : k0_pay4 (F := Ideal) gl d a e (ix2 p n) = dglT d gl a e p n := by
  pointwise [k0_pay4, k0_pay2]
  simp only [rd2_ix, Ple.dgl, Ple.pe]

theorem dglb_tile : k0_pay5 (F := Ideal) gl d a e (ix2 p n) = dglT d gl a e p n := by
  rw [← dgl_tile]
  pointwise [k0_pay5]

theorem dh_tile : k0_pay6 (F := Ideal) gl d a e w (ix2 p n) = Ple.dh (dglT d gl a e) (rd2 w) p n := by
  pointwise [k0_pay6]
  simp only [dgl_tile]
  simp only [rd2_ix, Ple.dh]

/-- A tile's rows of the gradient. -/
theorem dx_tile : k0_pay13 (F := Ideal) d (k0_pay6 gl d a e w) x (k0_pay7 g) (k0_pay8 x) (k0_pay9 (F := Ideal)) (ix2 p n)
    = rd2 d p n + Rms.dinp (rd2 x) (Ple.dh (dglT d gl a e) (rd2 w)) (rd3 g 0 0) p n := by
  pointwise [k0_pay13, k0_pay12, k0_pay7]
  simp only [sq_tile, inv_tile, dh_tile]
  simp only [rd2_ix, rd3_ix, Fin.sum_univ_one, Rms.dinp, Rms.pull]
  rfl

theorem dxb_tile : k0_pay14 (F := Ideal) d (k0_pay6 gl d a e w) x (k0_pay7 g) (k0_pay8 x) (k0_pay9 (F := Ideal)) (ix2 p n)
    = rd2 d p n + Rms.dinp (rd2 x) (Ple.dh (dglT d gl a e) (rd2 w)) (rd3 g 0 0) p n := by
  rw [← dx_tile]
  pointwise [k0_pay14, k0_pay13]

/-- A tile's part of the gradient of the gains, added to what was there. -/
theorem dg_tile (y : FVec Ideal S1x1024 .f32) (k : Fin 1) :
    k0_pay1 (F := Ideal) (k0_pay16 (k0_pay6 gl d a e w) x (k0_pay8 x) (k0_pay9 (F := Ideal)) y) (ix2 k n)
    = y (ix2 k n) + ∑ q : Fin 512, rd2 x q n * Rms.inv (rd2 x) q * Ple.dh (dglT d gl a e) (rd2 w) q n := by
  pointwise [k0_pay1, k0_pay16]
  simp only [inv_tile, dh_tile]
  simp only [rd2_ix]

end Tile

end Cert.Kernel11Ideal.Value

end
-- ==== Proof.Ple.lean ====
module

public import proofs.«01_k».proof.Proof.Gen.Kernel11Ideal.Value
public import proofs.«01_k».proof.Proof.PleTile
public import Idealize.ShloMosaic.Lib.Pipeline.ValueKit
public import Idealize.ShloMosaic.Lib.Pipeline.ReadBack

/-! The gradient through the gate and the RMS norm before it: what the kernel's five result arrays hold. -/

@[expose] public section

set_option maxRecDepth 16384

noncomputable section

open Idealize.ShloMosaic Idealize.ShloMosaic.TcCoe Idealize.SL.Sem
open Idealize.ShloMosaic.Pipeline (Dat)

namespace Cert.Kernel11Ideal.Value

open Cert.Kernel11Ideal Cert.Kernel11Ideal.Gen Cert.Ffn

variable (m : (ℓ : Loc nD τ sig) → Buf (Elt Ideal) ℓ)

/-- The arguments in memory. -/
def A (c : Dev nD) : Ple.Args := Ple.args (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5))

/-- Point `t` takes row tile `t`; the weights and the gains are whole. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![3, 0, 0]
    ∧ win0_7.index t = ![t.val, 0] ∧ win0_8.index t = ![t.val, 0] ∧ win0_9.index t = ![0, 0]
    ∧ win0_10.index t = ![t.val, 0] ∧ win0_11.index t = ![t.val, 0] ∧ t.val < 8 :=
  (by decide +kernel : ∀ t : Fin grid0.N, _)

variable (c : Dev nD) (t : Fin cfg0.N)

/-- What the host puts into the gate. -/
theorem host_gl (r : Fin 4096) (n : Fin 1024) : V m c main_v17 (ix2 r n) = (A m c).gl r n := by
  entry_read
  pointwise
  simp only [rd2_ix, Ple.Args.gl, A, Ple.args, Rms.inv, Rms.sq]
  rfl

theorem blk0 (q : Fin 512) (k : Fin 1024) : iblk m c 0 t (ix2 q k) = (A m c).d (512 * t.val + q) k := by
  have hj := (idx t).2.2.2.2.2.2.2.2.2.2.2.2
  show _ = rd2 _ _ _
  rw [rd2, dif_pos ⟨by omega, by omega⟩]
  blk_ext [iblk, V_main_arg0, idx t]

theorem blk1 (q : Fin 512) (k : Fin 1024) : iblk m c 1 t (ix2 q k) = (A m c).gl (512 * t.val + q) k := by
  have hj := (idx t).2.2.2.2.2.2.2.2.2.2.2.2
  rw [← host_gl m c ⟨512 * t.val + q.val, by omega⟩ k]
  blk_ext [iblk, idx t]

theorem blk2 (q : Fin 512) (k : Fin 256) : iblk m c 2 t (ix2 q k) = (A m c).p (512 * t.val + q) k := by
  have hj := (idx t).2.2.2.2.2.2.2.2.2.2.2.2
  show _ = rd2 _ _ _
  rw [rd2, dif_pos ⟨by omega, by omega⟩]
  blk_ext [iblk, V_main_arg4, idx t]

theorem blk3 (q : Fin 1024) (k : Fin 256) : iblk m c 3 t (ix2 q k) = (A m c).e q k := by
  have hj := (idx t).2.2.2.2.2.2.2.2.2.2.2.2
  show _ = rd2 _ _ _
  rw [rd2, dif_pos ⟨by omega, by omega⟩]
  blk_ext [iblk, V_main_arg5, idx t]

theorem blk4 (q : Fin 1024) (k : Fin 1024) : iblk m c 4 t (ix2 q k) = (A m c).w q k := by
  have hj := (idx t).2.2.2.2.2.2.2.2.2.2.2.2
  show _ = rd2 _ _ _
  rw [rd2, dif_pos ⟨by omega, by omega⟩]
  blk_ext [iblk, V_main_arg3, idx t]

theorem blk5 (q : Fin 512) (k : Fin 1024) : iblk m c 5 t (ix2 q k) = (A m c).x (512 * t.val + q) k := by
  have hj := (idx t).2.2.2.2.2.2.2.2.2.2.2.2
  show _ = rd2 _ _ _
  rw [rd2, dif_pos ⟨by omega, by omega⟩]
  blk_ext [iblk, V_main_arg1, idx t]

theorem blk6 (k : Fin 1024) : iblk m c 6 t (ix3 0 0 k) = (A m c).g k := by
  show _ = rd2 _ 3 _
  rw [rd2, dif_pos ⟨by omega, by omega⟩]
  blk_simp [iblk]
  entry_read
  pointwise
  blk_ext [V, idx t]

theorem d_at (q : Fin 512) (n : Fin 1024) : rd2 (iblk m c 0 t) q n = (A m c).d (512 * t.val + q) n := by
  rw [← rd2_ix]; exact blk0 m c t q n

theorem gl_at (q : Fin 512) (n : Fin 1024) : rd2 (iblk m c 1 t) q n = (A m c).gl (512 * t.val + q) n := by
  rw [← rd2_ix]; exact blk1 m c t q n

theorem x_at (q : Fin 512) (n : Fin 1024) : rd2 (iblk m c 5 t) q n = (A m c).x (512 * t.val + q) n := by
  rw [← rd2_ix]; exact blk5 m c t q n

theorem g_at (n : Fin 1024) : rd3 (iblk m c 6 t) 0 0 n = (A m c).g n := by
  refine Eq.trans ?_ (blk6 m c t n)
  exact (rd3_ix (iblk m c 6 t) 0 0 n).symm

/-- The gradient of what goes into the gate, at a point's rows. -/
abbrev glt : ℕ → ℕ → EReal := dglT (iblk m c 0 t) (iblk m c 1 t) (iblk m c 2 t) (iblk m c 3 t)

theorem dgl_at (q : Fin 512) (n : Fin 1024) : glt m c t q n = (A m c).dgl (512 * t.val + q) n := by
  have hp : Ple.pe (rd2 (iblk m c 2 t)) (rd2 (iblk m c 3 t)) q n = Ple.pe (A m c).p (A m c).e (512 * t.val + q) n := by
    unfold Ple.pe
    refine Finset.sum_congr rfl fun k _ => congrArg₂ (· * ·) ?_ ?_
    · rw [← rd2_ix]; exact blk2 m c t q k
    · rw [← rd2_ix]; exact blk3 m c t n k
  unfold glt dglT Ple.Args.dgl Ple.dgl
  rw [d_at, gl_at, hp]

/-- The gradient that reaches the norm's output at a point's rows. -/
def dht : ℕ → ℕ → EReal := Ple.dh (glt m c t) (rd2 (iblk m c 4 t))

theorem dht_at (q : Fin 512) (n : Fin 1024) : dht m c t q n = (A m c).dh (512 * t.val + q) n := by
  unfold dht Ple.Args.dh Ple.dh
  refine Finset.sum_congr rfl fun k _ => congrArg₂ (· * ·) (dgl_at m c t q k) ?_
  rw [← rd2_ix]; exact blk4 m c t n k

/-- A tile's rows, in the array's own rows. -/
theorem tile_at (q : Fin 512) (n : Fin 1024) :
    rd2 (iblk m c 0 t) q n + Rms.dinp (rd2 (iblk m c 5 t)) (dht m c t) (rd3 (iblk m c 6 t) 0 0) q n
      = (A m c).dx (512 * t.val + q) n :=
  congrArg₂ (· + ·) (d_at m c t q n) (Rms.dinp_congr (x_at m c t q) (dht_at m c t q) (g_at m c t) n)

theorem dx_row (q : Fin 512) (n : Fin 1024) :
    (outsAt0 m c t.val t.isLt).1 (ix2 q n) = (A m c).dx (512 * t.val + q) n := by
  rw [← tile_at]
  by_cases h : t.val % 8 = 0
  · rw [outsAt0_A m c t h]; frame_out; exact dx_tile _ _ _ _ _ _ _ q n
  · rw [outsAt0_B m c t h]; frame_out; exact dx_tile _ _ _ _ _ _ _ q n

theorem dxb_row (q : Fin 512) (n : Fin 1024) :
    (outsAt0 m c t.val t.isLt).2.1 (ix2 q n) = (A m c).dx (512 * t.val + q) n := by
  rw [← tile_at]
  by_cases h : t.val % 8 = 0
  · rw [outsAt0_A m c t h]; frame_out; exact dxb_tile _ _ _ _ _ _ _ q n
  · rw [outsAt0_B m c t h]; frame_out; exact dxb_tile _ _ _ _ _ _ _ q n

theorem dpe_row (q : Fin 512) (n : Fin 1024) :
    (outsAt0 m c t.val t.isLt).2.2.2.1 (ix2 q n) = (A m c).dpe (512 * t.val + q) n := by
  refine Eq.trans ?_ (congrArg₂ (fun x y => x * Ideal.logistic y) (d_at m c t q n) (gl_at m c t q n))
  by_cases h : t.val % 8 = 0
  · rw [outsAt0_A m c t h]; frame_out; exact dpe_tile _ _ q n
  · rw [outsAt0_B m c t h]; frame_out; exact dpe_tile _ _ q n

theorem dgl_row (q : Fin 512) (n : Fin 1024) :
    (outsAt0 m c t.val t.isLt).2.2.2.2 (ix2 q n) = (A m c).dgl (512 * t.val + q) n := by
  rw [← dgl_at]
  by_cases h : t.val % 8 = 0
  · rw [outsAt0_A m c t h]; frame_out; exact dglb_tile _ _ _ _ q n
  · rw [outsAt0_B m c t h]; frame_out; exact dglb_tile _ _ _ _ q n

/-- A point's part of the gradient of the gains. -/
def part (n : ℕ) : EReal := ∑ q : Fin 512, rd2 (iblk m c 5 t) q n * Rms.inv (rd2 (iblk m c 5 t)) q * dht m c t q n

theorem dg_A (h : t.val % 8 = 0) (k : Fin 1) (n : Fin 1024) :
    (outsAt0 m c t.val t.isLt).2.2.1 (ix2 k n) = 0 + part m c t n := by
  rw [outsAt0_A m c t h]; frame_out
  exact (dg_tile _ _ _ _ _ _ n _ k).trans (congrArg (· + _) (by pointwise [k0_pay15]))

theorem dg_B (h : ¬t.val % 8 = 0) (k : Fin 1) (n : Fin 1024) :
    (outsAt0 m c t.val t.isLt).2.2.1 (ix2 k n)
      = (outsAt0 m c (t.val - 1) (Nat.lt_of_le_of_lt (Nat.sub_le _ _) t.isLt)).2.2.1 (ix2 k n) + part m c t n := by
  rw [outsAt0_B m c t h]; frame_out
  exact dg_tile _ _ _ _ _ _ n _ k

theorem dg_at (h : t.val % 8 = 7) (k : Fin 1) (n : Fin 1024) :
    (outsAt0 m c t.val t.isLt).2.2.1 (ix2 k n) = (A m c).dg n := by
  rw [Pipeline.eq_sum_fin_of_reset_step_apply_of_flush (fun n h => (outsAt0 m c n h).2.2.1) 8 (fun _ => 0)
    (fun t i => part m c t (i 1).val)
    (fun t h i => by rw [← ix2_eta i]; exact dg_A m c t h _ _)
    (fun t h i => by rw [← ix2_eta i]; exact dg_B m c t h _ _) t h _, zero_add]
  have ht := (idx t).2.2.2.2.2.2.2.2.2.2.2.2
  unfold Ple.Args.dg Rms.dgain
  refine Fin.sum_mul_add_congr fun s q _ => ?_
  refine (Rms.part_congr (x_at m c _ q) (dht_at m c _ q) n).trans ?_
  have hs := s.isLt
  simp only [show 512 * (8 * (t.val / 8) + s.val) + q.val = s.val * 512 + q.val by omega]

/-- The gradient of the rows. -/
theorem final7 : (dats m 0 c).arrAt 7 cfg0.N = fun i : S4096x1024.Idx => (A m c).dx (i 0).val (i 1).val := by
  refine (dats m 0 c).arrAt_eq_of_covers 7 _ (by decide +kernel) fun t hf y => ?_
  blk_simp
  rw [after0_7, (idx t).2.2.2.2.2.2.2.1]
  obtain ⟨q, n, rfl⟩ : ∃ (q : Fin 512) (n : Fin 1024), y = ix2 q n := ⟨y 0, y 1, eq_ix2 y⟩
  exact (dx_row m c t q n).trans (congrArg₂ (A m c).dx (congrArg (· + q.val) (Nat.mul_comm _ _)) (Nat.zero_add _).symm)

/-- The same, narrowed to bf16. -/
theorem final8 : (dats m 0 c).arrAt 8 cfg0.N = fun i : S4096x1024.Idx => (A m c).dx (i 0).val (i 1).val := by
  refine (dats m 0 c).arrAt_eq_of_covers 8 _ (by decide +kernel) fun t hf y => ?_
  blk_simp
  rw [after0_8, (idx t).2.2.2.2.2.2.2.2.1]
  obtain ⟨q, n, rfl⟩ : ∃ (q : Fin 512) (n : Fin 1024), y = ix2 q n := ⟨y 0, y 1, eq_ix2 y⟩
  exact (dxb_row m c t q n).trans (congrArg₂ (A m c).dx (congrArg (· + q.val) (Nat.mul_comm _ _)) (Nat.zero_add _).symm)

/-- The gradient of the embedded rows. -/
theorem final10 : (dats m 0 c).arrAt 10 cfg0.N = fun i : S4096x1024.Idx => (A m c).dpe (i 0).val (i 1).val := by
  refine (dats m 0 c).arrAt_eq_of_covers 10 _ (by decide +kernel) fun t hf y => ?_
  blk_simp
  rw [after0_10, (idx t).2.2.2.2.2.2.2.2.2.2.1]
  obtain ⟨q, n, rfl⟩ : ∃ (q : Fin 512) (n : Fin 1024), y = ix2 q n := ⟨y 0, y 1, eq_ix2 y⟩
  exact (dpe_row m c t q n).trans (congrArg₂ (A m c).dpe (congrArg (· + q.val) (Nat.mul_comm _ _)) (Nat.zero_add _).symm)

/-- The gradient of what goes into the gate. -/
theorem final11 : (dats m 0 c).arrAt 11 cfg0.N = fun i : S4096x1024.Idx => (A m c).dgl (i 0).val (i 1).val := by
  refine (dats m 0 c).arrAt_eq_of_covers 11 _ (by decide +kernel) fun t hf y => ?_
  blk_simp
  rw [after0_11, (idx t).2.2.2.2.2.2.2.2.2.2.2.1]
  obtain ⟨q, n, rfl⟩ : ∃ (q : Fin 512) (n : Fin 1024), y = ix2 q n := ⟨y 0, y 1, eq_ix2 y⟩
  exact (dgl_row m c t q n).trans (congrArg₂ (A m c).dgl (congrArg (· + q.val) (Nat.mul_comm _ _)) (Nat.zero_add _).symm)

/-- The gradient of the gains. -/
theorem final9 : (dats m 0 c).arrAt 9 cfg0.N = fun i : S1x1024.Idx => (A m c).dg (i 1).val := by
  refine (dats m 0 c).arrAt_eq_of_covers 9 _ (by decide +kernel) fun t hf y => ?_
  blk_simp
  rw [after0_9, (idx t).2.2.2.2.2.2.2.2.2.1]
  obtain ⟨k, n, rfl⟩ : ∃ (k : Fin 1) (n : Fin 1024), y = ix2 k n := ⟨y 0, y 1, eq_ix2 y⟩
  exact (dg_at m c t ((flush0_9 t).mp hf) k n).trans (congrArg (A m c).dg (Nat.zero_add _).symm)

end Cert.Kernel11Ideal.Value

end
-- ==== Proof.PleRef.lean ====
module

public import proofs.«01_k».proof.Proof.Gen.Reference11Ideal.Run
public import proofs.«01_k».proof.Proof.Gen.Reference11Ideal.Read
public import proofs.«01_k».proof.Proof.PleTile

/-! The gradient through the gate and the RMS norm before it: what the reference's five results are. -/

@[expose] public section

set_option maxRecDepth 16384

noncomputable section

open Idealize.ShloMosaic Idealize.ShloMosaic.Pointwise

namespace Cert.Reference11Ideal.Rows

open Cert.Reference11Ideal Cert.Reference11Ideal.Read Cert.Ffn

variable (x0 x1 : FVec Ideal S4096x1024 .f32) (x2 : FVec Ideal S4x1024 .f32) (x3 : FVec Ideal S1024x1024 .bf16)
  (x4 : FVec Ideal S4096x256 .bf16) (x5 : FVec Ideal S1024x256 .bf16) (p : Fin 4096) (n : Fin 1024)

theorem sq_row (k : Fin 1) : val_main_v13 (F := Ideal) x1 (ix2 p k) = Rms.sq (rd2 x1) p := by
  pointwise [val_main_v13, val_main_v12, val_main_v11, val_main_v10, val_main_v9, val_main_v8, val_main_v7, val_main_cst,
    val_main_cst_0, val_main_cst_1]
  simp only [rd2_ix, Rms.sq]

theorem inv_row (k : Fin 1) : val_main_v14 (F := Ideal) x1 (ix2 p k) = Rms.inv (rd2 x1) p := by
  pointwise [val_main_v14]
  rw [sq_row, Rms.inv]

/-- The logistic of what goes into the gate. -/
theorem gate_row : val_main_v29 (F := Ideal) x1 x2 x3 (ix2 p n) = Ideal.logistic ((Ple.args x0 x1 x2 x3 x4 x5).gl p n) := by
  pointwise [val_main_v29, val_main_v28, val_main_v27, val_main_v26, val_main_v25, val_main_v24, val_main_v23,
    val_main_v22, val_main_v21, val_main_v20, val_main_v19, val_main_v18, val_main_v6, val_main_v5, val_main_v0,
    val_main_cst_3, val_main_cst_4]
  simp only [inv_row]
  simp only [rd2_ix, Ple.Args.gl, Ple.args, Ideal.logistic]
  rfl

theorem pe_row : val_main_v4 (F := Ideal) x4 x5 (ix2 p n) = Ple.pe (rd2 x4) (rd2 x5) p n := by
  pointwise [val_main_v4, val_main_v3, val_main_v2, val_main_v1]
  simp only [rd2_ix, Ple.pe]

theorem dpe_row : val_main_v37 (F := Ideal) x0 x1 x2 x3 (ix2 p n) = (Ple.args x0 x1 x2 x3 x4 x5).dpe p n := by
  pointwise [val_main_v37, val_main_v35]
  rw [gate_row x0 x1 x2 x3 x4 x5]
  simp only [rd2_ix, Ple.Args.dpe]
  rfl

theorem dgl_row : val_main_v38 (F := Ideal) x0 x1 x2 x3 x4 x5 (ix2 p n) = (Ple.args x0 x1 x2 x3 x4 x5).dgl p n := by
  pointwise [val_main_v38, val_main_v36, val_main_v35, val_main_v32, val_main_v31, val_main_v30, val_main_cst_5]
  rw [gate_row x0 x1 x2 x3 x4 x5, pe_row]
  simp only [rd2_ix, Ple.Args.dgl, Ple.dgl]
  rw [mul_comm (Ple.pe (rd2 x4) (rd2 x5) p n), ← mul_assoc]
  rfl

theorem dh_row : val_main_v39 (F := Ideal) x0 x1 x2 x3 x4 x5 (ix2 p n) = (Ple.args x0 x1 x2 x3 x4 x5).dh p n := by
  pointwise [val_main_v39, val_main_v0]
  simp only [dgl_row]
  simp only [rd2_ix, Ple.Args.dh, Ple.dh]
  rfl

theorem dx_row : val_main_v60 (F := Ideal) x0 x1 x2 x3 x4 x5 (ix2 p n) = (Ple.args x0 x1 x2 x3 x4 x5).dx p n := by
  pointwise [val_main_v60, val_main_v59, val_main_v58, val_main_v57, val_main_v56, val_main_v55, val_main_v54,
    val_main_v53, val_main_v52, val_main_v51, val_main_v50, val_main_v49, val_main_v48, val_main_v47, val_main_v46,
    val_main_v44, val_main_v43, val_main_v20, val_main_v6, val_main_v5, val_main_v17, val_main_v16, val_main_v15,
    val_main_cst_2, val_main_cst_8, val_main_cst_9, val_main_cst_10]
  simp only [sq_row, inv_row, dh_row]
  simp only [rd2_ix, Fin.sum_univ_one, Ple.Args.dx, Rms.dinp, Rms.pull]
  rfl

/-- The gradient of the rows. -/
theorem ref0 : val_main_v60 (F := Ideal) x0 x1 x2 x3 x4 x5 = fun i : S4096x1024.Idx => (Ple.args x0 x1 x2 x3 x4 x5).dx (i 0).val (i 1).val := by
  funext i
  idx_vars i
  exact dx_row x0 x1 x2 x3 x4 x5 _ _

/-- The same, narrowed to bf16. -/
theorem ref1 : val_main_v61 (F := Ideal) x0 x1 x2 x3 x4 x5 = fun i : S4096x1024.Idx => (Ple.args x0 x1 x2 x3 x4 x5).dx (i 0).val (i 1).val := by
  funext i
  idx_vars i
  pointwise [val_main_v61]
  exact dx_row x0 x1 x2 x3 x4 x5 _ _

/-- The gradient of the embedded rows. -/
theorem ref3 : val_main_v63 (F := Ideal) x0 x1 x2 x3 = fun i : S4096x1024.Idx => (Ple.args x0 x1 x2 x3 x4 x5).dpe (i 0).val (i 1).val := by
  funext i
  idx_vars i
  pointwise [val_main_v63]
  exact dpe_row x0 x1 x2 x3 x4 x5 _ _

/-- The gradient of what goes into the gate. -/
theorem ref4 : val_main_v64 (F := Ideal) x0 x1 x2 x3 x4 x5 = fun i : S4096x1024.Idx => (Ple.args x0 x1 x2 x3 x4 x5).dgl (i 0).val (i 1).val := by
  funext i
  idx_vars i
  pointwise [val_main_v64]
  exact dgl_row x0 x1 x2 x3 x4 x5 _ _

/-- The gradient of the gains. -/
theorem ref2 : val_main_v62 (F := Ideal) x0 x1 x2 x3 x4 x5 = fun i : S1x1024.Idx => (Ple.args x0 x1 x2 x3 x4 x5).dg (i 1).val := by
  funext i
  idx_vars i
  pointwise [val_main_v62, val_main_v45, val_main_v42, val_main_v41, val_main_v40, val_main_v19, val_main_v18, val_main_cst_6,
    val_main_cst_7]
  simp only [inv_row, dh_row]
  simp only [rd2_ix, Fin.sum_univ_one, Ple.Args.dg, Rms.dgain]
  rfl

end Cert.Reference11Ideal.Rows

end
-- ==== Proof.PleClaim.lean ====
module

public import proofs.«01_k».proof.Defs
public import proofs.«01_k».proof.Proof.Gen.Kernel11
public import proofs.«01_k».proof.Proof.Gen.Kernel11.Frame
public import proofs.«01_k».proof.Proof.Ple
public import proofs.«01_k».proof.Proof.PleRef

/-! The gradient through the gate and the RMS norm before it: the ideal kernel and the ideal reference end with the same arrays, and the reference's frame. -/

@[expose] public section

set_option maxRecDepth 16384

noncomputable section

namespace Cert.Reference11Ideal

open Idealize.ShloMosaic Idealize.SL.Sem

variable (m' : (ℓ : Loc Cert.Reference11Ideal.nD Cert.Reference11Ideal.τ Cert.Reference11Ideal.sig) → Buf (Elt Ideal) ℓ)
  (m : (ℓ : Loc Cert.Kernel11Ideal.nD Cert.Kernel11Ideal.τ Cert.Kernel11Ideal.sig) → Buf (Elt Ideal) ℓ)

/-- The reference's arguments. -/
def refArgs (c : Dev Cert.Reference11Ideal.nD) : Cert.Ple.Args :=
  Cert.Ple.args (m' ((c.tc : Thread Cert.Reference11Ideal.nD Cert.Reference11Ideal.τ).loc Cert.Reference11Ideal.main_arg0))
    (m' ((c.tc : Thread Cert.Reference11Ideal.nD Cert.Reference11Ideal.τ).loc Cert.Reference11Ideal.main_arg1))
    (m' ((c.tc : Thread Cert.Reference11Ideal.nD Cert.Reference11Ideal.τ).loc Cert.Reference11Ideal.main_arg2))
    (m' ((c.tc : Thread Cert.Reference11Ideal.nD Cert.Reference11Ideal.τ).loc Cert.Reference11Ideal.main_arg3))
    (m' ((c.tc : Thread Cert.Reference11Ideal.nD Cert.Reference11Ideal.τ).loc Cert.Reference11Ideal.main_arg4))
    (m' ((c.tc : Thread Cert.Reference11Ideal.nD Cert.Reference11Ideal.τ).loc Cert.Reference11Ideal.main_arg5))

/-- Where the memories agree on the arguments, any function of the arguments is the same on both sides. -/
theorem args_eq (hagree : ∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5))
    (c : Dev Cert.Kernel11Ideal.nD) {α : Type} (f : Cert.Ple.Args → α) : f (refArgs m' c) = f (Cert.Kernel11Ideal.Value.A m c) := by
  obtain ⟨h0, h1, h2, h3, h4, h5⟩ := hagree c
  unfold refArgs
  rw [h0, h1, h2, h3, h4, h5]
  rfl

/-- The reference's run, its five results stated as functions of the arguments. -/
theorem run_vals (ρ : Dev Cert.Reference11Ideal.nD → PrngReg) :
    θ_run Cert.Reference11Ideal.defs (onTc (τ := Cert.Reference11Ideal.τ) (Cert.Reference11Ideal.main (F := Ideal))) ⟨m', fun _ => 0, ρ⟩ fun r => ∀ c : Dev Cert.Reference11Ideal.nD,
      r.2.mem ((c.tc : Thread Cert.Reference11Ideal.nD Cert.Reference11Ideal.τ).loc Cert.Reference11Ideal.main_v60) = (fun i : Cert.Reference11Ideal.S4096x1024.Idx => (refArgs m' c).dx (i 0).val (i 1).val)
      ∧ r.2.mem ((c.tc : Thread Cert.Reference11Ideal.nD Cert.Reference11Ideal.τ).loc Cert.Reference11Ideal.main_v61) = (fun i : Cert.Reference11Ideal.S4096x1024.Idx => (refArgs m' c).dx (i 0).val (i 1).val)
      ∧ r.2.mem ((c.tc : Thread Cert.Reference11Ideal.nD Cert.Reference11Ideal.τ).loc Cert.Reference11Ideal.main_v62) = (fun i : Cert.Reference11Ideal.S1x1024.Idx => (refArgs m' c).dg (i 1).val)
      ∧ r.2.mem ((c.tc : Thread Cert.Reference11Ideal.nD Cert.Reference11Ideal.τ).loc Cert.Reference11Ideal.main_v63) = (fun i : Cert.Reference11Ideal.S4096x1024.Idx => (refArgs m' c).dpe (i 0).val (i 1).val)
      ∧ r.2.mem ((c.tc : Thread Cert.Reference11Ideal.nD Cert.Reference11Ideal.τ).loc Cert.Reference11Ideal.main_v64) = (fun i : Cert.Reference11Ideal.S4096x1024.Idx => (refArgs m' c).dgl (i 0).val (i 1).val)
      ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5) :=
  (θ_run Cert.Reference11Ideal.defs _ _).mono (fun r h c => ⟨
      (h c).1.trans ((Read.val_main_v60_eq _ _).trans (Rows.ref0 (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2)) (m' ((c.tc : Thread Cert.Reference11Ideal.nD Cert.Reference11Ideal.τ).loc Cert.Reference11Ideal.main_arg3)) (m' ((c.tc : Thread Cert.Reference11Ideal.nD Cert.Reference11Ideal.τ).loc Cert.Reference11Ideal.main_arg4)) (m' ((c.tc : Thread Cert.Reference11Ideal.nD Cert.Reference11Ideal.τ).loc Cert.Reference11Ideal.main_arg5)))),
      (h c).2.1.trans ((Read.val_main_v61_eq _ _).trans (Rows.ref1 (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2)) (m' ((c.tc : Thread Cert.Reference11Ideal.nD Cert.Reference11Ideal.τ).loc Cert.Reference11Ideal.main_arg3)) (m' ((c.tc : Thread Cert.Reference11Ideal.nD Cert.Reference11Ideal.τ).loc Cert.Reference11Ideal.main_arg4)) (m' ((c.tc : Thread Cert.Reference11Ideal.nD Cert.Reference11Ideal.τ).loc Cert.Reference11Ideal.main_arg5)))),
      (h c).2.2.1.trans ((Read.val_main_v62_eq _ _ _ _ _ _).trans (Rows.ref2 (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2)) (m' ((c.tc : Thread Cert.Reference11Ideal.nD Cert.Reference11Ideal.τ).loc Cert.Reference11Ideal.main_arg3)) (m' ((c.tc : Thread Cert.Reference11Ideal.nD Cert.Reference11Ideal.τ).loc Cert.Reference11Ideal.main_arg4)) (m' ((c.tc : Thread Cert.Reference11Ideal.nD Cert.Reference11Ideal.τ).loc Cert.Reference11Ideal.main_arg5)))),
      (h c).2.2.2.1.trans ((Read.val_main_v63_eq _ _ _ _).trans (Rows.ref3 (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2)) (m' ((c.tc : Thread Cert.Reference11Ideal.nD Cert.Reference11Ideal.τ).loc Cert.Reference11Ideal.main_arg3)) (m' ((c.tc : Thread Cert.Reference11Ideal.nD Cert.Reference11Ideal.τ).loc Cert.Reference11Ideal.main_arg4)) (m' ((c.tc : Thread Cert.Reference11Ideal.nD Cert.Reference11Ideal.τ).loc Cert.Reference11Ideal.main_arg5)))),
      (h c).2.2.2.2.1.trans ((Read.val_main_v64_eq _ _ _ _ _ _).trans (Rows.ref4 (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2)) (m' ((c.tc : Thread Cert.Reference11Ideal.nD Cert.Reference11Ideal.τ).loc Cert.Reference11Ideal.main_arg3)) (m' ((c.tc : Thread Cert.Reference11Ideal.nD Cert.Reference11Ideal.τ).loc Cert.Reference11Ideal.main_arg4)) (m' ((c.tc : Thread Cert.Reference11Ideal.nD Cert.Reference11Ideal.τ).loc Cert.Reference11Ideal.main_arg5)))),
      (h c).2.2.2.2.2⟩)
    (Cert.Reference11Ideal.Value.run (F := Ideal) m' ρ)

/-- The two programs end with the same arrays. -/
theorem algebraic : Cert.algebraic_Kernel11Ideal_Reference11Ideal (hKernel11Ideal := Cert.Kernel11Ideal.Gen.facts)
    (hReference11Ideal := Cert.Reference11Ideal.Gen.facts) := by
  pair_intro
  · run_from Cert.Kernel11Ideal.Value.run_blocks m g
  · run_from run_vals m' g'
    · exact (args_eq m' m hagree c (fun A => fun i : Cert.Kernel11Ideal.S4096x1024.Idx => A.dx (i 0).val (i 1).val)).trans (Cert.Kernel11Ideal.Value.final7 m c).symm
    · exact (args_eq m' m hagree c (fun A => fun i : Cert.Kernel11Ideal.S4096x1024.Idx => A.dx (i 0).val (i 1).val)).trans (Cert.Kernel11Ideal.Value.final8 m c).symm
    · exact (args_eq m' m hagree c (fun A => fun i : Cert.Kernel11Ideal.S1x1024.Idx => A.dg (i 1).val)).trans (Cert.Kernel11Ideal.Value.final9 m c).symm
    · exact (args_eq m' m hagree c (fun A => fun i : Cert.Kernel11Ideal.S4096x1024.Idx => A.dpe (i 0).val (i 1).val)).trans (Cert.Kernel11Ideal.Value.final10 m c).symm
    · exact (args_eq m' m hagree c (fun A => fun i : Cert.Kernel11Ideal.S4096x1024.Idx => A.dgl (i 0).val (i 1).val)).trans (Cert.Kernel11Ideal.Value.final11 m c).symm

/-- The reference runs, leaves its arguments as they were, and has no semaphore. -/
theorem frame : Cert.quiescent_Reference11Ideal (hReference11Ideal := Cert.Reference11Ideal.Gen.facts) := fun m ρ _ =>
  (θ_run Cert.Reference11Ideal.defs _ _).mono (fun r h => And.intro
      (fun c => (h c).2.2.2.2.2) (Idealize.ShloMosaic.sem_eq_zero_of_no_sems (by decide) r.2))
    (Cert.Reference11Ideal.Value.run (F := Ideal) m ρ)

end Cert.Reference11Ideal

end
-- ==== Proof.Down.lean ====
module

public import proofs.«01_k».proof.Proof.Gen.Kernel12Ideal.Value
public import proofs.«01_k».proof.Proof.Spec
public import Idealize.ShloMosaic.Lib.Pipeline.ValueKit
public import Idealize.ShloMosaic.Lib.Pipeline.ReadBack

/-! The rows with the product with `w_down` added: what the kernel's result array holds. -/

@[expose] public section

set_option maxRecDepth 16384

noncomputable section

open Idealize.ShloMosaic Idealize.ShloMosaic.TcCoe Idealize.SL.Sem
open Idealize.ShloMosaic.Pipeline (Dat)

namespace Cert.Down

open Cert.Ffn

/-- The arguments read at numbers. -/
structure Args where
  a : ℕ → ℕ → EReal
  b : ℕ → ℕ → EReal
  x : ℕ → ℕ → EReal

/-- Entry (r, n) of the result: what was there and row r against column n of the weights. -/
def Args.out (A : Args) (r n : ℕ) : EReal := A.x r n + ∑ k : Fin 2816, A.a r k * A.b k n

/-- The arguments from the arrays. -/
def args (x0 : (⟨2, ![4096, 2816]⟩ : Shape).Idx → EReal) (x1 : (⟨2, ![2816, 1024]⟩ : Shape).Idx → EReal) (x2 : (⟨2, ![4096, 1024]⟩ : Shape).Idx → EReal) : Args :=
  ⟨rd2 x0, rd2 x1, rd2 x2⟩

end Cert.Down

namespace Cert.Kernel12Ideal.Value

open Cert.Kernel12Ideal Cert.Kernel12Ideal.Gen Cert.Ffn

/-- A tile of the result. -/
theorem tile (a : FVec Ideal S512x2816 .bf16) (b : FVec Ideal S2816x1024 .bf16) (x : FVec Ideal S512x1024 .f32) (p : Fin 512) (n : Fin 1024) :
    k0_pay1 (F := Ideal) a b x (ix2 p n) = x (ix2 p n) + ∑ k : Fin 2816, a (ix2 p k) * b (ix2 k n) := by
  pointwise [k0_pay1]
  exact add_comm _ _

variable (m : (ℓ : Loc nD τ sig) → Buf (Elt Ideal) ℓ)

/-- The arguments in memory. -/
def A (c : Dev nD) : Down.Args := Down.args (m ((c : Thread nD τ).loc main_arg0)) (m ((c : Thread nD τ).loc main_arg1)) (m ((c : Thread nD τ).loc main_arg2))

/-- Point `t` takes row tile `t` of the first argument, the weights whole and row tile `t` of the rows, and writes row tile `t`. -/
theorem idx : ∀ t : Fin cfg0.N, win0_0.index t = ![t.val, 0] ∧ win0_1.index t = ![0, 0] ∧ win0_2.index t = ![t.val, 0] ∧ win0_3.index t = ![t.val, 0]
    ∧ t.val < 8 :=
  (by decide +kernel : ∀ t : Fin grid0.N, _)

variable (c : Dev nD) (t : Fin cfg0.N)

theorem blk0 (q : Fin 512) (k : Fin 2816) : iblk m c 0 t (ix2 q k) = (A m c).a (512 * t.val + q) k := by
  have hj := (idx t).2.2.2.2
  show _ = rd2 _ _ _
  rw [rd2, dif_pos ⟨by omega, by omega⟩]
  blk_ext [iblk, V, idx t]

theorem blk1 (q : Fin 2816) (k : Fin 1024) : iblk m c 1 t (ix2 q k) = (A m c).b q k := by
  have hj := (idx t).2.2.2.2
  show _ = rd2 _ _ _
  rw [rd2, dif_pos ⟨by omega, by omega⟩]
  blk_ext [iblk, V, idx t]

theorem blk2 (q : Fin 512) (k : Fin 1024) : iblk m c 2 t (ix2 q k) = (A m c).x (512 * t.val + q) k := by
  have hj := (idx t).2.2.2.2
  show _ = rd2 _ _ _
  rw [rd2, dif_pos ⟨by omega, by omega⟩]
  blk_ext [iblk, V, idx t]

/-- Row `q` of the tile that point `t` writes. -/
theorem row (q : Fin 512) (n : Fin 1024) :
    k0_pay1 (F := Ideal) (iblk m c 0 t) (iblk m c 1 t) (iblk m c 2 t) (ix2 q n) = (A m c).out (512 * t.val + q) n := by
  rw [tile]
  exact congrArg₂ (· + ·) (blk2 m c t q n) (Finset.sum_congr rfl fun k _ => congrArg₂ (· * ·) (blk0 m c t q k) (blk1 m c t k n))

/-- The rows with the product with `w_down` added. -/
theorem final3 : (dats m 0 c).arrAt 3 cfg0.N = fun i : S4096x1024.Idx => (A m c).out (i 0).val (i 1).val := by
  refine (dats m 0 c).arrAt_eq_of_covers 3 _ (by decide +kernel) fun t hf y => ?_
  blk_simp
  rw [after0_3, (idx t).2.2.2.1]
  obtain ⟨q, n, rfl⟩ : ∃ (q : Fin 512) (n : Fin 1024), y = ix2 q n := ⟨y 0, y 1, eq_ix2 y⟩
  refine Eq.trans ?_ ((row m c t q n).trans (congrArg₂ (A m c).out (congrArg (· + q.val) (Nat.mul_comm _ _)) (Nat.zero_add _).symm))
  frame_out

end Cert.Kernel12Ideal.Value

end
-- ==== Proof.DownRef.lean ====
module

public import proofs.«01_k».proof.Proof.Gen.Reference12Ideal.Run
public import proofs.«01_k».proof.Proof.Gen.Reference12Ideal.Read
public import proofs.«01_k».proof.Proof.Down

/-! The rows with the product with `w_down` added: what the reference's result is. -/

@[expose] public section

set_option maxRecDepth 16384

noncomputable section

open Idealize.ShloMosaic Idealize.ShloMosaic.Pointwise

namespace Cert.Reference12Ideal.Rows

open Cert.Reference12Ideal Cert.Reference12Ideal.Read Cert.Ffn

variable (x0 : FVec Ideal S4096x2816 .bf16) (x1 : FVec Ideal S2816x1024 .bf16) (x2 : FVec Ideal S4096x1024 .f32)

/-- The rows with the product with `w_down` added. -/
theorem ref0 : val_main_v3 (F := Ideal) x0 x1 x2 = fun i : S4096x1024.Idx => (Down.args x0 x1 x2).out (i 0).val (i 1).val := by
  funext i
  idx_vars i
  pointwise [val_main_v3, val_main_v2, val_main_v1, val_main_v0]
  simp only [rd2_ix, Down.Args.out, Down.args]

end Cert.Reference12Ideal.Rows

end
-- ==== Proof.DownClaim.lean ====
module

public import proofs.«01_k».proof.Defs
public import proofs.«01_k».proof.Proof.Gen.Kernel12
public import proofs.«01_k».proof.Proof.Gen.Kernel12.Frame
public import proofs.«01_k».proof.Proof.Down
public import proofs.«01_k».proof.Proof.DownRef

/-! The rows with the product with `w_down` added: the ideal kernel and the ideal reference end with the same arrays, and the reference's frame. -/

@[expose] public section

set_option maxRecDepth 16384

noncomputable section

namespace Cert.Reference12Ideal

open Idealize.ShloMosaic Idealize.SL.Sem

variable (m' : (ℓ : Loc Cert.Reference12Ideal.nD Cert.Reference12Ideal.τ Cert.Reference12Ideal.sig) → Buf (Elt Ideal) ℓ)
  (m : (ℓ : Loc Cert.Kernel12Ideal.nD Cert.Kernel12Ideal.τ Cert.Kernel12Ideal.sig) → Buf (Elt Ideal) ℓ)

/-- The reference's arguments. -/
def refArgs (c : Dev Cert.Reference12Ideal.nD) : Cert.Down.Args :=
  Cert.Down.args (m' ((c.tc : Thread Cert.Reference12Ideal.nD Cert.Reference12Ideal.τ).loc Cert.Reference12Ideal.main_arg0))
    (m' ((c.tc : Thread Cert.Reference12Ideal.nD Cert.Reference12Ideal.τ).loc Cert.Reference12Ideal.main_arg1))
    (m' ((c.tc : Thread Cert.Reference12Ideal.nD Cert.Reference12Ideal.τ).loc Cert.Reference12Ideal.main_arg2))

/-- Where the memories agree on the arguments, any function of the arguments is the same on both sides. -/
theorem args_eq (hagree : ∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2))
    (c : Dev Cert.Kernel12Ideal.nD) {α : Type} (f : Cert.Down.Args → α) : f (refArgs m' c) = f (Cert.Kernel12Ideal.Value.A m c) := by
  obtain ⟨h0, h1, h2⟩ := hagree c
  unfold refArgs
  rw [h0, h1, h2]
  rfl

/-- The two programs end with the same arrays. -/
theorem algebraic : Cert.algebraic_Kernel12Ideal_Reference12Ideal (hKernel12Ideal := Cert.Kernel12Ideal.Gen.facts)
    (hReference12Ideal := Cert.Reference12Ideal.Gen.facts) := by
  pair_intro
  · run_from Cert.Kernel12Ideal.Gen.run_main m g
  · run_from Cert.Reference12Ideal.Value.run m' g'
    · exact (Read.val_main_v3_eq _ _ _).trans ((Rows.ref0 (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2))).trans (Cert.Kernel12Ideal.Value.final3 m c).symm)

/-- The reference runs, leaves its arguments as they were, and has no semaphore. -/
theorem frame : Cert.quiescent_Reference12Ideal (hReference12Ideal := Cert.Reference12Ideal.Gen.facts) := fun m ρ _ =>
  (θ_run Cert.Reference12Ideal.defs _ _).mono (fun r h => And.intro
      (fun c => (h c).2) (Idealize.ShloMosaic.sem_eq_zero_of_no_sems (by decide) r.2))
    (Cert.Reference12Ideal.Value.run (F := Ideal) m ρ)

end Cert.Reference12Ideal

end
-- ==== Proof.Out.lean ====
module

public import proofs.«01_k».proof.Proof.Gen.Kernel13Ideal.Value
public import proofs.«01_k».proof.Proof.Spec
public import Idealize.ShloMosaic.Lib.Pipeline.ValueKit
public import Idealize.ShloMosaic.Lib.Pipeline.ReadBack

/-! The rows with the product with `w_out` added: what the kernel's result array holds. -/

@[expose] public section

set_option maxRecDepth 16384

noncomputable section

open Idealize.ShloMosaic Idealize.ShloMosaic.TcCoe Idealize.SL.Sem
open Idealize.ShloMosaic.Pipeline (Dat)

namespace Cert.Out

open Cert.Ffn

/-- The arguments read at numbers. -/
structure Args where
  a : ℕ → ℕ → EReal
  b : ℕ → ℕ → EReal
  x : ℕ → ℕ → EReal

/-- Entry (r, n) of the result: what was there and row r against column n of the weights. -/
def Args.out (A : Args) (r n : ℕ) : EReal := A.x r n + ∑ k : Fin 1024, A.a r k * A.b k n

/-- The arguments from the arrays. -/
def args (x0 : (⟨2, ![4096, 1024]⟩ : Shape).Idx → EReal) (x1 : (⟨2, ![1024, 1024]⟩ : Shape).Idx → EReal) (x2 : (⟨2, ![4096, 1024]⟩ : Shape).Idx → EReal) : Args :=
  ⟨rd2 x0, rd2 x1, rd2 x2⟩

end Cert.Out

namespace Cert.Kernel13Ideal.Value

open Cert.Kernel13Ideal Cert.Kernel13Ideal.Gen Cert.Ffn

/-- A tile of the result. -/
theorem tile (a : FVec Ideal S1024x1024 .bf16) (b : FVec Ideal S1024x1024 .bf16) (x : FVec Ideal S1024x1024 .f32) (p : Fin 1024) (n : Fin 1024) :
    k0_pay1 (F := Ideal) a b x (ix2 p n) = x (ix2 p n) + ∑ k : Fin 1024, a (ix2 p k) * b (ix2 k n) := by
  pointwise [k0_pay1]
  exact add_comm _ _

variable (m : (ℓ : Loc nD τ sig) → Buf (Elt Ideal) ℓ)

/-- The arguments in memory. -/
def A (c : Dev nD) : Out.Args := Out.args (m ((c : Thread nD τ).loc main_arg0)) (m ((c : Thread nD τ).loc main_arg1)) (m ((c : Thread nD τ).loc main_arg2))

/-- Point `t` takes row tile `t` of the first argument, the weights whole and row tile `t` of the rows, and writes row tile `t`. -/
theorem idx : ∀ t : Fin cfg0.N, win0_0.index t = ![t.val, 0] ∧ win0_1.index t = ![0, 0] ∧ win0_2.index t = ![t.val, 0] ∧ win0_3.index t = ![t.val, 0]
    ∧ t.val < 4 :=
  (by decide +kernel : ∀ t : Fin grid0.N, _)

variable (c : Dev nD) (t : Fin cfg0.N)

theorem blk0 (q : Fin 1024) (k : Fin 1024) : iblk m c 0 t (ix2 q k) = (A m c).a (1024 * t.val + q) k := by
  have hj := (idx t).2.2.2.2
  show _ = rd2 _ _ _
  rw [rd2, dif_pos ⟨by omega, by omega⟩]
  blk_ext [iblk, V, idx t]

theorem blk1 (q : Fin 1024) (k : Fin 1024) : iblk m c 1 t (ix2 q k) = (A m c).b q k := by
  have hj := (idx t).2.2.2.2
  show _ = rd2 _ _ _
  rw [rd2, dif_pos ⟨by omega, by omega⟩]
  blk_ext [iblk, V, idx t]

theorem blk2 (q : Fin 1024) (k : Fin 1024) : iblk m c 2 t (ix2 q k) = (A m c).x (1024 * t.val + q) k := by
  have hj := (idx t).2.2.2.2
  show _ = rd2 _ _ _
  rw [rd2, dif_pos ⟨by omega, by omega⟩]
  blk_ext [iblk, V, idx t]

/-- Row `q` of the tile that point `t` writes. -/
theorem row (q : Fin 1024) (n : Fin 1024) :
    k0_pay1 (F := Ideal) (iblk m c 0 t) (iblk m c 1 t) (iblk m c 2 t) (ix2 q n) = (A m c).out (1024 * t.val + q) n := by
  rw [tile]
  exact congrArg₂ (· + ·) (blk2 m c t q n) (Finset.sum_congr rfl fun k _ => congrArg₂ (· * ·) (blk0 m c t q k) (blk1 m c t k n))

/-- The rows with the product with `w_out` added. -/
theorem final3 : (dats m 0 c).arrAt 3 cfg0.N = fun i : S4096x1024.Idx => (A m c).out (i 0).val (i 1).val := by
  refine (dats m 0 c).arrAt_eq_of_covers 3 _ (by decide +kernel) fun t hf y => ?_
  blk_simp
  rw [after0_3, (idx t).2.2.2.1]
  obtain ⟨q, n, rfl⟩ : ∃ (q : Fin 1024) (n : Fin 1024), y = ix2 q n := ⟨y 0, y 1, eq_ix2 y⟩
  refine Eq.trans ?_ ((row m c t q n).trans (congrArg₂ (A m c).out (congrArg (· + q.val) (Nat.mul_comm _ _)) (Nat.zero_add _).symm))
  frame_out

end Cert.Kernel13Ideal.Value

end
-- ==== Proof.OutRef.lean ====
module

public import proofs.«01_k».proof.Proof.Gen.Reference13Ideal.Run
public import proofs.«01_k».proof.Proof.Gen.Reference13Ideal.Read
public import proofs.«01_k».proof.Proof.Out

/-! The rows with the product with `w_out` added: what the reference's result is. -/

@[expose] public section

set_option maxRecDepth 16384

noncomputable section

open Idealize.ShloMosaic Idealize.ShloMosaic.Pointwise

namespace Cert.Reference13Ideal.Rows

open Cert.Reference13Ideal Cert.Reference13Ideal.Read Cert.Ffn

variable (x0 : FVec Ideal S4096x1024 .bf16) (x1 : FVec Ideal S1024x1024 .bf16) (x2 : FVec Ideal S4096x1024 .f32)

/-- The rows with the product with `w_out` added. -/
theorem ref0 : val_main_v3 (F := Ideal) x0 x1 x2 = fun i : S4096x1024.Idx => (Out.args x0 x1 x2).out (i 0).val (i 1).val := by
  funext i
  idx_vars i
  pointwise [val_main_v3, val_main_v2, val_main_v1, val_main_v0]
  simp only [rd2_ix, Out.Args.out, Out.args]

end Cert.Reference13Ideal.Rows

end
-- ==== Proof.OutClaim.lean ====
module

public import proofs.«01_k».proof.Defs
public import proofs.«01_k».proof.Proof.Gen.Kernel13
public import proofs.«01_k».proof.Proof.Gen.Kernel13.Frame
public import proofs.«01_k».proof.Proof.Out
public import proofs.«01_k».proof.Proof.OutRef

/-! The rows with the product with `w_out` added: the ideal kernel and the ideal reference end with the same arrays, and the reference's frame. -/

@[expose] public section

set_option maxRecDepth 16384

noncomputable section

namespace Cert.Reference13Ideal

open Idealize.ShloMosaic Idealize.SL.Sem

variable (m' : (ℓ : Loc Cert.Reference13Ideal.nD Cert.Reference13Ideal.τ Cert.Reference13Ideal.sig) → Buf (Elt Ideal) ℓ)
  (m : (ℓ : Loc Cert.Kernel13Ideal.nD Cert.Kernel13Ideal.τ Cert.Kernel13Ideal.sig) → Buf (Elt Ideal) ℓ)

/-- The reference's arguments. -/
def refArgs (c : Dev Cert.Reference13Ideal.nD) : Cert.Out.Args :=
  Cert.Out.args (m' ((c.tc : Thread Cert.Reference13Ideal.nD Cert.Reference13Ideal.τ).loc Cert.Reference13Ideal.main_arg0))
    (m' ((c.tc : Thread Cert.Reference13Ideal.nD Cert.Reference13Ideal.τ).loc Cert.Reference13Ideal.main_arg1))
    (m' ((c.tc : Thread Cert.Reference13Ideal.nD Cert.Reference13Ideal.τ).loc Cert.Reference13Ideal.main_arg2))

/-- Where the memories agree on the arguments, any function of the arguments is the same on both sides. -/
theorem args_eq (hagree : ∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2))
    (c : Dev Cert.Kernel13Ideal.nD) {α : Type} (f : Cert.Out.Args → α) : f (refArgs m' c) = f (Cert.Kernel13Ideal.Value.A m c) := by
  obtain ⟨h0, h1, h2⟩ := hagree c
  unfold refArgs
  rw [h0, h1, h2]
  rfl

/-- The two programs end with the same arrays. -/
theorem algebraic : Cert.algebraic_Kernel13Ideal_Reference13Ideal (hKernel13Ideal := Cert.Kernel13Ideal.Gen.facts)
    (hReference13Ideal := Cert.Reference13Ideal.Gen.facts) := by
  pair_intro
  · run_from Cert.Kernel13Ideal.Gen.run_main m g
  · run_from Cert.Reference13Ideal.Value.run m' g'
    · exact (Read.val_main_v3_eq _ _ _).trans ((Rows.ref0 (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2))).trans (Cert.Kernel13Ideal.Value.final3 m c).symm)

/-- The reference runs, leaves its arguments as they were, and has no semaphore. -/
theorem frame : Cert.quiescent_Reference13Ideal (hReference13Ideal := Cert.Reference13Ideal.Gen.facts) := fun m ρ _ =>
  (θ_run Cert.Reference13Ideal.defs _ _).mono (fun r h => And.intro
      (fun c => (h c).2) (Idealize.ShloMosaic.sem_eq_zero_of_no_sems (by decide) r.2))
    (Cert.Reference13Ideal.Value.run (F := Ideal) m ρ)

end Cert.Reference13Ideal

end
-- ==== Proof.InFrame.lean ====
module

public import proofs.«01_k».proof.Proof.Gen.Kernel14Ideal.Frame
public import proofs.«01_k».proof.Proof.Gen.Kernel14Ideal.Skeleton
public import Idealize.ShloMosaic.Lib.Pipeline.ReadBack
public import Idealize.ShloMosaic.Lib.Pipeline.TableIdle
public import Idealize.ShloMosaic.Lib.Pipeline.ValueKit
public import Idealize.ShloMosaic.Lib.Claim

/-! The frame of program 14 over the extended reals and any other values. The body normalises a block of rows at the first of
the 3 points that share it and keeps the result in a scratch, which the other points read. So after a point the scratch holds
the normalised rows of its block (`PhiS`), and the block's result window keeps them until the last of these points. -/

@[expose] public section

set_option maxRecDepth 16384

noncomputable section

namespace Cert.Kernel14Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which points a block's first is -/

/-- The body's condition 0: the second grid coordinate is 0. -/
abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 3 = 0 :=
  (fun t => by
    have ht : t.val < 12 := Nat.lt_of_lt_of_eq t.isLt N_0
    have e1 : (grid0.coords t 1).val = t.val / 1 % 3 := Pipeline.Grid.coords_val t 1 (by decide) rfl
    simp only [cond0_0, e1]
    word_cmp
   : ∀ t : Fin grid0.N, cond0_0 (grid0.coords t) ↔ t.val % 3 = 0)

/-- The first of the points that share point `t`'s block. -/
def rep (t : Fin cfg0.N) : Fin cfg0.N := ⟨3 * (t.val / 3), lt_of_le_of_lt (Nat.mul_div_le _ _) t.isLt⟩

theorem rep_self (t : Fin cfg0.N) (h : t.val % 3 = 0) : rep t = t := by
  apply Fin.ext; simp only [rep]; omega

theorem rep_prev (t : Fin cfg0.N) (h : ¬t.val % 3 = 0) (hlt : t.val - 1 < cfg0.N) : rep ⟨t.val - 1, hlt⟩ = rep t := by
  apply Fin.ext; simp only [rep]; omega

/-! ## Staging buffers and scratch -/

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S768x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x768 .f32 := win0_4.stage (cfg0.slots t 4)
abbrev hs0_4 (t : Fin cfg0.N) : (ms0_4 t).IsWhole := hstage0_4 ((cfg0.slots t 4).cast nbuf0_4)
abbrev VO0_3 : View sig .tc .vmem S1024x1024 .bf16 := (Memref.whole cc0_stg3_0 : Memref sig .tc .vmem S1024x1024 .bf16).view
abbrev VO0_4 : View sig .tc .vmem S1024x768 .f32 := (Memref.whole cc0_stg4_0 : Memref sig .tc .vmem S1024x768 .f32).view
abbrev scM0_0 : Memref sig .tc .vmem S1024x1024 .bf16 := Memref.whole cc0_scratch0
abbrev VS0_0 : View sig .tc .vmem S1024x1024 .bf16 := scM0_0.view

/-- The invariant the region starts from: the scratch at anything, the generator register at some state. -/
theorem PhiA0_eq (c : Dev nD) :
    (Pipeline.ΦA spec0 c : sProp 𝕄) = iprop((∃ d, owns (c : Thread nD τ) scM0_0 fullShare d) ∗ (∃ r, prngReg c r)) := by
  unfold Pipeline.ΦA; rw [scopedRest0_eq]; simp only [scM0_0, owns_whole]; try rfl

/-! ## The body's two runs -/

section RunA

variable (c : Dev nD) (i : grid0.Coords) (arg2 : Memref sig .tc .vmem S1024x1024 .f32) (harg2 : arg2.IsWhole) (arg3 : Memref sig .tc .vmem S1x1x1024 .f32) (harg3 : arg3.IsWhole) (arg4 : Memref sig .tc .vmem S768x1024 .bf16) (harg4 : arg4.IsWhole) (arg5 : Memref sig .tc .vmem S1024x1024 .bf16) (harg5 : arg5.IsWhole) (arg6 : Memref sig .tc .vmem S1024x768 .f32) (harg6 : arg6.IsWhole) (arg7 : Memref sig .tc .vmem S1024x1024 .bf16) (harg7 : arg7.IsWhole) (hc0 : cond0_0 i)
  (x0 : Vec F S1024x1024 .f32) (x1 : Vec F S1x1x1024 .f32) (x2 : Vec F S768x1024 .bf16)

set_option maxHeartbeats 1000000 in
/-- A block's first point: what its stores leave in the result windows and in the scratch. -/
noncomputable def kernelRun0_A :
    Σ' (L3 : List (View.Piece (Elt F) S1024x1024 .bf16)), Σ' (L4 : List (View.Piece (Elt F) S1024x768 .f32)), { LS0 : List (View.Piece (Elt F) S1024x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0_l3_proj_in i arg2 harg2 arg3 harg3 arg4 harg4 arg5 harg5 arg6 harg6 arg7 harg7) K } := by
  refine ⟨?_, ?_, ?_, fun E K => ?run⟩
  case run =>
    simp only [cc0_l3_proj_in_eq_skeleton]; unfold cc0_l3_proj_in_skel
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

theorem cover0_A_3 (y : S1024x1024.Idx) :
    ∃ pc ∈ (kernelRun0_A c i arg2 harg2 arg3 harg3 arg4 harg4 arg5 harg5 arg6 harg6 arg7 harg7 hc0 x0 x1 x2).1, y ∈ pc.1.set :=
  View.cover_of_tiledL (kernelRun0_A c i arg2 harg2 arg3 harg3 arg4 harg4 arg5 harg5 arg6 harg6 arg7 harg7 hc0 x0 x1 x2).1 S1024x1024.size (by sl_kernel_rfl) y

def out0_A_3 : Vec F S1024x1024 .bf16 :=
  VO0_3.read (Elt F) (VO0_3.writes (Elt F) VO0_3.junk (kernelRun0_A c i arg2 harg2 arg3 harg3 arg4 harg4 arg5 harg5 arg6 harg6 arg7 harg7 hc0 x0 x1 x2).1)

theorem out0_A_3_eq :
    out0_A_3 c i arg2 harg2 arg3 harg3 arg4 harg4 arg5 harg5 arg6 harg6 arg7 harg7 hc0 x0 x1 x2 = k0_pay3 x0 x1 := by
  frame_out

theorem cover0_A_4 (y : S1024x768.Idx) :
    ∃ pc ∈ (kernelRun0_A c i arg2 harg2 arg3 harg3 arg4 harg4 arg5 harg5 arg6 harg6 arg7 harg7 hc0 x0 x1 x2).2.1, y ∈ pc.1.set :=
  View.cover_of_tiledL (kernelRun0_A c i arg2 harg2 arg3 harg3 arg4 harg4 arg5 harg5 arg6 harg6 arg7 harg7 hc0 x0 x1 x2).2.1 S1024x768.size (by sl_kernel_rfl) y

def out0_A_4 : Vec F S1024x768 .f32 :=
  VO0_4.read (Elt F) (VO0_4.writes (Elt F) VO0_4.junk (kernelRun0_A c i arg2 harg2 arg3 harg3 arg4 harg4 arg5 harg5 arg6 harg6 arg7 harg7 hc0 x0 x1 x2).2.1)

theorem out0_A_4_eq :
    out0_A_4 c i arg2 harg2 arg3 harg3 arg4 harg4 arg5 harg5 arg6 harg6 arg7 harg7 hc0 x0 x1 x2 = k0_pay4 (k0_pay2 x0 x1) x2 := by
  frame_out

theorem scover0_A_0 (y : S1024x1024.Idx) :
    ∃ pc ∈ (kernelRun0_A c i arg2 harg2 arg3 harg3 arg4 harg4 arg5 harg5 arg6 harg6 arg7 harg7 hc0 x0 x1 x2).2.2.1, y ∈ pc.1.set :=
  View.cover_of_tiledL (kernelRun0_A c i arg2 harg2 arg3 harg3 arg4 harg4 arg5 harg5 arg6 harg6 arg7 harg7 hc0 x0 x1 x2).2.2.1 S1024x1024.size (by sl_kernel_rfl) y

def sout0_A_0 : Vec F S1024x1024 .bf16 :=
  VS0_0.read (Elt F) (VS0_0.writes (Elt F) VS0_0.junk (kernelRun0_A c i arg2 harg2 arg3 harg3 arg4 harg4 arg5 harg5 arg6 harg6 arg7 harg7 hc0 x0 x1 x2).2.2.1)

theorem sout0_A_0_eq :
    sout0_A_0 c i arg2 harg2 arg3 harg3 arg4 harg4 arg5 harg5 arg6 harg6 arg7 harg7 hc0 x0 x1 x2 = k0_pay2 x0 x1 := by
  frame_out

end RunA

section RunB

variable (c : Dev nD) (i : grid0.Coords) (arg2 : Memref sig .tc .vmem S1024x1024 .f32) (harg2 : arg2.IsWhole) (arg3 : Memref sig .tc .vmem S1x1x1024 .f32) (harg3 : arg3.IsWhole) (arg4 : Memref sig .tc .vmem S768x1024 .bf16) (harg4 : arg4.IsWhole) (arg5 : Memref sig .tc .vmem S1024x1024 .bf16) (harg5 : arg5.IsWhole) (arg6 : Memref sig .tc .vmem S1024x768 .f32) (harg6 : arg6.IsWhole) (arg7 : Memref sig .tc .vmem S1024x1024 .bf16) (harg7 : arg7.IsWhole) (hc0 : ¬cond0_0 i)
  (x0 : Vec F S1024x1024 .f32) (x1 : Vec F S1x1x1024 .f32) (x2 : Vec F S768x1024 .bf16) (y3 : Vec F S1024x1024 .bf16) (s0 : Vec F S1024x1024 .bf16)

set_option maxHeartbeats 1000000 in
/-- Another point of a block, the scratch and the kept window as found: what its stores leave. -/
noncomputable def kernelRun0_B :
    { L4 : List (View.Piece (Elt F) S1024x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare y3 ∗ (∃ d, owns (c : Thread nD τ) arg6 fullShare d) ∗ owns (c : Thread nD τ) arg7 fullShare s0
            ∗ (iprop(owns (c : Thread nD τ) arg2 fullShare x0 ∗ owns (c : Thread nD τ) arg3 fullShare x1 ∗ owns (c : Thread nD τ) arg4 fullShare x2 ∗ owns (c : Thread nD τ) arg5 fullShare y3 ∗ (∃ f, arg6.view.loc (c : Thread nD τ) ↦[arg6.view.set]{fullShare} arg6.view.writes (Elt F) f L4) ∗ owns (c : Thread nD τ) arg7 fullShare s0) -∗ K ⟨⟩))
          ⊢ wp frame (wpE (defs₀ (F := F)) Variants.none c none) E (cc0_l3_proj_in i arg2 harg2 arg3 harg3 arg4 harg4 arg5 harg5 arg6 harg6 arg7 harg7) K } := by
  refine ⟨?_, fun E K => ?run⟩
  case run =>
    simp only [cc0_l3_proj_in_eq_skeleton]; unfold cc0_l3_proj_in_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; isplitr; · ipureintro; exact harg7.read_unread _
    iexact HS0

theorem cover0_B_4 (y : S1024x768.Idx) :
    ∃ pc ∈ (kernelRun0_B c i arg2 harg2 arg3 harg3 arg4 harg4 arg5 harg5 arg6 harg6 arg7 harg7 hc0 x0 x1 x2 y3 s0).1, y ∈ pc.1.set :=
  View.cover_of_tiledL (kernelRun0_B c i arg2 harg2 arg3 harg3 arg4 harg4 arg5 harg5 arg6 harg6 arg7 harg7 hc0 x0 x1 x2 y3 s0).1 S1024x768.size (by sl_kernel_rfl) y

def out0_B_4 : Vec F S1024x768 .f32 :=
  VO0_4.read (Elt F) (VO0_4.writes (Elt F) VO0_4.junk (kernelRun0_B c i arg2 harg2 arg3 harg3 arg4 harg4 arg5 harg5 arg6 harg6 arg7 harg7 hc0 x0 x1 x2 y3 s0).1)

theorem out0_B_4_eq :
    out0_B_4 c i arg2 harg2 arg3 harg3 arg4 harg4 arg5 harg5 arg6 harg6 arg7 harg7 hc0 x0 x1 x2 y3 s0 = k0_pay4 s0 x2 := by
  frame_out

end RunB

/-! ## What is held after a point -/

/-- What the scratch holds after point `t`: the normalised rows of its block. -/
def held (c : Dev nD) (t : Fin cfg0.N) : Vec F S1024x1024 .bf16 := k0_pay2 (iblk m c 0 (rep t)) (iblk m c 1 (rep t))

/-- What result window 3 holds after point `t`. -/
def keep3 (c : Dev nD) (t : Fin cfg0.N) : Vec F S1024x1024 .bf16 := k0_pay3 (iblk m c 0 (rep t)) (iblk m c 1 (rep t))

/-- What result window 4 holds after point `t`. -/
def left4 (c : Dev nD) (t : Fin cfg0.N) : Vec F S1024x768 .f32 := k0_pay4 (held m c t) (iblk m c 2 t)

/-- The invariant before position `n`: at the start the scratch at anything, afterwards as the point before left it. -/
def PhiS (c : Dev nD) : (n : ℕ) → n ≤ cfg0.N → sProp 𝕄
  | 0, _ => Pipeline.ΦA spec0 c
  | n + 1, hn => iprop(owns (c : Thread nD τ) scM0_0 fullShare (held m c ⟨n, hn⟩) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (t : Fin cfg0.N) :
    PhiS m c (t.val + 1) t.isLt = iprop(owns (c : Thread nD τ) scM0_0 fullShare (held m c t) ∗ (∃ r, prngReg c r)) := rfl

theorem PhiS_pos (c : Dev nD) (n : ℕ) (h : n ≤ cfg0.N) (hz : n ≠ 0) :
    PhiS m c n h = iprop(owns (c : Thread nD τ) scM0_0 fullShare (held m c ⟨n - 1, by omega⟩) ∗ (∃ r, prngReg c r)) := by
  cases n with
  | zero => exact absurd rfl hz
  | succ n => rfl

/-- The proof data: the arrays as the region finds them, and what each window's buffer holds after a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => keep3 m c t
    | ⟨4, _⟩ => left4 m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = keep3 m c t := by dsimp only [dats]
theorem after0_4 (c : Dev nD) (t : Fin cfg0.N) : (dats m 0 c).after 4 t = left4 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Result window 3 is left alone at the points that are not their block's first, and only there. -/
theorem idle0_3_iff (t : Fin cfg0.N) : cfg0.idle 3 (cfg0.grid.coords t) = true ↔ ¬t.val % 3 = 0 := by
  rw [← hcond0_0 t]
  show (!(k0_cond1 (grid0.coords t) == 1#1)) = true ↔ _
  simp only [Bool.not_eq_true', beq_eq_false_iff_ne, ne_eq]
  exact Iff.rfl

/-- The points at which result window 3's buffer holds nothing of its block yet: the blocks' first. -/
theorem fresh0_3 (t : Fin cfg0.N) : cfg0.fresh 3 t.val = decide (t.val % 3 = 0) := by
  refine cfg0.fresh_tab 3 (fun n => decide (n % 3 = 0)) rfl (fun t => ?_) t.val (Nat.le_of_lt t.isLt)
  have hN : t.val < 12 := lt_of_lt_of_eq t.isLt (show cfg0.N = 12 from N_0)
  have hi := idle0_3_iff t
  have hf := flush0_3 t
  rw [Bool.eq_iff_iff, Bool.or_eq_true, Bool.and_eq_true]
  simp only [decide_eq_true_eq]
  rw [hi, hf]
  omega

/-- At a point that is not its block's first, result window 3 still holds what the point before left. -/
theorem before0_3_B (c : Dev nD) (t : Fin cfg0.N) (h0 : ¬t.val % 3 = 0) (d) :
    (dats m 0 c).before 3 t d = keep3 m c t := by
  have hk : ∀ (s : Fin cfg0.N) (hs : ¬s.val % 3 = 0), keep3 m c s = keep3 m c ⟨s.val - 1, lt_of_le_of_lt (Nat.sub_le _ _) s.isLt⟩ := fun s hs => by
    unfold keep3; rw [rep_prev s hs]
  rw [(dats m 0 c).before_out_traj 3 rfl (fun _ _ => rfl)
    (fun s _ hi _ => by rw [after0_3, after0_3]; exact hk s ((idle0_3_iff s).mp hi)) t.val t rfl d,
    fresh0_3, decide_eq_false h0, if_neg Bool.false_ne_true, after0_3]
  exact (hk t h0).symm

/-- What the body leaves in result window 3 is what the pipeline is to find there. -/
theorem leaves0_3 (c : Dev nD) (t : Fin cfg0.N) :
    (owns (c : Thread nD τ) (ms0_3 t) fullShare ((dats m 0 c).after 3 t) : sProp 𝕄) ⊢ (dats m 0 c).leavesExact 3 t := by
  unfold Dat.leavesExact
  cases hi : cfg0.idle 3 (cfg0.grid.coords t)
  · exact .rfl
  · cases hf : (cfg0.win 3).flush t
    · iintro H
      iexists (keep3 m c t)
      rw [before0_3_B m c t ((idle0_3_iff t).mp hi), ← after0_3]
      iexact H
    · exact .rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 12800000 in
/-- The body at any point: a block's first point fills scratch and kept window; another finds them as they are to stay. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2, after0_3, after0_4]
  rw [show (dats m 0 c).Φ t.succ = PhiS m c (t.val + 1) t.isLt from rfl, PhiS_succ]
  have hN : t.val < 12 := lt_of_lt_of_eq t.isLt (show cfg0.N = 12 from N_0)
  by_cases h0 : t.val % 3 = 0
  · unfold left4 keep3 held
    rw [rep_self t h0]
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (iblk m c 0 t) (iblk m c 1 t) (iblk m c 2 t)).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 Hg]
      · isplitl [HS0]
        · unfold owns; iexists _; isplitr
          swap; · iexact HS0
          ipureintro; exact (View.read_writes_of_cover _ _ _ _ _ (scover0_A_0 c _ _ _ _ _ _ _ _ _ _ _ _ _ _ _ _ _ )).trans (sout0_A_0_eq c _ _ _ _ _ _ _ _ _ _ _ _ _ _ _ _ _ )
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact (View.read_writes_of_cover _ _ _ _ _ (cover0_A_3 c _ _ _ _ _ _ _ _ _ _ _ _ _ _ _ _ _ )).trans (out0_A_3_eq c _ _ _ _ _ _ _ _ _ _ _ _ _ _ _ _ _ )
      unfold owns; iexists _; isplitr
      swap; · iexact H4
      ipureintro; exact (View.read_writes_of_cover _ _ _ _ _ (cover0_A_4 c _ _ _ _ _ _ _ _ _ _ _ _ _ _ _ _ _ )).trans (out0_A_4_eq c _ _ _ _ _ _ _ _ _ _ _ _ _ _ _ _ _ )
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (iblk m c 0 t) (iblk m c 1 t) (iblk m c 2 t)).2.2.2 Set.univ _)
      isplitl [H0]; · iexact H0
      isplitl [H1]; · iexact H1
      isplitl [H2]; · iexact H2
      isplitl [H3]; · iexists _; iexact H3
      isplitl [H4]; · iexists _; iexact H4
      isplitl [HS0]; · iexists _; iexact HS0
      iintro ⟨H0, H1, H2, ⟨%e3, H3⟩, ⟨%e4, H4⟩, ⟨%es0, HS0⟩⟩
      isplitl [HS0 Hg]
      · isplitl [HS0]
        · unfold owns; iexists _; isplitr
          swap; · iexact HS0
          ipureintro; exact (View.read_writes_of_cover _ _ _ _ _ (scover0_A_0 c _ _ _ _ _ _ _ _ _ _ _ _ _ _ _ _ _ )).trans (sout0_A_0_eq c _ _ _ _ _ _ _ _ _ _ _ _ _ _ _ _ _ )
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact (View.read_writes_of_cover _ _ _ _ _ (cover0_A_3 c _ _ _ _ _ _ _ _ _ _ _ _ _ _ _ _ _ )).trans (out0_A_3_eq c _ _ _ _ _ _ _ _ _ _ _ _ _ _ _ _ _ )
      unfold owns; iexists _; isplitr
      swap; · iexact H4
      ipureintro; exact (View.read_writes_of_cover _ _ _ _ _ (cover0_A_4 c _ _ _ _ _ _ _ _ _ _ _ _ _ _ _ _ _ )).trans (out0_A_4_eq c _ _ _ _ _ _ _ _ _ _ _ _ _ _ _ _ _ )
  · have hz : t.val ≠ 0 := fun h => h0 (by omega)
    rw [PhiS_castSucc m c t, PhiS_pos m c _ _ hz]
    simp only [before0_3_B m c t h0]
    rw [show held m c ⟨t.val - 1, by omega⟩ = held m c t from by unfold held; rw [rep_prev t h0]]
    unfold left4
    iintro ⟨⟨HS0, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ (fun h => h0 ((hcond0_0 t).mp h)) (iblk m c 0 t) (iblk m c 1 t) (iblk m c 2 t) _ _).2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]
    · iexact H3
    unfold owns; iexists _; isplitr
    swap; · iexact H4
    ipureintro; exact (View.read_writes_of_cover _ _ _ _ _ (cover0_B_4 c _ _ _ _ _ _ _ _ _ _ _ _ _ _ _ _ _ _ _ )).trans (out0_B_4_eq c _ _ _ _ _ _ _ _ _ _ _ _ _ _ _ _ _ _ _ )

theorem defs₀_row (t : Fin cfg0.N) :
    defs₀ (F := F) .tc cfg0.body (cfg0.bodyArgs t (cfg0.slots t)) = bodyAt0 t := by
  unfold defs₀; rw [Defs.onTc_tc]

/-- What the body leaves at a point is what the pipeline asks of it, window by window. -/
theorem post_leaves (c : Dev nD) (t : Fin cfg0.N) : bodyPost m c t ⊢ iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t) := by
  unfold bodyPost
  iintro ⟨HΦ, Ho, H0, H1, H2, H3, H4⟩
  isplitl [HΦ]; · iexact HΦ
  isplitl [Ho]; · iexact Ho
  isplitl [H0]; · iexact H0
  isplitl [H1]; · iexact H1
  isplitl [H2]; · iexact H2
  isplitl [H3]; · iapply (leaves0_3 m c t); iexact H3
  iexact H4

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => post_leaves m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]; · iexists _; iexact HS0
  iexact Hg

theorem hout (c : Dev nD) : (dats m 0 c).Φ (Fin.last cfg0.N) ⊢ Pipeline.ΦA spec0 c :=
  Phi_out m c _ (by rw [Fin.val_last]; have : cfg0.N = 12 := N_0; omega)

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: it terminates, the arguments unchanged, every semaphore back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel14Ideal.Gen

end
-- ==== Proof.In.lean ====
module

public import proofs.«01_k».proof.Proof.InFrame
public import proofs.«01_k».proof.Proof.Rms
public import Idealize.ShloMosaic.Lib.Pipeline.ValueKit
public import Idealize.ShloMosaic.Lib.Pipeline.ReadBack

/-! The RMS norm of the rows and their product with `w_in`: what the kernel's two result arrays hold. -/

@[expose] public section

set_option maxRecDepth 16384

noncomputable section

open Idealize.ShloMosaic Idealize.ShloMosaic.TcCoe Idealize.SL.Sem
open Idealize.ShloMosaic.Pipeline (Dat)

namespace Cert.In

open Cert.Ffn

/-- The arguments read at numbers: the rows, the gains of the layer, the weights. -/
structure Args where
  x : ℕ → ℕ → EReal
  g : ℕ → EReal
  w : ℕ → ℕ → EReal

/-- The normed rows. -/
def Args.h (A : Args) : ℕ → ℕ → EReal := Rms.normed A.x A.g
/-- Entry (r, n) of the product: normed row r against row n of the weights. -/
def Args.z (A : Args) (r n : ℕ) : EReal := ∑ k : Fin 1024, A.h r k * A.w n k

/-- The arguments from the arrays; the gains are the last layer's. -/
def args (x0 : (⟨2, ![4096, 1024]⟩ : Shape).Idx → EReal) (x1 : (⟨2, ![4, 1024]⟩ : Shape).Idx → EReal)
    (x2 : (⟨2, ![2304, 1024]⟩ : Shape).Idx → EReal) : Args :=
  ⟨rd2 x0, rd2 x1 3, rd2 x2⟩

end Cert.In

namespace Cert.Kernel14Ideal.Value

open Cert.Kernel14Ideal Cert.Kernel14Ideal.Gen Cert.Ffn

section Tile

variable (x : FVec Ideal S1024x1024 .f32) (g : FVec Ideal S1x1x1024 .f32) (h : FVec Ideal S1024x1024 .bf16)
  (w : FVec Ideal S768x1024 .bf16) (p n : Fin 1024)

/-- A tile's normed rows. -/
theorem norm_tile : k0_pay1 (F := Ideal) x g (ix2 p n) = Rms.normed (rd2 x) (rd3 g 0 0) p n := by
  pointwise [k0_pay1]
  simp only [rd2_ix, rd3_ix, Rms.normed, Rms.inv, Rms.sq]
  rfl

theorem held_tile : k0_pay2 (F := Ideal) x g (ix2 p n) = Rms.normed (rd2 x) (rd3 g 0 0) p n := by
  rw [← norm_tile]; pointwise [k0_pay2]

theorem keep_tile : k0_pay3 (F := Ideal) x g (ix2 p n) = Rms.normed (rd2 x) (rd3 g 0 0) p n := by
  rw [← norm_tile]; pointwise [k0_pay3]

/-- A tile of the product. -/
theorem z_tile (n : Fin 768) : k0_pay4 (F := Ideal) h w (ix2 p n) = ∑ k : Fin 1024, h (ix2 p k) * w (ix2 n k) := by
  pointwise [k0_pay4]

end Tile

variable (m : (ℓ : Loc nD τ sig) → Buf (Elt Ideal) ℓ)

/-- The arguments in memory. -/
def A (c : Dev nD) : In.Args := In.args (m ((c : Thread nD τ).loc main_arg0)) (m ((c : Thread nD τ).loc main_arg1))
  (m ((c : Thread nD τ).loc main_arg2))

/-- Point `t` takes row tile `t / 3` of the rows and tile `t % 3` of the weights' rows. -/
theorem idx : ∀ t : Fin cfg0.N, win0_0.index t = ![t.val / 3, 0] ∧ win0_1.index t = ![3, 0, 0] ∧ win0_2.index t = ![t.val % 3, 0]
    ∧ win0_3.index t = ![t.val / 3, 0] ∧ win0_4.index t = ![t.val / 3, t.val % 3] ∧ t.val < 12 :=
  (by decide +kernel : ∀ t : Fin grid0.N, _)

variable (c : Dev nD) (t : Fin cfg0.N)

theorem blk0 (q : Fin 1024) (k : Fin 1024) : iblk m c 0 t (ix2 q k) = (A m c).x (1024 * (t.val / 3) + q) k := by
  have hj := (idx t).2.2.2.2.2
  show _ = rd2 _ _ _
  rw [rd2, dif_pos ⟨by omega, by omega⟩]
  blk_ext [iblk, V_main_arg0, idx t]

theorem blk1 (k : Fin 1024) : iblk m c 1 t (ix3 0 0 k) = (A m c).g k := by
  show _ = rd2 _ 3 _
  rw [rd2, dif_pos ⟨by omega, by omega⟩]
  blk_simp [iblk]
  entry_read
  pointwise
  blk_ext [V, idx t]

theorem blk2 (q : Fin 768) (k : Fin 1024) : iblk m c 2 t (ix2 q k) = (A m c).w (768 * (t.val % 3) + q) k := by
  have hj := (idx t).2.2.2.2.2
  show _ = rd2 _ _ _
  rw [rd2, dif_pos ⟨by omega, by omega⟩]
  blk_ext [iblk, V_main_arg2, idx t]

/-- The normed rows of the block that point `t` belongs to. -/
theorem norm_at (q n : Fin 1024) :
    Rms.normed (rd2 (iblk m c 0 (rep t))) (rd3 (iblk m c 1 (rep t)) 0 0) q n = (A m c).h (1024 * (t.val / 3) + q) n := by
  refine Rms.normed_congr (fun j => ?_) (fun j => ?_) n
  · rw [← rd2_ix]
    refine (blk0 m c (rep t) q j).trans (congrArg (fun r => (A m c).x (1024 * r + q.val) j) ?_)
    simp only [rep]; omega
  · refine Eq.trans ?_ (blk1 m c (rep t) j)
    exact (rd3_ix (iblk m c 1 (rep t)) 0 0 j).symm

theorem h_row (q n : Fin 1024) : keep3 m c t (ix2 q n) = (A m c).h (1024 * (t.val / 3) + q) n := by
  rw [← norm_at]; exact keep_tile _ _ q n

theorem z_row (q : Fin 1024) (n : Fin 768) :
    left4 m c t (ix2 q n) = (A m c).z (1024 * (t.val / 3) + q) (768 * (t.val % 3) + n) := by
  refine (z_tile _ _ q n).trans (Finset.sum_congr rfl fun k _ => congrArg₂ (· * ·) ?_ (blk2 m c t n k))
  rw [← norm_at]; exact held_tile _ _ q k

/-- The normed rows. -/
theorem final3 : (dats m 0 c).arrAt 3 cfg0.N = fun i : S4096x1024.Idx => (A m c).h (i 0).val (i 1).val := by
  refine (dats m 0 c).arrAt_eq_of_covers 3 _ (by decide +kernel) fun t hf y => ?_
  blk_simp
  rw [after0_3, (idx t).2.2.2.1]
  obtain ⟨q, n, rfl⟩ : ∃ (q : Fin 1024) (n : Fin 1024), y = ix2 q n := ⟨y 0, y 1, eq_ix2 y⟩
  exact (h_row m c t q n).trans (congrArg₂ (A m c).h (congrArg (· + q.val) (Nat.mul_comm _ _)) (Nat.zero_add _).symm)

/-- The product. -/
theorem final4 : (dats m 0 c).arrAt 4 cfg0.N = fun i : S4096x2304.Idx => (A m c).z (i 0).val (i 1).val := by
  refine (dats m 0 c).arrAt_eq_of_covers 4 _ (by decide +kernel) fun t hf y => ?_
  blk_simp
  rw [after0_4, (idx t).2.2.2.2.1]
  obtain ⟨q, n, rfl⟩ : ∃ (q : Fin 1024) (n : Fin 768), y = ix2 q n := ⟨y 0, y 1, eq_ix2 y⟩
  exact (z_row m c t q n).trans (congrArg₂ (A m c).z (congrArg (· + q.val) (Nat.mul_comm _ _)) (congrArg (· + n.val) (Nat.mul_comm _ _)))

/-- The run with its result arrays, and the arguments unchanged. -/
theorem run_blocks (ρ : Dev nD → PrngReg) : θ_run defs (onTc (τ := τ) (main (F := Ideal))) ⟨m, fun _ => 0, ρ⟩ fun r => ∀ c : Dev nD,
      r.2.mem ((c : Thread nD τ).loc main_v1_0) = (dats m 0 c).arrAt 3 cfg0.N
      ∧ r.2.mem ((c : Thread nD τ).loc main_v1_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1.1 c).1 3, (h.1.1 c).1 4, h.2 c⟩) (θ_run_and (run_main_quiescent m ρ) (unchanged m ρ))

end Cert.Kernel14Ideal.Value

end
-- ==== Proof.InRef.lean ====
module

public import proofs.«01_k».proof.Proof.Gen.Reference14Ideal.Run
public import proofs.«01_k».proof.Proof.Gen.Reference14Ideal.Read
public import proofs.«01_k».proof.Proof.In

/-! The RMS norm of the rows and their product with `w_in`: what the reference's two results are. -/

@[expose] public section

set_option maxRecDepth 16384

noncomputable section

open Idealize.ShloMosaic Idealize.ShloMosaic.Pointwise

namespace Cert.Reference14Ideal.Rows

open Cert.Reference14Ideal Cert.Reference14Ideal.Read Cert.Ffn

variable (x0 : FVec Ideal S4096x1024 .f32) (x1 : FVec Ideal S4x1024 .f32) (x2 : FVec Ideal S2304x1024 .bf16)

theorem norm_row (p : Fin 4096) (n : Fin 1024) : val_main_v14 (F := Ideal) x0 x1 (ix2 p n) = (In.args x0 x1 x2).h p n := by
  pointwise [val_main_v14, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1]
  simp only [rd2_ix, In.Args.h, In.args, Rms.normed, Rms.inv, Rms.sq]
  rfl

/-- The normed rows. -/
theorem ref0 : val_main_v15 (F := Ideal) x0 x1 = fun i : S4096x1024.Idx => (In.args x0 x1 x2).h (i 0).val (i 1).val := by
  funext i
  idx_vars i
  pointwise [val_main_v15]
  exact norm_row x0 x1 x2 _ _

/-- The product. -/
theorem ref1 : val_main_v18 (F := Ideal) x0 x1 x2 = fun i : S4096x2304.Idx => (In.args x0 x1 x2).z (i 0).val (i 1).val := by
  funext i
  idx_vars i
  pointwise [val_main_v18, val_main_v17, val_main_v16]
  simp only [norm_row x0 x1 x2]
  simp only [rd2_ix, In.Args.z]
  rfl

end Cert.Reference14Ideal.Rows

end
-- ==== Proof.InClaim.lean ====
module

public import proofs.«01_k».proof.Defs
public import proofs.«01_k».proof.Proof.Gen.Kernel14
public import proofs.«01_k».proof.Proof.InFrame
public import proofs.«01_k».proof.Proof.In
public import proofs.«01_k».proof.Proof.InRef

/-! The RMS norm of the rows and their product with `w_in`: the ideal kernel and the ideal reference end with the same arrays, and the reference's frame. -/

@[expose] public section

set_option maxRecDepth 16384

noncomputable section

namespace Cert.Reference14Ideal

open Idealize.ShloMosaic Idealize.SL.Sem

variable (m' : (ℓ : Loc nD τ sig) → Buf (Elt Ideal) ℓ)
  (m : (ℓ : Loc Kernel14Ideal.nD Kernel14Ideal.τ Kernel14Ideal.sig) → Buf (Elt Ideal) ℓ)

/-- The reference's arguments. -/
def refArgs (c : Dev nD) : Cert.In.Args :=
  Cert.In.args (m' ((c.tc : Thread nD τ).loc main_arg0))
    (m' ((c.tc : Thread nD τ).loc main_arg1))
    (m' ((c.tc : Thread nD τ).loc main_arg2))

/-- Where the memories agree on the arguments, any function of the arguments is the same on both sides. -/
theorem args_eq (hagree : ∀ c : Dev Kernel14Ideal.nD,
      m' ((c.tc : Thread nD τ).loc main_arg0) = m ((c.tc : Thread Kernel14Ideal.nD Kernel14Ideal.τ).loc Kernel14Ideal.main_arg0)
      ∧ m' ((c.tc : Thread nD τ).loc main_arg1) = m ((c.tc : Thread Kernel14Ideal.nD Kernel14Ideal.τ).loc Kernel14Ideal.main_arg1)
      ∧ m' ((c.tc : Thread nD τ).loc main_arg2) = m ((c.tc : Thread Kernel14Ideal.nD Kernel14Ideal.τ).loc Kernel14Ideal.main_arg2))
    (c : Dev Kernel14Ideal.nD) {α : Type} (f : Cert.In.Args → α) : f (refArgs m' c) = f (Kernel14Ideal.Value.A m c) := by
  obtain ⟨h0, h1, h2⟩ := hagree c
  unfold refArgs
  rw [h0, h1, h2]
  rfl

/-- The reference's run, its results stated as functions of the arguments. -/
theorem run_vals (ρ : Dev nD → PrngReg) :
    θ_run defs (onTc (τ := τ) (main (F := Ideal))) ⟨m', fun _ => 0, ρ⟩ fun r => ∀ c : Dev nD,
      r.2.mem ((c.tc : Thread nD τ).loc main_v15) = (fun i : S4096x1024.Idx => (refArgs m' c).h (i 0).val (i 1).val)
      ∧ r.2.mem ((c.tc : Thread nD τ).loc main_v18) = (fun i : S4096x2304.Idx => (refArgs m' c).z (i 0).val (i 1).val)
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2) :=
  (θ_run defs _ _).mono (fun r h c => ⟨
      (h c).1.trans ((Read.val_main_v15_eq _ _ ).trans (Rows.ref0 (m' ((c.tc : Thread nD τ).loc main_arg0)) (m' ((c.tc : Thread nD τ).loc main_arg1)) (m' ((c.tc : Thread nD τ).loc main_arg2)))),
      (h c).2.1.trans ((Read.val_main_v18_eq _ _ _ ).trans (Rows.ref1 (m' ((c.tc : Thread nD τ).loc main_arg0)) (m' ((c.tc : Thread nD τ).loc main_arg1)) (m' ((c.tc : Thread nD τ).loc main_arg2)))),
      (h c).2.2⟩)
    (Value.run (F := Ideal) m' ρ)

/-- The two programs end with the same arrays. -/
theorem algebraic : Cert.algebraic_Kernel14Ideal_Reference14Ideal (hKernel14Ideal := Kernel14Ideal.Gen.facts) (hReference14Ideal := Gen.facts) := by
  pair_intro
  · run_from Cert.Kernel14Ideal.Value.run_blocks m g
  · run_from run_vals m' g'
    · exact (args_eq m' m hagree c (fun A => fun i : Kernel14Ideal.S4096x1024.Idx => A.h (i 0).val (i 1).val)).trans (Kernel14Ideal.Value.final3 m c).symm
    · exact (args_eq m' m hagree c (fun A => fun i : Kernel14Ideal.S4096x2304.Idx => A.z (i 0).val (i 1).val)).trans (Kernel14Ideal.Value.final4 m c).symm

section Compiled

attribute [local instance] Cert.Kernel14.Gen.facts Cert.Kernel14Ideal.Gen.facts

/-- The program as compiled runs the ideal one's body. -/
theorem defs₀_eq : Kernel14.defs₀ (F := Bits) = Kernel14Ideal.defs₀ (F := Bits) := by
  unfold Kernel14.defs₀ Kernel14Ideal.defs₀
  refine congrArg Defs.onTc (funext fun l => funext fun a => ?_)
  obtain ⟨_ | k, h⟩ := l
  · rfl
  · exact absurd h (Nat.not_lt.2 (Nat.le_add_left _ _))

theorem defs_eq : Kernel14.defs (F := Bits) = Kernel14Ideal.defs (F := Bits) :=
  congrArg (Pipeline.defs (Kernel14.pcfgs (F := Bits))) defs₀_eq

/-- The ideal program's run is over any values: it gives the frame of the program as compiled too. -/
theorem frame_kernel : Cert.quiescent_Kernel14 (hKernel14 := Cert.Kernel14.Gen.facts) := fun m ρ _ =>
  (congrArg (θ_run · _ _ _) defs_eq).mpr (Cert.Kernel14Ideal.Gen.frame (F := Bits) m ρ)

end Compiled

/-- The reference runs, leaves its arguments as they were, and has no semaphore. -/
theorem frame : Cert.quiescent_Reference14Ideal (hReference14Ideal := Gen.facts) := fun m ρ _ =>
  (θ_run defs _ _).mono (fun r h => And.intro
      (fun c => (h c).2.2) (Idealize.ShloMosaic.sem_eq_zero_of_no_sems (by decide) r.2))
    (Value.run (F := Ideal) m ρ)

end Cert.Reference14Ideal

end
-- ==== Proof.EmbFrame.lean ====
module

public import proofs.«01_k».proof.Proof.Gen.Kernel15Ideal.Frame
public import proofs.«01_k».proof.Proof.Gen.Kernel15Ideal.Skeleton
public import Idealize.ShloMosaic.Lib.Pipeline.ReadBack
public import Idealize.ShloMosaic.Lib.Pipeline.TableIdle
public import Idealize.ShloMosaic.Lib.Pipeline.ValueKit
public import Idealize.ShloMosaic.Lib.Claim

/-! The frame of program 15 over the extended reals and any other values. The body normalises a block of rows at the first of
the 2 points that share it and keeps the result in a scratch, which the other points read. So after a point the scratch holds
the normalised rows of its block (`PhiS`), and the block's result window keeps them until the last of these points. -/

@[expose] public section

set_option maxRecDepth 16384

noncomputable section

namespace Cert.Kernel15Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which points a block's first is -/

/-- The body's condition 0: the second grid coordinate is 0. -/
abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 2 = 0 :=
  (fun t => by
    have ht : t.val < 8 := Nat.lt_of_lt_of_eq t.isLt N_0
    have e1 : (grid0.coords t 1).val = t.val / 1 % 2 := Pipeline.Grid.coords_val t 1 (by decide) rfl
    simp only [cond0_0, e1]
    word_cmp
   : ∀ t : Fin grid0.N, cond0_0 (grid0.coords t) ↔ t.val % 2 = 0)

/-- The body's condition 1: the second grid coordinate is 1. -/
abbrev cond0_1 (i : grid0.Coords) : Prop := (Scalar.cmpi .ne (Scalar.extui (Scalar.cmpi .eq (BitVec.ofNat 32 (i 1).val) 1#32)) 0#32) = 1#1

theorem hcond0_1 : ∀ t : Fin cfg0.N, cond0_1 (grid0.coords t) ↔ t.val % 2 = 1 :=
  (fun t => by
    have ht : t.val < 8 := Nat.lt_of_lt_of_eq t.isLt N_0
    have e1 : (grid0.coords t 1).val = t.val / 1 % 2 := Pipeline.Grid.coords_val t 1 (by decide) rfl
    simp only [cond0_1, e1]
    word_cmp
   : ∀ t : Fin grid0.N, cond0_1 (grid0.coords t) ↔ t.val % 2 = 1)

/-- The first of the points that share point `t`'s block. -/
def rep (t : Fin cfg0.N) : Fin cfg0.N := ⟨2 * (t.val / 2), lt_of_le_of_lt (Nat.mul_div_le _ _) t.isLt⟩

theorem rep_self (t : Fin cfg0.N) (h : t.val % 2 = 0) : rep t = t := by
  apply Fin.ext; simp only [rep]; omega

theorem rep_prev (t : Fin cfg0.N) (h : ¬t.val % 2 = 0) (hlt : t.val - 1 < cfg0.N) : rep ⟨t.val - 1, hlt⟩ = rep t := by
  apply Fin.ext; simp only [rep]; omega

/-! ## Staging buffers and scratch -/

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x512 .f32 := win0_7.stage (cfg0.slots t 7)
abbrev hs0_7 (t : Fin cfg0.N) : (ms0_7 t).IsWhole := hstage0_7 ((cfg0.slots t 7).cast nbuf0_7)
abbrev VO0_5 : View sig .tc .vmem S1024x1024 .bf16 := (Memref.whole cc0_stg5_0 : Memref sig .tc .vmem S1024x1024 .bf16).view
abbrev VO0_6 : View sig .tc .vmem S1024x512 .f32 := (Memref.whole cc0_stg6_0 : Memref sig .tc .vmem S1024x512 .f32).view
abbrev VO0_7 : View sig .tc .vmem S1024x512 .f32 := (Memref.whole cc0_stg7_0 : Memref sig .tc .vmem S1024x512 .f32).view
abbrev scM0_0 : Memref sig .tc .vmem S1024x1024 .bf16 := Memref.whole cc0_scratch0
abbrev VS0_0 : View sig .tc .vmem S1024x1024 .bf16 := scM0_0.view

/-- The invariant the region starts from: the scratch at anything, the generator register at some state. -/
theorem PhiA0_eq (c : Dev nD) :
    (Pipeline.ΦA spec0 c : sProp 𝕄) = iprop((∃ d, owns (c : Thread nD τ) scM0_0 fullShare d) ∗ (∃ r, prngReg c r)) := by
  unfold Pipeline.ΦA; rw [scopedRest0_eq]; simp only [scM0_0, owns_whole]; try rfl

/-! ## The body's two runs -/

section RunA

variable (c : Dev nD) (i : grid0.Coords) (arg2 : Memref sig .tc .vmem S1024x1024 .f32) (harg2 : arg2.IsWhole) (arg3 : Memref sig .tc .vmem S1x1x1024 .f32) (harg3 : arg3.IsWhole) (arg4 : Memref sig .tc .vmem S1024x512 .bf16) (harg4 : arg4.IsWhole) (arg5 : Memref sig .tc .vmem S1024x256 .bf16) (harg5 : arg5.IsWhole) (arg6 : Memref sig .tc .vmem S512x256 .bf16) (harg6 : arg6.IsWhole) (arg7 : Memref sig .tc .vmem S1024x1024 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x1024 .bf16) (harg10 : arg10.IsWhole) (hc0 : cond0_0 i) (hc1 : ¬cond0_1 i)
  (x0 : Vec F S1024x1024 .f32) (x1 : Vec F S1x1x1024 .f32) (x2 : Vec F S1024x512 .bf16) (x3 : Vec F S1024x256 .bf16) (x4 : Vec F S512x256 .bf16)

set_option maxHeartbeats 1000000 in
/-- A block's first point: what its stores leave in the result windows and in the scratch. -/
noncomputable def kernelRun0_A :
    Σ' (L5 : List (View.Piece (Elt F) S1024x1024 .bf16)), Σ' (L6 : List (View.Piece (Elt F) S1024x512 .f32)), Σ' (L7 : List (View.Piece (Elt F) S1024x512 .f32)), { LS0 : List (View.Piece (Elt F) S1024x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0_l3_ple i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0_l3_ple_eq_skeleton]; unfold cc0_l3_ple_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    iexists _; iexact HS0

theorem cover0_A_5 (y : S1024x1024.Idx) :
    ∃ pc ∈ (kernelRun0_A c i arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).1 S1024x1024.size (by sl_kernel_rfl) y

def out0_A_5 : Vec F S1024x1024 .bf16 :=
  VO0_5.read (Elt F) (VO0_5.writes (Elt F) VO0_5.junk (kernelRun0_A c i arg2 harg2 arg3 harg3 arg4 harg4 arg5 harg5 arg6 harg6 arg7 harg7 arg8 harg8 arg9 harg9 arg10 harg10 hc0 hc1 x0 x1 x2 x3 x4).1)

theorem out0_A_5_eq :
    out0_A_5 c i arg2 harg2 arg3 harg3 arg4 harg4 arg5 harg5 arg6 harg6 arg7 harg7 arg8 harg8 arg9 harg9 arg10 harg10 hc0 hc1 x0 x1 x2 x3 x4 = k0_pay3 x0 x1 := by
  frame_out

theorem cover0_A_6 (y : S1024x512.Idx) :
    ∃ pc ∈ (kernelRun0_A c i arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).2.1 S1024x512.size (by sl_kernel_rfl) y

def out0_A_6 : Vec F S1024x512 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 hc1 x0 x1 x2 x3 x4).2.1)

theorem out0_A_6_eq :
    out0_A_6 c i arg2 harg2 arg3 harg3 arg4 harg4 arg5 harg5 arg6 harg6 arg7 harg7 arg8 harg8 arg9 harg9 arg10 harg10 hc0 hc1 x0 x1 x2 x3 x4 = k0_pay5 (k0_pay2 x0 x1) x2 := by
  frame_out

theorem cover0_A_7 (y : S1024x512.Idx) :
    ∃ pc ∈ (kernelRun0_A c i arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).2.2.1 S1024x512.size (by sl_kernel_rfl) y

def out0_A_7 : Vec F S1024x512 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 hc0 hc1 x0 x1 x2 x3 x4).2.2.1)

theorem out0_A_7_eq :
    out0_A_7 c i arg2 harg2 arg3 harg3 arg4 harg4 arg5 harg5 arg6 harg6 arg7 harg7 arg8 harg8 arg9 harg9 arg10 harg10 hc0 hc1 x0 x1 x2 x3 x4 = k0_pay7 (k0_pay2 x0 x1) x2 x3 x4 (View.ld x0 (Rect.unit (s := S1024x1024) ![0, 0] S1024x512.size inb_S1024x1024_S1024x512_0_0)) := by
  frame_out

theorem scover0_A_0 (y : S1024x1024.Idx) :
    ∃ pc ∈ (kernelRun0_A c i arg2 harg2 arg3 harg3 arg4 harg4 arg5 harg5 arg6 harg6 arg7 harg7 arg8 harg8 arg9 harg9 arg10 harg10 hc0 hc1 x0 x1 x2 x3 x4).2.2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).2.2.2.1 S1024x1024.size (by sl_kernel_rfl) y

def sout0_A_0 : Vec F S1024x1024 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4).2.2.2.1)

theorem sout0_A_0_eq :
    sout0_A_0 c i arg2 harg2 arg3 harg3 arg4 harg4 arg5 harg5 arg6 harg6 arg7 harg7 arg8 harg8 arg9 harg9 arg10 harg10 hc0 hc1 x0 x1 x2 x3 x4 = k0_pay2 x0 x1 := by
  frame_out

end RunA

section RunB

variable (c : Dev nD) (i : grid0.Coords) (arg2 : Memref sig .tc .vmem S1024x1024 .f32) (harg2 : arg2.IsWhole) (arg3 : Memref sig .tc .vmem S1x1x1024 .f32) (harg3 : arg3.IsWhole) (arg4 : Memref sig .tc .vmem S1024x512 .bf16) (harg4 : arg4.IsWhole) (arg5 : Memref sig .tc .vmem S1024x256 .bf16) (harg5 : arg5.IsWhole) (arg6 : Memref sig .tc .vmem S512x256 .bf16) (harg6 : arg6.IsWhole) (arg7 : Memref sig .tc .vmem S1024x1024 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x1024 .bf16) (harg10 : arg10.IsWhole) (hc0 : ¬cond0_0 i) (hc1 : cond0_1 i)
  (x0 : Vec F S1024x1024 .f32) (x1 : Vec F S1x1x1024 .f32) (x2 : Vec F S1024x512 .bf16) (x3 : Vec F S1024x256 .bf16) (x4 : Vec F S512x256 .bf16) (y5 : Vec F S1024x1024 .bf16) (s0 : Vec F S1024x1024 .bf16)

set_option maxHeartbeats 1000000 in
/-- Another point of a block, the scratch and the kept window as found: what its stores leave. -/
noncomputable def kernelRun0_B :
    Σ' (L6 : List (View.Piece (Elt F) S1024x512 .f32)), { L7 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ (∃ d, owns (c : Thread nD τ) arg8 fullShare d) ∗ (∃ d, owns (c : Thread nD τ) arg9 fullShare d) ∗ owns (c : Thread nD τ) arg10 fullShare s0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg10 fullShare s0) -∗ K ⟨⟩))
          ⊢ wp frame (wpE (defs₀ (F := F)) Variants.none c none) E (cc0_l3_ple i arg2 harg2 arg3 harg3 arg4 harg4 arg5 harg5 arg6 harg6 arg7 harg7 arg8 harg8 arg9 harg9 arg10 harg10) K } := by
  refine ⟨?_, ?_, fun E K => ?run⟩
  case run =>
    simp only [cc0_l3_ple_eq_skeleton]; unfold cc0_l3_ple_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; isplitr; · ipureintro; exact harg10.read_unread _
    iexact HS0

theorem cover0_B_6 (y : S1024x512.Idx) :
    ∃ pc ∈ (kernelRun0_B c i arg2 harg2 arg3 harg3 arg4 harg4 arg5 harg5 arg6 harg6 arg7 harg7 arg8 harg8 arg9 harg9 arg10 harg10 hc0 hc1 x0 x1 x2 x3 x4 y5 s0).1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 y5 s0).1 S1024x512.size (by sl_kernel_rfl) y

def out0_B_6 : Vec F S1024x512 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 hc1 x0 x1 x2 x3 x4 y5 s0).1)

theorem out0_B_6_eq :
    out0_B_6 c i arg2 harg2 arg3 harg3 arg4 harg4 arg5 harg5 arg6 harg6 arg7 harg7 arg8 harg8 arg9 harg9 arg10 harg10 hc0 hc1 x0 x1 x2 x3 x4 y5 s0 = k0_pay5 s0 x2 := by
  frame_out

theorem cover0_B_7 (y : S1024x512.Idx) :
    ∃ pc ∈ (kernelRun0_B c i arg2 harg2 arg3 harg3 arg4 harg4 arg5 harg5 arg6 harg6 arg7 harg7 arg8 harg8 arg9 harg9 arg10 harg10 hc0 hc1 x0 x1 x2 x3 x4 y5 s0).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 y5 s0).2.1 S1024x512.size (by sl_kernel_rfl) y

def out0_B_7 : Vec F S1024x512 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 hc0 hc1 x0 x1 x2 x3 x4 y5 s0).2.1)

theorem out0_B_7_eq :
    out0_B_7 c i arg2 harg2 arg3 harg3 arg4 harg4 arg5 harg5 arg6 harg6 arg7 harg7 arg8 harg8 arg9 harg9 arg10 harg10 hc0 hc1 x0 x1 x2 x3 x4 y5 s0 = k0_pay8 s0 x2 x3 x4 (View.ld x0 (Rect.unit (s := S1024x1024) ![0, 512] S1024x512.size inb_S1024x1024_S1024x512_0_512)) := by
  frame_out

end RunB

/-! ## What is held after a point -/

/-- What the scratch holds after point `t`: the normalised rows of its block. -/
def held (c : Dev nD) (t : Fin cfg0.N) : Vec F S1024x1024 .bf16 := k0_pay2 (iblk m c 0 (rep t)) (iblk m c 1 (rep t))

/-- What result window 5 holds after point `t`. -/
def keep5 (c : Dev nD) (t : Fin cfg0.N) : Vec F S1024x1024 .bf16 := k0_pay3 (iblk m c 0 (rep t)) (iblk m c 1 (rep t))

/-- What result window 6 holds after point `t`. -/
def left6 (c : Dev nD) (t : Fin cfg0.N) : Vec F S1024x512 .f32 := k0_pay5 (held m c t) (iblk m c 2 t)

/-- What result window 7 holds after point `t`. -/
def left7 (c : Dev nD) (t : Fin cfg0.N) : Vec F S1024x512 .f32 := if t.val % 2 = 0 then k0_pay7 (held m c t) (iblk m c 2 t) (iblk m c 3 t) (iblk m c 4 t) (View.ld (iblk m c 0 t) (Rect.unit (s := S1024x1024) ![0, 0] S1024x512.size inb_S1024x1024_S1024x512_0_0)) else k0_pay8 (held m c t) (iblk m c 2 t) (iblk m c 3 t) (iblk m c 4 t) (View.ld (iblk m c 0 t) (Rect.unit (s := S1024x1024) ![0, 512] S1024x512.size inb_S1024x1024_S1024x512_0_512))

/-- The invariant before position `n`: at the start the scratch at anything, afterwards as the point before left it. -/
def PhiS (c : Dev nD) : (n : ℕ) → n ≤ cfg0.N → sProp 𝕄
  | 0, _ => Pipeline.ΦA spec0 c
  | n + 1, hn => iprop(owns (c : Thread nD τ) scM0_0 fullShare (held m c ⟨n, hn⟩) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (t : Fin cfg0.N) :
    PhiS m c (t.val + 1) t.isLt = iprop(owns (c : Thread nD τ) scM0_0 fullShare (held m c t) ∗ (∃ r, prngReg c r)) := rfl

theorem PhiS_pos (c : Dev nD) (n : ℕ) (h : n ≤ cfg0.N) (hz : n ≠ 0) :
    PhiS m c n h = iprop(owns (c : Thread nD τ) scM0_0 fullShare (held m c ⟨n - 1, by omega⟩) ∗ (∃ r, prngReg c r)) := by
  cases n with
  | zero => exact absurd rfl hz
  | succ n => rfl

/-- The proof data: the arrays as the region finds them, and what each window's buffer holds after a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => keep5 m c t
    | ⟨6, _⟩ => left6 m c t
    | ⟨7, _⟩ => left7 m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = keep5 m c t := by dsimp only [dats]
theorem after0_6 (c : Dev nD) (t : Fin cfg0.N) : (dats m 0 c).after 6 t = left6 m c t := by dsimp only [dats]
theorem after0_7 (c : Dev nD) (t : Fin cfg0.N) : (dats m 0 c).after 7 t = left7 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- Result window 5 is left alone at the points that are not their block's first, and only there. -/
theorem idle0_5_iff (t : Fin cfg0.N) : cfg0.idle 5 (cfg0.grid.coords t) = true ↔ ¬t.val % 2 = 0 := by
  rw [← hcond0_0 t]
  show (!(k0_cond1 (grid0.coords t) == 1#1)) = true ↔ _
  simp only [Bool.not_eq_true', beq_eq_false_iff_ne, ne_eq]
  exact Iff.rfl

/-- The points at which result window 5's buffer holds nothing of its block yet: the blocks' first. -/
theorem fresh0_5 (t : Fin cfg0.N) : cfg0.fresh 5 t.val = decide (t.val % 2 = 0) := by
  refine cfg0.fresh_tab 5 (fun n => decide (n % 2 = 0)) rfl (fun t => ?_) t.val (Nat.le_of_lt t.isLt)
  have hN : t.val < 8 := lt_of_lt_of_eq t.isLt (show cfg0.N = 8 from N_0)
  have hi := idle0_5_iff t
  have hf := flush0_5 t
  rw [Bool.eq_iff_iff, Bool.or_eq_true, Bool.and_eq_true]
  simp only [decide_eq_true_eq]
  rw [hi, hf]
  omega

/-- At a point that is not its block's first, result window 5 still holds what the point before left. -/
theorem before0_5_B (c : Dev nD) (t : Fin cfg0.N) (h0 : ¬t.val % 2 = 0) (d) :
    (dats m 0 c).before 5 t d = keep5 m c t := by
  have hk : ∀ (s : Fin cfg0.N) (hs : ¬s.val % 2 = 0), keep5 m c s = keep5 m c ⟨s.val - 1, lt_of_le_of_lt (Nat.sub_le _ _) s.isLt⟩ := fun s hs => by
    unfold keep5; rw [rep_prev s hs]
  rw [(dats m 0 c).before_out_traj 5 rfl (fun _ _ => rfl)
    (fun s _ hi _ => by rw [after0_5, after0_5]; exact hk s ((idle0_5_iff s).mp hi)) t.val t rfl d,
    fresh0_5, decide_eq_false h0, if_neg Bool.false_ne_true, after0_5]
  exact (hk t h0).symm

/-- What the body leaves in result window 5 is what the pipeline is to find there. -/
theorem leaves0_5 (c : Dev nD) (t : Fin cfg0.N) :
    (owns (c : Thread nD τ) (ms0_5 t) fullShare ((dats m 0 c).after 5 t) : sProp 𝕄) ⊢ (dats m 0 c).leavesExact 5 t := by
  unfold Dat.leavesExact
  cases hi : cfg0.idle 5 (cfg0.grid.coords t)
  · exact .rfl
  · cases hf : (cfg0.win 5).flush t
    · iintro H
      iexists (keep5 m c t)
      rw [before0_5_B m c t ((idle0_5_iff t).mp hi), ← after0_5]
      iexact H
    · exact .rfl

/-- Every point stores result window 7, one way at a block's first point and another way at its second. -/
theorem leaves0_7 (c : Dev nD) (t : Fin cfg0.N) :
    (owns (c : Thread nD τ) (ms0_7 t) fullShare ((dats m 0 c).after 7 t) : sProp 𝕄) ⊢ (dats m 0 c).leavesExact 7 t := by
  have hi : cfg0.idle 7 (cfg0.grid.coords t) = false := by
    show (!(k0_cond2 (grid0.coords t) == 1#1) && !(k0_cond3 (grid0.coords t) == 1#1)) = false
    by_cases h0 : t.val % 2 = 0
    · rw [show (k0_cond2 (grid0.coords t) == 1#1) = true from beq_iff_eq.mpr ((hcond0_0 t).mpr h0)]; rfl
    · rw [show (k0_cond3 (grid0.coords t) == 1#1) = true from beq_iff_eq.mpr ((hcond0_1 t).mpr (by omega)), Bool.not_true, Bool.and_false]
  unfold Dat.leavesExact
  rw [hi]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 12800000 in
/-- The body at any point: a block's first point fills scratch and kept window; another finds them as they are to stay. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) t.isLt from rfl, PhiS_succ]
  have hN : t.val < 8 := lt_of_lt_of_eq t.isLt (show cfg0.N = 8 from N_0)
  by_cases h0 : t.val % 2 = 0
  · unfold left6 left7 keep5 held
    rw [rep_self t h0]; simp only [if_pos h0]
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (fun h => by have := (hcond0_1 t).mp h; omega) (iblk m c 0 t) (iblk m c 1 t) (iblk m c 2 t) (iblk m c 3 t) (iblk m c 4 t)).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      iintro ⟨H0, H1, H2, H3, H4, ⟨%e5, H5⟩, ⟨%e6, H6⟩, ⟨%e7, H7⟩, ⟨%es0, HS0⟩⟩
      isplitl [HS0 Hg]
      · isplitl [HS0]
        · unfold owns; iexists _; isplitr
          swap; · iexact HS0
          ipureintro; exact (View.read_writes_of_cover _ _ _ _ _ (scover0_A_0 c _ _ _ _ _ _ _ _ _ _ _ _ _ _ _ _ _ _ _ _ _ _ _ _ _ _ )).trans (sout0_A_0_eq c _ _ _ _ _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact (View.read_writes_of_cover _ _ _ _ _ (cover0_A_5 c _ _ _ _ _ _ _ _ _ _ _ _ _ _ _ _ _ _ _ _ _ _ _ _ _ _ )).trans (out0_A_5_eq c _ _ _ _ _ _ _ _ _ _ _ _ _ _ _ _ _ _ _ _ _ _ _ _ _ _ )
      isplitl [H6]
      · unfold owns; iexists _; isplitr
        swap; · iexact H6
        ipureintro; exact (View.read_writes_of_cover _ _ _ _ _ (cover0_A_6 c _ _ _ _ _ _ _ _ _ _ _ _ _ _ _ _ _ _ _ _ _ _ _ _ _ _ )).trans (out0_A_6_eq c _ _ _ _ _ _ _ _ _ _ _ _ _ _ _ _ _ _ _ _ _ _ _ _ _ _ )
      unfold owns; iexists _; isplitr
      swap; · iexact H7
      ipureintro; exact (View.read_writes_of_cover _ _ _ _ _ (cover0_A_7 c _ _ _ _ _ _ _ _ _ _ _ _ _ _ _ _ _ _ _ _ _ _ _ _ _ _ )).trans (out0_A_7_eq c _ _ _ _ _ _ _ _ _ _ _ _ _ _ _ _ _ _ _ _ _ _ _ _ _ _ )
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (fun h => by have := (hcond0_1 t).mp h; omega) (iblk m c 0 t) (iblk m c 1 t) (iblk m c 2 t) (iblk m c 3 t) (iblk m c 4 t)).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexists _; iexact HS0
      iintro ⟨H0, H1, H2, H3, H4, ⟨%e5, H5⟩, ⟨%e6, H6⟩, ⟨%e7, H7⟩, ⟨%es0, HS0⟩⟩
      isplitl [HS0 Hg]
      · isplitl [HS0]
        · unfold owns; iexists _; isplitr
          swap; · iexact HS0
          ipureintro; exact (View.read_writes_of_cover _ _ _ _ _ (scover0_A_0 c _ _ _ _ _ _ _ _ _ _ _ _ _ _ _ _ _ _ _ _ _ _ _ _ _ _ )).trans (sout0_A_0_eq c _ _ _ _ _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact (View.read_writes_of_cover _ _ _ _ _ (cover0_A_5 c _ _ _ _ _ _ _ _ _ _ _ _ _ _ _ _ _ _ _ _ _ _ _ _ _ _ )).trans (out0_A_5_eq c _ _ _ _ _ _ _ _ _ _ _ _ _ _ _ _ _ _ _ _ _ _ _ _ _ _ )
      isplitl [H6]
      · unfold owns; iexists _; isplitr
        swap; · iexact H6
        ipureintro; exact (View.read_writes_of_cover _ _ _ _ _ (cover0_A_6 c _ _ _ _ _ _ _ _ _ _ _ _ _ _ _ _ _ _ _ _ _ _ _ _ _ _ )).trans (out0_A_6_eq c _ _ _ _ _ _ _ _ _ _ _ _ _ _ _ _ _ _ _ _ _ _ _ _ _ _ )
      unfold owns; iexists _; isplitr
      swap; · iexact H7
      ipureintro; exact (View.read_writes_of_cover _ _ _ _ _ (cover0_A_7 c _ _ _ _ _ _ _ _ _ _ _ _ _ _ _ _ _ _ _ _ _ _ _ _ _ _ )).trans (out0_A_7_eq c _ _ _ _ _ _ _ _ _ _ _ _ _ _ _ _ _ _ _ _ _ _ _ _ _ _ )
  · have hz : t.val ≠ 0 := fun h => h0 (by omega)
    rw [PhiS_castSucc m c t, PhiS_pos m c _ _ hz]
    simp only [before0_5_B m c t h0]
    rw [show held m c ⟨t.val - 1, by omega⟩ = held m c t from by unfold held; rw [rep_prev t h0]]
    unfold left6 left7; simp only [if_neg h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ (fun h => h0 ((hcond0_0 t).mp h)) ((hcond0_1 t).mpr (by omega)) (iblk m c 0 t) (iblk m c 1 t) (iblk m c 2 t) (iblk m c 3 t) (iblk m c 4 t) _ _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, ⟨%e6, H6⟩, ⟨%e7, H7⟩, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iexact H5
    isplitl [H6]
    · unfold owns; iexists _; isplitr
      swap; · iexact H6
      ipureintro; exact (View.read_writes_of_cover _ _ _ _ _ (cover0_B_6 c _ _ _ _ _ _ _ _ _ _ _ _ _ _ _ _ _ _ _ _ _ _ _ _ _ _ _ _ )).trans (out0_B_6_eq c _ _ _ _ _ _ _ _ _ _ _ _ _ _ _ _ _ _ _ _ _ _ _ _ _ _ _ _ )
    unfold owns; iexists _; isplitr
    swap; · iexact H7
    ipureintro; exact (View.read_writes_of_cover _ _ _ _ _ (cover0_B_7 c _ _ _ _ _ _ _ _ _ _ _ _ _ _ _ _ _ _ _ _ _ _ _ _ _ _ _ _ )).trans (out0_B_7_eq c _ _ _ _ _ _ _ _ _ _ _ _ _ _ _ _ _ _ _ _ _ _ _ _ _ _ _ _ )

theorem defs₀_row (t : Fin cfg0.N) :
    defs₀ (F := F) .tc cfg0.body (cfg0.bodyArgs t (cfg0.slots t)) = bodyAt0 t := by
  unfold defs₀; rw [Defs.onTc_tc]

/-- What the body leaves at a point is what the pipeline asks of it, window by window. -/
theorem post_leaves (c : Dev nD) (t : Fin cfg0.N) : bodyPost m c t ⊢ iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t) := by
  unfold bodyPost
  iintro ⟨HΦ, Ho, H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iapply (leaves0_5 m c t); iexact H5
  isplitl [H6]; · iexact H6
  iapply (leaves0_7 m c t); iexact H7

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => post_leaves m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]; · iexists _; iexact HS0
  iexact Hg

theorem hout (c : Dev nD) : (dats m 0 c).Φ (Fin.last cfg0.N) ⊢ Pipeline.ΦA spec0 c :=
  Phi_out m c _ (by rw [Fin.val_last]; have : cfg0.N = 8 := N_0; omega)

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: it terminates, the arguments unchanged, every semaphore back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel15Ideal.Gen

end
-- ==== Proof.Emb.lean ====
module

public import proofs.«01_k».proof.Proof.EmbFrame
public import proofs.«01_k».proof.Proof.PleTile
public import Idealize.ShloMosaic.Lib.Pipeline.ValueKit
public import Idealize.ShloMosaic.Lib.Pipeline.ReadBack

/-! The gated embedding: the RMS norm of the rows, what goes into the gate, and the rows with the gated embedded rows
added: what the kernel's three result arrays hold. -/

@[expose] public section

set_option maxRecDepth 16384

noncomputable section

open Idealize.ShloMosaic Idealize.ShloMosaic.TcCoe Idealize.SL.Sem
open Idealize.ShloMosaic.Pipeline (Dat)

namespace Cert.Emb

open Cert.Ffn

/-- The arguments read at numbers: the rows, the gains of the layer, the gate's weights, the rows to embed and the
weights that embed them. -/
structure Args where
  x : ℕ → ℕ → EReal
  g : ℕ → EReal
  w : ℕ → ℕ → EReal
  p : ℕ → ℕ → EReal
  e : ℕ → ℕ → EReal

/-- The normed rows. -/
def Args.h (A : Args) : ℕ → ℕ → EReal := Rms.normed A.x A.g
/-- What goes into the gate: normed row r against column n of its weights. -/
def Args.gl (A : Args) (r n : ℕ) : EReal := ∑ k : Fin 1024, A.h r k * A.w k n
/-- The rows with the gated embedded rows added. -/
def Args.y (A : Args) (r n : ℕ) : EReal := A.x r n + Ple.pe A.p A.e r n * Ideal.logistic (A.gl r n)

/-- The arguments from the arrays; the gains are the last layer's. -/
def args (x0 : (⟨2, ![4096, 1024]⟩ : Shape).Idx → EReal) (x1 : (⟨2, ![4, 1024]⟩ : Shape).Idx → EReal)
    (x2 : (⟨2, ![1024, 1024]⟩ : Shape).Idx → EReal) (x3 : (⟨2, ![4096, 256]⟩ : Shape).Idx → EReal)
    (x4 : (⟨2, ![1024, 256]⟩ : Shape).Idx → EReal) : Args :=
  ⟨rd2 x0, rd2 x1 3, rd2 x2, rd2 x3, rd2 x4⟩

end Cert.Emb

namespace Cert.Kernel15Ideal.Value

open Cert.Kernel15Ideal Cert.Kernel15Ideal.Gen Cert.Ffn

section Tile

variable (x : FVec Ideal S1024x1024 .f32) (g : FVec Ideal S1x1x1024 .f32) (h : FVec Ideal S1024x1024 .bf16)
  (w : FVec Ideal S1024x512 .bf16) (a : FVec Ideal S1024x256 .bf16) (e : FVec Ideal S512x256 .bf16)
  (v : FVec Ideal S1024x512 .f32) (p n : Fin 1024) (k : Fin 512)

/-- A tile's normed rows. -/
theorem norm_tile : k0_pay1 (F := Ideal) x g (ix2 p n) = Rms.normed (rd2 x) (rd3 g 0 0) p n := by
  pointwise [k0_pay1]
  simp only [rd2_ix, rd3_ix, Rms.normed, Rms.inv, Rms.sq]
  rfl

theorem held_tile : k0_pay2 (F := Ideal) x g (ix2 p n) = Rms.normed (rd2 x) (rd3 g 0 0) p n := by
  rw [← norm_tile]; pointwise [k0_pay2]

theorem keep_tile : k0_pay3 (F := Ideal) x g (ix2 p n) = Rms.normed (rd2 x) (rd3 g 0 0) p n := by
  rw [← norm_tile]; pointwise [k0_pay3]

/-- A tile of what goes into the gate. -/
theorem gl_tile : k0_pay5 (F := Ideal) h w (ix2 p k) = ∑ j : Fin 1024, h (ix2 p j) * w (ix2 j k) := by
  pointwise [k0_pay5, k0_pay4]

/-- A tile of the gated embedded rows. -/
theorem gated_tile : k0_pay6 (F := Ideal) h w a e (ix2 p k)
    = (∑ j : Fin 256, a (ix2 p j) * e (ix2 k j)) * Ideal.logistic (∑ j : Fin 1024, h (ix2 p j) * w (ix2 j k)) := by
  pointwise [k0_pay6, k0_pay4]

theorem y_even : k0_pay7 (F := Ideal) h w a e v (ix2 p k) = v (ix2 p k) + k0_pay6 (F := Ideal) h w a e (ix2 p k) := by
  pointwise [k0_pay7]

theorem y_odd : k0_pay8 (F := Ideal) h w a e v (ix2 p k) = v (ix2 p k) + k0_pay6 (F := Ideal) h w a e (ix2 p k) := by
  pointwise [k0_pay8]

end Tile

variable (m : (ℓ : Loc nD τ sig) → Buf (Elt Ideal) ℓ)

/-- The arguments in memory. -/
def A (c : Dev nD) : Emb.Args := Emb.args (m ((c : Thread nD τ).loc main_arg0)) (m ((c : Thread nD τ).loc main_arg1))
  (m ((c : Thread nD τ).loc main_arg2)) (m ((c : Thread nD τ).loc main_arg3)) (m ((c : Thread nD τ).loc main_arg4))

/-- Point `t` takes row tile `t / 2` of the rows and tile `t % 2` of the columns. -/
theorem idx : ∀ t : Fin cfg0.N, win0_0.index t = ![t.val / 2, 0] ∧ win0_1.index t = ![3, 0, 0] ∧ win0_2.index t = ![0, t.val % 2]
    ∧ win0_3.index t = ![t.val / 2, 0] ∧ win0_4.index t = ![t.val % 2, 0] ∧ win0_5.index t = ![t.val / 2, 0]
    ∧ win0_6.index t = ![t.val / 2, t.val % 2] ∧ win0_7.index t = ![t.val / 2, t.val % 2] ∧ t.val < 8 :=
  (by decide +kernel : ∀ t : Fin grid0.N, _)

variable (c : Dev nD) (t : Fin cfg0.N)

theorem blk0 (q : Fin 1024) (k : Fin 1024) : iblk m c 0 t (ix2 q k) = (A m c).x (1024 * (t.val / 2) + q) k := by
  have hj := (idx t).2.2.2.2.2.2.2.2
  show _ = rd2 _ _ _
  rw [rd2, dif_pos ⟨by omega, by omega⟩]
  blk_ext [iblk, V_main_arg0, idx t]

theorem blk1 (k : Fin 1024) : iblk m c 1 t (ix3 0 0 k) = (A m c).g k := by
  show _ = rd2 _ 3 _
  rw [rd2, dif_pos ⟨by omega, by omega⟩]
  blk_simp [iblk]
  entry_read
  pointwise
  blk_ext [V, idx t]

theorem blk2 (q : Fin 1024) (k : Fin 512) : iblk m c 2 t (ix2 q k) = (A m c).w q (512 * (t.val % 2) + k) := by
  have hj := (idx t).2.2.2.2.2.2.2.2
  show _ = rd2 _ _ _
  rw [rd2, dif_pos ⟨by omega, by omega⟩]
  blk_ext [iblk, V_main_arg2, idx t]

theorem blk3 (q : Fin 1024) (k : Fin 256) : iblk m c 3 t (ix2 q k) = (A m c).p (1024 * (t.val / 2) + q) k := by
  have hj := (idx t).2.2.2.2.2.2.2.2
  show _ = rd2 _ _ _
  rw [rd2, dif_pos ⟨by omega, by omega⟩]
  blk_ext [iblk, V_main_arg3, idx t]

theorem blk4 (q : Fin 512) (k : Fin 256) : iblk m c 4 t (ix2 q k) = (A m c).e (512 * (t.val % 2) + q) k := by
  have hj := (idx t).2.2.2.2.2.2.2.2
  show _ = rd2 _ _ _
  rw [rd2, dif_pos ⟨by omega, by omega⟩]
  blk_ext [iblk, V_main_arg4, idx t]

/-- The normed rows of the block that point `t` belongs to. -/
theorem norm_at (q n : Fin 1024) :
    Rms.normed (rd2 (iblk m c 0 (rep t))) (rd3 (iblk m c 1 (rep t)) 0 0) q n = (A m c).h (1024 * (t.val / 2) + q) n := by
  refine Rms.normed_congr (fun j => ?_) (fun j => ?_) n
  · rw [← rd2_ix]
    refine (blk0 m c (rep t) q j).trans (congrArg (fun r => (A m c).x (1024 * r + q.val) j) ?_)
    simp only [rep]; omega
  · refine Eq.trans ?_ (blk1 m c (rep t) j)
    exact (rd3_ix (iblk m c 1 (rep t)) 0 0 j).symm

theorem h_row (q n : Fin 1024) : keep5 m c t (ix2 q n) = (A m c).h (1024 * (t.val / 2) + q) n := by
  rw [← norm_at]; exact keep_tile _ _ q n

/-- A point's sum is the array's own. -/
theorem gl_at (q : Fin 1024) (n : Fin 512) : (∑ k : Fin 1024, held m c t (ix2 q k) * iblk m c 2 t (ix2 k n))
    = (A m c).gl (1024 * (t.val / 2) + q) (512 * (t.val % 2) + n) := by
  refine Finset.sum_congr rfl fun k _ => congrArg₂ (· * ·) ?_ (blk2 m c t k n)
  rw [← norm_at]; exact held_tile _ _ q k

theorem gl_row (q : Fin 1024) (n : Fin 512) :
    left6 m c t (ix2 q n) = (A m c).gl (1024 * (t.val / 2) + q) (512 * (t.val % 2) + n) :=
  (gl_tile _ _ q n).trans (gl_at m c t q n)

theorem gated_at (q : Fin 1024) (n : Fin 512) :
    k0_pay6 (F := Ideal) (held m c t) (iblk m c 2 t) (iblk m c 3 t) (iblk m c 4 t) (ix2 q n)
      = Ple.pe (A m c).p (A m c).e (1024 * (t.val / 2) + q) (512 * (t.val % 2) + n)
        * Ideal.logistic ((A m c).gl (1024 * (t.val / 2) + q) (512 * (t.val % 2) + n)) := by
  refine (gated_tile _ _ _ _ q n).trans (congrArg₂ (· * ·) ?_ (congrArg Ideal.logistic (gl_at m c t q n)))
  exact Finset.sum_congr rfl fun k _ => congrArg₂ (· * ·) (blk3 m c t q k) (blk4 m c t n k)

/-- The half of a row that a point adds to. -/
theorem half_at (q : Fin 1024) (n : Fin 512) (off : ℕ) (ho : off = 512 * (t.val % 2)) (inb) :
    View.ld (iblk m c 0 t) (Rect.unit (s := S1024x1024) ![0, off] S1024x512.size inb) (ix2 q n)
      = (A m c).x (1024 * (t.val / 2) + q) (512 * (t.val % 2) + n) := by
  have hk : 512 * (t.val % 2) + n.val < 1024 := by omega
  refine Eq.trans ?_ (blk0 m c t q ⟨512 * (t.val % 2) + n.val, hk⟩)
  refine View.ld_unit_apply_of (S := S1024x1024) _ _ _ inb _ _ fun a => ?_
  fin_cases a
  · exact (Nat.zero_add _).symm
  · exact congrArg (· + n.val) ho.symm

theorem y_row (q : Fin 1024) (n : Fin 512) :
    left7 m c t (ix2 q n) = (A m c).y (1024 * (t.val / 2) + q) (512 * (t.val % 2) + n) := by
  unfold left7
  by_cases h : t.val % 2 = 0
  · rw [if_pos h]
    exact (y_even _ _ _ _ _ q n).trans (congrArg₂ (· + ·) (half_at m c t q n 0 (by omega) _) (gated_at m c t q n))
  · rw [if_neg h]
    exact (y_odd _ _ _ _ _ q n).trans (congrArg₂ (· + ·) (half_at m c t q n 512 (by omega) _) (gated_at m c t q n))

/-- The normed rows. -/
theorem final5 : (dats m 0 c).arrAt 5 cfg0.N = fun i : S4096x1024.Idx => (A m c).h (i 0).val (i 1).val := by
  refine (dats m 0 c).arrAt_eq_of_covers 5 _ (by decide +kernel) fun t hf y => ?_
  blk_simp
  rw [after0_5, (idx t).2.2.2.2.2.1]
  obtain ⟨q, n, rfl⟩ : ∃ (q : Fin 1024) (n : Fin 1024), y = ix2 q n := ⟨y 0, y 1, eq_ix2 y⟩
  exact (h_row m c t q n).trans (congrArg₂ (A m c).h (congrArg (· + q.val) (Nat.mul_comm _ _)) (Nat.zero_add _).symm)

/-- What goes into the gate. -/
theorem final6 : (dats m 0 c).arrAt 6 cfg0.N = fun i : S4096x1024.Idx => (A m c).gl (i 0).val (i 1).val := by
  refine (dats m 0 c).arrAt_eq_of_covers 6 _ (by decide +kernel) fun t hf y => ?_
  blk_simp
  rw [after0_6, (idx t).2.2.2.2.2.2.1]
  obtain ⟨q, n, rfl⟩ : ∃ (q : Fin 1024) (n : Fin 512), y = ix2 q n := ⟨y 0, y 1, eq_ix2 y⟩
  exact (gl_row m c t q n).trans (congrArg₂ (A m c).gl (congrArg (· + q.val) (Nat.mul_comm _ _)) (congrArg (· + n.val) (Nat.mul_comm _ _)))

/-- The rows with the gated embedded rows added. -/
theorem final7 : (dats m 0 c).arrAt 7 cfg0.N = fun i : S4096x1024.Idx => (A m c).y (i 0).val (i 1).val := by
  refine (dats m 0 c).arrAt_eq_of_covers 7 _ (by decide +kernel) fun t hf y => ?_
  blk_simp
  rw [after0_7, (idx t).2.2.2.2.2.2.2.1]
  obtain ⟨q, n, rfl⟩ : ∃ (q : Fin 1024) (n : Fin 512), y = ix2 q n := ⟨y 0, y 1, eq_ix2 y⟩
  exact (y_row m c t q n).trans (congrArg₂ (A m c).y (congrArg (· + q.val) (Nat.mul_comm _ _)) (congrArg (· + n.val) (Nat.mul_comm _ _)))

/-- The run with its result arrays, and the arguments unchanged. -/
theorem run_blocks (ρ : Dev nD → PrngReg) : θ_run defs (onTc (τ := τ) (main (F := Ideal))) ⟨m, fun _ => 0, ρ⟩ fun r => ∀ c : Dev nD,
      r.2.mem ((c : Thread nD τ).loc main_v1_0) = (dats m 0 c).arrAt 5 cfg0.N
      ∧ r.2.mem ((c : Thread nD τ).loc main_v1_1) = (dats m 0 c).arrAt 6 cfg0.N
      ∧ r.2.mem ((c : Thread nD τ).loc main_v1_2) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h.1.1 c).1 5, (h.1.1 c).1 6, (h.1.1 c).1 7, h.2 c⟩)
    (θ_run_and (run_main_quiescent m ρ) (unchanged m ρ))

end Cert.Kernel15Ideal.Value

end
-- ==== Proof.EmbRef.lean ====
module

public import proofs.«01_k».proof.Proof.Gen.Reference15Ideal.Run
public import proofs.«01_k».proof.Proof.Gen.Reference15Ideal.Read
public import proofs.«01_k».proof.Proof.Emb

/-! The gated embedding: what the reference's three results are. -/

@[expose] public section

set_option maxRecDepth 16384

noncomputable section

open Idealize.ShloMosaic Idealize.ShloMosaic.Pointwise

namespace Cert.Reference15Ideal.Rows

open Cert.Reference15Ideal Cert.Reference15Ideal.Read Cert.Ffn

variable (x0 : FVec Ideal S4096x1024 .f32) (x1 : FVec Ideal S4x1024 .f32) (x2 : FVec Ideal S1024x1024 .bf16)
  (x3 : FVec Ideal S4096x256 .bf16) (x4 : FVec Ideal S1024x256 .bf16)

theorem norm_row (p : Fin 4096) (n : Fin 1024) : val_main_v14 (F := Ideal) x0 x1 (ix2 p n) = (Emb.args x0 x1 x2 x3 x4).h p n := by
  pointwise [val_main_v14, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1]
  simp only [rd2_ix, Emb.Args.h, Emb.args, Rms.normed, Rms.inv, Rms.sq]
  rfl

theorem gl_row (p : Fin 4096) (n : Fin 1024) : val_main_v16 (F := Ideal) x0 x1 x2 (ix2 p n) = (Emb.args x0 x1 x2 x3 x4).gl p n := by
  pointwise [val_main_v16, val_main_v15]
  simp only [norm_row x0 x1 x2 x3 x4]
  simp only [rd2_ix, Emb.Args.gl]
  rfl

theorem pe_row (p : Fin 4096) (n : Fin 1024) : val_main_v21 (F := Ideal) x3 x4 (ix2 p n) = Ple.pe (rd2 x3) (rd2 x4) p n := by
  pointwise [val_main_v21, val_main_v20, val_main_v19, val_main_v18]
  simp only [rd2_ix, Ple.pe]

/-- The logistic of what goes into the gate. -/
theorem gate_row (p : Fin 4096) (n : Fin 1024) : val_main_v27 (F := Ideal) x0 x1 x2 (ix2 p n)
    = Ideal.logistic ((Emb.args x0 x1 x2 x3 x4).gl p n) := by
  pointwise [val_main_v27, val_main_v26, val_main_v25, val_main_v24, val_main_v23, val_main_v22, val_main_cst_2,
    val_main_cst_3]
  rw [gl_row x0 x1 x2 x3 x4]
  simp only [Ideal.logistic]

/-- The normed rows. -/
theorem ref0 : val_main_v17 (F := Ideal) x0 x1 = fun i : S4096x1024.Idx => (Emb.args x0 x1 x2 x3 x4).h (i 0).val (i 1).val := by
  funext i
  idx_vars i
  pointwise [val_main_v17]
  exact norm_row x0 x1 x2 x3 x4 _ _

/-- What goes into the gate. -/
theorem ref1 : val_main_v16 (F := Ideal) x0 x1 x2 = fun i : S4096x1024.Idx => (Emb.args x0 x1 x2 x3 x4).gl (i 0).val (i 1).val := by
  funext i
  idx_vars i
  exact gl_row x0 x1 x2 x3 x4 _ _

/-- The rows with the gated embedded rows added. -/
theorem ref2 : val_main_v29 (F := Ideal) x0 x1 x2 x3 x4
    = fun i : S4096x1024.Idx => (Emb.args x0 x1 x2 x3 x4).y (i 0).val (i 1).val := by
  funext i
  idx_vars i
  pointwise [val_main_v29, val_main_v28]
  rw [gate_row x0 x1 x2 x3 x4, pe_row]
  simp only [rd2_ix, Emb.Args.y]
  rfl

end Cert.Reference15Ideal.Rows

end
-- ==== Proof.EmbClaim.lean ====
module

public import proofs.«01_k».proof.Defs
public import proofs.«01_k».proof.Proof.Gen.Kernel15
public import proofs.«01_k».proof.Proof.EmbFrame
public import proofs.«01_k».proof.Proof.Emb
public import proofs.«01_k».proof.Proof.EmbRef

/-! The gated embedding of the rows: the ideal kernel and the ideal reference end with the same arrays, and the reference's frame. -/

@[expose] public section

set_option maxRecDepth 16384

noncomputable section

namespace Cert.Reference15Ideal

open Idealize.ShloMosaic Idealize.SL.Sem

variable (m' : (ℓ : Loc nD τ sig) → Buf (Elt Ideal) ℓ)
  (m : (ℓ : Loc Kernel15Ideal.nD Kernel15Ideal.τ Kernel15Ideal.sig) → Buf (Elt Ideal) ℓ)

/-- The reference's arguments. -/
def refArgs (c : Dev nD) : Cert.Emb.Args :=
  Cert.Emb.args (m' ((c.tc : Thread nD τ).loc main_arg0))
    (m' ((c.tc : Thread nD τ).loc main_arg1))
    (m' ((c.tc : Thread nD τ).loc main_arg2))
    (m' ((c.tc : Thread nD τ).loc main_arg3))
    (m' ((c.tc : Thread nD τ).loc main_arg4))

/-- Where the memories agree on the arguments, any function of the arguments is the same on both sides. -/
theorem args_eq (hagree : ∀ c : Dev Kernel15Ideal.nD,
      m' ((c.tc : Thread nD τ).loc main_arg0) = m ((c.tc : Thread Kernel15Ideal.nD Kernel15Ideal.τ).loc Kernel15Ideal.main_arg0)
      ∧ m' ((c.tc : Thread nD τ).loc main_arg1) = m ((c.tc : Thread Kernel15Ideal.nD Kernel15Ideal.τ).loc Kernel15Ideal.main_arg1)
      ∧ m' ((c.tc : Thread nD τ).loc main_arg2) = m ((c.tc : Thread Kernel15Ideal.nD Kernel15Ideal.τ).loc Kernel15Ideal.main_arg2)
      ∧ m' ((c.tc : Thread nD τ).loc main_arg3) = m ((c.tc : Thread Kernel15Ideal.nD Kernel15Ideal.τ).loc Kernel15Ideal.main_arg3)
      ∧ m' ((c.tc : Thread nD τ).loc main_arg4) = m ((c.tc : Thread Kernel15Ideal.nD Kernel15Ideal.τ).loc Kernel15Ideal.main_arg4))
    (c : Dev Kernel15Ideal.nD) {α : Type} (f : Cert.Emb.Args → α) : f (refArgs m' c) = f (Kernel15Ideal.Value.A m c) := by
  obtain ⟨h0, h1, h2, h3, h4⟩ := hagree c
  unfold refArgs
  rw [h0, h1, h2, h3, h4]
  rfl

/-- The reference's run, its results stated as functions of the arguments. -/
theorem run_vals (ρ : Dev nD → PrngReg) :
    θ_run defs (onTc (τ := τ) (main (F := Ideal))) ⟨m', fun _ => 0, ρ⟩ fun r => ∀ c : Dev nD,
      r.2.mem ((c.tc : Thread nD τ).loc main_v17) = (fun i : S4096x1024.Idx => (refArgs m' c).h (i 0).val (i 1).val)
      ∧ r.2.mem ((c.tc : Thread nD τ).loc main_v16) = (fun i : S4096x1024.Idx => (refArgs m' c).gl (i 0).val (i 1).val)
      ∧ r.2.mem ((c.tc : Thread nD τ).loc main_v29) = (fun i : S4096x1024.Idx => (refArgs m' c).y (i 0).val (i 1).val)
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4) :=
  (θ_run defs _ _).mono (fun r h c => ⟨
      (h c).1.trans ((Read.val_main_v17_eq _ _ ).trans (Rows.ref0 (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)))),
      (h c).2.1.trans ((Read.val_main_v16_eq _ _ _ ).trans (Rows.ref1 (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)))),
      (h c).2.2.1.trans ((Read.val_main_v29_eq _ _ _ _ _ ).trans (Rows.ref2 (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)))),
      (h c).2.2.2⟩)
    (Value.run (F := Ideal) m' ρ)

/-- The two programs end with the same arrays. -/
theorem algebraic : Cert.algebraic_Kernel15Ideal_Reference15Ideal (hKernel15Ideal := Kernel15Ideal.Gen.facts) (hReference15Ideal := Gen.facts) := by
  pair_intro
  · run_from Cert.Kernel15Ideal.Value.run_blocks m g
  · run_from run_vals m' g'
    · exact (args_eq m' m hagree c (fun A => fun i : Kernel15Ideal.S4096x1024.Idx => A.h (i 0).val (i 1).val)).trans (Kernel15Ideal.Value.final5 m c).symm
    · exact (args_eq m' m hagree c (fun A => fun i : Kernel15Ideal.S4096x1024.Idx => A.gl (i 0).val (i 1).val)).trans (Kernel15Ideal.Value.final6 m c).symm
    · exact (args_eq m' m hagree c (fun A => fun i : Kernel15Ideal.S4096x1024.Idx => A.y (i 0).val (i 1).val)).trans (Kernel15Ideal.Value.final7 m c).symm

section Compiled

attribute [local instance] Cert.Kernel15.Gen.facts Cert.Kernel15Ideal.Gen.facts

/-- The program as compiled runs the ideal one's body. -/
theorem defs₀_eq : Kernel15.defs₀ (F := Bits) = Kernel15Ideal.defs₀ (F := Bits) := by
  unfold Kernel15.defs₀ Kernel15Ideal.defs₀
  refine congrArg Defs.onTc (funext fun l => funext fun a => ?_)
  obtain ⟨_ | k, h⟩ := l
  · rfl
  · exact absurd h (Nat.not_lt.2 (Nat.le_add_left _ _))

theorem defs_eq : Kernel15.defs (F := Bits) = Kernel15Ideal.defs (F := Bits) :=
  congrArg (Pipeline.defs (Kernel15.pcfgs (F := Bits))) defs₀_eq

/-- The ideal program's run is over any values: it gives the frame of the program as compiled too. -/
theorem frame_kernel : Cert.quiescent_Kernel15 (hKernel15 := Cert.Kernel15.Gen.facts) := fun m ρ _ =>
  (congrArg (θ_run · _ _ _) defs_eq).mpr (Cert.Kernel15Ideal.Gen.frame (F := Bits) m ρ)

end Compiled

/-- The reference runs, leaves its arguments as they were, and has no semaphore. -/
theorem frame : Cert.quiescent_Reference15Ideal (hReference15Ideal := Gen.facts) := fun m ρ _ =>
  (θ_run defs _ _).mono (fun r h => And.intro
      (fun c => (h c).2.2.2) (Idealize.ShloMosaic.sem_eq_zero_of_no_sems (by decide) r.2))
    (Value.run (F := Ideal) m ρ)

end Cert.Reference15Ideal

end
-- ==== Proof.UpFrame.lean ====
module

public import proofs.«01_k».proof.Proof.Gen.Kernel16Ideal.Frame
public import proofs.«01_k».proof.Proof.Gen.Kernel16Ideal.Skeleton
public import Idealize.ShloMosaic.Lib.Pipeline.ReadBack
public import Idealize.ShloMosaic.Lib.Pipeline.ValueKit
public import Idealize.ShloMosaic.Lib.Claim

/-! The frame of program 16 over the extended reals and any other values. Two scratches carry the last 8 rows of the two
products from one point to the next; the body reads them before it stores them. At a column half's first point it does not
use what it reads (`act_first`), so after any point both scratches and the result windows hold what is named here. -/

@[expose] public section

set_option maxRecDepth 16384

noncomputable section

namespace Cert.Kernel16Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The gated tile -/

/-- The gated tile a point stores, from its two products, its taps and biases, and the rows carried from the point before. -/
def act (i : grid0.Coords) (g v : FVec F S256x1408 .f32) (x4 : Vec F S1x3x1408 .f32) (x5 : Vec F S1x1x1408 .f32) (x6 : Vec F S1x3x1408 .f32) (x7 : Vec F S1x1x1408 .f32) (s0 s1 : Vec F S8x1408 .f32) : FVec F S256x1408 .bf16 :=
  k0_pay1 (k0_pay10 (BitVec.ofNat 32 (i 1).val) v s1) (k0_pay11 x6)
    (k0_pay12 g (Scalar.cmpi .eq (BitVec.ofNat 32 (i 1).val) 0#32) s0 x4 x5)
    (k0_pay13 (BitVec.ofNat 32 (i 1).val) v s1 x6) (k0_pay14 x7)

/-- At a column half's first point the carried rows do not count. -/
theorem act_first (i : grid0.Coords) (hi : (i 1).val = 0) (g v : FVec F S256x1408 .f32) (x4 : Vec F S1x3x1408 .f32) (x5 : Vec F S1x1x1408 .f32) (x6 : Vec F S1x3x1408 .f32) (x7 : Vec F S1x1x1408 .f32) (s0 s1 r0 r1 : Vec F S8x1408 .f32) :
    act i g v x4 x5 x6 x7 s0 s1 = act i g v x4 x5 x6 x7 r0 r1 := by
  have h10 : ∀ s, k0_pay10 (BitVec.ofNat 32 0) v s = k0_pay10 (BitVec.ofNat 32 0) v r1 := fun s => rfl
  have h12 : ∀ s, k0_pay12 g (Scalar.cmpi .eq (BitVec.ofNat 32 0) 0#32) s x4 x5 = k0_pay12 g (Scalar.cmpi .eq (BitVec.ofNat 32 0) 0#32) r0 x4 x5 := fun s => rfl
  have h13 : k0_pay13 (BitVec.ofNat 32 0) v s1 x6 = k0_pay13 (BitVec.ofNat 32 0) v r1 x6 := by
    unfold k0_pay13; rw [h10 s1]
  unfold act
  rw [hi, h10 s1, h12 s0, h13]

/-! ## Staging buffers and scratch -/

abbrev ms0_0 (t : Fin cfg0.N) : Memref sig .tc .vmem S256x1024 .f32 := win0_0.stage (cfg0.slots t 0)
abbrev ms0_1 (t : Fin cfg0.N) : Memref sig .tc .vmem S1x1x1024 .f32 := win0_1.stage (cfg0.slots t 1)
abbrev ms0_2 (t : Fin cfg0.N) : Memref sig .tc .vmem S1x1408x1024 .bf16 := win0_2.stage (cfg0.slots t 2)
abbrev ms0_3 (t : Fin cfg0.N) : Memref sig .tc .vmem S1x1408x1024 .bf16 := win0_3.stage (cfg0.slots t 3)
abbrev ms0_4 (t : Fin cfg0.N) : Memref sig .tc .vmem S1x3x1408 .f32 := win0_4.stage (cfg0.slots t 4)
abbrev ms0_5 (t : Fin cfg0.N) : Memref sig .tc .vmem S1x1x1408 .f32 := win0_5.stage (cfg0.slots t 5)
abbrev ms0_6 (t : Fin cfg0.N) : Memref sig .tc .vmem S1x3x1408 .f32 := win0_6.stage (cfg0.slots t 6)
abbrev ms0_7 (t : Fin cfg0.N) : Memref sig .tc .vmem S1x1x1408 .f32 := win0_7.stage (cfg0.slots t 7)
abbrev ms0_8 (t : Fin cfg0.N) : Memref sig .tc .vmem S256x1024 .bf16 := win0_8.stage (cfg0.slots t 8)
abbrev ms0_9 (t : Fin cfg0.N) : Memref sig .tc .vmem S256x1408 .f32 := win0_9.stage (cfg0.slots t 9)
abbrev ms0_10 (t : Fin cfg0.N) : Memref sig .tc .vmem S256x1408 .f32 := win0_10.stage (cfg0.slots t 10)
abbrev ms0_11 (t : Fin cfg0.N) : Memref sig .tc .vmem S256x1408 .bf16 := win0_11.stage (cfg0.slots t 11)
abbrev VO0_8 : View sig .tc .vmem S256x1024 .bf16 := (Memref.whole cc0_stg8_0 : Memref sig .tc .vmem S256x1024 .bf16).view
abbrev VO0_9 : View sig .tc .vmem S256x1408 .f32 := (Memref.whole cc0_stg9_0 : Memref sig .tc .vmem S256x1408 .f32).view
abbrev VO0_10 : View sig .tc .vmem S256x1408 .f32 := (Memref.whole cc0_stg10_0 : Memref sig .tc .vmem S256x1408 .f32).view
abbrev VO0_11 : View sig .tc .vmem S256x1408 .bf16 := (Memref.whole cc0_stg11_0 : Memref sig .tc .vmem S256x1408 .bf16).view
abbrev scM0_0 : Memref sig .tc .vmem S8x1408 .f32 := Memref.whole cc0_scratch0
abbrev VS0_0 : View sig .tc .vmem S8x1408 .f32 := scM0_0.view
abbrev scM0_1 : Memref sig .tc .vmem S8x1408 .f32 := Memref.whole cc0_scratch1
abbrev VS0_1 : View sig .tc .vmem S8x1408 .f32 := scM0_1.view

/-- The invariant the region starts from: the scratches at anything, the generator register at some state. -/
theorem PhiA0_eq (c : Dev nD) :
    (Pipeline.ΦA spec0 c : sProp 𝕄) = iprop(((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The body's run -/

section Run

variable (c : Dev nD) (i : grid0.Coords) (arg2 : Memref sig .tc .vmem S256x1024 .f32) (harg2 : arg2.IsWhole) (arg3 : Memref sig .tc .vmem S1x1x1024 .f32) (harg3 : arg3.IsWhole) (arg4 : Memref sig .tc .vmem S1x1408x1024 .bf16) (harg4 : arg4.IsWhole) (arg5 : Memref sig .tc .vmem S1x1408x1024 .bf16) (harg5 : arg5.IsWhole) (arg6 : Memref sig .tc .vmem S1x3x1408 .f32) (harg6 : arg6.IsWhole) (arg7 : Memref sig .tc .vmem S1x1x1408 .f32) (harg7 : arg7.IsWhole) (arg8 : Memref sig .tc .vmem S1x3x1408 .f32) (harg8 : arg8.IsWhole) (arg9 : Memref sig .tc .vmem S1x1x1408 .f32) (harg9 : arg9.IsWhole) (arg10 : Memref sig .tc .vmem S256x1024 .bf16) (harg10 : arg10.IsWhole) (arg11 : Memref sig .tc .vmem S256x1408 .f32) (harg11 : arg11.IsWhole) (arg12 : Memref sig .tc .vmem S256x1408 .f32) (harg12 : arg12.IsWhole) (arg13 : Memref sig .tc .vmem S256x1408 .bf16) (harg13 : arg13.IsWhole) (arg14 : Memref sig .tc .vmem S8x1408 .f32) (harg14 : arg14.IsWhole) (arg15 : Memref sig .tc .vmem S8x1408 .f32) (harg15 : arg15.IsWhole)
  (x0 : Vec F S256x1024 .f32) (x1 : Vec F S1x1x1024 .f32) (x2 : Vec F S1x1408x1024 .bf16) (x3 : Vec F S1x1408x1024 .bf16) (x4 : Vec F S1x3x1408 .f32) (x5 : Vec F S1x1x1408 .f32) (x6 : Vec F S1x3x1408 .f32) (x7 : Vec F S1x1x1408 .f32) (s0 s1 : Vec F S8x1408 .f32)

set_option maxHeartbeats 1000000 in
/-- A point, the scratches as found: what its stores leave in the result windows and in the scratches. -/
noncomputable def kernelRun0 :
    Σ' (L8 : List (View.Piece (Elt F) S256x1024 .bf16)), Σ' (L9 : List (View.Piece (Elt F) S256x1408 .f32)), Σ' (L10 : List (View.Piece (Elt F) S256x1408 .f32)), Σ' (L11 : List (View.Piece (Elt F) S256x1408 .bf16)), Σ' (LS0 : List (View.Piece (Elt F) S8x1408 .f32)), { LS1 : List (View.Piece (Elt F) S8x1408 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare s0 ∗ owns (c : Thread nD τ) arg15 fullShare s1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc0_l3_up_ffn i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun E K => ?run⟩
  case run =>
    simp only [cc0_l3_up_ffn_eq_skeleton]; unfold cc0_l3_up_ffn_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg14.eq_unread hfs0; obtain rfl := harg15.eq_unread hfs1
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    isplitl [HS0]; · iexists _; iexact HS0
    iexists _; iexact HS1

theorem left0_8 (f) : arg10.view.read (Elt F) (arg10.view.writes (Elt F) f (kernelRun0 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 s0 s1).1) = k0_pay5 x0 x1 :=
  (View.read_writes_of_cover _ _ VO0_8 VO0_8.junk _ (fun y => View.cover_of_tiledL _ S256x1024.size (by sl_kernel_rfl) y)).trans (by frame_out)

theorem left0_9 (f) : arg11.view.read (Elt F) (arg11.view.writes (Elt F) f (kernelRun0 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 s0 s1).2.1) = k0_pay8 x0 x1 x2 :=
  (View.read_writes_of_cover _ _ VO0_9 VO0_9.junk _ (fun y => View.cover_of_tiledL _ S256x1408.size (by sl_kernel_rfl) y)).trans (by frame_out)

theorem left0_10 (f) : arg12.view.read (Elt F) (arg12.view.writes (Elt F) f (kernelRun0 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 s0 s1).2.2.1) = k0_pay9 x0 x1 x3 :=
  (View.read_writes_of_cover _ _ VO0_10 VO0_10.junk _ (fun y => View.cover_of_tiledL _ S256x1408.size (by sl_kernel_rfl) y)).trans (by frame_out)

theorem left0_11 (f) : arg13.view.read (Elt F) (arg13.view.writes (Elt F) f (kernelRun0 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 s0 s1).2.2.2.1) = act i (k0_pay6 x0 x1 x2) (k0_pay7 x0 x1 x3) x4 x5 x6 x7 s0 s1 :=
  (View.read_writes_of_cover _ _ VO0_11 VO0_11.junk _ (fun y => View.cover_of_tiledL _ S256x1408.size (by sl_kernel_rfl) y)).trans (by frame_out; rfl)

theorem kept0_0 (f) : arg14.view.read (Elt F) (arg14.view.writes (Elt F) f (kernelRun0 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 s0 s1).2.2.2.2.1) = k0_pay2 (k0_pay6 x0 x1 x2) :=
  (View.read_writes_of_cover _ _ VS0_0 VS0_0.junk _ (fun y => View.cover_of_tiledL _ S8x1408.size (by sl_kernel_rfl) y)).trans (by frame_out)

theorem kept0_1 (f) : arg15.view.read (Elt F) (arg15.view.writes (Elt F) f (kernelRun0 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 s0 s1).2.2.2.2.2.1) = k0_pay3 (k0_pay7 x0 x1 x3) :=
  (View.read_writes_of_cover _ _ VS0_1 VS0_1.junk _ (fun y => View.cover_of_tiledL _ S8x1408.size (by sl_kernel_rfl) y)).trans (by frame_out)

end Run

/-! ## What is held after a point -/

/-- The gate half's product at a point. -/
abbrev gate (c : Dev nD) (t : Fin cfg0.N) : FVec F S256x1408 .f32 := k0_pay6 (iblk m c 0 t) (iblk m c 1 t) (iblk m c 2 t)

/-- The value half's product at a point. -/
abbrev value (c : Dev nD) (t : Fin cfg0.N) : FVec F S256x1408 .f32 := k0_pay7 (iblk m c 0 t) (iblk m c 1 t) (iblk m c 3 t)

/-- The point before (of the first point, the point itself). -/
abbrev before (t : Fin cfg0.N) : Fin cfg0.N := ⟨t.val - 1, lt_of_le_of_lt (Nat.sub_le _ _) t.isLt⟩

/-- The gated tile a point leaves. -/
def gated (c : Dev nD) (t : Fin cfg0.N) : FVec F S256x1408 .bf16 :=
  act (grid0.coords t) (gate m c t) (value m c t) (iblk m c 4 t) (iblk m c 5 t) (iblk m c 6 t) (iblk m c 7 t)
    (k0_pay2 (gate m c (before t))) (k0_pay3 (value m c (before t)))

/-- The invariant before position `n`: at the start the scratches at anything, afterwards as the point before left them. -/
def PhiS (c : Dev nD) : (n : ℕ) → n ≤ cfg0.N → sProp 𝕄
  | 0, _ => Pipeline.ΦA spec0 c
  | n + 1, hn => iprop((owns (c : Thread nD τ) scM0_0 fullShare (k0_pay2 (gate m c ⟨n, hn⟩)) ∗ owns (c : Thread nD τ) scM0_1 fullShare (k0_pay3 (value m c ⟨n, hn⟩))) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (t : Fin cfg0.N) :
    PhiS m c (t.val + 1) t.isLt = iprop((owns (c : Thread nD τ) scM0_0 fullShare (k0_pay2 (gate m c t)) ∗ owns (c : Thread nD τ) scM0_1 fullShare (k0_pay3 (value m c t))) ∗ (∃ r, prngReg c r)) := rfl

theorem PhiS_pos (c : Dev nD) (n : ℕ) (h : n ≤ cfg0.N) (hz : n ≠ 0) :
    PhiS m c n h = iprop((owns (c : Thread nD τ) scM0_0 fullShare (k0_pay2 (gate m c ⟨n - 1, by omega⟩)) ∗ owns (c : Thread nD τ) scM0_1 fullShare (k0_pay3 (value m c ⟨n - 1, by omega⟩))) ∗ (∃ r, prngReg c r)) := by
  cases n with
  | zero => exact absurd rfl hz
  | succ n => rfl

/-- The proof data: the arrays as the region finds them, and what each window's buffer holds after a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => k0_pay5 (iblk m c 0 t) (iblk m c 1 t)
    | ⟨9, _⟩ => k0_pay8 (iblk m c 0 t) (iblk m c 1 t) (iblk m c 2 t)
    | ⟨10, _⟩ => k0_pay9 (iblk m c 0 t) (iblk m c 1 t) (iblk m c 3 t)
    | ⟨11, _⟩ => gated m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = k0_pay5 (iblk m c 0 t) (iblk m c 1 t) := by dsimp only [dats]
theorem after0_9 (c : Dev nD) (t : Fin cfg0.N) : (dats m 0 c).after 9 t = k0_pay8 (iblk m c 0 t) (iblk m c 1 t) (iblk m c 2 t) := by dsimp only [dats]
theorem after0_10 (c : Dev nD) (t : Fin cfg0.N) : (dats m 0 c).after 10 t = k0_pay9 (iblk m c 0 t) (iblk m c 1 t) (iblk m c 3 t) := by dsimp only [dats]
theorem after0_11 (c : Dev nD) (t : Fin cfg0.N) : (dats m 0 c).after 11 t = gated m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation -/

def bodyRest (c : Dev nD) (t : Fin cfg0.N) : sProp 𝕄 :=
  iprop((dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 12800000 in
/-- The body at a point, whatever rows it finds carried, as long as they make the tile the point is to leave. -/
theorem sound_from (c : Dev nD) (t : Fin cfg0.N) (s0 s1 : Vec F S8x1408 .f32)
    (hs : act (grid0.coords t) (gate m c t) (value m c t) (iblk m c 4 t) (iblk m c 5 t) (iblk m c 6 t) (iblk m c 7 t) s0 s1 = gated m c t) :
    iprop(((owns (c : Thread nD τ) scM0_0 fullShare s0 ∗ owns (c : Thread nD τ) scM0_1 fullShare s1) ∗ (∃ r, prngReg c r)) ∗ bodyRest m c t)
      ⊢ wp frame (wpE (defs₀ (F := F)) Variants.none c none) Set.univ (bodyAt0 t) (fun _ => bodyPost m c t) := by
  unfold bodyRest bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.succ = PhiS m c (t.val + 1) t.isLt from rfl, PhiS_succ, ← hs]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0 c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) s0 s1).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  iintro ⟨H0, H1, H2, H3, H4, H5, H6, H7, ⟨%e8, H8⟩, ⟨%e9, H9⟩, ⟨%e10, H10⟩, ⟨%e11, H11⟩, ⟨%es0, HS0⟩, ⟨%es1, HS1⟩⟩
  isplitl [HS0 HS1 Hg]
  · isplitl [HS0 HS1]
    · isplitl [HS0]
      · unfold owns; iexists _; isplitr
        swap; · iexact HS0
        ipureintro; exact kept0_0 c _ _ _ _ _ _ _ _ _ _ _ _ _ _ _ _ _ _ _ _ _ _ _ _ _ _ _ _ _ _ _ _ _ _ _ _ _ _ _ _
      unfold owns; iexists _; isplitr
      swap; · iexact HS1
      ipureintro; exact kept0_1 c _ _ _ _ _ _ _ _ _ _ _ _ _ _ _ _ _ _ _ _ _ _ _ _ _ _ _ _ _ _ _ _ _ _ _ _ _ _ _ _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact left0_8 c _ _ _ _ _ _ _ _ _ _ _ _ _ _ _ _ _ _ _ _ _ _ _ _ _ _ _ _ _ _ _ _ _ _ _ _ _ _ _ _
  isplitl [H9]
  · unfold owns; iexists _; isplitr
    swap; · iexact H9
    ipureintro; exact left0_9 c _ _ _ _ _ _ _ _ _ _ _ _ _ _ _ _ _ _ _ _ _ _ _ _ _ _ _ _ _ _ _ _ _ _ _ _ _ _ _ _
  isplitl [H10]
  · unfold owns; iexists _; isplitr
    swap; · iexact H10
    ipureintro; exact left0_10 c _ _ _ _ _ _ _ _ _ _ _ _ _ _ _ _ _ _ _ _ _ _ _ _ _ _ _ _ _ _ _ _ _ _ _ _ _ _ _ _
  unfold owns; iexists _; isplitr
  swap; · iexact H11
  ipureintro; exact left0_11 c _ _ _ _ _ _ _ _ _ _ _ _ _ _ _ _ _ _ _ _ _ _ _ _ _ _ _ _ _ _ _ _ _ _ _ _ _ _ _ _

/-- The body at any point: at the very first the carried rows are anything and do not count, later they are the point before's. -/
theorem sound_body (c : Dev nD) (t : Fin cfg0.N) :
    iprop((dats m 0 c).Φ t.castSucc ∗ bodyRest m c t) ⊢ wp frame (wpE (defs₀ (F := F)) Variants.none c none) Set.univ (bodyAt0 t) (fun _ => bodyPost m c t) := by
  by_cases hz : t.val = 0
  · have hc : (grid0.coords t 1).val = 0 := by
      rw [show (grid0.coords t 1).val = t.val / 1 % 16 from Pipeline.Grid.coords_val t 1 (by decide) rfl, hz]
    rw [PhiS_castSucc m c t, PhiS_zero m c _ _ hz, PhiA0_eq]
    iintro ⟨⟨⟨⟨%s0, HS0⟩, ⟨%s1, HS1⟩⟩, Hg⟩, Hr⟩
    iapply (sound_from m c t s0 s1 (act_first _ hc _ _ _ _ _ _ _ _ _ _))
    isplitl [HS0 HS1 Hg]
    · isplitl [HS0 HS1]
      · isplitl [HS0]; · iexact HS0
        iexact HS1
      iexact Hg
    iexact Hr
  · rw [PhiS_castSucc m c t, PhiS_pos m c _ _ hz]
    exact sound_from m c t _ _ rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N le_rfl from rfl,
    PhiS_pos m c _ _ (by have : cfg0.N = 32 := N_0; omega), PhiA0_eq]
  iintro ⟨⟨HS0, HS1⟩, Hg⟩
  isplitl [HS0 HS1]
  · isplitl [HS0]
    · iexists _; iexact HS0
    iexists _; iexact HS1
  iexact Hg

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: it terminates, the arguments unchanged, every semaphore back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel16Ideal.Gen

end
-- ==== Proof.Up.lean ====
module

public import proofs.«01_k».proof.Proof.UpFrame
public import proofs.«01_k».proof.Proof.Rms
public import Idealize.ShloMosaic.Lib.Pipeline.ValueKit
public import Idealize.ShloMosaic.Lib.Pipeline.ReadBack

/-! The RMS norm of the rows, both halves of their product with `w_up`, the causal convolution and the gelu gate: what the
kernel's four result arrays hold. -/

@[expose] public section

set_option maxRecDepth 16384

noncomputable section

open Idealize.ShloMosaic Idealize.ShloMosaic.TcCoe Idealize.SL.Sem
open Idealize.ShloMosaic.Pipeline (Dat)
open Idealize.ShloMosaic.Pointwise

namespace Cert.Up

open Cert.Ffn

/-- The arguments read at numbers: the rows, the gains of the layer, the weights, the layer's taps and its bias. -/
structure Args where
  x : ℕ → ℕ → EReal
  g : ℕ → EReal
  w : ℕ → ℕ → EReal
  t : ℕ → ℕ → EReal
  b : ℕ → EReal

/-- The normed rows. -/
def Args.h (A : Args) : ℕ → ℕ → EReal := Rms.normed A.x A.g
/-- The normed rows twice, one under the other: the call writes them once for each column half. -/
def Args.hh (A : Args) (r n : ℕ) : EReal := A.h (r % 4096) n
/-- The gate half of the product. -/
def Args.hg (A : Args) (r n : ℕ) : EReal := ∑ k : Fin 1024, A.h r k * A.w n k
/-- The value half of the product. -/
def Args.hv (A : Args) (r n : ℕ) : EReal := ∑ k : Fin 1024, A.h r k * A.w (2816 + n) k
/-- The gate half convolved. -/
def Args.gt (A : Args) (r n : ℕ) : EReal := conv A.hg A.t A.b r n
/-- The value half convolved. -/
def Args.vl (A : Args) (r n : ℕ) : EReal := conv A.hv (fun k n => A.t k (2816 + n)) (fun n => A.b (2816 + n)) r n
/-- The gated rows. -/
def Args.a (A : Args) (r n : ℕ) : EReal := zval (A.gt r n) (A.vl r n)

/-- The arguments from the arrays; gains, taps and bias are the last layer's. -/
def args (x0 : (⟨2, ![4096, 1024]⟩ : Shape).Idx → EReal) (x1 : (⟨2, ![4, 1024]⟩ : Shape).Idx → EReal)
    (x2 : (⟨2, ![5632, 1024]⟩ : Shape).Idx → EReal) (x3 : (⟨3, ![4, 3, 5632]⟩ : Shape).Idx → EReal)
    (x4 : (⟨2, ![4, 5632]⟩ : Shape).Idx → EReal) : Args :=
  ⟨rd2 x0, rd2 x1 3, rd2 x2, rd3 x3 3, rd2 x4 3⟩

/-- The rows a tile convolves: eight carried rows `s` (zeros where `f` holds), then the tile's own `v`. -/
def rows (f : Prop) [Decidable f] (s v : ℕ → ℕ → EReal) (r n : ℕ) : EReal :=
  if r < 8 then (if f then 0 else s r n) else v (r - 8) n

end Cert.Up

namespace Cert.Kernel16Ideal.Value

open Cert.Kernel16Ideal Cert.Kernel16Ideal.Gen Cert.Ffn Cert.Up

section Tile

/-- The named 0.044715 is the number. -/
theorem gelu_a : Named.named (F := Ideal) κ "gelu_a" (φ := .f32) 0x3D372713#32 = cA :=
  IdealRules.named_const.ideal_named_scalar _ _ _ _ rfl

/-- The rounded word that the name stands for is the number's. -/
theorem preserves : IdealRules.named_const.Statement κ "gelu_a" .f32 0x3D372713#32 ((8943 / 200000 : ℝ) : EReal) :=
  IdealRules.named_const.statement κ "gelu_a" .f32 0x3D372713#32 ((8943 / 200000 : ℝ) : EReal) rfl

variable (x : FVec Ideal S256x1024 .f32) (g : FVec Ideal S1x1x1024 .f32) (w : FVec Ideal S1x1408x1024 .bf16) (p : Fin 256)

/-- A tile's normed rows. -/
theorem norm_tile (n : Fin 1024) : k0_pay4 (F := Ideal) x g (ix2 p n) = Rms.normed (rd2 x) (rd3 g 0 0) p n := by
  pointwise [k0_pay4]
  simp only [rd2_ix, rd3_ix, Rms.normed, Rms.inv, Rms.sq]
  rfl

theorem h_tile (n : Fin 1024) : k0_pay5 (F := Ideal) x g (ix2 p n) = Rms.normed (rd2 x) (rd3 g 0 0) p n := by
  rw [← norm_tile]; pointwise [k0_pay5]

/-- A tile of either half of the product. -/
theorem prod_tile (n : Fin 1408) : k0_pay6 (F := Ideal) x g w (ix2 p n)
    = ∑ k : Fin 1024, Rms.normed (rd2 x) (rd3 g 0 0) p k * w (ix3 0 n k) := by
  pointwise [k0_pay6]
  simp only [norm_tile]

variable (i : grid0.Coords) (u v : FVec Ideal S256x1408 .f32) (t : FVec Ideal S1x3x1408 .f32) (b : FVec Ideal S1x1x1408 .f32)
  (s r : FVec Ideal S8x1408 .f32) (t' : FVec Ideal S1x3x1408 .f32) (b' : FVec Ideal S1x1x1408 .f32)

/-- Whether a point is its column half's first, as the kernel computes it. -/
theorem first_eq : Scalar.cmpi .eq (BitVec.ofNat 32 (i 1).val) 0#32 = if (i 1).val = 0 then 1#1 else 0#1 :=
  (by decide : ∀ k : Fin 16, Scalar.cmpi .eq (BitVec.ofNat 32 k.val) 0#32 = if k.val = 0 then 1#1 else 0#1) ⟨_, (i 1).isLt⟩

/-- The carried rows and the tile under them. -/
theorem rows_tile (q : Fin 264) (n : Fin 1408) :
    k0_pay10 (F := Ideal) (BitVec.ofNat 32 (i 1).val) v r (ix2 q n) = rows ((i 1).val = 0) (rd2 r) (rd2 v) q n := by
  have hq := q.isLt
  pointwise [k0_pay10]
  rw [first_eq]
  simp only [rd2_ix, Fin.val_mk, rows]
  by_cases h8 : q.val < 8
  · rw [dif_pos h8, if_pos h8]
    by_cases h0 : (i 1).val = 0
    · rw [if_pos h0, if_pos h0]; rfl
    · rw [if_neg h0, if_neg h0]; rfl
  · rw [dif_neg h8, if_neg h8]

/-- A tile's convolution: row `p` meets rows `p + 6`, `p + 7` and `p + 8` of the carried rows and the tile. -/
def convAt (e : ℕ → ℕ → EReal) (t : FVec Ideal S1x3x1408 .f32) (b : FVec Ideal S1x1x1408 .f32) (p n : ℕ) : EReal :=
  ((rd3 b 0 0 n + rd3 t 0 0 n * e (p + 6) n) + rd3 t 0 1 n * e (p + 7) n) + rd3 t 0 2 n * e (p + 8) n

/-- The gate half's convolution, over the carried rows and the tile. -/
def convOf (e : FVec Ideal S264x1408 .f32) (w : FVec Ideal S3x1408 .f32) (b : FVec Ideal S1x1x1408 .f32) : FVec Ideal S256x1408 .f32 :=
  extractStridedSlice S256x1408 ![8, 0] (addf (addf (addf
    (broadcastTo S264x1408 (shapeCast S1x1408 b shapeCasts_S1x1x1408_S1x1408) broadcasts_S1x1408_S264x1408)
    (mulf (broadcastTo S264x1408 (extractStridedSlice S1x1408 ![0, 0] w slices_S3x1408_o0_0_S1x1408) broadcasts_S1x1408_S264x1408)
      (dynamicRotate 0 2#32 none e rotates_S264x1408_d0)))
    (mulf (broadcastTo S264x1408 (extractStridedSlice S1x1408 ![1, 0] w slices_S3x1408_o1_0_S1x1408) broadcasts_S1x1408_S264x1408)
      (dynamicRotate 0 1#32 none e rotates_S264x1408_d0)))
    (mulf (broadcastTo S264x1408 (extractStridedSlice S1x1408 ![2, 0] w slices_S3x1408_o2_0_S1x1408) broadcasts_S1x1408_S264x1408) e))
    slices_S264x1408_o8_0_S256x1408

/-- The gate half convolved. -/
theorem gate_tile (n : Fin 1408) :
    k0_pay12 (F := Ideal) u (Scalar.cmpi .eq (BitVec.ofNat 32 (i 1).val) 0#32) s t b (ix2 p n)
      = convAt (rows ((i 1).val = 0) (rd2 s) (rd2 u)) t b p n := by
  have hp := p.isLt
  have h2 : (8 + p.val + 264 - 2) % 264 = p + 6 := by omega
  have h1 : (8 + p.val + 264 - 1) % 264 = p + 7 := by omega
  have h0 : 8 + p.val = p + 8 := by omega
  have e : k0_pay12 (F := Ideal) u (Scalar.cmpi .eq (BitVec.ofNat 32 (i 1).val) 0#32) s t b
      = convOf (k0_pay10 (F := Ideal) (BitVec.ofNat 32 (i 1).val) u s) (k0_pay11 t) b := rfl
  rw [e]
  pointwise [convOf, k0_pay11]
  simp only [rows_tile]
  simp only [rd2_ix, rd3_ix, Fin.val_mk, h2, h1]
  simp only [h0]
  rfl

/-- The gated tile, from the gate half convolved. -/
theorem act_tile (n : Fin 1408) : act (F := Ideal) i u v t b t' b' s r (ix2 p n)
    = zval (convAt (rows ((i 1).val = 0) (rd2 s) (rd2 u)) t b p n) (convAt (rows ((i 1).val = 0) (rd2 r) (rd2 v)) t' b' p n) := by
  have hp := p.isLt
  have h2 : (8 + p.val + 264 - 2) % 264 = p + 6 := by omega
  have h1 : (8 + p.val + 264 - 1) % 264 = p + 7 := by omega
  have h0 : 8 + p.val = p + 8 := by omega
  rw [← gate_tile, act]
  pointwise [k0_pay1, k0_pay13, k0_pay14, k0_pay11, gelu_a]
  simp only [rows_tile]
  simp only [rd2_ix, rd3_ix, Fin.val_mk, h2, h1]
  simp only [h0]
  rfl

/-- The last eight rows of a tile. -/
theorem last_gate (q : Fin 8) (n : Fin 1408) : k0_pay2 (F := Ideal) u (ix2 q n) = rd2 u (248 + q) n := by
  pointwise [k0_pay2]
  exact rd2_ix u ⟨248 + q.val, by omega⟩ n

end Tile

variable (m : (ℓ : Loc nD τ sig) → Buf (Elt Ideal) ℓ)

/-- The arguments in memory. -/
def A (c : Dev nD) : Up.Args := Up.args (m ((c : Thread nD τ).loc main_arg0)) (m ((c : Thread nD τ).loc main_arg1))
  (m ((c : Thread nD τ).loc main_arg2)) (m ((c : Thread nD τ).loc main_arg3)) (m ((c : Thread nD τ).loc main_arg4))

/-- Point `t` takes row tile `t % 16` of the rows and column half `t / 16`. -/
theorem idx : ∀ t : Fin cfg0.N, win0_0.index t = ![t.val % 16, 0] ∧ win0_1.index t = ![3, 0, 0]
    ∧ win0_2.index t = ![0, t.val / 16, 0] ∧ win0_3.index t = ![1, t.val / 16, 0]
    ∧ win0_4.index t = ![3, 0, t.val / 16] ∧ win0_5.index t = ![3, 0, t.val / 16]
    ∧ win0_6.index t = ![3, 0, t.val / 16 + 2] ∧ win0_7.index t = ![3, 0, t.val / 16 + 2]
    ∧ win0_8.index t = ![t.val, 0] ∧ win0_9.index t = ![t.val % 16, t.val / 16]
    ∧ win0_10.index t = ![t.val % 16, t.val / 16] ∧ win0_11.index t = ![t.val % 16, t.val / 16]
    ∧ t.val < 32 ∧ (grid0.coords t 1).val = t.val % 16 :=
  (by decide +kernel : ∀ t : Fin grid0.N, _)

variable (c : Dev nD) (t : Fin cfg0.N)

theorem lt32 : t.val < 32 := t.isLt

theorem blk0 (q : Fin 256) (k : Fin 1024) : iblk m c 0 t (ix2 q k) = (A m c).x (256 * (t.val % 16) + q) k := by
  have hj := lt32 t
  show _ = rd2 _ _ _
  rw [rd2, dif_pos ⟨by omega, by omega⟩]
  blk_ext [iblk, V_main_arg0, idx t]

theorem blk1 (k : Fin 1024) : iblk m c 1 t (ix3 0 0 k) = (A m c).g k := by
  show _ = rd2 _ 3 _
  rw [rd2, dif_pos ⟨by omega, by omega⟩]
  blk_simp [iblk]
  entry_read
  pointwise
  blk_ext [V, idx t]

theorem blk2 (n : Fin 1408) (k : Fin 1024) : iblk m c 2 t (ix3 0 n k) = (A m c).w (1408 * (t.val / 16) + n) k := by
  have hj := lt32 t
  show _ = rd2 _ _ _
  rw [rd2, dif_pos ⟨by omega, by omega⟩]
  blk_simp [iblk]
  entry_read
  pointwise
  blk_ext [V, idx t]

theorem blk3 (n : Fin 1408) (k : Fin 1024) : iblk m c 3 t (ix3 0 n k) = (A m c).w (2816 + (1408 * (t.val / 16) + n)) k := by
  have hj := lt32 t
  show _ = rd2 _ _ _
  rw [rd2, dif_pos ⟨by omega, by omega⟩]
  blk_simp [iblk]
  entry_read
  pointwise
  blk_ext [V, idx t]

theorem blk4 (k : Fin 3) (n : Fin 1408) : iblk m c 4 t (ix3 0 k n) = (A m c).t k (1408 * (t.val / 16) + n) := by
  have hj := lt32 t
  show _ = rd3 _ 3 _ _
  rw [rd3, dif_pos ⟨by omega, by omega, by omega⟩]
  blk_ext [iblk, V_main_arg3, idx t]

theorem blk5 (n : Fin 1408) : iblk m c 5 t (ix3 0 0 n) = (A m c).b (1408 * (t.val / 16) + n) := by
  have hj := lt32 t
  show _ = rd2 _ 3 _
  rw [rd2, dif_pos ⟨by omega, by omega⟩]
  blk_simp [iblk]
  entry_read
  pointwise
  blk_ext [V, idx t]

theorem blk6 (k : Fin 3) (n : Fin 1408) : iblk m c 6 t (ix3 0 k n) = (A m c).t k (2816 + (1408 * (t.val / 16) + n)) := by
  have hj := lt32 t
  show _ = rd3 _ 3 _ _
  rw [rd3, dif_pos ⟨by omega, by omega, by omega⟩]
  blk_ext [iblk, V_main_arg3, idx t]

theorem blk7 (n : Fin 1408) : iblk m c 7 t (ix3 0 0 n) = (A m c).b (2816 + (1408 * (t.val / 16) + n)) := by
  have hj := lt32 t
  show _ = rd2 _ 3 _
  rw [rd2, dif_pos ⟨by omega, by omega⟩]
  blk_simp [iblk]
  entry_read
  pointwise
  blk_ext [V, idx t]

/-- The normed rows of a point. -/
theorem norm_at (q : Fin 256) (n : Fin 1024) :
    Rms.normed (rd2 (iblk m c 0 t)) (rd3 (iblk m c 1 t) 0 0) q n = (A m c).h (256 * (t.val % 16) + q) n := by
  refine Rms.normed_congr (fun j => ?_) (fun j => ?_) n
  · rw [← rd2_ix]; exact blk0 m c t q j
  · exact (rd3_ix (iblk m c 1 t) 0 0 j).symm.trans (blk1 m c t j)

theorem gate_at (q : Fin 256) (n : Fin 1408) :
    gate m c t (ix2 q n) = (A m c).hg (256 * (t.val % 16) + q) (1408 * (t.val / 16) + n) :=
  (prod_tile _ _ _ q n).trans (Finset.sum_congr rfl fun k _ => congrArg₂ (· * ·) (norm_at m c t q k) (blk2 m c t n k))

theorem value_at (q : Fin 256) (n : Fin 1408) :
    value m c t (ix2 q n) = (A m c).hv (256 * (t.val % 16) + q) (1408 * (t.val / 16) + n) :=
  (prod_tile _ _ _ q n).trans (Finset.sum_congr rfl fun k _ => congrArg₂ (· * ·) (norm_at m c t q k) (blk3 m c t n k))

/-- The rows a point convolves are the array's, under eight rows of zeros: the carried ones are the last rows of the
tile before. -/
theorem rows_at (u : Fin cfg0.N → FVec Ideal S256x1408 .f32) (H : ℕ → ℕ → EReal)
    (hu : ∀ (t : Fin cfg0.N) (q : Fin 256) (n : Fin 1408), u t (ix2 q n) = H (256 * (t.val % 16) + q) (1408 * (t.val / 16) + n))
    (r : ℕ) (hr : r < 264) (n : Fin 1408) :
    rows ((grid0.coords t 1).val = 0) (rd2 (k0_pay2 (F := Ideal) (u (before t)))) (rd2 (u t)) r n
      = ext H (256 * (t.val % 16) + r) (1408 * (t.val / 16) + n) := by
  have hn := n.isLt
  rw [(idx t).2.2.2.2.2.2.2.2.2.2.2.2.2, rows, ext]
  by_cases h8 : r < 8
  · rw [if_pos h8]
    by_cases h0 : t.val % 16 = 0
    · rw [if_pos h0, if_pos (by omega)]
    · rw [if_neg h0, if_neg (by omega), rd2, dif_pos ⟨h8, hn⟩, last_gate, rd2, dif_pos ⟨by simp only []; omega, hn⟩, hu]
      have e1 : (before t).val = t.val - 1 := rfl
      exact congrArg₂ H (by simp only [e1]; omega) (by simp only [e1]; omega)
  · rw [if_neg h8, if_neg (by omega), rd2, dif_pos ⟨by omega, hn⟩, hu]
    exact congrArg₂ H (by simp only []; omega) rfl

theorem gated_at (q : Fin 256) (n : Fin 1408) :
    gated m c t (ix2 q n) = (A m c).a (256 * (t.val % 16) + q) (1408 * (t.val / 16) + n) := by
  have hq := q.isLt
  have hg := fun r hr => rows_at t (gate m c) _ (gate_at m c) r hr n
  have hv := fun r hr => rows_at t (value m c) _ (value_at m c) r hr n
  have b5 := (rd3_ix (iblk m c 5 t) 0 0 n).symm.trans (blk5 m c t n)
  have b7 := (rd3_ix (iblk m c 7 t) 0 0 n).symm.trans (blk7 m c t n)
  have b4 := fun k : Fin 3 => (rd3_ix (iblk m c 4 t) 0 k n).symm.trans (blk4 m c t k n)
  have b6 := fun k : Fin 3 => (rd3_ix (iblk m c 6 t) 0 k n).symm.trans (blk6 m c t k n)
  refine (act_tile q _ _ _ _ _ _ _ _ _ n).trans (congrArg₂ zval ?_ ?_)
  · exact congrArg₂ (· + ·) (congrArg₂ (· + ·) (congrArg₂ (· + ·) b5 (congrArg₂ (· * ·) (b4 0) (hg _ (by omega))))
      (congrArg₂ (· * ·) (b4 1) (hg _ (by omega)))) (congrArg₂ (· * ·) (b4 2) (hg _ (by omega)))
  · exact congrArg₂ (· + ·) (congrArg₂ (· + ·) (congrArg₂ (· + ·) b7 (congrArg₂ (· * ·) (b6 0) (hv _ (by omega))))
      (congrArg₂ (· * ·) (b6 1) (hv _ (by omega)))) (congrArg₂ (· * ·) (b6 2) (hv _ (by omega)))

/-- The normed rows, twice. -/
theorem final8 : (dats m 0 c).arrAt 8 cfg0.N = fun i : S8192x1024.Idx => (A m c).hh (i 0).val (i 1).val := by
  refine (dats m 0 c).arrAt_eq_of_covers 8 _ (by decide +kernel) fun t hf y => ?_
  blk_simp
  rw [after0_8, (idx t).2.2.2.2.2.2.2.2.1]
  obtain ⟨q, n, rfl⟩ : ∃ (q : Fin 256) (n : Fin 1024), y = ix2 q n := ⟨y 0, y 1, eq_ix2 y⟩
  have hq := q.isLt
  refine ((h_tile _ _ q n).trans (norm_at m c t q n)).trans (congrArg₂ (A m c).h ?_ (Nat.zero_add _).symm)
  show _ = (t.val * 256 + q.val) % 4096
  omega

/-- The gate half. -/
theorem final9 : (dats m 0 c).arrAt 9 cfg0.N = fun i : S4096x2816.Idx => (A m c).hg (i 0).val (i 1).val := by
  refine (dats m 0 c).arrAt_eq_of_covers 9 _ (by decide +kernel) fun t hf y => ?_
  blk_simp
  rw [after0_9, (idx t).2.2.2.2.2.2.2.2.2.1]
  obtain ⟨q, n, rfl⟩ : ∃ (q : Fin 256) (n : Fin 1408), y = ix2 q n := ⟨y 0, y 1, eq_ix2 y⟩
  refine Eq.trans ?_ ((gate_at m c t q n).trans (congrArg₂ (A m c).hg (congrArg (· + q.val) (Nat.mul_comm _ _)) (congrArg (· + n.val) (Nat.mul_comm _ _))))
  pointwise [k0_pay8]

/-- The value half. -/
theorem final10 : (dats m 0 c).arrAt 10 cfg0.N = fun i : S4096x2816.Idx => (A m c).hv (i 0).val (i 1).val := by
  refine (dats m 0 c).arrAt_eq_of_covers 10 _ (by decide +kernel) fun t hf y => ?_
  blk_simp
  rw [after0_10, (idx t).2.2.2.2.2.2.2.2.2.2.1]
  obtain ⟨q, n, rfl⟩ : ∃ (q : Fin 256) (n : Fin 1408), y = ix2 q n := ⟨y 0, y 1, eq_ix2 y⟩
  refine Eq.trans ?_ ((value_at m c t q n).trans (congrArg₂ (A m c).hv (congrArg (· + q.val) (Nat.mul_comm _ _)) (congrArg (· + n.val) (Nat.mul_comm _ _))))
  pointwise [k0_pay9]

/-- The gated rows. -/
theorem final11 : (dats m 0 c).arrAt 11 cfg0.N = fun i : S4096x2816.Idx => (A m c).a (i 0).val (i 1).val := by
  refine (dats m 0 c).arrAt_eq_of_covers 11 _ (by decide +kernel) fun t hf y => ?_
  blk_simp
  rw [after0_11, (idx t).2.2.2.2.2.2.2.2.2.2.2.1]
  obtain ⟨q, n, rfl⟩ : ∃ (q : Fin 256) (n : Fin 1408), y = ix2 q n := ⟨y 0, y 1, eq_ix2 y⟩
  exact (gated_at m c t q n).trans (congrArg₂ (A m c).a (congrArg (· + q.val) (Nat.mul_comm _ _)) (congrArg (· + n.val) (Nat.mul_comm _ _)))

/-- The run with its result arrays, and the arguments unchanged. -/
theorem run_blocks (ρ : Dev nD → PrngReg) : θ_run defs (onTc (τ := τ) (main (F := Ideal))) ⟨m, fun _ => 0, ρ⟩ fun r => ∀ c : Dev nD,
      r.2.mem ((c : Thread nD τ).loc main_v3_0) = (dats m 0 c).arrAt 8 cfg0.N
      ∧ r.2.mem ((c : Thread nD τ).loc main_v3_1) = (dats m 0 c).arrAt 9 cfg0.N
      ∧ r.2.mem ((c : Thread nD τ).loc main_v3_2) = (dats m 0 c).arrAt 10 cfg0.N
      ∧ r.2.mem ((c : Thread nD τ).loc main_v3_3) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h.1.1 c).1 8, (h.1.1 c).1 9, (h.1.1 c).1 10, (h.1.1 c).1 11, h.2 c⟩)
    (θ_run_and (run_main_quiescent m ρ) (unchanged m ρ))

end Cert.Kernel16Ideal.Value

end
-- ==== Proof.UpRef.lean ====
module

public import proofs.«01_k».proof.Proof.Gen.Reference16Ideal.Run
public import proofs.«01_k».proof.Proof.Gen.Reference16Ideal.Read
public import proofs.«01_k».proof.Proof.Up
public import proofs.«01_k».proof.Proof.Gelu

/-! The product with `w_up`, the convolution and the gelu gate: what the reference's four results are. -/

@[expose] public section

set_option maxRecDepth 16384

noncomputable section

open Idealize.ShloMosaic Idealize.ShloMosaic.Pointwise

namespace Cert.Ffn

/-- A quotient by a million of any value is the product with a millionth. -/
theorem cubic_eq (y : EReal) : Ideal.div (Ideal.ofBits FTy.f32 1194240768#32 * y) (Ideal.ofBits FTy.f32 1232348160#32) = cA * y := by
  rw [num_eq, den_eq, Ideal.div_coe (by norm_num), mul_comm, ← mul_assoc, ← EReal.coe_mul, cA]
  congr 2; norm_num

/-- The cubic inside the tangent, factored: true of every value, the infinities included. -/
theorem inner_eq (x : EReal) : x + cA * (x * x * x) = x * (1 + cA * (x * x)) := by
  have ha : (0 : ℝ) < 8943 / 200000 := by norm_num
  have h1 : (1 : EReal) + ⊤ = ⊤ := EReal.add_top_of_ne_bot (EReal.coe_ne_bot 1)
  induction x using EReal.rec with
  | bot => simp [cA, EReal.coe_mul_top_of_pos ha, EReal.coe_mul_bot_of_pos ha, h1]
  | top => simp [cA, EReal.coe_mul_top_of_pos ha, h1]
  | coe y =>
    rw [cA, show (1 : EReal) = ((1 : ℝ) : EReal) from rfl]
    simp only [← EReal.coe_mul, ← EReal.coe_add]
    congr 1; ring

theorem thR_eq (x : EReal) : thR x = th x := by
  rw [thR, th, cubic_eq, inner_eq, mul_assoc]

theorem zvalR_eq (x d : EReal) : zvalR x d = zval x d := by
  rw [zvalR, zval, thR_eq, ← mul_assoc, mul_comm x cHalf]

end Cert.Ffn

namespace Cert.Reference16Ideal.Rows

open Cert.Reference16Ideal Cert.Reference16Ideal.Read Cert.Ffn

variable (x0 : FVec Ideal S4096x1024 .f32) (x1 : FVec Ideal S4x1024 .f32) (x2 : FVec Ideal S5632x1024 .bf16)
  (x3 : FVec Ideal S4x3x5632 .f32) (x4 : FVec Ideal S4x5632 .f32)

theorem norm_row (p : Fin 4096) (n : Fin 1024) : val_main_v14 (F := Ideal) x0 x1 (ix2 p n) = (Up.args x0 x1 x2 x3 x4).h p n := by
  pointwise [val_main_v14, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1]
  simp only [rd2_ix, Up.Args.h, Up.args, Rms.normed, Rms.inv, Rms.sq]
  rfl

/-- The product, the gate half beside the value half. -/
theorem prod_row (p : Fin 4096) (n : Fin 5632) : val_main_v17 (F := Ideal) x0 x1 x2 (ix2 p n) = (Up.args x0 x1 x2 x3 x4).hg p n := by
  pointwise [val_main_v17, val_main_v16, val_main_v15]
  simp only [norm_row x0 x1 x2 x3 x4]
  simp only [rd2_ix, Up.Args.hg]
  rfl

/-- The padded rows: two rows of zeros, then the product. -/
theorem padded (p : Fin 4098) (n : Fin 5632) :
    val_main_v26 (F := Ideal) x0 x1 x2 (ix3 0 p n) = ext (Up.args x0 x1 x2 x3 x4).hg (p + 6) n := by
  have hp := p.isLt
  pointwise [val_main_v26, val_main_v25, val_main_cst_2, val_main_v20]
  simp only [prod_row x0 x1 x2 x3 x4, Fin.val_mk, dite_eq_ite]
  by_cases h2 : p.val < 2
  · simp only [if_pos h2, ext, if_pos (show p.val + 6 < 8 by omega)]
  · simp only [if_neg h2, ext, if_neg (show ¬p.val + 6 < 8 by omega), show p.val + 6 - 8 = p.val - 2 by omega]

theorem taps (k : Fin 3) (n : Fin 5632) : val_main_v22 (F := Ideal) x3 (ix2 k n) = rd3 x3 3 k n := by
  pointwise [val_main_v22, val_main_v21]
  exact rd3_ix x3 3 k n

theorem bias (n : Fin 5632) : val_main_v24 (F := Ideal) x4 (ix1 n) = rd2 x4 3 n := by
  pointwise [val_main_v24, val_main_v23]
  exact rd2_ix x4 3 n

/-- The product convolved, the gate half beside the value half. -/
theorem conved (r : Fin 4096) (n : Fin 5632) :
    val_main_v50 (F := Ideal) x0 x1 x2 x3 x4 (ix2 r n) = (Up.args x0 x1 x2 x3 x4).gt r n := by
  pointwise [val_main_v50, val_main_v49, val_main_v48, val_main_v47, val_main_v46, val_main_v45, val_main_v44, val_main_v43,
    val_main_v42, val_main_v41, val_main_v40, val_main_v39, val_main_v38, val_main_v37, val_main_v36, val_main_v35,
    val_main_v34, val_main_v33, val_main_v32, val_main_v31, val_main_v30, val_main_v29, val_main_v28, val_main_v27]
  simp only [padded x0 x1 x2 x3 x4, taps, bias, Fin.val_mk]
  have e1 : 1 + r.val + 6 = r.val + 7 := by omega
  have e2 : 2 + r.val + 6 = r.val + 8 := by omega
  simp only [Up.Args.gt, conv, Up.args]
  simp only [mul_comm, e1, e2]
  rfl

theorem gate_raw (r : Fin 4096) (n : Fin 2816) :
    val_main_v51 (F := Ideal) x0 x1 x2 x3 x4 (ix2 r n) = (Up.args x0 x1 x2 x3 x4).gt r n := by
  pointwise [val_main_v51]
  rw [conved x0 x1 x2 x3 x4]

theorem value_raw (r : Fin 4096) (n : Fin 2816) :
    val_main_v52 (F := Ideal) x0 x1 x2 x3 x4 (ix2 r n) = (Up.args x0 x1 x2 x3 x4).vl r n := by
  pointwise [val_main_v52]
  rw [conved x0 x1 x2 x3 x4]
  rfl

theorem act_raw (r : Fin 4096) (n : Fin 2816) :
    val_main_v71 (F := Ideal) x0 x1 x2 x3 x4 (ix2 r n)
      = zvalR (val_main_v51 (F := Ideal) x0 x1 x2 x3 x4 (ix2 r n)) (val_main_v52 (F := Ideal) x0 x1 x2 x3 x4 (ix2 r n)) := by
  pointwise [val_main_v71, val_main_v70, val_main_v69, val_main_v68, val_main_v67, val_main_v66, val_main_v65, val_main_v64,
    val_main_v63, val_main_v62, val_main_v61, val_main_v60, val_main_v59, val_main_v58, val_main_v57, val_main_v56, val_main_v55,
    val_main_cst_3, val_main_cst_4, val_main_cst_5, val_main_cst_6, val_main_cst_7, zvalR, thR]

/-- The normed rows, twice. -/
theorem ref0 : val_main_v54 (F := Ideal) x0 x1 = fun i : S8192x1024.Idx => (Up.args x0 x1 x2 x3 x4).hh (i 0).val (i 1).val := by
  funext i
  idx_vars i
  pointwise [val_main_v54, val_main_v53]
  simp only [norm_row x0 x1 x2 x3 x4, Up.Args.hh]
  split
  · rw [Nat.mod_eq_of_lt ‹_›]
  · exact congrArg₂ _ (by omega) rfl

/-- The gate half. -/
theorem ref1 : val_main_v18 (F := Ideal) x0 x1 x2 = fun i : S4096x2816.Idx => (Up.args x0 x1 x2 x3 x4).hg (i 0).val (i 1).val := by
  funext i
  idx_vars i
  pointwise [val_main_v18]
  exact prod_row x0 x1 x2 x3 x4 _ _

/-- The value half. -/
theorem ref2 : val_main_v19 (F := Ideal) x0 x1 x2 = fun i : S4096x2816.Idx => (Up.args x0 x1 x2 x3 x4).hv (i 0).val (i 1).val := by
  funext i
  idx_vars i
  pointwise [val_main_v19]
  exact prod_row x0 x1 x2 x3 x4 _ _

/-- The gated rows. -/
theorem ref3 : val_main_v71 (F := Ideal) x0 x1 x2 x3 x4
    = fun i : S4096x2816.Idx => (Up.args x0 x1 x2 x3 x4).a (i 0).val (i 1).val := by
  funext i
  idx_vars i
  rw [act_raw, gate_raw, value_raw, zvalR_eq]
  rfl

end Cert.Reference16Ideal.Rows

end
-- ==== Proof.UpClaim.lean ====
module

public import proofs.«01_k».proof.Defs
public import proofs.«01_k».proof.Proof.Gen.Kernel16
public import proofs.«01_k».proof.Proof.UpFrameKernel
public import proofs.«01_k».proof.Proof.Up
public import proofs.«01_k».proof.Proof.UpRef

/-! The product with `w_up`, the convolution and the gelu gate: the ideal kernel and the ideal reference end with the same arrays, and the reference's frame. -/

@[expose] public section

set_option maxRecDepth 16384

noncomputable section

namespace Cert.Reference16Ideal

open Idealize.ShloMosaic Idealize.SL.Sem

variable (m' : (ℓ : Loc nD τ sig) → Buf (Elt Ideal) ℓ)
  (m : (ℓ : Loc Kernel16Ideal.nD Kernel16Ideal.τ Kernel16Ideal.sig) → Buf (Elt Ideal) ℓ)

/-- The reference's arguments. -/
def refArgs (c : Dev nD) : Cert.Up.Args :=
  Cert.Up.args (m' ((c.tc : Thread nD τ).loc main_arg0))
    (m' ((c.tc : Thread nD τ).loc main_arg1))
    (m' ((c.tc : Thread nD τ).loc main_arg2))
    (m' ((c.tc : Thread nD τ).loc main_arg3))
    (m' ((c.tc : Thread nD τ).loc main_arg4))

/-- Where the memories agree on the arguments, any function of the arguments is the same on both sides. -/
theorem args_eq (hagree : ∀ c : Dev Kernel16Ideal.nD,
      m' ((c.tc : Thread nD τ).loc main_arg0) = m ((c.tc : Thread Kernel16Ideal.nD Kernel16Ideal.τ).loc Kernel16Ideal.main_arg0)
      ∧ m' ((c.tc : Thread nD τ).loc main_arg1) = m ((c.tc : Thread Kernel16Ideal.nD Kernel16Ideal.τ).loc Kernel16Ideal.main_arg1)
      ∧ m' ((c.tc : Thread nD τ).loc main_arg2) = m ((c.tc : Thread Kernel16Ideal.nD Kernel16Ideal.τ).loc Kernel16Ideal.main_arg2)
      ∧ m' ((c.tc : Thread nD τ).loc main_arg3) = m ((c.tc : Thread Kernel16Ideal.nD Kernel16Ideal.τ).loc Kernel16Ideal.main_arg3)
      ∧ m' ((c.tc : Thread nD τ).loc main_arg4) = m ((c.tc : Thread Kernel16Ideal.nD Kernel16Ideal.τ).loc Kernel16Ideal.main_arg4))
    (c : Dev Kernel16Ideal.nD) {α : Type} (f : Cert.Up.Args → α) : f (refArgs m' c) = f (Kernel16Ideal.Value.A m c) := by
  obtain ⟨h0, h1, h2, h3, h4⟩ := hagree c
  unfold refArgs
  rw [h0, h1, h2, h3, h4]
  rfl

/-- The reference's run, its results stated as functions of the arguments. -/
theorem run_vals (ρ : Dev nD → PrngReg) :
    θ_run defs (onTc (τ := τ) (main (F := Ideal))) ⟨m', fun _ => 0, ρ⟩ fun r => ∀ c : Dev nD,
      r.2.mem ((c.tc : Thread nD τ).loc main_v54) = (fun i : S8192x1024.Idx => (refArgs m' c).hh (i 0).val (i 1).val)
      ∧ r.2.mem ((c.tc : Thread nD τ).loc main_v18) = (fun i : S4096x2816.Idx => (refArgs m' c).hg (i 0).val (i 1).val)
      ∧ r.2.mem ((c.tc : Thread nD τ).loc main_v19) = (fun i : S4096x2816.Idx => (refArgs m' c).hv (i 0).val (i 1).val)
      ∧ r.2.mem ((c.tc : Thread nD τ).loc main_v71) = (fun i : S4096x2816.Idx => (refArgs m' c).a (i 0).val (i 1).val)
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4) :=
  (θ_run defs _ _).mono (fun r h c => ⟨
      (h c).1.trans ((Read.val_main_v54_eq _ _ ).trans (Rows.ref0 (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)))),
      (h c).2.1.trans ((Read.val_main_v18_eq _ _ _ ).trans (Rows.ref1 (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)))),
      (h c).2.2.1.trans ((Read.val_main_v19_eq _ _ _ ).trans (Rows.ref2 (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)))),
      (h c).2.2.2.1.trans ((Read.val_main_v71_eq _ _ ).trans (Rows.ref3 (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)))),
      (h c).2.2.2.2⟩)
    (Value.run (F := Ideal) m' ρ)

/-- The two programs end with the same arrays. -/
theorem algebraic : Cert.algebraic_Kernel16Ideal_Reference16Ideal (hKernel16Ideal := Kernel16Ideal.Gen.facts) (hReference16Ideal := Gen.facts) := by
  pair_intro
  · run_from Cert.Kernel16Ideal.Value.run_blocks m g
  · run_from run_vals m' g'
    · exact (args_eq m' m hagree c (fun A => fun i : Kernel16Ideal.S8192x1024.Idx => A.hh (i 0).val (i 1).val)).trans (Kernel16Ideal.Value.final8 m c).symm
    · exact (args_eq m' m hagree c (fun A => fun i : Kernel16Ideal.S4096x2816.Idx => A.hg (i 0).val (i 1).val)).trans (Kernel16Ideal.Value.final9 m c).symm
    · exact (args_eq m' m hagree c (fun A => fun i : Kernel16Ideal.S4096x2816.Idx => A.hv (i 0).val (i 1).val)).trans (Kernel16Ideal.Value.final10 m c).symm
    · exact (args_eq m' m hagree c (fun A => fun i : Kernel16Ideal.S4096x2816.Idx => A.a (i 0).val (i 1).val)).trans (Kernel16Ideal.Value.final11 m c).symm

/-- The reference runs, leaves its arguments as they were, and has no semaphore. -/
theorem frame : Cert.quiescent_Reference16Ideal (hReference16Ideal := Gen.facts) := fun m ρ _ =>
  (θ_run defs _ _).mono (fun r h => And.intro
      (fun c => (h c).2.2.2.2) (Idealize.ShloMosaic.sem_eq_zero_of_no_sems (by decide) r.2))
    (Value.run (F := Ideal) m ρ)

end Cert.Reference16Ideal

end
-- ==== Proof.Gmlp.lean ====
module

public import proofs.«01_k».proof.Proof.Gen.Kernel17Ideal.Frame
public import proofs.«01_k».proof.Proof.Spec
public import Idealize.ShloMosaic.Lib.Pipeline.ValueKit

/-! The gMLP mixer, forward: one chunk of 128 rows as the kernel computes it, and the formula. -/

@[expose] public section

set_option maxRecDepth 16384

noncomputable section

open Idealize.ShloMosaic Idealize.ShloMosaic.TcCoe Idealize.SL.Sem

namespace Cert.Gmlp

open Cert.Ffn

/-- The gelu, in its tanh form. -/
def act (x : EReal) : EReal := cHalf * x * (1 + th x)

/-- The number of entries of a normed row, 256. -/
abbrev count : EReal := Ideal.ofBits FTy.f32 0x43800000#32
/-- The word that both programs hold for 1e-6. -/
abbrev eps : EReal := Ideal.ofBits FTy.f32 0x358637BD#32

variable (V V' : ℕ → ℕ → EReal) (g b : ℕ → EReal) (q r : ℕ)

/-- The mean of a row after the gelu. -/
def mean : EReal := Ideal.div (∑ k : Fin 256, act (V r k)) count

/-- The mean square of a row after the gelu, its mean taken off. -/
def var : EReal := Ideal.div (∑ k : Fin 256, (act (V r k) - mean V r) * (act (V r k) - mean V r)) count

/-- The layer norm of the rows after the gelu. -/
def vn (n : ℕ) : EReal := (act (V r n) - mean V r) * Ideal.rsqrt (var V r + eps) * g n + b n

variable {V V' q r}

/-- A normed row depends on that row alone. -/
theorem vn_congr (h : ∀ k : Fin 256, V q k = V' r k) (n : Fin 256) : vn V g b q n = vn V' g b r n := by
  simp only [vn, var, mean, h]

/-- The arguments read at numbers: `z` holds both halves, `w` and `c` are the weights and the bias of the heads. -/
structure Args where
  z : ℕ → ℕ → EReal
  g : ℕ → EReal
  b : ℕ → EReal
  w : ℕ → ℕ → ℕ → EReal
  c : ℕ → ℕ → EReal

/-- The weights of head `h`, zero above the diagonal. -/
def Args.wm (A : Args) (h t s : ℕ) : EReal := if s ≤ t then A.w h t s else 0

/-- Entry (r, n) of the result: position `r % 128` of chunk `r / 128`, and lane `n` of head `n / 64`. -/
def Args.out (A : Args) (r n : ℕ) : EReal :=
  act (A.z r n) * ((∑ s : Fin 128, A.wm (n / 64) (r % 128) s * vn (fun q k => A.z q (256 + k)) A.g A.b (128 * (r / 128) + s) n)
    + A.c (n / 64) (r % 128))

/-- The arguments from the arrays: layer 3 of the parameters. -/
def args (x0 : (⟨2, ![4096, 2304]⟩ : Shape).Idx → EReal) (x1 x2 : (⟨2, ![4, 256]⟩ : Shape).Idx → EReal)
    (x3 : (⟨4, ![4, 4, 128, 128]⟩ : Shape).Idx → EReal) (x4 : (⟨3, ![4, 4, 128]⟩ : Shape).Idx → EReal) : Args :=
  ⟨rd2 x0, rd2 x1 3, rd2 x2 3,
    fun h t s => if H : h < 4 ∧ t < 128 ∧ s < 128 then x3 (ix4 3 ⟨h, H.1⟩ ⟨t, H.2.1⟩ ⟨s, H.2.2⟩) else 0, rd3 x4 3⟩

end Cert.Gmlp

namespace Cert.Kernel17Ideal.Value

open Cert.Kernel17Ideal Cert.Kernel17Ideal.Gen Cert.Ffn

section Chunk

variable {F : FTy → Type} [FloatOps F] [Named F]

/-- The head of each lane: its number divided by 64, rounded down. -/
def lane : IVec S128x256 32 :=
  select (andi k0_pay12 (cmpi .ne (remsi (iota .tc S128x256 32 [1] iota_S128x256_d1_w32) k0_pay13) (broadcast S128x256 0#32)))
    (subi k0_pay11 (broadcast S128x256 1#32)) k0_pay11

/-- The lanes of one head, zero elsewhere. -/
def pick (h : BitVec 32) (s : FVec F S128x256 .f32) : FVec F S128x256 .f32 :=
  select (cmpi .eq lane (broadcast S128x256 h)) s (broadcast S128x256 (Scalar.ofBits .f32 0x00000000#32 : F .f32))

/-- The products of all heads' weights with the normed rows of a chunk. -/
def mix (y : Vec F S128x256 .f32) (g b : Vec F S1x1x256 .f32) (w : Vec F S1x512x128 .f32) : FVec F S512x256 .f32 :=
  k0_pay9 (k0_pay2 g) (k0_pay3 b) (k0_pay4 w) (k0_pay7 y) (k0_pay8 y)

/-- What the kernel stores for a chunk. -/
def chunk (x y : Vec F S128x256 .f32) (g b : Vec F S1x1x256 .f32) (w : Vec F S1x512x128 .f32) (e : Vec F S1x128x256 .f32) :
    FVec F S128x256 .bf16 :=
  shapeCast S128x256 (truncf .bf16 (mulf (k0_pay6 x) (addf (addf (addf (addf
      (pick 0#32 (extractStridedSlice S128x256 ![0, 0] (mix y g b w) slices_S512x256_o0_0_S128x256))
      (pick 1#32 (extractStridedSlice S128x256 ![128, 0] (mix y g b w) slices_S512x256_o128_0_S128x256)))
      (pick 2#32 (extractStridedSlice S128x256 ![256, 0] (mix y g b w) slices_S512x256_o256_0_S128x256)))
      (pick 3#32 (extractStridedSlice S128x256 ![384, 0] (mix y g b w) slices_S512x256_o384_0_S128x256)))
      (k0_pay5 e))) bitsLt_bf16_f32) shapeCasts_S128x256_S128x256

variable (x0 x1 : Vec F S512x256 .f32) (x2 x3 : Vec F S1x1x256 .f32) (x4 : Vec F S1x512x128 .f32) (x5 : Vec F S1x128x256 .f32)

/-- The four stores of a grid point are the same computation on the four chunks of its rows. -/
theorem out_eq : out0_6 x0 x1 x2 x3 x4 x5 = View.canon
    [⟨r0_6, chunk (View.ld x0 r0_6) (View.ld x1 r0_6) (View.ld x2 r0_1) (View.ld x3 r0_1) (View.ld x4 r0_2) (View.ld x5 r0_3)⟩,
     ⟨r0_5, chunk (View.ld x0 r0_5) (View.ld x1 r0_5) (View.ld x2 r0_1) (View.ld x3 r0_1) (View.ld x4 r0_2) (View.ld x5 r0_3)⟩,
     ⟨r0_4, chunk (View.ld x0 r0_4) (View.ld x1 r0_4) (View.ld x2 r0_1) (View.ld x3 r0_1) (View.ld x4 r0_2) (View.ld x5 r0_3)⟩,
     ⟨r0_0, chunk (View.ld x0 r0_0) (View.ld x1 r0_0) (View.ld x2 r0_1) (View.ld x3 r0_1) (View.ld x4 r0_2) (View.ld x5 r0_3)⟩] := by
  rfl

end Chunk

/-- Lane `n` belongs to head `n / 64`. -/
theorem lane_eq (p : Fin 128) (n : Fin 256) : lane (ix2 p n) = BitVec.ofNat 32 (n.val / 64) := by
  have h : ∀ n : Fin 256, lane (ix2 0 n) = BitVec.ofNat 32 (n.val / 64) := by decide +kernel
  exact h n

/-- The named 0.044715 is the number. -/
theorem gelu_a : Named.named (F := Ideal) κ "gelu_a" (φ := .f32) 0x3D372713#32 = cA :=
  IdealRules.named_const.ideal_named_scalar _ _ _ _ rfl

/-- The rounded word that the name stands for is the number's. -/
theorem preserves : IdealRules.named_const.Statement κ "gelu_a" .f32 0x3D372713#32 ((8943 / 200000 : ℝ) : EReal) :=
  IdealRules.named_const.statement κ "gelu_a" .f32 0x3D372713#32 ((8943 / 200000 : ℝ) : EReal) rfl

theorem pick_eq (h : Fin 4) (s : FVec Ideal S128x256 .f32) (p : Fin 128) (n : Fin 256) :
    pick (F := Ideal) (BitVec.ofNat 32 h) s (ix2 p n) = if n.val / 64 = h.val then s (ix2 p n) else 0 := by
  have e : ∀ h k : Fin 4, (Scalar.cmpi .eq (BitVec.ofNat 32 k.val) (BitVec.ofNat 32 h.val) = 1#1) ↔ (k.val = h.val) := by decide
  show (if Scalar.cmpi .eq (lane (ix2 p n)) (BitVec.ofNat 32 h) = 1#1 then s (ix2 p n) else Ideal.ofBits .f32 0x00000000#32) = _
  rw [lane_eq]
  have := e h ⟨n.val / 64, by omega⟩
  by_cases H : n.val / 64 = h.val
  · rw [if_pos H, if_pos (this.mpr H)]
  · rw [if_neg H, if_neg fun k => H (this.mp k), Ideal.ofBits_zero]

variable (x y : Vec Ideal S128x256 .f32) (g b : Vec Ideal S1x1x256 .f32) (w : Vec Ideal S1x512x128 .f32) (e : Vec Ideal S1x128x256 .f32)

theorem act_tile (p : Fin 128) (n : Fin 256) : k0_pay6 (F := Ideal) x (ix2 p n) = Gmlp.act (rd2 x p n) := by
  pointwise [k0_pay6, gelu_a]
  simp only [rd2_ix, Gmlp.act, th]

theorem mix_tile (j : Fin 512) (n : Fin 256) : mix (F := Ideal) y g b w (ix2 j n)
    = ∑ s : Fin 128, rd3 w 0 j s * Gmlp.vn (rd2 y) (rd3 g 0 0) (rd3 b 0 0) s n := by
  pointwise [mix, k0_pay9, k0_pay2, k0_pay3, k0_pay4, k0_pay7, k0_pay8, gelu_a]
  simp only [rd2_ix, rd3_ix, Gmlp.vn, Gmlp.var, Gmlp.mean, Gmlp.act, th]
  rfl

/-- A chunk, entry by entry. -/
theorem chunk_tile (p : Fin 128) (n : Fin 256) : chunk (F := Ideal) x y g b w e (ix2 p n)
    = Gmlp.act (rd2 x p n) * ((∑ s : Fin 128, rd3 w 0 (128 * (n.val / 64) + p.val) s * Gmlp.vn (rd2 y) (rd3 g 0 0) (rd3 b 0 0) s n)
      + rd3 e 0 p n) := by
  have k0 : pick 0#32 (extractStridedSlice S128x256 ![0, 0] (mix y g b w) slices_S512x256_o0_0_S128x256) (ix2 p n)
      = if n.val / 64 = 0 then mix y g b w (ix2 ⟨p.val, by omega⟩ n) else 0 :=
    (pick_eq 0 _ p n).trans (by pointwise [])
  have k1 : pick 1#32 (extractStridedSlice S128x256 ![128, 0] (mix y g b w) slices_S512x256_o128_0_S128x256) (ix2 p n)
      = if n.val / 64 = 1 then mix y g b w (ix2 ⟨128 + p.val, by omega⟩ n) else 0 :=
    (pick_eq 1 _ p n).trans (by pointwise [])
  have k2 : pick 2#32 (extractStridedSlice S128x256 ![256, 0] (mix y g b w) slices_S512x256_o256_0_S128x256) (ix2 p n)
      = if n.val / 64 = 2 then mix y g b w (ix2 ⟨256 + p.val, by omega⟩ n) else 0 :=
    (pick_eq 2 _ p n).trans (by pointwise [])
  have k3 : pick 3#32 (extractStridedSlice S128x256 ![384, 0] (mix y g b w) slices_S512x256_o384_0_S128x256) (ix2 p n)
      = if n.val / 64 = 3 then mix y g b w (ix2 ⟨384 + p.val, by omega⟩ n) else 0 :=
    (pick_eq 3 _ p n).trans (by pointwise [])
  pointwise [chunk, k0_pay5]
  rw [k0, k1, k2, k3, act_tile, rd3_ix (e : S1x128x256.Idx → EReal)]
  have hn : n.val / 64 = 0 ∨ n.val / 64 = 1 ∨ n.val / 64 = 2 ∨ n.val / 64 = 3 := by omega
  refine congrArg (Gmlp.act (rd2 x p n) * ·) (congrArg (· + rd3 e 0 p n) ?_)
  rcases hn with h | h | h | h <;> simp only [h, mix_tile] <;> simp

variable (m : (ℓ : Loc nD τ sig) → Buf (Elt Ideal) ℓ)

/-- The arguments in memory. -/
def A (c : Dev nD) : Gmlp.Args := Gmlp.args (m ((c : Thread nD τ).loc main_arg0)) (m ((c : Thread nD τ).loc main_arg1))
  (m ((c : Thread nD τ).loc main_arg2)) (m ((c : Thread nD τ).loc main_arg3)) (m ((c : Thread nD τ).loc main_arg4))

/-- Point `t` takes row tile `t` of the first two column blocks and layer 3 of the parameters, and writes row tile `t` of the
first column block. -/
theorem idx : ∀ t : Fin cfg0.N, win0_0.index t = ![t.val, 0] ∧ win0_1.index t = ![t.val, 1] ∧ win0_2.index t = ![3, 0, 0]
    ∧ win0_3.index t = ![3, 0, 0] ∧ win0_4.index t = ![3, 0, 0] ∧ win0_5.index t = ![3, 0, 0] ∧ win0_6.index t = ![t.val, 0]
    ∧ t.val < 8 :=
  (by decide +kernel : ∀ t : Fin grid0.N, _)

variable (c : Dev nD) (t : Fin cfg0.N)

theorem blk0 (q : Fin 512) (k : Fin 256) : iblk m c 0 t (ix2 q k) = (A m c).z (512 * t.val + q) k := by
  have hj := (idx t).2.2.2.2.2.2.2
  show _ = rd2 _ _ _
  rw [rd2, dif_pos ⟨by omega, by omega⟩]
  blk_ext [iblk, V, idx t]

theorem blk1 (q : Fin 512) (k : Fin 256) : iblk m c 1 t (ix2 q k) = (A m c).z (512 * t.val + q) (256 + k) := by
  have hj := (idx t).2.2.2.2.2.2.2
  show _ = rd2 _ _ _
  rw [rd2, dif_pos ⟨by omega, by omega⟩]
  blk_ext [iblk, V, idx t]

theorem host_g (k : Fin 256) : V m c main_v7 (ix3 3 0 k) = (A m c).g k := by
  simp only [V, V0, hostOps0, hostOps0_1, hostOps0_2, hostOps0_3, hostOps0_4, List.flatten_cons, List.flatten_nil, List.append_nil,
    List.cons_append, List.nil_append]
  entry_read
  show _ = rd2 _ 3 _
  rw [rd2, dif_pos ⟨by omega, by omega⟩]
  pointwise

theorem blk2 (k : Fin 256) : iblk m c 2 t (ix3 0 0 k) = (A m c).g k := by
  rw [← host_g]
  blk_ext [iblk, idx t]

theorem host_b (k : Fin 256) : V m c main_v8 (ix3 3 0 k) = (A m c).b k := by
  simp only [V, V0, hostOps0, hostOps0_1, hostOps0_2, hostOps0_3, hostOps0_4, List.flatten_cons, List.flatten_nil, List.append_nil,
    List.cons_append, List.nil_append]
  entry_read
  show _ = rd2 _ 3 _
  rw [rd2, dif_pos ⟨by omega, by omega⟩]
  pointwise

theorem blk3 (k : Fin 256) : iblk m c 3 t (ix3 0 0 k) = (A m c).b k := by
  rw [← host_b]
  blk_ext [iblk, idx t]

/-- The comparison of the two coordinates leaves the lower triangle. -/
theorem tri : ∀ p s : Fin 128, Scalar.select (IntOp.cmpi .sge (IntOp.addi (BitVec.ofNat 32 p.val) 0#32) (BitVec.ofNat 32 s.val)) 1#1 0#1
    = if s.val ≤ p.val then 1#1 else 0#1 := by decide +kernel

theorem host_w (h : Fin 4) (p s : Fin 128) : V m c main_v3 (ix3 3 ⟨128 * h.val + p.val, by omega⟩ s) = (A m c).wm h p s := by
  simp only [V, V0, hostOps0, hostOps0_1, hostOps0_2, hostOps0_3, hostOps0_4, List.flatten_cons, List.flatten_nil, List.append_nil,
    List.cons_append, List.nil_append]
  entry_read
  pointwise
  show select (broadcastInDim S4x4x128x128 ![2, 3] bcast_S128x128_S4x4x128x128_2_3
      (select (cmpi .sge (addi (iotaInDim S128x128 32 0) (broadcastInDim S128x128 ![] bcast_S_S128x128 (constantI S_ 32 0#32))) (iotaInDim S128x128 32 1))
        (broadcastInDim S128x128 ![] bcast_S_S128x128 (constantI S_ 1 1#1)) (broadcastInDim S128x128 ![] bcast_S_S128x128 (constantI S_ 1 0#1))))
      (m (c, Proc.tc.devRef main_arg3)) (broadcastInDim S4x4x128x128 ![] bcast_S_S4x4x128x128 (constant (F := Ideal) S_ .f32 0x00000000#32)) (ix4 3 h p s) = _
  pointwise
  rw [tri]
  show _ = if s.val ≤ p.val then _ else _
  by_cases H : s.val ≤ p.val
  · rw [if_pos H, if_pos H]
    show m (c, Proc.tc.devRef main_arg3) (ix4 3 h p s) = dite _ _ _
    rw [dif_pos (⟨h.2, p.2, s.2⟩ : h.val < 4 ∧ p.val < 128 ∧ s.val < 128)]
  · rw [if_neg H, if_neg H]
    rfl

theorem blk4 (h : Fin 4) (p s : Fin 128) : iblk m c 4 t (ix3 0 ⟨128 * h.val + p.val, by omega⟩ s) = (A m c).wm h p s := by
  rw [← host_w]
  blk_ext [iblk, idx t]

theorem host_c (p : Fin 128) (n : Fin 256) : V m c main_v6 (ix3 3 p n) = (A m c).c (n.val / 64) p := by
  simp only [V, V0, hostOps0, hostOps0_1, hostOps0_2, hostOps0_3, hostOps0_4, List.flatten_cons, List.flatten_nil, List.append_nil,
    List.cons_append, List.nil_append]
  entry_read
  show _ = rd3 _ 3 _ _
  rw [rd3, dif_pos ⟨by omega, by omega, by omega⟩]
  pointwise
  trace_state

theorem blk5 (p : Fin 128) (n : Fin 256) : iblk m c 5 t (ix3 0 p n) = (A m c).c (n.val / 64) p := by
  rw [← host_c]
  blk_ext [iblk, idx t]

section Row

variable {m c} {x y : Vec Ideal S128x256 .f32} {g b : Vec Ideal S1x1x256 .f32} {w : Vec Ideal S1x512x128 .f32}
  {e : Vec Ideal S1x128x256 .f32} (r : ℕ)
  (hx : ∀ (p : Fin 128) (n : Fin 256), x (ix2 p n) = (A m c).z (128 * r + p) n)
  (hy : ∀ (p : Fin 128) (n : Fin 256), y (ix2 p n) = (A m c).z (128 * r + p) (256 + n))
  (hg : ∀ n : Fin 256, g (ix3 0 0 n) = (A m c).g n) (hb : ∀ n : Fin 256, b (ix3 0 0 n) = (A m c).b n)
  (hw : ∀ (h : Fin 4) (p s : Fin 128), w (ix3 0 ⟨128 * h.val + p.val, by omega⟩ s) = (A m c).wm h p s)
  (he : ∀ (p : Fin 128) (n : Fin 256), e (ix3 0 p n) = (A m c).c (n.val / 64) p)

include hx hy hg hb hw he in
/-- Chunk `r` of the rows. -/
theorem chunk_row (p : Fin 128) (n : Fin 256) : chunk (F := Ideal) x y g b w e (ix2 p n) = (A m c).out (128 * r + p) n := by
  have h3 : rd3 (e : S1x128x256.Idx → EReal) 0 p n = (A m c).c (n.val / 64) p := (rd3_ix (e : S1x128x256.Idx → EReal) 0 p n).symm.trans (he p n)
  have h2 : rd2 x p n = (A m c).z (128 * r + p) n := (rd2_ix x p n).symm.trans (hx p n)
  have g3 : ∀ n : Fin 256, rd3 (g : S1x1x256.Idx → EReal) 0 0 n = (A m c).g n := fun n => (rd3_ix (g : S1x1x256.Idx → EReal) 0 0 n).symm.trans (hg n)
  have b3 : ∀ n : Fin 256, rd3 (b : S1x1x256.Idx → EReal) 0 0 n = (A m c).b n := fun n => (rd3_ix (b : S1x1x256.Idx → EReal) 0 0 n).symm.trans (hb n)
  rw [chunk_tile, Gmlp.Args.out, show (128 * r + p.val) / 128 = r by omega, show (128 * r + p.val) % 128 = p.val by omega, h2, h3]
  refine congrArg (_ * ·) (congrArg (· + (A m c).c (n.val / 64) p) (Finset.sum_congr rfl fun s _ => congrArg₂ (· * ·) ?_ ?_))
  · exact (rd3_ix (w : S1x512x128.Idx → EReal) 0 ⟨128 * (n.val / 64) + p.val, by omega⟩ s).symm.trans (hw ⟨n.val / 64, by omega⟩ p s)
  · simp only [Gmlp.vn, Gmlp.var, Gmlp.mean, ← rd2_ix, hy, g3, b3]

end Row

/-- One of the four chunks of a point. -/
theorem piece (d : Fin 4) {x y : Vec Ideal S128x256 .f32}
    (hx : ∀ (p : Fin 128) (n : Fin 256), x (ix2 p n) = iblk m c 0 t (ix2 ⟨128 * d.val + p.val, by omega⟩ n))
    (hy : ∀ (p : Fin 128) (n : Fin 256), y (ix2 p n) = iblk m c 1 t (ix2 ⟨128 * d.val + p.val, by omega⟩ n))
    (p : Fin 128) (n : Fin 256) :
    chunk x y (View.ld (iblk m c 2 t) r0_1) (View.ld (iblk m c 3 t) r0_1) (View.ld (iblk m c 4 t) r0_2) (View.ld (iblk m c 5 t) r0_3) (ix2 p n)
      = (A m c).out (512 * t.val + (128 * d.val + p.val)) n := by
  rw [show 512 * t.val + (128 * d.val + p.val) = 128 * (4 * t.val + d.val) + p.val by omega]
  have e : ∀ p : Fin 128, 512 * t.val + (128 * d.val + p.val) = 128 * (4 * t.val + d.val) + p.val := fun p => by omega
  refine chunk_row (4 * t.val + d.val) (fun p n => ?_) (fun p n => ?_) (fun n => ?_) (fun n => ?_) (fun h p s => ?_) (fun p n => ?_) p n
  · rw [hx, blk0, ← e]
  · rw [hy, blk1, ← e]
  · rw [← blk2 m c t]; pointwise []
  · rw [← blk3 m c t]; pointwise []
  · rw [← blk4 m c t]; pointwise []
  · rw [← blk5 m c t]; pointwise []

/-- Row `q` of the tile that point `t` writes. -/
theorem row (q : Fin 512) (n : Fin 256) :
    out0_6 (iblk m c 0 t) (iblk m c 1 t) (iblk m c 2 t) (iblk m c 3 t) (iblk m c 4 t) (iblk m c 5 t) (ix2 q n)
      = (A m c).out (512 * t.val + q) n := by
  rw [out_eq]
  canon_tiles x h
  · obtain ⟨p, k, rfl⟩ : ∃ (p : Fin 128) (k : Fin 256), x = ix2 p k := ⟨x 0, x 1, eq_ix2 x⟩
    exact (piece m c t 3 (fun p n => by pointwise []) (fun p n => by pointwise []) p k).trans
      (congrArg₂ (A m c).out (by have : q.val = 384 + p.val := h0; omega) h1.symm)
  · obtain ⟨p, k, rfl⟩ : ∃ (p : Fin 128) (k : Fin 256), x = ix2 p k := ⟨x 0, x 1, eq_ix2 x⟩
    exact (piece m c t 2 (fun p n => by pointwise []) (fun p n => by pointwise []) p k).trans
      (congrArg₂ (A m c).out (by have : q.val = 256 + p.val := h0; omega) h1.symm)
  · obtain ⟨p, k, rfl⟩ : ∃ (p : Fin 128) (k : Fin 256), x = ix2 p k := ⟨x 0, x 1, eq_ix2 x⟩
    exact (piece m c t 1 (fun p n => by pointwise []) (fun p n => by pointwise []) p k).trans
      (congrArg₂ (A m c).out (by have : q.val = 128 + p.val := h0; omega) h1.symm)
  · obtain ⟨p, k, rfl⟩ : ∃ (p : Fin 128) (k : Fin 256), x = ix2 p k := ⟨x 0, x 1, eq_ix2 x⟩
    exact (piece m c t 0 (fun p n => by pointwise []) (fun p n => by pointwise []) p k).trans
      (congrArg₂ (A m c).out (by have : q.val = p.val := h0; omega) h1.symm)

/-- The first column block of the call's result, and beside it what the array held before. -/
theorem left : (dats m 0 c).arrAt 6 cfg0.N = fun i : S4096x1024.Idx =>
    if (i 1).val / 256 ≤ 0 then (A m c).out (i 0).val (i 1).val else V m c main_v9 i := by
  refine (dats m 0 c).arrAt_eq_of_coversWhere 6
      (fun i : S4096x1024.Idx => (A m c).out (i 0).val (i 1).val)
      (fun β => β (1 : Fin 2) ≤ 0) (by decide +kernel) (fun t hf y => ?_)
      (P := fun i : S4096x1024.Idx => (i 1).val / 256 ≤ 0) (fun j => Iff.rfl)
  blk_simp
  rw [after0_6, (idx t).2.2.2.2.2.2.1]
  obtain ⟨q, n, rfl⟩ : ∃ (q : Fin 512) (n : Fin 256), y = ix2 q n := ⟨y 0, y 1, eq_ix2 y⟩
  exact (row m c t q n).trans (congrArg₂ (A m c).out (congrArg (· + q.val) (Nat.mul_comm _ _)) (Nat.zero_add _).symm)

/-- The columns that the host takes of the call's result. -/
theorem tail : Pipeline.afterTail₀ cfgs (dats m) 0 (V0 m) [hostOps1] c main_v10 = fun i : S4096x256.Idx => (A m c).out (i 0).val (i 1).val := by
  have e : Pipeline.afterTail₀ cfgs (dats m) 0 (V0 m) [hostOps1] c main_v10
      = extractStridedSlice S4096x256 ![0, 0] ((dats m 0 c).arrAt 6 cfg0.N) slices_S4096x1024_S4096x256_0_0 := by
    unfold Pipeline.afterTail₀
    rw [← Pipeline.withArrays_arr_shared spec0 c (V0 m c) (fun w => (dats m 0 c).arrAt w cfg0.N)
      (fun w w' hne h => ((dats m 0 c).arrAt_in w (sharedIn0 w w' hne h) cfg0.N).trans (A_eq m c w)) 6]
    rfl
  rw [e, left]
  funext i
  obtain ⟨q, n, rfl⟩ : ∃ (q : Fin 4096) (n : Fin 256), i = ix2 q n := ⟨i 0, i 1, eq_ix2 i⟩
  pointwise []
  rw [if_pos (by omega)]

/-- The mixed rows, and the arguments as they were. -/
theorem run_blocks (g : Dev nD → PrngReg) :
    θ_run defs (onTc (τ := τ) (main (F := Ideal))) ⟨m, fun _ => 0, g⟩ (fun r => ∀ c : Dev nD,
      r.2.mem ((c.tc : Thread nD τ).loc main_v10) = (fun i : S4096x256.Idx => (A m c).out (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h.1 c).2 main_v10 (Pipeline.mem_restRefs_of main_v10 (by decide) (by decide))).trans (tail m c), h.2 c⟩)
    (θ_run_and (run_main m g) (unchanged m g))

end Cert.Kernel17Ideal.Value

end
-- ==== Proof.GmlpRef.lean ====
module

public import proofs.«01_k».proof.Proof.Gen.Reference17Ideal.Run
public import proofs.«01_k».proof.Proof.Gen.Reference17Ideal.Read
public import proofs.«01_k».proof.Proof.Gmlp
public import proofs.«01_k».proof.Proof.UpRef

/-! The gMLP mixer, forward: what the reference's result is. -/

@[expose] public section

set_option maxRecDepth 16384

noncomputable section

open Idealize.ShloMosaic Idealize.ShloMosaic.Pointwise

namespace Cert.Gmlp

open Cert.Ffn

/-- The reference's gelu is the kernel's. -/
theorem actR_eq (x : EReal) : x * (cHalf * (1 + thR x)) = act x := by
  rw [act, thR_eq, ← mul_assoc, mul_comm x cHalf]

end Cert.Gmlp

namespace Cert.Reference17Ideal.Rows

open Cert.Reference17Ideal Cert.Reference17Ideal.Read Cert.Ffn

variable (x0 : FVec Ideal S4096x2304 .f32) (x1 x2 : FVec Ideal S4x256 .f32) (x3 : FVec Ideal S4x4x128x128 .f32) (x4 : FVec Ideal S4x4x128 .f32)

theorem gelu_row (p : Fin 4096) (n : Fin 512) : val_main_v23 (F := Ideal) x0 (ix2 p n) = Gmlp.act ((Gmlp.args x0 x1 x2 x3 x4).z p n) := by
  pointwise [val_main_v23, val_main_v22, val_main_v21, val_main_v20, val_main_v19, val_main_v18, val_main_v17, val_main_v16,
    val_main_v15, val_main_v14, val_main_v13, val_main_v12, val_main_v11, val_main_v10, val_main_v9, val_main_v0, val_main_cst,
    val_main_cst_0, val_main_cst_1, val_main_cst_2, val_main_cst_3]
  simp only [rd2_ix]
  exact Gmlp.actR_eq _

/-- The normed rows. -/
theorem norm_row (p : Fin 4096) (n : Fin 256) : val_main_v49 (F := Ideal) x0 x1 x2 (ix2 p n)
    = Gmlp.vn (fun q k => (Gmlp.args x0 x1 x2 x3 x4).z q (256 + k)) (Gmlp.args x0 x1 x2 x3 x4).g (Gmlp.args x0 x1 x2 x3 x4).b p n := by
  pointwise [val_main_v49, val_main_v48, val_main_v47, val_main_v46, val_main_v45, val_main_v44, val_main_v43, val_main_v42,
    val_main_v41, val_main_v40, val_main_v39, val_main_v38, val_main_v37, val_main_v36, val_main_v35, val_main_v34, val_main_v33,
    val_main_v32, val_main_v31, val_main_v30, val_main_v29, val_main_v28, val_main_v27, val_main_v26, val_main_v25, val_main_v1,
    val_main_v2, val_main_v3, val_main_v4, val_main_cst_4, val_main_cst_5, val_main_cst_6, val_main_cst_7, val_main_cst_8]
  simp only [gelu_row x0 x1 x2 x3 x4]
  simp only [rd2_ix, Gmlp.vn, Gmlp.var, Gmlp.mean]
  rfl

/-- The weights below the diagonal. -/
theorem mask_row (h : Fin 4) (p s : Fin 128) : val_main_v54 (F := Ideal) x3 (ix3 h p s) = (Gmlp.args x0 x1 x2 x3 x4).wm h p s := by
  pointwise [val_main_v54, val_main_call1_v0, val_main_v53, val_main_v52, val_main_v51, val_main_v6, val_main_v5, val_main_cst_9, val_main_c,
    val_main_call0_v0, val_main_call0_v1, val_main_call0_v2, val_main_call0_v3, val_main_call0_v4, val_main_call0_v5, val_main_call0_c,
    val_main_call0_c_0]
  rw [Cert.Kernel17Ideal.Value.tri]
  show _ = if s.val ≤ p.val then _ else _
  by_cases H : s.val ≤ p.val
  · rw [if_pos H, if_pos H]
    show x3 (ix4 3 h p s) = dite _ _ _
    rw [dif_pos (⟨h.2, p.2, s.2⟩ : h.val < 4 ∧ p.val < 128 ∧ s.val < 128)]
  · rw [if_neg H, if_neg H]
    rfl

/-- The heads' products. -/
theorem dot_row (h : Fin 4) (r : Fin 32) (d : Fin 64) (p : Fin 128) : val_main_v55 (F := Ideal) x0 x1 x2 x3 (ix4 h r d p)
    = ∑ s : Fin 128, (Gmlp.args x0 x1 x2 x3 x4).wm h p s
      * Gmlp.vn (fun q k => (Gmlp.args x0 x1 x2 x3 x4).z q (256 + k)) (Gmlp.args x0 x1 x2 x3 x4).g (Gmlp.args x0 x1 x2 x3 x4).b
          (128 * r.val + s.val) (64 * h.val + d.val) := by
  rw [val_main_v55_apply]
  refine Finset.sum_congr rfl fun s _ => ?_
  have e1 : val_main_v54 (F := Ideal) x3 (ridx_main_v55 (ix4 h r d p) s) = (Gmlp.args x0 x1 x2 x3 x4).wm h p s :=
    (congrArg _ (by idx_ext)).trans (mask_row x0 x1 x2 x3 x4 h p s)
  have e2 : val_main_v50 (F := Ideal) x0 x1 x2 (lidx_main_v55 (ix4 h r d p) s)
      = val_main_v49 (F := Ideal) x0 x1 x2 (ix2 ⟨128 * r.val + s.val, by omega⟩ ⟨64 * h.val + d.val, by omega⟩) := by
    refine (congrArg (val_main_v50 (F := Ideal) x0 x1 x2) (show _ = ix4 r s h d by idx_ext)).trans ?_
    pointwise [val_main_v50]
    simp only [Nat.mul_comm r.val, Nat.mul_comm h.val]
  rw [e1, e2, norm_row x0 x1 x2 x3 x4, mul_comm]

/-- The products with the bias, laid out by rows. -/
theorem mixed_row (p : Fin 4096) (n : Fin 256) : val_main_v62 (F := Ideal) x0 x1 x2 x3 x4 (ix2 p n)
    = val_main_v55 (F := Ideal) x0 x1 x2 x3 (ix4 ⟨n.val / 64, by omega⟩ ⟨p.val / 128, by omega⟩ ⟨n.val % 64, by omega⟩ ⟨p.val % 128, by omega⟩)
      + x4 (ix3 3 ⟨n.val / 64, by omega⟩ ⟨p.val % 128, by omega⟩) := by
  pointwise [val_main_v62, val_main_v61, val_main_v60, val_main_v59, val_main_v58, val_main_v57, val_main_v56, val_main_v8, val_main_v7]

/-- The gate of a row. -/
theorem gate_row (p : Fin 4096) (n : Fin 256) : val_main_v64 (F := Ideal) x0 x1 x2 x3 x4 (ix2 p n)
    = val_main_v23 (F := Ideal) x0 (ix2 p ⟨n.val, by omega⟩) * val_main_v62 (F := Ideal) x0 x1 x2 x3 x4 (ix2 p n) := by
  pointwise [val_main_v64, val_main_v63, val_main_v24]

/-- The mixed rows. -/
theorem ref0 : val_main_v64 (F := Ideal) x0 x1 x2 x3 x4 = fun i : S4096x256.Idx => (Gmlp.args x0 x1 x2 x3 x4).out (i 0).val (i 1).val := by
  funext i
  obtain ⟨p, n, rfl⟩ : ∃ (p : Fin 4096) (n : Fin 256), i = ix2 p n := ⟨i 0, i 1, eq_ix2 i⟩
  have hn : 64 * (n.val / 64) + n.val % 64 = n.val := by omega
  have hd := dot_row x0 x1 x2 x3 x4 ⟨n.val / 64, by omega⟩ ⟨p.val / 128, by omega⟩ ⟨n.val % 64, by omega⟩ ⟨p.val % 128, by omega⟩
  have hc := rd3_ix x4 3 ⟨n.val / 64, by omega⟩ ⟨p.val % 128, by omega⟩
  simp only [hn] at hd hc
  have h : val_main_v64 (F := Ideal) x0 x1 x2 x3 x4 (ix2 p n) = (Gmlp.args x0 x1 x2 x3 x4).out p.val n.val := by
    rw [gate_row, gelu_row x0 x1 x2 x3 x4, mixed_row, hd, Gmlp.Args.out]
    exact congrArg (_ * ·) (congrArg (_ + ·) hc)
  exact h

end Cert.Reference17Ideal.Rows

end
-- ==== Proof.GmlpClaim.lean ====
module

public import proofs.«01_k».proof.Defs
public import proofs.«01_k».proof.Proof.Gen.Kernel17
public import proofs.«01_k».proof.Proof.Gen.Kernel17.Frame
public import proofs.«01_k».proof.Proof.Gmlp
public import proofs.«01_k».proof.Proof.GmlpRef

/-! The gMLP mixer's forward: the ideal kernel and the ideal reference end with the same arrays, and the reference's frame. -/

@[expose] public section

set_option maxRecDepth 16384

noncomputable section

namespace Cert.Reference17Ideal

open Idealize.ShloMosaic Idealize.SL.Sem

variable (m' : (ℓ : Loc Cert.Reference17Ideal.nD Cert.Reference17Ideal.τ Cert.Reference17Ideal.sig) → Buf (Elt Ideal) ℓ)
  (m : (ℓ : Loc Cert.Kernel17Ideal.nD Cert.Kernel17Ideal.τ Cert.Kernel17Ideal.sig) → Buf (Elt Ideal) ℓ)

/-- The reference's arguments. -/
def refArgs (c : Dev Cert.Reference17Ideal.nD) : Cert.Gmlp.Args :=
  Cert.Gmlp.args (m' ((c.tc : Thread Cert.Reference17Ideal.nD Cert.Reference17Ideal.τ).loc Cert.Reference17Ideal.main_arg0))
    (m' ((c.tc : Thread Cert.Reference17Ideal.nD Cert.Reference17Ideal.τ).loc Cert.Reference17Ideal.main_arg1))
    (m' ((c.tc : Thread Cert.Reference17Ideal.nD Cert.Reference17Ideal.τ).loc Cert.Reference17Ideal.main_arg2))
    (m' ((c.tc : Thread Cert.Reference17Ideal.nD Cert.Reference17Ideal.τ).loc Cert.Reference17Ideal.main_arg3))
    (m' ((c.tc : Thread Cert.Reference17Ideal.nD Cert.Reference17Ideal.τ).loc Cert.Reference17Ideal.main_arg4))

/-- Where the memories agree on the arguments, any function of the arguments is the same on both sides. -/
theorem args_eq (hagree : ∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4))
    (c : Dev Cert.Kernel17Ideal.nD) {α : Type} (f : Cert.Gmlp.Args → α) : f (refArgs m' c) = f (Cert.Kernel17Ideal.Value.A m c) := by
  obtain ⟨h0, h1, h2, h3, h4⟩ := hagree c
  unfold refArgs
  rw [h0, h1, h2, h3, h4]
  rfl

/-- The two programs end with the same arrays. -/
theorem algebraic : Cert.algebraic_Kernel17Ideal_Reference17Ideal (hKernel17Ideal := Cert.Kernel17Ideal.Gen.facts)
    (hReference17Ideal := Cert.Reference17Ideal.Gen.facts) := by
  pair_intro
  · run_from Cert.Kernel17Ideal.Value.run_blocks m g
  · run_from Cert.Reference17Ideal.Value.run m' g'
    · exact ((Read.val_main_v64_eq _ _).trans (Rows.ref0 (m' ((c.tc : Thread Cert.Reference17Ideal.nD Cert.Reference17Ideal.τ).loc Cert.Reference17Ideal.main_arg0))
        (m' ((c.tc : Thread Cert.Reference17Ideal.nD Cert.Reference17Ideal.τ).loc Cert.Reference17Ideal.main_arg1))
        (m' ((c.tc : Thread Cert.Reference17Ideal.nD Cert.Reference17Ideal.τ).loc Cert.Reference17Ideal.main_arg2))
        (m' ((c.tc : Thread Cert.Reference17Ideal.nD Cert.Reference17Ideal.τ).loc Cert.Reference17Ideal.main_arg3))
        (m' ((c.tc : Thread Cert.Reference17Ideal.nD Cert.Reference17Ideal.τ).loc Cert.Reference17Ideal.main_arg4)))).trans
        (args_eq m' m hagree c (fun A => fun i : Cert.Kernel17Ideal.S4096x256.Idx => A.out (i 0).val (i 1).val))

/-- The reference runs, leaves its arguments as they were, and has no semaphore. -/
theorem frame : Cert.quiescent_Reference17Ideal (hReference17Ideal := Cert.Reference17Ideal.Gen.facts) := fun m ρ _ =>
  (θ_run Cert.Reference17Ideal.defs _ _).mono (fun r h => And.intro
      (fun c => (h c).2) (Idealize.ShloMosaic.sem_eq_zero_of_no_sems (by decide) r.2))
    (Cert.Reference17Ideal.Value.run (F := Ideal) m ρ)

end Cert.Reference17Ideal

end
-- ==== Proof.Adam.lean ====
module

public import proofs.«01_k».proof.Proof.Gen.Kernel18Ideal.Value
public import proofs.«01_k».proof.Proof.Spec
public import Idealize.ShloMosaic.Lib.Pipeline.ValueKit
public import Idealize.ShloMosaic.Lib.Pipeline.ReadBack

/-! The optimiser's step of one weight: what the kernel's three result arrays hold. -/

@[expose] public section

set_option maxRecDepth 16384

noncomputable section

open Idealize.ShloMosaic Idealize.ShloMosaic.TcCoe Idealize.SL.Sem
open Idealize.ShloMosaic.Pipeline (Dat)
open Idealize.ShloMosaic.Pointwise

namespace Cert.Adam

open Cert.Ffn

/-- The first moment's new value, from the old one and the gradient. -/
def mom (m g : EReal) : EReal := Ideal.ofBits .f32 0x3F666666#32 * m + Ideal.ofBits .f32 0x3DCCCCCD#32 * g
/-- The second moment's new value. -/
def vel (v g : EReal) : EReal := Ideal.ofBits .f32 0x3F7FBE77#32 * v + Ideal.ofBits .f32 0x3A83126F#32 * (g * g)
/-- The inverse of the first moment's divisor. -/
def c1 : EReal := ((8388608 / 5463681 : ℝ) : EReal)
/-- The inverse of the second moment's divisor. -/
def c2 : EReal := ((268435456 / 2672307 : ℝ) : EReal)
/-- What the weight moves by, from the weight and the two moments with their divisors taken. -/
def move (w a b : EReal) : EReal :=
  Ideal.ofBits .f32 0xBA83126F#32 * (Ideal.div a (Ideal.sqrt b + Ideal.ofBits .f32 0x322BCC77#32) + Ideal.ofBits .f32 0x3C23D70A#32 * w)

/-- The arguments read at numbers: the weight, its gradient and its two moments. -/
structure Args where
  w : ℕ → ℕ → ℕ → EReal
  g : ℕ → ℕ → ℕ → EReal
  m : ℕ → ℕ → ℕ → EReal
  v : ℕ → ℕ → ℕ → EReal

/-- The new first moment. -/
def Args.nm (A : Args) (l r n : ℕ) : EReal := mom (A.m l r n) (A.g l r n)
/-- The new second moment. -/
def Args.nv (A : Args) (l r n : ℕ) : EReal := vel (A.v l r n) (A.g l r n)
/-- What the weight moves by. -/
def Args.d (A : Args) (l r n : ℕ) : EReal := move (A.w l r n) (A.nm l r n * c1) (A.nv l r n * c2)

/-- The arguments from the arrays. -/
def args (x0 x1 x2 x3 : (⟨3, ![4, 352, 1024]⟩ : Shape).Idx → EReal) : Args := ⟨rd3 x0, rd3 x1, rd3 x2, rd3 x3⟩

end Cert.Adam

namespace Cert.Kernel18Ideal.Value

open Cert.Kernel18Ideal Cert.Kernel18Ideal.Gen Cert.Ffn Cert.Adam

/-- The two named constants are the inverses of the divisors. -/
theorem c1_eq : Named.named (F := Ideal) κ "adam_c1" (φ := .f32) 0x3FC48605#32 = c1 :=
  IdealRules.named_const.ideal_named_scalar _ _ _ _ rfl

theorem c2_eq : Named.named (F := Ideal) κ "adam_c2" (φ := .f32) 0x42C8E6D3#32 = c2 :=
  IdealRules.named_const.ideal_named_scalar _ _ _ _ rfl

variable (w g u v : FVec Ideal S1x352x1024 .f32) (p : Fin 352) (n : Fin 1024)

theorem mom_tile : k0_pay5 (F := Ideal) g u (ix2 p n) = mom (u (ix3 0 p n)) (g (ix3 0 p n)) := by
  pointwise [k0_pay5, k0_pay4]
  rfl

theorem vel_tile : k0_pay6 (F := Ideal) g v (ix2 p n) = vel (v (ix3 0 p n)) (g (ix3 0 p n)) := by
  pointwise [k0_pay6, k0_pay4]
  rfl

theorem move_tile : k0_pay7 (F := Ideal) g u v w (ix2 p n)
    = move (w (ix3 0 p n)) (mom (u (ix3 0 p n)) (g (ix3 0 p n)) * c1) (vel (v (ix3 0 p n)) (g (ix3 0 p n)) * c2) := by
  pointwise [k0_pay7, c1_eq, c2_eq]
  rw [mom_tile, vel_tile]
  rfl

variable (m : (ℓ : Loc nD τ sig) → Buf (Elt Ideal) ℓ)

/-- The arguments in memory. -/
def A (c : Dev nD) : Adam.Args := Adam.args (m ((c : Thread nD τ).loc main_arg0)) (m ((c : Thread nD τ).loc main_arg1))
  (m ((c : Thread nD τ).loc main_arg2)) (m ((c : Thread nD τ).loc main_arg3))

/-- Point `t` takes and writes layer `t`. -/
theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0]
    ∧ win0_6.index t = ![t.val, 0, 0] ∧ t.val < 4 :=
  (by decide +kernel : ∀ t : Fin grid0.N, _)

variable (c : Dev nD) (t : Fin cfg0.N)

theorem blk0 : iblk m c 0 t (ix3 0 p n) = (A m c).w t p n := by
  have hj := (idx t).2.2.2.2.2.2.2
  show _ = rd3 _ _ _ _
  rw [rd3, dif_pos ⟨by omega, by omega, by omega⟩]
  blk_ext [iblk, V, idx t]

theorem blk1 : iblk m c 1 t (ix3 0 p n) = (A m c).g t p n := by
  have hj := (idx t).2.2.2.2.2.2.2
  show _ = rd3 _ _ _ _
  rw [rd3, dif_pos ⟨by omega, by omega, by omega⟩]
  blk_ext [iblk, V, idx t]

theorem blk2 : iblk m c 2 t (ix3 0 p n) = (A m c).m t p n := by
  have hj := (idx t).2.2.2.2.2.2.2
  show _ = rd3 _ _ _ _
  rw [rd3, dif_pos ⟨by omega, by omega, by omega⟩]
  blk_ext [iblk, V, idx t]

theorem blk3 : iblk m c 3 t (ix3 0 p n) = (A m c).v t p n := by
  have hj := (idx t).2.2.2.2.2.2.2
  show _ = rd3 _ _ _ _
  rw [rd3, dif_pos ⟨by omega, by omega, by omega⟩]
  blk_ext [iblk, V, idx t]

/-- The moves. -/
theorem final4 : (dats m 0 c).arrAt 4 cfg0.N = fun i : S4x352x1024.Idx => (A m c).d (i 0).val (i 1).val (i 2).val := by
  refine (dats m 0 c).arrAt_eq_of_covers 4 _ (by decide +kernel) fun t hf y => ?_
  blk_simp
  rw [after0_4, (idx t).2.2.2.2.1]
  obtain ⟨q, p, n, rfl⟩ : ∃ (q : Fin 1) (p : Fin 352) (n : Fin 1024), y = ix3 q p n := ⟨y 0, y 1, y 2, eq_ix3 y⟩
  obtain rfl : q = 0 := Subsingleton.elim _ _
  trans (A m c).d t p n
  · refine Eq.trans ?_ ((move_tile _ _ _ _ p n).trans (congr (congrArg₂ move (blk0 p n m c t) (congrArg (· * c1) (congrArg₂ mom (blk2 p n m c t) (blk1 p n m c t)))) (congrArg (· * c2) (congrArg₂ vel (blk3 p n m c t) (blk1 p n m c t)))))
    frame_out
    pointwise [k0_pay1]
  · simp

/-- The rounded constants, by their values. -/
theorem preserves : IdealRules.named_const.Statement κ "adam_c1" .f32 0x3FC48605#32 ((8388608 / 5463681 : ℝ) : EReal)
    ∧ IdealRules.named_const.Statement κ "adam_c2" .f32 0x42C8E6D3#32 ((268435456 / 2672307 : ℝ) : EReal) :=
  ⟨IdealRules.named_const.statement κ "adam_c1" .f32 0x3FC48605#32 ((8388608 / 5463681 : ℝ) : EReal) rfl,
    IdealRules.named_const.statement κ "adam_c2" .f32 0x42C8E6D3#32 ((268435456 / 2672307 : ℝ) : EReal) rfl⟩

/-- The new first moments. -/
theorem final5 : (dats m 0 c).arrAt 5 cfg0.N = fun i : S4x352x1024.Idx => (A m c).nm (i 0).val (i 1).val (i 2).val := by
  refine (dats m 0 c).arrAt_eq_of_covers 5 _ (by decide +kernel) fun t hf y => ?_
  blk_simp
  rw [after0_5, (idx t).2.2.2.2.2.1]
  obtain ⟨q, p, n, rfl⟩ : ∃ (q : Fin 1) (p : Fin 352) (n : Fin 1024), y = ix3 q p n := ⟨y 0, y 1, y 2, eq_ix3 y⟩
  obtain rfl : q = 0 := Subsingleton.elim _ _
  trans (A m c).nm t p n
  · refine Eq.trans ?_ ((mom_tile _ _ p n).trans (congrArg₂ mom (blk2 p n m c t) (blk1 p n m c t)))
    frame_out
    pointwise [k0_pay2]
  · simp

/-- The new second moments. -/
theorem final6 : (dats m 0 c).arrAt 6 cfg0.N = fun i : S4x352x1024.Idx => (A m c).nv (i 0).val (i 1).val (i 2).val := by
  refine (dats m 0 c).arrAt_eq_of_covers 6 _ (by decide +kernel) fun t hf y => ?_
  blk_simp
  rw [after0_6, (idx t).2.2.2.2.2.2.1]
  obtain ⟨q, p, n, rfl⟩ : ∃ (q : Fin 1) (p : Fin 352) (n : Fin 1024), y = ix3 q p n := ⟨y 0, y 1, y 2, eq_ix3 y⟩
  obtain rfl : q = 0 := Subsingleton.elim _ _
  trans (A m c).nv t p n
  · refine Eq.trans ?_ ((vel_tile _ _ p n).trans (congrArg₂ vel (blk3 p n m c t) (blk1 p n m c t)))
    frame_out
    pointwise [k0_pay3]
  · simp

end Cert.Kernel18Ideal.Value

end
-- ==== Proof.AdamRef.lean ====
module

public import proofs.«01_k».proof.Proof.Gen.Reference18Ideal.Run
public import proofs.«01_k».proof.Proof.Gen.Reference18Ideal.Read
public import proofs.«01_k».proof.Proof.Adam

/-! The optimiser's step of one weight: what the reference's three results are. -/

@[expose] public section

set_option maxRecDepth 16384

noncomputable section

open Idealize.ShloMosaic Idealize.ShloMosaic.Pointwise

namespace Cert.Adam

theorem d1_eq : Ideal.ofBits FTy.f32 0x3F26BD02#32 = ((5463681 / 8388608 : ℝ) : EReal) := by
  simp [Ideal.ofBits, Ideal.ieee, -EReal.coe_mul]; norm_num

theorem d2_eq : Ideal.ofBits FTy.f32 0x3C231ACC#32 = ((2672307 / 268435456 : ℝ) : EReal) := by
  simp [Ideal.ofBits, Ideal.ieee, -EReal.coe_mul]; norm_num

/-- A quotient by either divisor is the product with its inverse. -/
theorem div1 (y : EReal) : Ideal.div y (Ideal.ofBits FTy.f32 0x3F26BD02#32) = y * c1 := by
  rw [d1_eq, Ideal.div_coe (by norm_num), c1]
  congr 2; norm_num

theorem div2 (y : EReal) : Ideal.div y (Ideal.ofBits FTy.f32 0x3C231ACC#32) = y * c2 := by
  rw [d2_eq, Ideal.div_coe (by norm_num), c2]
  congr 2; norm_num

end Cert.Adam

namespace Cert.Reference18Ideal.Rows

open Cert.Reference18Ideal Cert.Reference18Ideal.Read Cert.Ffn Cert.Adam

variable (x0 x1 x2 x3 : FVec Ideal S4x352x1024 .f32)

theorem mom_row (l : Fin 4) (p : Fin 352) (n : Fin 1024) :
    val_main_v4 (F := Ideal) x1 x2 (ix3 l p n) = mom (rd3 x2 l p n) (rd3 x1 l p n) := by
  pointwise [val_main_v4, val_main_v3, val_main_v2, val_main_v1, val_main_v0, val_main_cst, val_main_cst_0]
  simp only [rd3_ix]
  rfl

theorem vel_row (l : Fin 4) (p : Fin 352) (n : Fin 1024) :
    val_main_v10 (F := Ideal) x1 x3 (ix3 l p n) = vel (rd3 x3 l p n) (rd3 x1 l p n) := by
  pointwise [val_main_v10, val_main_v9, val_main_v8, val_main_v7, val_main_v6, val_main_v5, val_main_cst_1, val_main_cst_2]
  simp only [rd3_ix]
  rfl

theorem ref0 : val_main_v23 (F := Ideal) x0 x1 x2 x3
    = fun i : S4x352x1024.Idx => (Adam.args x0 x1 x2 x3).d (i 0).val (i 1).val (i 2).val := by
  funext i
  idx_vars i
  pointwise [val_main_v23, val_main_v22, val_main_v21, val_main_v20, val_main_v19, val_main_v18, val_main_v17, val_main_v16,
    val_main_v15, val_main_v14, val_main_v13, val_main_v12, val_main_v11, val_main_cst_3, val_main_cst_4, val_main_cst_5,
    val_main_cst_6, val_main_cst_7, mom_row, vel_row, div1, div2]
  simp only [rd3_ix]
  rfl

theorem ref1 : val_main_v4 (F := Ideal) x1 x2
    = fun i : S4x352x1024.Idx => (Adam.args x0 x1 x2 x3).nm (i 0).val (i 1).val (i 2).val := by
  funext i
  idx_vars i
  exact mom_row x1 x2 _ _ _

theorem ref2 : val_main_v10 (F := Ideal) x1 x3
    = fun i : S4x352x1024.Idx => (Adam.args x0 x1 x2 x3).nv (i 0).val (i 1).val (i 2).val := by
  funext i
  idx_vars i
  exact vel_row x1 x3 _ _ _

end Cert.Reference18Ideal.Rows

end
-- ==== Proof.AdamClaim.lean ====
module

public import proofs.«01_k».proof.Defs
public import proofs.«01_k».proof.Proof.Gen.Kernel18
public import proofs.«01_k».proof.Proof.Gen.Kernel18.Frame
public import proofs.«01_k».proof.Proof.Adam
public import proofs.«01_k».proof.Proof.AdamRef

/-! The optimiser's step of one weight: the ideal kernel and the ideal reference end with the same arrays, and the reference's frame. -/

@[expose] public section

set_option maxRecDepth 16384

noncomputable section

namespace Cert.Reference18Ideal

open Idealize.ShloMosaic Idealize.SL.Sem

variable (m' : (ℓ : Loc nD τ sig) → Buf (Elt Ideal) ℓ)
  (m : (ℓ : Loc Kernel18Ideal.nD Kernel18Ideal.τ Kernel18Ideal.sig) → Buf (Elt Ideal) ℓ)

/-- The reference's arguments. -/
def refArgs (c : Dev nD) : Cert.Adam.Args :=
  Cert.Adam.args (m' ((c.tc : Thread nD τ).loc main_arg0))
    (m' ((c.tc : Thread nD τ).loc main_arg1))
    (m' ((c.tc : Thread nD τ).loc main_arg2))
    (m' ((c.tc : Thread nD τ).loc main_arg3))

/-- Where the memories agree on the arguments, any function of the arguments is the same on both sides. -/
theorem args_eq (hagree : ∀ c : Dev Kernel18Ideal.nD,
      m' ((c.tc : Thread nD τ).loc main_arg0) = m ((c.tc : Thread Kernel18Ideal.nD Kernel18Ideal.τ).loc Kernel18Ideal.main_arg0)
      ∧ m' ((c.tc : Thread nD τ).loc main_arg1) = m ((c.tc : Thread Kernel18Ideal.nD Kernel18Ideal.τ).loc Kernel18Ideal.main_arg1)
      ∧ m' ((c.tc : Thread nD τ).loc main_arg2) = m ((c.tc : Thread Kernel18Ideal.nD Kernel18Ideal.τ).loc Kernel18Ideal.main_arg2)
      ∧ m' ((c.tc : Thread nD τ).loc main_arg3) = m ((c.tc : Thread Kernel18Ideal.nD Kernel18Ideal.τ).loc Kernel18Ideal.main_arg3))
    (c : Dev Kernel18Ideal.nD) {α : Type} (f : Cert.Adam.Args → α) : f (refArgs m' c) = f (Kernel18Ideal.Value.A m c) := by
  obtain ⟨h0, h1, h2, h3⟩ := hagree c
  unfold refArgs
  rw [h0, h1, h2, h3]
  rfl

/-- The reference's run, its results stated as functions of the arguments. -/
theorem run_vals (ρ : Dev nD → PrngReg) :
    θ_run defs (onTc (τ := τ) (main (F := Ideal))) ⟨m', fun _ => 0, ρ⟩ fun r => ∀ c : Dev nD,
      r.2.mem ((c.tc : Thread nD τ).loc main_v23) = (fun i : S4x352x1024.Idx => (refArgs m' c).d (i 0).val (i 1).val (i 2).val)
      ∧ r.2.mem ((c.tc : Thread nD τ).loc main_v4) = (fun i : S4x352x1024.Idx => (refArgs m' c).nm (i 0).val (i 1).val (i 2).val)
      ∧ r.2.mem ((c.tc : Thread nD τ).loc main_v10) = (fun i : S4x352x1024.Idx => (refArgs m' c).nv (i 0).val (i 1).val (i 2).val)
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3) :=
  (θ_run defs _ _).mono (fun r h c => ⟨
      (h c).1.trans ((Read.val_main_v23_eq _ _ _ _ ).trans (Rows.ref0 (m' ((c.tc : Thread nD τ).loc main_arg0)) (m' ((c.tc : Thread nD τ).loc main_arg1)) (m' ((c.tc : Thread nD τ).loc main_arg2)) (m' ((c.tc : Thread nD τ).loc main_arg3)))),
      (h c).2.1.trans ((Read.val_main_v4_eq _ _ ).trans (Rows.ref1 (m' ((c.tc : Thread nD τ).loc main_arg0)) (m' ((c.tc : Thread nD τ).loc main_arg1)) (m' ((c.tc : Thread nD τ).loc main_arg2)) (m' ((c.tc : Thread nD τ).loc main_arg3)))),
      (h c).2.2.1.trans ((Read.val_main_v10_eq _ _ ).trans (Rows.ref2 (m' ((c.tc : Thread nD τ).loc main_arg0)) (m' ((c.tc : Thread nD τ).loc main_arg1)) (m' ((c.tc : Thread nD τ).loc main_arg2)) (m' ((c.tc : Thread nD τ).loc main_arg3)))),
      (h c).2.2.2⟩)
    (Value.run (F := Ideal) m' ρ)

/-- The two programs end with the same arrays. -/
theorem algebraic : Cert.algebraic_Kernel18Ideal_Reference18Ideal (hKernel18Ideal := Kernel18Ideal.Gen.facts) (hReference18Ideal := Gen.facts) := by
  pair_intro
  · run_from Cert.Kernel18Ideal.Value.run_blocks m g
  · run_from run_vals m' g'
    · exact (args_eq m' m hagree c (fun A => fun i : Kernel18Ideal.S4x352x1024.Idx => A.d (i 0).val (i 1).val (i 2).val)).trans (Kernel18Ideal.Value.final4 m c).symm
    · exact (args_eq m' m hagree c (fun A => fun i : Kernel18Ideal.S4x352x1024.Idx => A.nm (i 0).val (i 1).val (i 2).val)).trans (Kernel18Ideal.Value.final5 m c).symm
    · exact (args_eq m' m hagree c (fun A => fun i : Kernel18Ideal.S4x352x1024.Idx => A.nv (i 0).val (i 1).val (i 2).val)).trans (Kernel18Ideal.Value.final6 m c).symm

/-- The reference runs, leaves its arguments as they were, and has no semaphore. -/
theorem frame : Cert.quiescent_Reference18Ideal (hReference18Ideal := Gen.facts) := fun m ρ _ =>
  (θ_run defs _ _).mono (fun r h => And.intro
      (fun c => (h c).2.2.2) (Idealize.ShloMosaic.sem_eq_zero_of_no_sems (by decide) r.2))
    (Value.run (F := Ideal) m ρ)

end Cert.Reference18Ideal

end
-- ==== Proof.Loss.lean ====
module

public import proofs.«01_k».proof.Proof.Gen.Kernel19Ideal.Value
public import proofs.«01_k».proof.Proof.Rms
public import Idealize.ShloMosaic.Lib.Pipeline.ValueKit
public import Idealize.ShloMosaic.Lib.Pipeline.ReadBack

/-! The loss head: the loss of the rows and its gradients. What the kernel's three result arrays hold. -/

@[expose] public section

set_option maxRecDepth 16384

noncomputable section

open Idealize.ShloMosaic Idealize.ShloMosaic.TcCoe Idealize.SL.Sem
open Idealize.ShloMosaic.Pipeline (Dat)

namespace Cert.Loss

open Cert.Ffn

abbrev half : EReal := Ideal.ofBits FTy.f32 0x3F000000#32
abbrev two : EReal := Ideal.ofBits FTy.f32 0x40000000#32

/-- What the normed rows miss of the target. -/
def err (x : ℕ → ℕ → EReal) (g : ℕ → EReal) (y : ℕ → ℕ → EReal) (r n : ℕ) : EReal := Rms.normed x g r n - y r n

/-- The mean square of a row's miss. -/
def miss (x : ℕ → ℕ → EReal) (g : ℕ → EReal) (y : ℕ → ℕ → EReal) (r : ℕ) : EReal :=
  Ideal.div (∑ j : Fin 1024, err x g y r j * err x g y r j) Rms.count

/-- The gradient that reaches the norm's output. -/
def grad (x : ℕ → ℕ → EReal) (g : ℕ → EReal) (y : ℕ → ℕ → EReal) (r n : ℕ) : EReal :=
  Ideal.div half Rms.count * (two * err x g y r n)

/-- The arguments read at numbers: the rows, the gains and the target. -/
structure Args where
  x : ℕ → ℕ → EReal
  g : ℕ → EReal
  y : ℕ → ℕ → EReal

/-- The loss. -/
def Args.loss (A : Args) : EReal := half * ∑ r : Fin 4096, miss A.x A.g A.y r
/-- The gradient of the rows. -/
def Args.dx (A : Args) (r n : ℕ) : EReal := Rms.dinp A.x (grad A.x A.g A.y) A.g r n
/-- The gradient of the gains. -/
def Args.dg (A : Args) (n : ℕ) : EReal := Rms.dgain A.x (grad A.x A.g A.y) n

/-- The arguments from the arrays. -/
def args (x0 : (⟨2, ![4096, 1024]⟩ : Shape).Idx → EReal) (x1 : (⟨1, ![1024]⟩ : Shape).Idx → EReal)
    (x2 : (⟨2, ![4096, 1024]⟩ : Shape).Idx → EReal) : Args :=
  ⟨rd2 x0, fun n => if H : n < 1024 then x1 (ix1 ⟨n, H⟩) else 0, rd2 x2⟩

variable {x x' y y' : ℕ → ℕ → EReal} {g g' : ℕ → EReal} {q r : ℕ}

/-- A row's miss depends on that row alone. -/
theorem err_congr (hx : ∀ j : Fin 1024, x q j = x' r j) (hg : ∀ j : Fin 1024, g j = g' j) (hy : ∀ j : Fin 1024, y q j = y' r j)
    (n : Fin 1024) : err x g y q n = err x' g' y' r n := by
  rw [err, err, Rms.normed_congr hx hg, hy]

theorem miss_congr (hx : ∀ j : Fin 1024, x q j = x' r j) (hg : ∀ j : Fin 1024, g j = g' j) (hy : ∀ j : Fin 1024, y q j = y' r j) :
    miss x g y q = miss x' g' y' r := by
  simp only [miss, err_congr hx hg hy]

theorem grad_congr (hx : ∀ j : Fin 1024, x q j = x' r j) (hg : ∀ j : Fin 1024, g j = g' j) (hy : ∀ j : Fin 1024, y q j = y' r j)
    (n : Fin 1024) : grad x g y q n = grad x' g' y' r n := by
  rw [grad, grad, err_congr hx hg hy]

theorem half_eq : half = ((1 / 2 : ℝ) : EReal) := by
  simp [Ideal.ofBits, Ideal.ieee, -EReal.coe_mul]; norm_num

/-- A half of a sum. -/
theorem half_sum {ι : Type} (s : Finset ι) (f : ι → EReal) : half * ∑ i ∈ s, f i = ∑ i ∈ s, half * f i := by
  classical
  refine Finset.induction_on s (by simp) fun i s hi h => ?_
  rw [Finset.sum_insert hi, Finset.sum_insert hi, ← h]
  refine EReal.left_distrib_of_nonneg_of_ne_top ?_ ?_ _ _ <;> rw [half_eq]
  · exact EReal.coe_nonneg.mpr (by norm_num)
  · exact EReal.coe_ne_top _

end Cert.Loss

namespace Cert.Kernel19Ideal.Value

open Cert.Kernel19Ideal Cert.Kernel19Ideal.Gen Cert.Ffn

section Tile

variable (x y : FVec Ideal S256x1024 .f32) (g : FVec Ideal S1x1024 .f32) (p : Fin 256) (n : Fin 1024)

theorem sq_tile (k : Fin 1) : k0_pay3 (F := Ideal) x (ix2 p k) = Rms.sq (rd2 x) p := by
  pointwise [k0_pay3]
  simp only [rd2_ix, Rms.sq]

theorem inv_tile (k : Fin 1) : k0_pay4 (F := Ideal) x (ix2 p k) = Rms.inv (rd2 x) p := by
  pointwise [k0_pay4]
  rw [sq_tile, Rms.inv]

theorem err_tile : k0_pay7 (F := Ideal) x g y (ix2 p n) = Loss.err (rd2 x) (rd2 g 0) (rd2 y) p n := by
  pointwise [k0_pay7, k0_pay6, k0_pay2]
  simp only [inv_tile]
  simp only [rd2_ix, Loss.err, Rms.normed]
  rfl

theorem grad_tile : k0_pay11 (F := Ideal) (k0_pay8 x g y) k0_pay10 (ix2 p n) = Loss.grad (rd2 x) (rd2 g 0) (rd2 y) p n := by
  pointwise [k0_pay11, k0_pay8, k0_pay10]
  simp only [err_tile, Fin.sum_univ_one, Loss.grad]

/-- A tile's rows of the gradient. -/
theorem dx_tile : k0_pay12 (F := Ideal) x (k0_pay2 g) (k0_pay4 x) (k0_pay5 x) (k0_pay8 x g y) k0_pay10 (ix2 p n)
    = Rms.dinp (rd2 x) (Loss.grad (rd2 x) (rd2 g 0) (rd2 y)) (rd2 g 0) p n := by
  pointwise [k0_pay12, k0_pay5, k0_pay2]
  simp only [sq_tile, inv_tile, grad_tile]
  simp only [rd2_ix, Fin.sum_univ_one, Rms.dinp, Rms.pull]
  rfl

/-- A tile's part of the gradient of the gains, added to what was there. -/
theorem dg_tile (z : FVec Ideal S1x1024 .f32) (k : Fin 1) : k0_pay1 (F := Ideal) (k0_pay16 (k0_pay6 x) (k0_pay8 x g y) k0_pay10 z) (ix2 k n)
    = z (ix2 k n) + ∑ q : Fin 256, rd2 x q n * Rms.inv (rd2 x) q * Loss.grad (rd2 x) (rd2 g 0) (rd2 y) q n := by
  pointwise [k0_pay1, k0_pay16, k0_pay6]
  simp only [inv_tile, grad_tile]
  simp only [rd2_ix]

/-- A tile's part of the loss, added to what was there. -/
theorem loss_tile (z : FVec Ideal S8x128 .f32) (a : Fin 8) (b : Fin 128) : k0_pay15 (F := Ideal) (k0_pay9 x g y) z (ix2 a b)
    = z (ix2 a b) + Loss.half * ∑ q : Fin 256, Loss.miss (rd2 x) (rd2 g 0) (rd2 y) q := by
  pointwise [k0_pay15, k0_pay9]
  simp only [err_tile, Loss.miss]

end Tile

variable (m : (ℓ : Loc nD τ sig) → Buf (Elt Ideal) ℓ)

/-- The arguments in memory. -/
def A (c : Dev nD) : Loss.Args := Loss.args (m ((c : Thread nD τ).loc main_arg0)) (m ((c : Thread nD τ).loc main_arg1))
  (m ((c : Thread nD τ).loc main_arg2))

/-- Point `t` takes row tile `t`; the gains, the loss and the gains' gradient are whole. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] ∧ t.val < 16 :=
  (by decide +kernel : ∀ t : Fin grid0.N, _)

variable (c : Dev nD) (t : Fin cfg0.N)

theorem blk0 (q : Fin 256) (k : Fin 1024) : iblk m c 0 t (ix2 q k) = (A m c).x (256 * t.val + q) k := by
  have hj := (idx t).2.2.2.2.2.2
  show _ = rd2 _ _ _
  rw [rd2, dif_pos ⟨by omega, by omega⟩]
  blk_ext [iblk, V, idx t]

theorem blk1 (k : Fin 1024) : iblk m c 1 t (ix2 0 k) = (A m c).g k := by
  show _ = dite _ _ _
  rw [dif_pos k.isLt]
  blk_simp [iblk]
  entry_read
  pointwise
  blk_ext [V, idx t]

theorem blk2 (q : Fin 256) (k : Fin 1024) : iblk m c 2 t (ix2 q k) = (A m c).y (256 * t.val + q) k := by
  have hj := (idx t).2.2.2.2.2.2
  show _ = rd2 _ _ _
  rw [rd2, dif_pos ⟨by omega, by omega⟩]
  blk_ext [iblk, V, idx t]

theorem x_at (q : Fin 256) (n : Fin 1024) : rd2 (iblk m c 0 t) q n = (A m c).x (256 * t.val + q) n := by
  rw [← rd2_ix]; exact blk0 m c t q n

theorem g_at (n : Fin 1024) : rd2 (iblk m c 1 t) 0 n = (A m c).g n := by
  refine Eq.trans ?_ (blk1 m c t n)
  exact (rd2_ix (iblk m c 1 t) 0 n).symm

theorem y_at (q : Fin 256) (n : Fin 1024) : rd2 (iblk m c 2 t) q n = (A m c).y (256 * t.val + q) n := by
  rw [← rd2_ix]; exact blk2 m c t q n

/-- The gradient that reaches the norm's output at a point's rows. -/
def grad : ℕ → ℕ → EReal := Loss.grad (rd2 (iblk m c 0 t)) (rd2 (iblk m c 1 t) 0) (rd2 (iblk m c 2 t))

theorem grad_at (q : Fin 256) (n : Fin 1024) :
    grad m c t q n = Loss.grad (A m c).x (A m c).g (A m c).y (256 * t.val + q) n :=
  Loss.grad_congr (x_at m c t q) (g_at m c t) (y_at m c t q) n

theorem dx_row (q : Fin 256) (n : Fin 1024) :
    (outsAt0 m c t.val t.isLt).2.1 (ix2 q n) = (A m c).dx (256 * t.val + q) n := by
  refine Eq.trans ?_ (Rms.dinp_congr (x_at m c t q) (grad_at m c t q) (g_at m c t) n)
  by_cases h : t.val % 16 = 0
  · rw [outsAt0_A m c t h]; frame_out; exact dx_tile _ _ _ q n
  · rw [outsAt0_B m c t h]; frame_out; exact dx_tile _ _ _ q n

/-- A point's part of the gradient of the gains. -/
def part (n : ℕ) : EReal := ∑ q : Fin 256, rd2 (iblk m c 0 t) q n * Rms.inv (rd2 (iblk m c 0 t)) q * grad m c t q n

theorem dg_A (h : t.val % 16 = 0) (k : Fin 1) (n : Fin 1024) :
    (outsAt0 m c t.val t.isLt).2.2 (ix2 k n) = 0 + part m c t n := by
  rw [outsAt0_A m c t h]; frame_out
  exact (dg_tile _ _ _ n _ k).trans (congrArg (· + _) (by pointwise [k0_pay14]))

theorem dg_B (h : ¬t.val % 16 = 0) (k : Fin 1) (n : Fin 1024) :
    (outsAt0 m c t.val t.isLt).2.2 (ix2 k n)
      = (outsAt0 m c (t.val - 1) (Nat.lt_of_le_of_lt (Nat.sub_le _ _) t.isLt)).2.2 (ix2 k n) + part m c t n := by
  rw [outsAt0_B m c t h]; frame_out
  exact dg_tile _ _ _ n _ k

theorem dg_at (h : t.val % 16 = 15) (k : Fin 1) (n : Fin 1024) :
    (outsAt0 m c t.val t.isLt).2.2 (ix2 k n) = (A m c).dg n := by
  rw [Pipeline.eq_sum_fin_of_reset_step_apply_of_flush (fun n h => (outsAt0 m c n h).2.2) 16 (fun _ => 0)
    (fun t i => part m c t (i 1).val)
    (fun t h i => by rw [← ix2_eta i]; exact dg_A m c t h _ _)
    (fun t h i => by rw [← ix2_eta i]; exact dg_B m c t h _ _) t h _, zero_add]
  have ht := (idx t).2.2.2.2.2.2
  unfold Loss.Args.dg Rms.dgain
  refine Fin.sum_mul_add_congr fun s q _ => ?_
  refine (Rms.part_congr (x_at m c _ q) (grad_at m c _ q) n).trans ?_
  have hs := s.isLt
  simp only [show 256 * (16 * (t.val / 16) + s.val) + q.val = s.val * 256 + q.val by omega]

/-- A point's part of the loss. -/
def missed : EReal :=
  Loss.half * ∑ q : Fin 256, Loss.miss (rd2 (iblk m c 0 t)) (rd2 (iblk m c 1 t) 0) (rd2 (iblk m c 2 t)) q

theorem loss_A (h : t.val % 16 = 0) (a : Fin 8) (b : Fin 128) :
    (outsAt0 m c t.val t.isLt).1 (ix2 a b) = 0 + missed m c t := by
  rw [outsAt0_A m c t h]; frame_out
  exact (loss_tile _ _ _ _ a b).trans (congrArg (· + _) (by pointwise [k0_pay13]))

theorem loss_B (h : ¬t.val % 16 = 0) (a : Fin 8) (b : Fin 128) :
    (outsAt0 m c t.val t.isLt).1 (ix2 a b)
      = (outsAt0 m c (t.val - 1) (Nat.lt_of_le_of_lt (Nat.sub_le _ _) t.isLt)).1 (ix2 a b) + missed m c t := by
  rw [outsAt0_B m c t h]; frame_out
  exact loss_tile _ _ _ _ a b

/-- The halves of the tiles' sums are the half of the whole sum. -/
theorem loss_at (h : t.val % 16 = 15) (a : Fin 8) (b : Fin 128) :
    (outsAt0 m c t.val t.isLt).1 (ix2 a b) = (A m c).loss := by
  rw [Pipeline.eq_sum_fin_of_reset_step_apply_of_flush (fun n h => (outsAt0 m c n h).1) 16 (fun _ => 0)
    (fun t _ => missed m c t)
    (fun t h i => by rw [← ix2_eta i]; exact loss_A m c t h _ _)
    (fun t h i => by rw [← ix2_eta i]; exact loss_B m c t h _ _) t h _, zero_add]
  have ht := (idx t).2.2.2.2.2.2
  unfold Loss.Args.loss missed
  rw [← Loss.half_sum]
  refine congrArg (Loss.half * ·) (Fin.sum_mul_add_congr fun s q _ => ?_)
  refine (Loss.miss_congr (x_at m c _ q) (g_at m c _) (y_at m c _ q)).trans ?_
  have hs := s.isLt
  simp only [show 256 * (16 * (t.val / 16) + s.val) + q.val = s.val * 256 + q.val by omega]

/-- The loss, in every place of its block. -/
theorem final3 : (dats m 0 c).arrAt 3 cfg0.N = fun _ : S8x128.Idx => (A m c).loss := by
  refine (dats m 0 c).arrAt_eq_of_covers 3 _ (by decide +kernel) fun t hf y => ?_
  blk_simp
  rw [after0_3]
  obtain ⟨a, b, rfl⟩ : ∃ (a : Fin 8) (b : Fin 128), y = ix2 a b := ⟨y 0, y 1, eq_ix2 y⟩
  exact loss_at m c t ((flush0_3 t).mp hf) a b

/-- The gradient of the rows. -/
theorem final4 : (dats m 0 c).arrAt 4 cfg0.N = fun i : S4096x1024.Idx => (A m c).dx (i 0).val (i 1).val := by
  refine (dats m 0 c).arrAt_eq_of_covers 4 _ (by decide +kernel) fun t hf y => ?_
  blk_simp
  rw [after0_4, (idx t).2.2.2.2.1]
  obtain ⟨q, n, rfl⟩ : ∃ (q : Fin 256) (n : Fin 1024), y = ix2 q n := ⟨y 0, y 1, eq_ix2 y⟩
  exact (dx_row m c t q n).trans (congrArg₂ (A m c).dx (congrArg (· + q.val) (Nat.mul_comm _ _)) (Nat.zero_add _).symm)

/-- The gradient of the gains. -/
theorem final5 : (dats m 0 c).arrAt 5 cfg0.N = fun i : S1x1024.Idx => (A m c).dg (i 1).val := by
  refine (dats m 0 c).arrAt_eq_of_covers 5 _ (by decide +kernel) fun t hf y => ?_
  blk_simp
  rw [after0_5, (idx t).2.2.2.2.2.1]
  obtain ⟨k, n, rfl⟩ : ∃ (k : Fin 1) (n : Fin 1024), y = ix2 k n := ⟨y 0, y 1, eq_ix2 y⟩
  exact (dg_at m c t ((flush0_5 t).mp hf) k n).trans (congrArg (A m c).dg (Nat.zero_add _).symm)

end Cert.Kernel19Ideal.Value

end
-- ==== Proof.LossRef.lean ====
module

public import proofs.«01_k».proof.Proof.Gen.Reference19Ideal.Run
public import proofs.«01_k».proof.Proof.Gen.Reference19Ideal.Read
public import proofs.«01_k».proof.Proof.Loss

/-! The loss head: what the reference's loss and its two gradients are. -/

@[expose] public section

set_option maxRecDepth 16384

noncomputable section

open Idealize.ShloMosaic Idealize.ShloMosaic.Pointwise

namespace Cert.Reference19Ideal.Rows

open Cert.Reference19Ideal Cert.Reference19Ideal.Read Cert.Ffn

variable (x0 : FVec Ideal S4096x1024 .f32) (x1 : FVec Ideal S1024 .f32) (x2 : FVec Ideal S4096x1024 .f32)
  (p : Fin 4096) (n : Fin 1024)

theorem sq_row (k : Fin 1) : val_main_v6 (F := Ideal) x0 (ix2 p k) = Rms.sq (rd2 x0) p := by
  pointwise [val_main_v6, val_main_v5, val_main_v4, val_main_v3, val_main_v2, val_main_v1, val_main_v0, val_main_cst, val_main_cst_0, val_main_cst_1]
  simp only [rd2_ix, Rms.sq]

theorem inv_row (k : Fin 1) : val_main_v7 (F := Ideal) x0 (ix2 p k) = Rms.inv (rd2 x0) p := by
  pointwise [val_main_v7]
  rw [sq_row, Rms.inv]

theorem gain_row (k : Fin 1) : val_main_v13 (F := Ideal) x1 (ix2 k n) = (Loss.args x0 x1 x2).g n := by
  pointwise [val_main_v13]
  show _ = dite _ _ _
  rw [dif_pos n.isLt]

theorem err_row : val_main_v16 (F := Ideal) x0 x1 x2 (ix2 p n)
    = Loss.err (rd2 x0) (Loss.args x0 x1 x2).g (rd2 x2) p n := by
  pointwise [val_main_v16, val_main_v15, val_main_v14, val_main_v12, val_main_v11]
  rw [inv_row, gain_row x0 x1 x2]
  simp only [rd2_ix, Loss.err, Rms.normed]

theorem grad_row : val_main_v30 (F := Ideal) x0 x1 x2 (ix2 p n)
    = Loss.grad (rd2 x0) (Loss.args x0 x1 x2).g (rd2 x2) p n := by
  pointwise [val_main_v30, val_main_v29, val_main_v28, val_main_v27, val_main_v26, val_main_v25, val_main_v19, val_main_v18,
    val_main_cst_3, val_main_cst_8, val_main_cst_9, val_main_cst_10]
  simp only [err_row]
  rfl

theorem dx_row : val_main_v50 (F := Ideal) x0 x1 x2 (ix2 p n) = (Loss.args x0 x1 x2).dx p n := by
  pointwise [val_main_v50, val_main_v49, val_main_v48, val_main_v47, val_main_v46, val_main_v45, val_main_v44, val_main_v43,
    val_main_v42, val_main_v41, val_main_v40, val_main_v39, val_main_v38, val_main_v37, val_main_v35, val_main_v34,
    val_main_v10, val_main_v9, val_main_v8, val_main_cst_2, val_main_cst_12, val_main_cst_13, val_main_cst_14, val_main_cst_15]
  simp only [sq_row, inv_row, grad_row, gain_row x0 x1 x2]
  simp only [rd2_ix, Fin.sum_univ_one, Loss.Args.dx, Rms.dinp, Rms.pull]
  rfl

theorem miss_row : val_main_v22 (F := Ideal) x0 x1 x2 (ix1 p)
    = Loss.miss (rd2 x0) (Loss.args x0 x1 x2).g (rd2 x2) p := by
  pointwise [val_main_v22, val_main_v21, val_main_v20, val_main_v17, val_main_cst_4, val_main_cst_5]
  simp only [err_row, Loss.miss]

theorem loss_row (k : S_.Idx) : val_main_v24 (F := Ideal) x0 x1 x2 k = (Loss.args x0 x1 x2).loss := by
  pointwise [val_main_v24, val_main_v23, val_main_cst_6, val_main_cst_7]
  simp only [miss_row, Loss.Args.loss]
  rfl

/-- The loss, in every place of its block. -/
theorem ref0 : val_main_v51 (F := Ideal) x0 x1 x2 = fun _ : S8x128.Idx => (Loss.args x0 x1 x2).loss := by
  funext i
  rw [val_main_v51_apply, loss_row]

/-- The gradient of the rows. -/
theorem ref1 : val_main_v50 (F := Ideal) x0 x1 x2
    = fun i : S4096x1024.Idx => (Loss.args x0 x1 x2).dx (i 0).val (i 1).val := by
  funext i
  idx_vars i
  exact dx_row x0 x1 x2 _ _

/-- The gradient of the gains. -/
theorem ref2 : val_main_v52 (F := Ideal) x0 x1 x2
    = fun i : S1x1024.Idx => (Loss.args x0 x1 x2).dg (i 1).val := by
  funext i
  idx_vars i
  pointwise [val_main_v52, val_main_v36, val_main_v33, val_main_v32, val_main_v31, val_main_v12, val_main_v11, val_main_cst_11, val_main_cst_12]
  simp only [inv_row, grad_row]
  simp only [rd2_ix, Fin.sum_univ_one]
  rfl

end Cert.Reference19Ideal.Rows

end
-- ==== Proof.LossClaim.lean ====
module

public import proofs.«01_k».proof.Defs
public import proofs.«01_k».proof.Proof.Gen.Kernel19.Frame
public import proofs.«01_k».proof.Proof.Loss
public import proofs.«01_k».proof.Proof.LossRef

/-! The loss and its gradient: the ideal kernel and the ideal reference end with the same arrays, and the reference's frame. -/

@[expose] public section

set_option maxRecDepth 16384

noncomputable section

namespace Cert.Reference19Ideal

open Idealize.ShloMosaic Idealize.SL.Sem

variable (m' : (ℓ : Loc nD τ sig) → Buf (Elt Ideal) ℓ)
  (m : (ℓ : Loc Kernel19Ideal.nD Kernel19Ideal.τ Kernel19Ideal.sig) → Buf (Elt Ideal) ℓ)

/-- The reference's arguments. -/
def refArgs (c : Dev nD) : Cert.Loss.Args :=
  Cert.Loss.args (m' ((c.tc : Thread nD τ).loc main_arg0))
    (m' ((c.tc : Thread nD τ).loc main_arg1))
    (m' ((c.tc : Thread nD τ).loc main_arg2))

/-- Where the memories agree on the arguments, any function of the arguments is the same on both sides. -/
theorem args_eq (hagree : ∀ c : Dev Kernel19Ideal.nD,
      m' ((c.tc : Thread nD τ).loc main_arg0) = m ((c.tc : Thread Kernel19Ideal.nD Kernel19Ideal.τ).loc Kernel19Ideal.main_arg0)
      ∧ m' ((c.tc : Thread nD τ).loc main_arg1) = m ((c.tc : Thread Kernel19Ideal.nD Kernel19Ideal.τ).loc Kernel19Ideal.main_arg1)
      ∧ m' ((c.tc : Thread nD τ).loc main_arg2) = m ((c.tc : Thread Kernel19Ideal.nD Kernel19Ideal.τ).loc Kernel19Ideal.main_arg2))
    (c : Dev Kernel19Ideal.nD) {α : Type} (f : Cert.Loss.Args → α) : f (refArgs m' c) = f (Kernel19Ideal.Value.A m c) := by
  obtain ⟨h0, h1, h2⟩ := hagree c
  unfold refArgs
  rw [h0, h1, h2]
  rfl

/-- The reference's run, its results stated as functions of the arguments. -/
theorem run_vals (ρ : Dev nD → PrngReg) :
    θ_run defs (onTc (τ := τ) (main (F := Ideal))) ⟨m', fun _ => 0, ρ⟩ fun r => ∀ c : Dev nD,
      r.2.mem ((c.tc : Thread nD τ).loc main_v51) = (fun i : S8x128.Idx => (refArgs m' c).loss)
      ∧ r.2.mem ((c.tc : Thread nD τ).loc main_v50) = (fun i : S4096x1024.Idx => (refArgs m' c).dx (i 0).val (i 1).val)
      ∧ r.2.mem ((c.tc : Thread nD τ).loc main_v52) = (fun i : S1x1024.Idx => (refArgs m' c).dg (i 1).val)
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2) :=
  (θ_run defs _ _).mono (fun r h c => ⟨
      (h c).1.trans ((Read.val_main_v51_eq _ _ _ ).trans (Rows.ref0 (m' ((c.tc : Thread nD τ).loc main_arg0)) (m' ((c.tc : Thread nD τ).loc main_arg1)) (m' ((c.tc : Thread nD τ).loc main_arg2)))),
      (h c).2.1.trans ((Read.val_main_v50_eq _ _ ).trans (Rows.ref1 (m' ((c.tc : Thread nD τ).loc main_arg0)) (m' ((c.tc : Thread nD τ).loc main_arg1)) (m' ((c.tc : Thread nD τ).loc main_arg2)))),
      (h c).2.2.1.trans ((Read.val_main_v52_eq _ _ _ ).trans (Rows.ref2 (m' ((c.tc : Thread nD τ).loc main_arg0)) (m' ((c.tc : Thread nD τ).loc main_arg1)) (m' ((c.tc : Thread nD τ).loc main_arg2)))),
      (h c).2.2.2⟩)
    (Value.run (F := Ideal) m' ρ)

/-- The two programs end with the same arrays. -/
theorem algebraic : Cert.algebraic_Kernel19Ideal_Reference19Ideal (hKernel19Ideal := Kernel19Ideal.Gen.facts) (hReference19Ideal := Gen.facts) := by
  pair_intro
  · run_from Cert.Kernel19Ideal.Value.run_blocks m g
  · run_from run_vals m' g'
    · exact (args_eq m' m hagree c (fun A => fun i : Kernel19Ideal.S8x128.Idx => A.loss)).trans (Kernel19Ideal.Value.final3 m c).symm
    · exact (args_eq m' m hagree c (fun A => fun i : Kernel19Ideal.S4096x1024.Idx => A.dx (i 0).val (i 1).val)).trans (Kernel19Ideal.Value.final4 m c).symm
    · exact (args_eq m' m hagree c (fun A => fun i : Kernel19Ideal.S1x1024.Idx => A.dg (i 1).val)).trans (Kernel19Ideal.Value.final5 m c).symm

/-- The reference runs, leaves its arguments as they were, and has no semaphore. -/
theorem frame : Cert.quiescent_Reference19Ideal (hReference19Ideal := Gen.facts) := fun m ρ _ =>
  (θ_run defs _ _).mono (fun r h => And.intro
      (fun c => (h c).2.2.2) (Idealize.ShloMosaic.sem_eq_zero_of_no_sems (by decide) r.2))
    (Value.run (F := Ideal) m ρ)

end Cert.Reference19Ideal

end
-- ==== Proof.lean ====
module

public import proofs.«01_k».proof.Defs
public import proofs.«01_k».proof.Proof.Gen.Kernel
public import proofs.«01_k».proof.Proof.FrameKernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Frame
public import proofs.«01_k».proof.Proof.Arrays
public import proofs.«01_k».proof.Proof.RefArrays
public import proofs.«01_k».proof.Proof.Pre
public import proofs.«01_k».proof.Proof.UpXClaim
public import proofs.«01_k».proof.Proof.InXClaim
public import proofs.«01_k».proof.Proof.UpGClaim
public import proofs.«01_k».proof.Proof.UpWClaim
public import proofs.«01_k».proof.Proof.DownWClaim
public import proofs.«01_k».proof.Proof.InWClaim
public import proofs.«01_k».proof.Proof.OutWClaim
public import proofs.«01_k».proof.Proof.PeWClaim
public import proofs.«01_k».proof.Proof.OutXClaim
public import proofs.«01_k».proof.Proof.PleClaim
public import proofs.«01_k».proof.Proof.DownClaim
public import proofs.«01_k».proof.Proof.OutClaim
public import proofs.«01_k».proof.Proof.InClaim
public import proofs.«01_k».proof.Proof.EmbClaim
public import proofs.«01_k».proof.Proof.UpClaim
public import proofs.«01_k».proof.Proof.GmlpClaim
public import proofs.«01_k».proof.Proof.AdamClaim
public import proofs.«01_k».proof.Proof.LossClaim
public import Idealize.ShloMosaic.Adequacy
public import Idealize.ShloMosaic.Init

@[expose] public section

set_option maxRecDepth 16384

noncomputable section

namespace Cert.Proof

open Idealize.ShloMosaic Idealize.SL.Sem

/-- The two constants of the kernel that have names. -/
theorem preserves : Cert.preserves_Kernel_KernelIdeal :=
  ⟨IdealRules.named_const.statement Cert.KernelIdeal.κ "gelu_a" .f32 0x3D372713#32 ((8943 / 200000 : ℝ) : EReal) rfl,
    IdealRules.named_const.statement Cert.KernelIdeal.κ "gelu_3a" .f32 0x3E095D4F#32 ((26829 / 200000 : ℝ) : EReal) rfl⟩

section Agree

variable (m' : (ℓ : Loc Cert.ReferenceIdeal.nD Cert.ReferenceIdeal.τ Cert.ReferenceIdeal.sig) → Buf (Elt Ideal) ℓ)
  (m : (ℓ : Loc Cert.KernelIdeal.nD Cert.KernelIdeal.τ Cert.KernelIdeal.sig) → Buf (Elt Ideal) ℓ)

/-- The reference's six arguments, as Spec.lean reads them. -/
def refArgs (c : Dev Cert.ReferenceIdeal.nD) : Cert.Ffn.Args :=
  Cert.Ffn.args (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))

variable (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))

include hagree

/-- Where the memories agree on the arguments, any function of the arguments is the same on both sides. -/
theorem args_eq (c : Dev Cert.KernelIdeal.nD) {α : Type} (f : Cert.Ffn.Args → α) :
    f (refArgs m' c) = f (Cert.KernelIdeal.Value.A m c) := by
  obtain ⟨h0, h1, h2, h3, h4, h5⟩ := hagree c
  unfold refArgs
  rw [h0, h1, h2, h3, h4, h5]
  rfl

/-- Where the kernel's memory satisfies the precondition, the reference's arguments are numbers. -/
theorem num (hpre : Cert.Pre_KernelIdeal_finite (hPre_finite := Cert.Finite.facts) m) (c : Dev Cert.KernelIdeal.nD) :
    (refArgs m' c).Num := by
  letI := Cert.Finite.facts
  have h := args_eq m' m hagree c id
  simp only [id] at h
  rw [h]
  exact Cert.Finite.num _ _ _ _ _ _ (hpre c)

end Agree

/-- From finite arguments the ideal kernel and the ideal reference end with the same four arrays. -/
theorem algebraic : Cert.algebraic_KernelIdeal_ReferenceIdeal_pre_finite (hKernelIdeal := Cert.KernelIdeal.Gen.facts)
    (hReferenceIdeal := Cert.ReferenceIdeal.Gen.facts) (hPre_finite := Cert.Finite.facts) := by
  letI := Cert.Finite.facts
  pair_intro
  · run_from Cert.KernelIdeal.Gen.run_main m g
  · run_from Cert.ReferenceIdeal.Value.run m' g'
    · exact (Cert.ReferenceIdeal.Read.val_main_v118_eq _).trans
        ((Cert.ReferenceIdeal.Rows.ref0 _ _ _ _ _ _ (num m' m hagree hpre c)).trans ((args_eq m' m hagree c (fun A => fun i : Cert.KernelIdeal.S4096x2816.Idx => A.dhg (i 0).val (i 1).val)).trans (Cert.KernelIdeal.Value.final10 m c).symm))
    · exact (Cert.ReferenceIdeal.Read.val_main_v119_eq _).trans
        ((Cert.ReferenceIdeal.Rows.ref1 _ _ _ _ _ _ (num m' m hagree hpre c)).trans ((args_eq m' m hagree c (fun A => fun i : Cert.KernelIdeal.S4096x2816.Idx => A.dhv (i 0).val (i 1).val)).trans (Cert.KernelIdeal.Value.final11 m c).symm))
    · exact (Cert.ReferenceIdeal.Read.val_main_v123_eq _).trans
        ((Cert.ReferenceIdeal.Rows.ref2 _ _ _ _ _ _ (num m' m hagree hpre c)).trans ((args_eq m' m hagree c (fun A => fun i : Cert.KernelIdeal.S8x2816.Idx => A.dwg (i 0).val (i 1).val)).trans (Cert.KernelIdeal.Value.final12 m c).symm))
    · exact (Cert.ReferenceIdeal.Read.val_main_v124_eq _).trans
        ((Cert.ReferenceIdeal.Rows.ref3 _ _ _ _ _ _ (num m' m hagree hpre c)).trans ((args_eq m' m hagree c (fun A => fun i : Cert.KernelIdeal.S8x2816.Idx => A.dwv (i 0).val (i 1).val)).trans (Cert.KernelIdeal.Value.final13 m c).symm))

/-- The reference runs, leaves its arguments as they were, and has no semaphore. -/
theorem reference : Cert.quiescent_ReferenceIdeal (hReferenceIdeal := Cert.ReferenceIdeal.Gen.facts) := fun m ρ _ =>
  (θ_run Cert.ReferenceIdeal.defs _ _).mono (fun r h => And.intro
      (fun c => (h c).2.2.2.2) (Idealize.ShloMosaic.sem_eq_zero_of_no_sems (by decide) r.2))
    (Cert.ReferenceIdeal.Value.run (F := Ideal) m ρ)

/-- All the statements. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Finite.facts,
    fun m ρ _ => Cert.Kernel.Gen.frame m ρ,
    fun m ρ _ => Cert.KernelIdeal.Gen.frame m ρ,
    fun m ρ _ => Cert.KernelIdeal.Gen.frame m ρ,
    reference,
    fun m ρ _ => reference m ρ trivial,
    fun m ρ _ => Cert.Kernel2.Gen.frame m ρ,
    fun m ρ _ => Cert.Kernel2Ideal.Gen.frame m ρ,
    Cert.Reference2Ideal.frame,
    fun m ρ _ => Cert.Kernel3.Gen.frame m ρ,
    fun m ρ _ => Cert.Kernel3Ideal.Gen.frame m ρ,
    Cert.Reference3Ideal.frame,
    fun m ρ _ => Cert.Kernel4.Gen.frame m ρ,
    fun m ρ _ => Cert.Kernel4Ideal.Gen.frame m ρ,
    Cert.Reference4Ideal.frame,
    fun m ρ _ => Cert.Kernel5.Gen.frame m ρ,
    fun m ρ _ => Cert.Kernel5Ideal.Gen.frame m ρ,
    Cert.Reference5Ideal.frame,
    fun m ρ _ => Cert.Kernel6.Gen.frame m ρ,
    fun m ρ _ => Cert.Kernel6Ideal.Gen.frame m ρ,
    Cert.Reference6Ideal.frame,
    fun m ρ _ => Cert.Kernel7.Gen.frame m ρ,
    fun m ρ _ => Cert.Kernel7Ideal.Gen.frame m ρ,
    Cert.Reference7Ideal.frame,
    fun m ρ _ => Cert.Kernel8.Gen.frame m ρ,
    fun m ρ _ => Cert.Kernel8Ideal.Gen.frame m ρ,
    Cert.Reference8Ideal.frame,
    fun m ρ _ => Cert.Kernel9.Gen.frame m ρ,
    fun m ρ _ => Cert.Kernel9Ideal.Gen.frame m ρ,
    Cert.Reference9Ideal.frame,
    fun m ρ _ => Cert.Kernel10.Gen.frame m ρ,
    fun m ρ _ => Cert.Kernel10Ideal.Gen.frame m ρ,
    Cert.Reference10Ideal.frame,
    fun m ρ _ => Cert.Kernel11.Gen.frame m ρ,
    fun m ρ _ => Cert.Kernel11Ideal.Gen.frame m ρ,
    Cert.Reference11Ideal.frame,
    fun m ρ _ => Cert.Kernel12.Gen.frame m ρ,
    fun m ρ _ => Cert.Kernel12Ideal.Gen.frame m ρ,
    Cert.Reference12Ideal.frame,
    fun m ρ _ => Cert.Kernel13.Gen.frame m ρ,
    fun m ρ _ => Cert.Kernel13Ideal.Gen.frame m ρ,
    Cert.Reference13Ideal.frame,
    Cert.Reference14Ideal.frame_kernel,
    fun m ρ _ => Cert.Kernel14Ideal.Gen.frame m ρ,
    Cert.Reference14Ideal.frame,
    Cert.Reference15Ideal.frame_kernel,
    fun m ρ _ => Cert.Kernel15Ideal.Gen.frame m ρ,
    Cert.Reference15Ideal.frame,
    fun m ρ _ => Cert.Kernel16.Gen.frame m ρ,
    fun m ρ _ => Cert.Kernel16Ideal.Gen.frame m ρ,
    Cert.Reference16Ideal.frame,
    fun m ρ _ => Cert.Kernel17.Gen.frame m ρ,
    fun m ρ _ => Cert.Kernel17Ideal.Gen.frame m ρ,
    Cert.Reference17Ideal.frame,
    fun m ρ _ => Cert.Kernel18.Gen.frame m ρ,
    fun m ρ _ => Cert.Kernel18Ideal.Gen.frame m ρ,
    Cert.Reference18Ideal.frame,
    fun m ρ _ => Cert.Kernel19.Gen.frame m ρ,
    fun m ρ _ => Cert.Kernel19Ideal.Gen.frame m ρ,
    Cert.Reference19Ideal.frame,
    preserves, algebraic,
    trivial, Cert.Reference2Ideal.algebraic,
    trivial, Cert.Reference3Ideal.algebraic,
    trivial, Cert.Reference4Ideal.algebraic,
    trivial, Cert.Reference5Ideal.algebraic,
    trivial, Cert.Reference6Ideal.algebraic,
    trivial, Cert.Reference7Ideal.algebraic,
    trivial, Cert.Reference8Ideal.algebraic,
    trivial, Cert.Reference9Ideal.algebraic,
    trivial, Cert.Reference10Ideal.algebraic,
    trivial, Cert.Reference11Ideal.algebraic,
    trivial, Cert.Reference12Ideal.algebraic,
    trivial, Cert.Reference13Ideal.algebraic,
    trivial, Cert.Reference14Ideal.algebraic,
    trivial, Cert.Reference15Ideal.algebraic,
    Cert.Kernel16Ideal.Value.preserves, Cert.Reference16Ideal.algebraic,
    Cert.Kernel17Ideal.Value.preserves, Cert.Reference17Ideal.algebraic,
    Cert.Kernel18Ideal.Value.preserves, Cert.Reference18Ideal.algebraic,
    trivial, Cert.Reference19Ideal.algebraic⟩

end Cert.Proof

end
